-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay_in_range [hPre_decay_in_range : Cert.Pre_decay_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_decay_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay_in_range [hPre_decay_in_range : Cert.Pre_decay_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Moe [hPre_expert_in_range : Cert.Pre_expert_in_range.Facts] (m : (ℓ : Loc Cert.Moe.nD Cert.Moe.τ Cert.Moe.sig) → Buf (Elt Bits) ℓ) : Prop :=
  ∀ c : Dev Cert.Moe.nD,
    (Cert.Pre_expert_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))) = (fun _ => 1#1)

def Pre_MoeIdeal [hPre_expert_in_range : Cert.Pre_expert_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_expert_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_expert_in_range [hPre_expert_in_range : Cert.Pre_expert_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_expert_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpRefIdeal (m : (ℓ : Loc Cert.CmpRefIdeal.nD Cert.CmpRefIdeal.τ Cert.CmpRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_finite_inputs [hPre_finite_inputs : Cert.Pre_finite_inputs.Facts] (m : (ℓ : Loc Cert.RouteIdeal.nD Cert.RouteIdeal.τ Cert.RouteIdeal.sig) → Buf (Elt Ideal) ℓ) : Prop :=
  ∀ c : Dev Cert.RouteIdeal.nD,
    (Cert.Pre_finite_inputs.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_finite_inputs [hPre_finite_inputs : Cert.Pre_finite_inputs.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_finite_inputs.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_decay_in_range [hKernelIdeal : Cert.KernelIdeal.Facts] [hPre_decay_in_range : Cert.Pre_decay_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_decay_in_range [hReferenceIdeal : Cert.ReferenceIdeal.Facts] [hPre_decay_in_range : Cert.Pre_decay_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Moe [hMoe : Cert.Moe.Facts] [hPre_expert_in_range : Cert.Pre_expert_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_expert_in_range : Cert.Pre_expert_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_MoeRefIdeal_pre_expert_in_range [hMoeRefIdeal : Cert.MoeRefIdeal.Facts] [hPre_expert_in_range : Cert.Pre_expert_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_expert_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4)
      ∧ r.2.mem ((c.tc : Thread Cert.EvenOut.nD Cert.EvenOut.τ).loc Cert.EvenOut.main_arg5) = m ((c.tc : Thread Cert.EvenOut.nD Cert.EvenOut.τ).loc Cert.EvenOut.main_arg5))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
      ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
      ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
      ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteIdeal_pre_finite_inputs [hRouteIdeal : Cert.RouteIdeal.Facts] [hPre_finite_inputs : Cert.Pre_finite_inputs.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_finite_inputs m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def quiescent_RouteRefIdeal_pre_finite_inputs [hRouteRefIdeal : Cert.RouteRefIdeal.Facts] [hPre_finite_inputs : Cert.Pre_finite_inputs.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_finite_inputs m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_Kernel_KernelIdeal : Prop :=
  True

def algebraic_KernelIdeal_ReferenceIdeal_pre_decay_in_range [hKernelIdeal : Cert.KernelIdeal.Facts] [hReferenceIdeal : Cert.ReferenceIdeal.Facts] [hPre_decay_in_range : Cert.Pre_decay_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Moe_MoeIdeal : Prop :=
  True

def algebraic_MoeIdeal_MoeRefIdeal [hMoeIdeal : Cert.MoeIdeal.Facts] [hMoeRefIdeal : Cert.MoeRefIdeal.Facts] [hPre_expert_in_range : Cert.Pre_expert_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v3)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v3) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v27) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)) →
    ∃ (v0 : (c : Dev Cert.EvenInIdeal.nD) → Buf (Elt Ideal) ((c.tc : Thread Cert.EvenInIdeal.nD Cert.EvenInIdeal.τ).loc Cert.EvenInIdeal.main_v2)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v2) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v1) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)) →
    ∃ (v0 : (c : Dev Cert.OddInIdeal.nD) → Buf (Elt Ideal) ((c.tc : Thread Cert.OddInIdeal.nD Cert.OddInIdeal.τ).loc Cert.OddInIdeal.main_v1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v1) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v0) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1))

def preserves_Cmp_CmpIdeal : Prop :=
  True

def algebraic_CmpIdeal_CmpRefIdeal [hCmpIdeal : Cert.CmpIdeal.Facts] [hCmpRefIdeal : Cert.CmpRefIdeal.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)) →
    ∃ (v0 : (c : Dev Cert.CmpIdeal.nD) → Buf (Elt Ideal) ((c.tc : Thread Cert.CmpIdeal.nD Cert.CmpIdeal.τ).loc Cert.CmpIdeal.main_v1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v1) = v0 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v0) = v0 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)
      ∧ m' ((c.tc : Thread Cert.EvenOutRefIdeal.nD Cert.EvenOutRefIdeal.τ).loc Cert.EvenOutRefIdeal.main_arg5) = m ((c.tc : Thread Cert.EvenOutIdeal.nD Cert.EvenOutIdeal.τ).loc Cert.EvenOutIdeal.main_arg5)) →
    ∃ (v0 : (c : Dev Cert.EvenOutIdeal.nD) → Buf (Elt Ideal) ((c.tc : Thread Cert.EvenOutIdeal.nD Cert.EvenOutIdeal.τ).loc Cert.EvenOutIdeal.main_v6)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v6) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4)
          ∧ r.2.mem ((c.tc : Thread Cert.EvenOutIdeal.nD Cert.EvenOutIdeal.τ).loc Cert.EvenOutIdeal.main_arg5) = m ((c.tc : Thread Cert.EvenOutIdeal.nD Cert.EvenOutIdeal.τ).loc Cert.EvenOutIdeal.main_arg5))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v26) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4)
          ∧ r.2.mem ((c.tc : Thread Cert.EvenOutRefIdeal.nD Cert.EvenOutRefIdeal.τ).loc Cert.EvenOutRefIdeal.main_arg5) = m' ((c.tc : Thread Cert.EvenOutRefIdeal.nD Cert.EvenOutRefIdeal.τ).loc Cert.EvenOutRefIdeal.main_arg5))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)
      ∧ m' ((c.tc : Thread Cert.OddOutRefIdeal.nD Cert.OddOutRefIdeal.τ).loc Cert.OddOutRefIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v3)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v3) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v25) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3)
          ∧ r.2.mem ((c.tc : Thread Cert.OddOutRefIdeal.nD Cert.OddOutRefIdeal.τ).loc Cert.OddOutRefIdeal.main_arg4) = m' ((c.tc : Thread Cert.OddOutRefIdeal.nD Cert.OddOutRefIdeal.τ).loc Cert.OddOutRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)) →
    ∃ (v0 : (c : Dev Cert.PleIdeal.nD) → Buf (Elt Ideal) ((c.tc : Thread Cert.PleIdeal.nD Cert.PleIdeal.τ).loc Cert.PleIdeal.main_v2)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v2) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v9) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3))

def preserves_Route_RouteIdeal : Prop :=
  True

def algebraic_RouteIdeal_RouteRefIdeal_pre_finite_inputs [hRouteIdeal : Cert.RouteIdeal.Facts] [hRouteRefIdeal : Cert.RouteRefIdeal.Facts] [hPre_finite_inputs : Cert.Pre_finite_inputs.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_finite_inputs m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)) →
    ∃ (v0 : (c : Dev Cert.RouteIdeal.nD) → Buf (Elt Ideal) ((c.tc : Thread Cert.RouteIdeal.nD Cert.RouteIdeal.τ).loc Cert.RouteIdeal.main_v7_0)) (v1 : (c : Dev Cert.RouteIdeal.nD) → Buf (Elt Ideal) ((c.tc : Thread Cert.RouteIdeal.nD Cert.RouteIdeal.τ).loc Cert.RouteIdeal.main_v7_1)) (v2 : (c : Dev Cert.RouteIdeal.nD) → Buf (Elt Ideal) ((c.tc : Thread Cert.RouteIdeal.nD Cert.RouteIdeal.τ).loc Cert.RouteIdeal.main_v7_3)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v7_0) = v0 c
          ∧ r.2.mem ((c.tc : Thread Cert.RouteIdeal.nD Cert.RouteIdeal.τ).loc Cert.RouteIdeal.main_v7_1) = v1 c
          ∧ r.2.mem ((c.tc : Thread Cert.RouteIdeal.nD Cert.RouteIdeal.τ).loc Cert.RouteIdeal.main_v7_3) = v2 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v65) = v0 c
          ∧ r.2.mem ((c.tc : Thread Cert.RouteRefIdeal.nD Cert.RouteRefIdeal.τ).loc Cert.RouteRefIdeal.main_v66) = v1 c
          ∧ r.2.mem ((c.tc : Thread Cert.RouteRefIdeal.nD Cert.RouteRefIdeal.τ).loc Cert.RouteRefIdeal.main_v68) = v2 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v8_0)) (v1 : (c : Dev Cert.PrepIdeal.nD) → Buf (Elt Ideal) ((c.tc : Thread Cert.PrepIdeal.nD Cert.PrepIdeal.τ).loc Cert.PrepIdeal.main_v8_1)) (v2 : (c : Dev Cert.PrepIdeal.nD) → Buf (Elt Ideal) ((c.tc : Thread Cert.PrepIdeal.nD Cert.PrepIdeal.τ).loc Cert.PrepIdeal.main_v8_2)) (v3 : (c : Dev Cert.PrepIdeal.nD) → Buf (Elt Ideal) ((c.tc : Thread Cert.PrepIdeal.nD Cert.PrepIdeal.τ).loc Cert.PrepIdeal.main_v8_3)) (v4 : (c : Dev Cert.PrepIdeal.nD) → Buf (Elt Ideal) ((c.tc : Thread Cert.PrepIdeal.nD Cert.PrepIdeal.τ).loc Cert.PrepIdeal.main_v8_4)) (v5 : (c : Dev Cert.PrepIdeal.nD) → Buf (Elt Ideal) ((c.tc : Thread Cert.PrepIdeal.nD Cert.PrepIdeal.τ).loc Cert.PrepIdeal.main_v8_5)) (v6 : (c : Dev Cert.PrepIdeal.nD) → Buf (Elt Ideal) ((c.tc : Thread Cert.PrepIdeal.nD Cert.PrepIdeal.τ).loc Cert.PrepIdeal.main_v8_6)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v8_0) = v0 c
          ∧ r.2.mem ((c.tc : Thread Cert.PrepIdeal.nD Cert.PrepIdeal.τ).loc Cert.PrepIdeal.main_v8_1) = v1 c
          ∧ r.2.mem ((c.tc : Thread Cert.PrepIdeal.nD Cert.PrepIdeal.τ).loc Cert.PrepIdeal.main_v8_2) = v2 c
          ∧ r.2.mem ((c.tc : Thread Cert.PrepIdeal.nD Cert.PrepIdeal.τ).loc Cert.PrepIdeal.main_v8_3) = v3 c
          ∧ r.2.mem ((c.tc : Thread Cert.PrepIdeal.nD Cert.PrepIdeal.τ).loc Cert.PrepIdeal.main_v8_4) = v4 c
          ∧ r.2.mem ((c.tc : Thread Cert.PrepIdeal.nD Cert.PrepIdeal.τ).loc Cert.PrepIdeal.main_v8_5) = v5 c
          ∧ r.2.mem ((c.tc : Thread Cert.PrepIdeal.nD Cert.PrepIdeal.τ).loc Cert.PrepIdeal.main_v8_6) = v6 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v56) = v0 c
          ∧ r.2.mem ((c.tc : Thread Cert.PrepRefIdeal.nD Cert.PrepRefIdeal.τ).loc Cert.PrepRefIdeal.main_v60) = v1 c
          ∧ r.2.mem ((c.tc : Thread Cert.PrepRefIdeal.nD Cert.PrepRefIdeal.τ).loc Cert.PrepRefIdeal.main_v62) = v2 c
          ∧ r.2.mem ((c.tc : Thread Cert.PrepRefIdeal.nD Cert.PrepRefIdeal.τ).loc Cert.PrepRefIdeal.main_v64) = v3 c
          ∧ r.2.mem ((c.tc : Thread Cert.PrepRefIdeal.nD Cert.PrepRefIdeal.τ).loc Cert.PrepRefIdeal.main_v66) = v4 c
          ∧ r.2.mem ((c.tc : Thread Cert.PrepRefIdeal.nD Cert.PrepRefIdeal.τ).loc Cert.PrepRefIdeal.main_v68) = v5 c
          ∧ r.2.mem ((c.tc : Thread Cert.PrepRefIdeal.nD Cert.PrepRefIdeal.τ).loc Cert.PrepRefIdeal.main_v69) = v6 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeRefIdeal : Cert.MoeRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hCmp : Cert.Cmp.Facts) (hCmpIdeal : Cert.CmpIdeal.Facts) (hCmpRefIdeal : Cert.CmpRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hPle : Cert.Ple.Facts) (hPleIdeal : Cert.PleIdeal.Facts) (hPleRefIdeal : Cert.PleRefIdeal.Facts) (hRoute : Cert.Route.Facts) (hRouteIdeal : Cert.RouteIdeal.Facts) (hRouteRefIdeal : Cert.RouteRefIdeal.Facts) (hPrep : Cert.Prep.Facts) (hPrepIdeal : Cert.PrepIdeal.Facts) (hPrepRefIdeal : Cert.PrepRefIdeal.Facts) (hPre_decay_in_range : Cert.Pre_decay_in_range.Facts) (hPre_expert_in_range : Cert.Pre_expert_in_range.Facts) (hPre_finite_inputs : Cert.Pre_finite_inputs.Facts),
    quiescent_Kernel (hKernel := hKernel)
    ∧ quiescent_KernelIdeal (hKernelIdeal := hKernelIdeal)
    ∧ quiescent_KernelIdeal_pre_decay_in_range (hKernelIdeal := hKernelIdeal) (hPre_decay_in_range := hPre_decay_in_range)
    ∧ quiescent_ReferenceIdeal (hReferenceIdeal := hReferenceIdeal)
    ∧ quiescent_ReferenceIdeal_pre_decay_in_range (hReferenceIdeal := hReferenceIdeal) (hPre_decay_in_range := hPre_decay_in_range)
    ∧ quiescent_Moe (hMoe := hMoe) (hPre_expert_in_range := hPre_expert_in_range)
    ∧ quiescent_MoeIdeal (hMoeIdeal := hMoeIdeal) (hPre_expert_in_range := hPre_expert_in_range)
    ∧ quiescent_MoeRefIdeal (hMoeRefIdeal := hMoeRefIdeal)
    ∧ quiescent_MoeRefIdeal_pre_expert_in_range (hMoeRefIdeal := hMoeRefIdeal) (hPre_expert_in_range := hPre_expert_in_range)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Cmp (hCmp := hCmp)
    ∧ quiescent_CmpIdeal (hCmpIdeal := hCmpIdeal)
    ∧ quiescent_CmpRefIdeal (hCmpRefIdeal := hCmpRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Ple (hPle := hPle)
    ∧ quiescent_PleIdeal (hPleIdeal := hPleIdeal)
    ∧ quiescent_PleRefIdeal (hPleRefIdeal := hPleRefIdeal)
    ∧ quiescent_Route (hRoute := hRoute)
    ∧ quiescent_RouteIdeal (hRouteIdeal := hRouteIdeal)
    ∧ quiescent_RouteIdeal_pre_finite_inputs (hRouteIdeal := hRouteIdeal) (hPre_finite_inputs := hPre_finite_inputs)
    ∧ quiescent_RouteRefIdeal (hRouteRefIdeal := hRouteRefIdeal)
    ∧ quiescent_RouteRefIdeal_pre_finite_inputs (hRouteRefIdeal := hRouteRefIdeal) (hPre_finite_inputs := hPre_finite_inputs)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal_pre_decay_in_range (hKernelIdeal := hKernelIdeal) (hReferenceIdeal := hReferenceIdeal) (hPre_decay_in_range := hPre_decay_in_range)
    ∧ preserves_Moe_MoeIdeal
    ∧ algebraic_MoeIdeal_MoeRefIdeal (hMoeIdeal := hMoeIdeal) (hMoeRefIdeal := hMoeRefIdeal) (hPre_expert_in_range := hPre_expert_in_range)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_Cmp_CmpIdeal
    ∧ algebraic_CmpIdeal_CmpRefIdeal (hCmpIdeal := hCmpIdeal) (hCmpRefIdeal := hCmpRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Ple_PleIdeal
    ∧ algebraic_PleIdeal_PleRefIdeal (hPleIdeal := hPleIdeal) (hPleRefIdeal := hPleRefIdeal)
    ∧ preserves_Route_RouteIdeal
    ∧ algebraic_RouteIdeal_RouteRefIdeal_pre_finite_inputs (hRouteIdeal := hRouteIdeal) (hRouteRefIdeal := hRouteRefIdeal) (hPre_finite_inputs := hPre_finite_inputs)
    ∧ preserves_Prep_PrepIdeal
    ∧ algebraic_PrepIdeal_PrepRefIdeal (hPrepIdeal := hPrepIdeal) (hPrepRefIdeal := hPrepRefIdeal)
-- ==== Pre_decay_in_range.lean ====
abbrev S16x4096x4096 : Shape := ⟨3, ![16, 4096, 4096]⟩
abbrev S1024 : Shape := ⟨1, ![1024]⟩
abbrev S128 : Shape := ⟨1, ![128]⟩
abbrev S16x4096x1024 : Shape := ⟨3, ![16, 4096, 1024]⟩
abbrev S_ : Shape := ⟨0, ![]⟩

class Facts : Prop where
  slices_S16x4096x4096_S16x4096x1024_0_0_1024 : S16x4096x4096.Slices ![0, 0, 1024] S16x4096x1024
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16x4096x4096 .f32) (main_arg1 : FVec F S1024 .f32) (main_arg2 : FVec F S128 .f32) : IVec S_ 1 :=
  let main_v0 : FVec F S16x4096x1024 .f32 := (extractStridedSlice S16x4096x1024 ![0, 0, 1024] · slices_S16x4096x4096_S16x4096x1024_0_0_1024) main_arg0
  let main_v1 : FVec F S16x4096x1024 .f32 := Host.absf main_v0
  let main_cst : FVec F S_ .f32 := constant S_ .f32 0x7F800000#32
  let main_v2 : FVec F S16x4096x1024 .f32 := broadcastInDim S16x4096x1024 ![] bcast_S_S16x4096x1024 main_cst
  let main_v3 : IVec S16x4096x1024 1 := cmpf .olt main_v1 main_v2
  let main_c : IVec S_ 1 := constantI S_ 1 1#1
  let main_v4 : IVec S_ 1 := (fun x v => Host.reduce IntOp.andi x v reducesTo_S16x4096x1024_S_d0_1_2 h_S_) main_v3 main_c
  let main_cst_0 : FVec F S_ .f32 := constant S_ .f32 0x00000000#32
  let main_v5 : FVec F S1024 .f32 := broadcastInDim S1024 ![] bcast_S_S1024 main_cst_0
  let main_v6 : IVec S1024 1 := cmpf .oge main_arg1 main_v5
  let main_cst_1 : FVec F S_ .f32 := constant S_ .f32 0x7F800000#32
  let main_v7 : FVec F S1024 .f32 := broadcastInDim S1024 ![] bcast_S_S1024 main_cst_1
  let main_v8 : IVec S1024 1 := cmpf .olt main_arg1 main_v7
  let main_v9 : IVec S1024 1 := andi main_v6 main_v8
  let main_c_2 : IVec S_ 1 := constantI S_ 1 1#1
  let main_v10 : IVec S_ 1 := (fun x v => Host.reduce IntOp.andi x v reducesTo_S1024_S_d0 h_S_) main_v9 main_c_2
  let main_v11 : IVec S_ 1 := andi main_v4 main_v10
  main_v11
-- ==== Pre_expert_in_range.lean ====
abbrev S147456x1024 : Shape := ⟨2, ![147456, 1024]⟩
abbrev S288 : Shape := ⟨1, ![288]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)

variable [Facts]

def fn {F : FTy → Type} [FloatOps F] (main_arg0 : FVec F S147456x1024 .f32) (main_arg1 : IVec S288 32) (main_arg2 : FVec F S32x1024x512 .f32) (main_arg3 : FVec F S32x1024x512 .f32) (main_arg4 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg1 main_v0
  let main_c_0 : IVec S_ 32 := constantI S_ 32 32#32
  let main_v2 : IVec S288 32 := broadcastInDim S288 ![] bcast_S_S288 main_c_0
  let main_v3 : IVec S288 1 := cmpi .slt main_arg1 main_v2
  let main_v4 : IVec S288 1 := andi main_v1 main_v3
  main_v4
-- ==== Pre_finite_inputs.lean ====
abbrev S65536x1024 : Shape := ⟨2, ![65536, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S_ : Shape := ⟨0, ![]⟩

class Facts : Prop where
  bcast_S_S65536x1024 : S_.BroadcastsInDim S65536x1024 (![] : Fin 0 → Fin S65536x1024.rank)
  reducesTo_S65536x1024_S_d0_1 : S65536x1024.ReducesTo [0, 1] S_
  h_S_ : 0 < S_.numel
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x32 : S_.BroadcastsInDim S1024x32 (![] : Fin 0 → Fin S1024x32.rank)
  reducesTo_S1024x32_S_d0_1 : S1024x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S1024x32 1) : IVec S_ 1 :=
  let main_c_5 : IVec S_ 1 := constantI S_ 1 1#1
  let main_v17 : IVec S_ 1 := (fun x v => Host.reduce IntOp.andi x v reducesTo_S1024x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S65536x1024 .f32) (main_arg1 : FVec F S1024x4 .f32) (main_arg2 : FVec F S4 .f32) (main_arg3 : FVec F S1024x32 .f32) (main_arg4 : FVec F S32 .f32) : IVec S_ 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_c : IVec S_ 1 := constantI S_ 1 1#1
  let main_v3 : IVec S_ 1 := (fun x v => Host.reduce IntOp.andi x v reducesTo_S65536x1024_S_d0_1 h_S_) main_v2 main_c
  let main_v4 : FVec F S1024x4 .f32 := Host.absf main_arg1
  let main_cst_0 : FVec F S_ .f32 := constant S_ .f32 0x7F800000#32
  let main_v5 : FVec F S1024x4 .f32 := broadcastInDim S1024x4 ![] bcast_S_S1024x4 main_cst_0
  let main_v6 : IVec S1024x4 1 := cmpf .olt main_v4 main_v5
  let main_c_1 : IVec S_ 1 := constantI S_ 1 1#1
  let main_v7 : IVec S_ 1 := (fun x v => Host.reduce IntOp.andi x v reducesTo_S1024x4_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S1024x32 .f32 := Host.absf main_arg3
  let main_cst_4 : FVec F S_ .f32 := constant S_ .f32 0x7F800000#32
  let main_v15 : FVec F S1024x32 .f32 := broadcastInDim S1024x32 ![] bcast_S_S1024x32 main_cst_4
  let main_v16 : IVec S1024x32 1 := cmpf .olt main_v14 main_v15
  fn_part1 (F := F) main_arg4 main_v13 main_v16
-- ==== Kernel.lean ====
abbrev S16x4096x4096 : Shape := ⟨3, ![16, 4096, 4096]⟩
abbrev S1024 : Shape := ⟨1, ![1024]⟩
abbrev S128 : Shape := ⟨1, ![128]⟩
abbrev S8x1x128 : Shape := ⟨3, ![8, 1, 128]⟩
abbrev S1x1x128 : Shape := ⟨3, ![1, 1, 128]⟩
abbrev S16x4096x1024 : Shape := ⟨3, ![16, 4096, 1024]⟩
abbrev S1x256x1024 : Shape := ⟨3, ![1, 256, 1024]⟩
abbrev S8x128x128 : Shape := ⟨3, ![8, 128, 128]⟩
abbrev S256x1024 : Shape := ⟨2, ![256, 1024]⟩
abbrev S256x128 : Shape := ⟨2, ![256, 128]⟩
abbrev S1x256x128 : Shape := ⟨3, ![1, 256, 128]⟩
abbrev S8x256x128 : Shape := ⟨3, ![8, 256, 128]⟩
abbrev S128x128 : Shape := ⟨2, ![128, 128]⟩
abbrev S16x128x128 : Shape := ⟨3, ![16, 128, 128]⟩
abbrev S1x128x128 : Shape := ⟨3, ![1, 128, 128]⟩
abbrev S8x2x128x128 : Shape := ⟨4, ![8, 2, 128, 128]⟩
abbrev S8x16x128 : Shape := ⟨3, ![8, 16, 128]⟩
abbrev S8x1x128x128 : Shape := ⟨4, ![8, 1, 128, 128]⟩
abbrev S8x256 : Shape := ⟨2, ![8, 256]⟩
abbrev S8x256x1 : Shape := ⟨3, ![8, 256, 1]⟩

abbrev nBuf : Space → Nat
  | .hbm => 6
  | .vmem => 13
  | .smem => 0
  | _ => 0

abbrev bufTy : (tb : Table) → Fin (tcTables nBuf tb) → BufTy
  | .hbm, ⟨0, _⟩ => ⟨S16x4096x4096, .f32⟩
  | .hbm, ⟨1, _⟩ => ⟨S1024, .f32⟩
  | .hbm, ⟨2, _⟩ => ⟨S128, .f32⟩
  | .hbm, ⟨3, _⟩ => ⟨S8x1x128, .f32⟩
  | .hbm, ⟨4, _⟩ => ⟨S1x1x128, .f32⟩
  | .hbm, ⟨5, _⟩ => ⟨S16x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S8x1x128, .f32⟩
  | .local _ .vmem, ⟨9, _⟩ => ⟨S1x1x128, .f32⟩
  | .local _ .vmem, ⟨10, _⟩ => ⟨S1x256x1024, .f32⟩
  | .local _ .vmem, ⟨11, _⟩ => ⟨S1x256x1024, .f32⟩
  | .local _ .vmem, ⟨12, _⟩ => ⟨S8x128x128, .f32⟩
  | _, _ => ⟨S16x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![16, 1, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi c1_i32 arg1
  let c0_i32 : BitVec 32 := 0#32
  ![arg0.toNat, arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S8x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ReferenceIdeal.lean ====
abbrev S16x4096x4096 : Shape := ⟨3, ![16, 4096, 4096]⟩
abbrev S1024 : Shape := ⟨1, ![1024]⟩
abbrev S128 : Shape := ⟨1, ![128]⟩
abbrev S16x16 : Shape := ⟨2, ![16, 16]⟩
abbrev S16x4096x1024 : Shape := ⟨3, ![16, 4096, 1024]⟩
abbrev S8x128 : Shape := ⟨2, ![8, 128]⟩
abbrev S16x4096x8x128 : Shape := ⟨4, ![16, 4096, 8, 128]⟩
abbrev S_ : Shape := ⟨0, ![]⟩
abbrev S1x1x8x128 : Shape := ⟨4, ![1, 1, 8, 128]⟩
abbrev S16x256x16x8x128 : Shape := ⟨5, ![16, 256, 16, 8, 128]⟩
abbrev S16x8x256x16x128 : Shape := ⟨5, ![16, 8, 256, 16, 128]⟩
abbrev S16x8x256x1x128 : Shape := ⟨5, ![16, 8, 256, 1, 128]⟩
abbrev S16x8x256x16x16 : Shape := ⟨5, ![16, 8, 256, 16, 16]⟩
abbrev S256x16x8x16x128 : Shape := ⟨5, ![256, 16, 8, 16, 128]⟩
abbrev S16x8x256x128 : Shape := ⟨4, ![16, 8, 256, 128]⟩
abbrev S256x16x8x128 : Shape := ⟨4, ![256, 16, 8, 128]⟩
abbrev S16x8x128x128 : Shape := ⟨4, ![16, 8, 128, 128]⟩
abbrev S1x16x8x16x128 : Shape := ⟨5, ![1, 16, 8, 16, 128]⟩
abbrev S16x8x16x128 : Shape := ⟨4, ![16, 8, 16, 128]⟩
abbrev S1x16x8x128 : Shape := ⟨4, ![1, 16, 8, 128]⟩
abbrev S16x8x128 : Shape := ⟨3, ![16, 8, 128]⟩
abbrev S16x8x128x1 : Shape := ⟨4, ![16, 8, 128, 1]⟩
abbrev S16x4096x8 : Shape := ⟨3, ![16, 4096, 8]⟩
abbrev S16x4096x8x1 : Shape := ⟨4, ![16, 4096, 8, 1]⟩
abbrev S1x1x1x128 : Shape := ⟨4, ![1, 1, 1, 128]⟩

abbrev nBuf : Space → Nat
  | .hbm => 170
  | .vmem => 0
  | .smem => 0
  | _ => 0

abbrev hbmTy0_0 (i : Nat) : BufTy := match i % 128 with
  | 0 => ⟨S16x4096x4096, .f32⟩
  | 1 => ⟨S1024, .f32⟩
  | 2 => ⟨S128, .f32⟩
  | 3 => ⟨S16x16, .i1⟩
  | 4 => ⟨S16x4096x1024, .f32⟩
  | 5 => ⟨S16x4096x1024, .f32⟩
  | 6 => ⟨S16x4096x1024, .f32⟩
  | 7 => ⟨S16x4096x1024, .f32⟩
  | 8 => ⟨S8x128, .f32⟩
  | 9 => ⟨S16x4096x8x128, .f32⟩
  | 10 => ⟨S_, .f32⟩
  | 11 => ⟨S8x128, .f32⟩
  | 12 => ⟨S8x128, .f32⟩
  | 13 => ⟨S16x4096x8x128, .f32⟩
  | 14 => ⟨S16x4096x8x128, .f32⟩
  | 15 => ⟨S_, .f32⟩
  | 16 => ⟨S16x4096x8x128, .f32⟩
  | 17 => ⟨S16x4096x8x128, .f32⟩
  | 18 => ⟨S_, .f32⟩
  | 19 => ⟨S16x4096x8x128, .f32⟩
  | 20 => ⟨S16x4096x8x128, .f32⟩
  | 21 => ⟨S1x1x8x128, .f32⟩
  | 22 => ⟨S16x4096x8x128, .f32⟩
  | 23 => ⟨S16x4096x8x128, .f32⟩
  | 24 => ⟨S1x1x8x128, .f32⟩
  | 25 => ⟨S16x4096x8x128, .f32⟩
  | 26 => ⟨S16x4096x8x128, .f32⟩
  | 27 => ⟨S_, .f32⟩
  | 28 => ⟨S8x128, .f32⟩
  | 29 => ⟨S8x128, .f32⟩
  | 30 => ⟨S16x4096x8x128, .f32⟩
  | 31 => ⟨S16x4096x8x128, .f32⟩
  | 32 => ⟨S16x4096x8x128, .f32⟩
  | 33 => ⟨S_, .f32⟩
  | 34 => ⟨S16x4096x8x128, .f32⟩
  | 35 => ⟨S16x4096x8x128, .f32⟩
  | 36 => ⟨S_, .f32⟩
  | 37 => ⟨S16x4096x8x128, .f32⟩
  | 38 => ⟨S16x4096x8x128, .f32⟩
  | 39 => ⟨S1x1x8x128, .f32⟩
  | 40 => ⟨S16x4096x8x128, .f32⟩
  | 41 => ⟨S16x4096x8x128, .f32⟩
  | 42 => ⟨S16x4096x8x128, .f32⟩
  | 43 => ⟨S16x4096x8x128, .f32⟩
  | 44 => ⟨S16x4096x8x128, .f32⟩
  | 45 => ⟨S_, .f32⟩
  | 46 => ⟨S16x4096x8x128, .f32⟩
  | 47 => ⟨S16x4096x8x128, .f32⟩
  | 48 => ⟨S_, .f32⟩
  | 49 => ⟨S16x4096x8x128, .f32⟩
  | 50 => ⟨S16x4096x8x128, .f32⟩
  | 51 => ⟨S16x4096x8x128, .f32⟩
  | 52 => ⟨S16x4096x8x128, .f32⟩
  | 53 => ⟨S16x4096x8x128, .f32⟩
  | 54 => ⟨S16x256x16x8x128, .f32⟩
  | 55 => ⟨S16x8x256x16x128, .f32⟩
  | 56 => ⟨S16x256x16x8x128, .f32⟩
  | 57 => ⟨S16x8x256x16x128, .f32⟩
  | 58 => ⟨S16x256x16x8x128, .f32⟩
  | 59 => ⟨S16x8x256x16x128, .f32⟩
  | 60 => ⟨S16x256x16x8x128, .f32⟩
  | 61 => ⟨S16x8x256x16x128, .f32⟩
  | 62 => ⟨S_, .f32⟩
  | 63 => ⟨S_, .f32⟩
  | 64 => ⟨S16x8x256x16x128, .f32⟩
  | 65 => ⟨S16x8x256x1x128, .f32⟩
  | 66 => ⟨S16x8x256x16x128, .f32⟩
  | 67 => ⟨S16x8x256x16x128, .f32⟩
  | 68 => ⟨S16x8x256x16x128, .f32⟩
  | 69 => ⟨S16x8x256x16x128, .f32⟩
  | 70 => ⟨S16x8x256x16x128, .f32⟩
  | 71 => ⟨S16x8x256x16x128, .f32⟩
  | 72 => ⟨S16x8x256x16x128, .f32⟩
  | 73 => ⟨S16x8x256x16x128, .f32⟩
  | 74 => ⟨S16x8x256x16x128, .f32⟩
  | 75 => ⟨S16x8x256x16x16, .f32⟩
  | 76 => ⟨S_, .f32⟩
  | 77 => ⟨S_, .f32⟩
  | 78 => ⟨S16x8x256x16x16, .i1⟩
  | 79 => ⟨S16x8x256x16x16, .f32⟩
  | 80 => ⟨S16x8x256x16x16, .f32⟩
  | 81 => ⟨S16x8x256x16x128, .f32⟩
  | 82 => ⟨S256x16x8x16x128, .f32⟩
  | 83 => ⟨S256x16x8x16x128, .f32⟩
  | 84 => ⟨S256x16x8x16x128, .f32⟩
  | 85 => ⟨S16x8x256x128, .f32⟩
  | 86 => ⟨S16x8x256x128, .f32⟩
  | 87 => ⟨S256x16x8x128, .f32⟩
  | 88 => ⟨S_, .f32⟩
  | 89 => ⟨S16x8x128x128, .f32⟩
  | 90 => ⟨S_, .f32⟩
  | 91 => ⟨S256x16x8x16x128, .f32⟩
  | 92 => ⟨S_, .i32⟩
  | 93 => ⟨S256x16x8x16x128, .f32⟩
  | 94 => ⟨S256x16x8x16x128, .f32⟩
  | 95 => ⟨S256x16x8x16x128, .f32⟩
  | 96 => ⟨S256x16x8x128, .f32⟩
  | 97 => ⟨S_, .i32⟩
  | 98 => ⟨S16x8x128x128, .f32⟩
  | 99 => ⟨S256x16x8x16x128, .f32⟩
  | 100 => ⟨S_, .i32⟩
  | 101 => ⟨S_, .i1⟩
  | 102 => ⟨S_, .i32⟩
  | 103 => ⟨S_, .i32⟩
  | 104 => ⟨S_, .i32⟩
  | 105 => ⟨S_, .i32⟩
  | 106 => ⟨S1x16x8x16x128, .f32⟩
  | 107 => ⟨S16x8x16x128, .f32⟩
  | 108 => ⟨S_, .i32⟩
  | 109 => ⟨S_, .i32⟩
  | 110 => ⟨S_, .i32⟩
  | 111 => ⟨S_, .i32⟩
  | 112 => ⟨S1x16x8x16x128, .f32⟩
  | 113 => ⟨S16x8x16x128, .f32⟩
  | 114 => ⟨S_, .i32⟩
  | 115 => ⟨S_, .i32⟩
  | 116 => ⟨S_, .i32⟩
  | 117 => ⟨S_, .i32⟩
  | 118 => ⟨S1x16x8x16x128, .f32⟩
  | 119 => ⟨S16x8x16x128, .f32⟩
  | 120 => ⟨S_, .i32⟩
  | 121 => ⟨S_, .i32⟩
  | 122 => ⟨S_, .i32⟩
  | 123 => ⟨S1x16x8x128, .f32⟩
  | 124 => ⟨S16x8x128, .f32⟩
  | 125 => ⟨S16x8x16x128, .f32⟩
  | 126 => ⟨S16x8x128x1, .f32⟩
  | 127 => ⟨S16x8x128x128, .f32⟩
  | _ => ⟨S16x4096x4096, .f32⟩

abbrev hbmTy0_1 (i : Nat) : BufTy := match i % 128 with
  | 0 => ⟨S16x8x128x128, .f32⟩
  | 1 => ⟨S16x8x128x128, .f32⟩
  | 2 => ⟨S16x8x128x128, .f32⟩
  | 3 => ⟨S1x16x8x16x128, .f32⟩
  | 4 => ⟨S_, .i32⟩
  | 5 => ⟨S_, .i32⟩
  | 6 => ⟨S_, .i32⟩
  | 7 => ⟨S_, .i32⟩
  | 8 => ⟨S256x16x8x16x128, .f32⟩
  | 9 => ⟨S_, .i32⟩
  | 10 => ⟨S_, .i32⟩
  | 11 => ⟨S16x8x256x16x128, .f32⟩
  | 12 => ⟨S16x8x256x16x128, .f32⟩
  | 13 => ⟨S16x256x16x8x128, .f32⟩
  | 14 => ⟨S16x4096x8x128, .f32⟩
  | 15 => ⟨S16x4096x8x128, .f32⟩
  | 16 => ⟨S_, .f32⟩
  | 17 => ⟨S16x4096x8, .f32⟩
  | 18 => ⟨S16x4096x8x1, .f32⟩
  | 19 => ⟨S_, .f32⟩
  | 20 => ⟨S16x4096x8x1, .f32⟩
  | 21 => ⟨S16x4096x8x1, .f32⟩
  | 22 => ⟨S_, .f32⟩
  | 23 => ⟨S16x4096x8x1, .f32⟩
  | 24 => ⟨S16x4096x8x1, .f32⟩
  | 25 => ⟨S16x4096x8x1, .f32⟩
  | 26 => ⟨S16x4096x8x128, .f32⟩
  | 27 => ⟨S16x4096x8x128, .f32⟩
  | 28 => ⟨S1x1x1x128, .f32⟩
  | 29 => ⟨S16x4096x8x128, .f32⟩
  | 30 => ⟨S16x4096x8x128, .f32⟩
  | 31 => ⟨S16x4096x1024, .f32⟩
  | 32 => ⟨S16x4096x1024, .f32⟩
  | 33 => ⟨S16x4096x1024, .f32⟩
  | 34 => ⟨S_, .f32⟩
  | 35 => ⟨S16x4096x1024, .f32⟩
  | 36 => ⟨S16x4096x1024, .f32⟩
  | 37 => ⟨S_, .f32⟩
  | 38 => ⟨S16x4096x1024, .f32⟩
  | 39 => ⟨S16x4096x1024, .f32⟩
  | 40 => ⟨S16x4096x1024, .f32⟩
  | 41 => ⟨S16x4096x1024, .f32⟩
  | _ => ⟨S16x4096x4096, .f32⟩

abbrev hbmTy (i : Nat) : BufTy := match i / 128 with
  | 0 => hbmTy0_0 i
  | 1 => hbmTy0_1 i
  | _ => ⟨S16x4096x4096, .f32⟩

abbrev bufTy : (tb : Table) → Fin (tcTables nBuf tb) → BufTy
  | .hbm, ⟨i, _⟩ => hbmTy i
  | _, _ => ⟨S16x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_3 : Ref sig .tc := ⟨.hbm, 33, rfl⟩
abbrev main_v25 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call1_call0_cst : Ref sig .tc := ⟨.hbm, 62, rfl⟩
abbrev main_call1_call0_v0 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_5 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_cst_7 : Ref sig .tc := ⟨.hbm, 90, rfl⟩
abbrev main_v65 : Ref sig .tc := ⟨.hbm, 91, rfl⟩
abbrev main_c_8 : Ref sig .tc := ⟨.hbm, 92, rfl⟩
abbrev main_v66_0 : Ref sig .tc := ⟨.hbm, 93, rfl⟩
abbrev main_v66_1 : Ref sig .tc := ⟨.hbm, 94, rfl⟩
abbrev main_v66_2 : Ref sig .tc := ⟨.hbm, 95, rfl⟩
abbrev main_v66_3 : Ref sig .tc := ⟨.hbm, 96, rfl⟩
abbrev main_v66_4 : Ref sig .tc := ⟨.hbm, 97, rfl⟩
abbrev main_v66_5 : Ref sig .tc := ⟨.hbm, 98, rfl⟩
abbrev main_v66_6 : Ref sig .tc := ⟨.hbm, 99, rfl⟩
abbrev main_while0c_c_18 : Ref sig .tc := ⟨.hbm, 100, rfl⟩
abbrev main_while0c_v87 : Ref sig .tc := ⟨.hbm, 101, rfl⟩
abbrev main_while0b_call3_c : Ref sig .tc := ⟨.hbm, 102, rfl⟩
abbrev main_while0b_call3_c_0 : Ref sig .tc := ⟨.hbm, 103, rfl⟩
abbrev main_while0b_call3_c_1 : Ref sig .tc := ⟨.hbm, 104, rfl⟩
abbrev main_while0b_call3_c_2 : Ref sig .tc := ⟨.hbm, 105, rfl⟩
abbrev main_while0b_call3_v0 : Ref sig .tc := ⟨.hbm, 106, rfl⟩
abbrev main_while0b_v87 : Ref sig .tc := ⟨.hbm, 107, rfl⟩
abbrev main_while0b_call4_c : Ref sig .tc := ⟨.hbm, 108, rfl⟩
abbrev main_while0b_call4_c_0 : Ref sig .tc := ⟨.hbm, 109, rfl⟩
abbrev main_while0b_call4_c_1 : Ref sig .tc := ⟨.hbm, 110, rfl⟩
abbrev main_while0b_call4_c_2 : Ref sig .tc := ⟨.hbm, 111, rfl⟩
abbrev main_while0b_call4_v0 : Ref sig .tc := ⟨.hbm, 112, rfl⟩
abbrev main_while0b_v88 : Ref sig .tc := ⟨.hbm, 113, rfl⟩
abbrev main_while0b_call5_c : Ref sig .tc := ⟨.hbm, 114, rfl⟩
abbrev main_while0b_call5_c_0 : Ref sig .tc := ⟨.hbm, 115, rfl⟩
abbrev main_while0b_call5_c_1 : Ref sig .tc := ⟨.hbm, 116, rfl⟩
abbrev main_while0b_call5_c_2 : Ref sig .tc := ⟨.hbm, 117, rfl⟩
abbrev main_while0b_call5_v0 : Ref sig .tc := ⟨.hbm, 118, rfl⟩
abbrev main_while0b_v89 : Ref sig .tc := ⟨.hbm, 119, rfl⟩
abbrev main_while0b_call6_c : Ref sig .tc := ⟨.hbm, 120, rfl⟩
abbrev main_while0b_call6_c_0 : Ref sig .tc := ⟨.hbm, 121, rfl⟩
abbrev main_while0b_call6_c_1 : Ref sig .tc := ⟨.hbm, 122, rfl⟩
abbrev main_while0b_call6_v0 : Ref sig .tc := ⟨.hbm, 123, rfl⟩
abbrev main_while0b_v90 : Ref sig .tc := ⟨.hbm, 124, rfl⟩
abbrev main_while0b_v91 : Ref sig .tc := ⟨.hbm, 125, rfl⟩
abbrev main_while0b_v92 : Ref sig .tc := ⟨.hbm, 126, rfl⟩
abbrev main_while0b_v93 : Ref sig .tc := ⟨.hbm, 127, rfl⟩
abbrev main_while0b_v94 : Ref sig .tc := ⟨.hbm, 128, rfl⟩
abbrev main_while0b_v95 : Ref sig .tc := ⟨.hbm, 129, rfl⟩
abbrev main_while0b_v96 : Ref sig .tc := ⟨.hbm, 130, rfl⟩
abbrev main_while0b_call7_v0 : Ref sig .tc := ⟨.hbm, 131, rfl⟩
abbrev main_while0b_call7_c : Ref sig .tc := ⟨.hbm, 132, rfl⟩
abbrev main_while0b_call7_c_0 : Ref sig .tc := ⟨.hbm, 133, rfl⟩
abbrev main_while0b_call7_c_1 : Ref sig .tc := ⟨.hbm, 134, rfl⟩
abbrev main_while0b_call7_c_2 : Ref sig .tc := ⟨.hbm, 135, rfl⟩
abbrev main_while0b_v97 : Ref sig .tc := ⟨.hbm, 136, rfl⟩
abbrev main_while0b_c_18 : Ref sig .tc := ⟨.hbm, 137, rfl⟩
abbrev main_while0b_v98 : Ref sig .tc := ⟨.hbm, 138, rfl⟩
abbrev main_v67 : Ref sig .tc := ⟨.hbm, 139, rfl⟩
abbrev main_v68 : Ref sig .tc := ⟨.hbm, 140, rfl⟩
abbrev main_v69 : Ref sig .tc := ⟨.hbm, 141, rfl⟩
abbrev main_v70 : Ref sig .tc := ⟨.hbm, 142, rfl⟩
abbrev main_v71 : Ref sig .tc := ⟨.hbm, 143, rfl⟩
abbrev main_cst_9 : Ref sig .tc := ⟨.hbm, 144, rfl⟩
abbrev main_v72 : Ref sig .tc := ⟨.hbm, 145, rfl⟩
abbrev main_v73 : Ref sig .tc := ⟨.hbm, 146, rfl⟩
abbrev main_cst_10 : Ref sig .tc := ⟨.hbm, 147, rfl⟩
abbrev main_v74 : Ref sig .tc := ⟨.hbm, 148, rfl⟩
abbrev main_v75 : Ref sig .tc := ⟨.hbm, 149, rfl⟩
abbrev main_cst_11 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_v79 : Ref sig .tc := ⟨.hbm, 154, rfl⟩
abbrev main_v80 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_call8_v0 : Ref sig .tc := ⟨.hbm, 160, rfl⟩
abbrev main_call8_v1 : Ref sig .tc := ⟨.hbm, 161, rfl⟩
abbrev main_call8_cst : Ref sig .tc := ⟨.hbm, 162, rfl⟩
abbrev main_call8_v2 : Ref sig .tc := ⟨.hbm, 163, rfl⟩
abbrev main_call8_v3 : Ref sig .tc := ⟨.hbm, 164, rfl⟩
abbrev main_call8_cst_0 : Ref sig .tc := ⟨.hbm, 165, rfl⟩
abbrev main_call8_v4 : Ref sig .tc := ⟨.hbm, 166, rfl⟩
abbrev main_call8_v5 : Ref sig .tc := ⟨.hbm, 167, rfl⟩
abbrev main_v85 : Ref sig .tc := ⟨.hbm, 168, rfl⟩
abbrev main_v86 : Ref sig .tc := ⟨.hbm, 169, rfl⟩

abbrev nD : Nat := 1
abbrev τ : Topo := Topo.v7x

variable {F : FTy → Type} [FloatOps F]

abbrev main_while0_count : Scf.Loop 32 := ⟨0#32, 256#32, 1#32⟩
-- ==== Moe.lean ====
abbrev S147456x1024 : Shape := ⟨2, ![147456, 1024]⟩
abbrev S288 : Shape := ⟨1, ![288]⟩
abbrev S32x1024x512 : Shape := ⟨3, ![32, 1024, 512]⟩
abbrev S32x512x1024 : Shape := ⟨3, ![32, 512, 1024]⟩
abbrev S512x1024 : Shape := ⟨2, ![512, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 8
  | .vmem => 10
  | .smem => 1
  | _ => 0

abbrev bufTy : (tb : Table) → Fin (tcTables nBuf tb) → BufTy
  | .hbm, ⟨0, _⟩ => ⟨S147456x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S32x1024x512, .bf16⟩
  | .hbm, ⟨5, _⟩ => ⟨S32x1024x512, .bf16⟩
  | .hbm, ⟨6, _⟩ => ⟨S32x512x1024, .bf16⟩
  | .hbm, ⟨7, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S512x1024, .f32⟩
  | .local _ .vmem, ⟨9, _⟩ => ⟨S512x1024, .f32⟩
  | .local _ .smem, ⟨0, _⟩ => ⟨S288, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S147456x1024 : Shape := ⟨2, ![147456, 1024]⟩
abbrev S288 : Shape := ⟨1, ![288]⟩
abbrev S32x1024x512 : Shape := ⟨3, ![32, 1024, 512]⟩
abbrev S32x512x1024 : Shape := ⟨3, ![32, 512, 1024]⟩
abbrev S288x512x1024 : Shape := ⟨3, ![288, 512, 1024]⟩
abbrev S_ : Shape := ⟨0, ![]⟩
abbrev S288x1 : Shape := ⟨2, ![288, 1]⟩
abbrev S288x1024x512 : Shape := ⟨3, ![288, 1024, 512]⟩
abbrev S288x512x512 : Shape := ⟨3, ![288, 512, 512]⟩

abbrev nBuf : Space → Nat
  | .hbm => 47
  | .vmem => 0
  | .smem => 0
  | _ => 0

abbrev bufTy : (tb : Table) → Fin (tcTables nBuf tb) → BufTy
  | .hbm, ⟨0, _⟩ => ⟨S147456x1024, .f32⟩
  | .hbm, ⟨1, _⟩ => ⟨S288, .i32⟩
  | .hbm, ⟨2, _⟩ => ⟨S32x1024x512, .f32⟩
  | .hbm, ⟨3, _⟩ => ⟨S32x1024x512, .f32⟩
  | .hbm, ⟨4, _⟩ => ⟨S32x512x1024, .f32⟩
  | .hbm, ⟨5, _⟩ => ⟨S288x512x1024, .f32⟩
  | .hbm, ⟨6, _⟩ => ⟨S_, .i32⟩
  | .hbm, ⟨7, _⟩ => ⟨S288, .i32⟩
  | .hbm, ⟨8, _⟩ => ⟨S288, .i1⟩
  | .hbm, ⟨9, _⟩ => ⟨S_, .i32⟩
  | .hbm, ⟨10, _⟩ => ⟨S288, .i32⟩
  | .hbm, ⟨11, _⟩ => ⟨S288, .i32⟩
  | .hbm, ⟨12, _⟩ => ⟨S288, .i32⟩
  | .hbm, ⟨13, _⟩ => ⟨S288x1, .i32⟩
  | .hbm, ⟨14, _⟩ => ⟨S288x1024x512, .f32⟩
  | .hbm, ⟨15, _⟩ => ⟨S288x512x512, .f32⟩
  | .hbm, ⟨16, _⟩ => ⟨S288x512x512, .f32⟩
  | .hbm, ⟨17, _⟩ => ⟨S288x512x512, .f32⟩
  | .hbm, ⟨18, _⟩ => ⟨S_, .f32⟩
  | .hbm, ⟨19, _⟩ => ⟨S288x512x512, .f32⟩
  | .hbm, ⟨20, _⟩ => ⟨S288x512x512, .f32⟩
  | .hbm, ⟨21, _⟩ => ⟨S_, .f32⟩
  | .hbm, ⟨22, _⟩ => ⟨S288x512x512, .f32⟩
  | .hbm, ⟨23, _⟩ => ⟨S288x512x512, .f32⟩
  | .hbm, ⟨24, _⟩ => ⟨S288x512x512, .f32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S288, .i32⟩
  | .hbm, ⟨30, _⟩ => ⟨S288, .i32⟩
  | .hbm, ⟨31, _⟩ => ⟨S288, .i32⟩
  | .hbm, ⟨32, _⟩ => ⟨S288x1, .i32⟩
  | .hbm, ⟨33, _⟩ => ⟨S288x1024x512, .f32⟩
  | .hbm, ⟨34, _⟩ => ⟨S288x512x512, .f32⟩
  | .hbm, ⟨35, _⟩ => ⟨S288x512x512, .f32⟩
  | .hbm, ⟨36, _⟩ => ⟨S_, .i32⟩
  | .hbm, ⟨37, _⟩ => ⟨S288, .i32⟩
  | .hbm, ⟨38, _⟩ => ⟨S288, .i1⟩
  | .hbm, ⟨39, _⟩ => ⟨S_, .i32⟩
  | .hbm, ⟨40, _⟩ => ⟨S288, .i32⟩
  | .hbm, ⟨41, _⟩ => ⟨S288, .i32⟩
  | .hbm, ⟨42, _⟩ => ⟨S288, .i32⟩
  | .hbm, ⟨43, _⟩ => ⟨S288x1, .i32⟩
  | .hbm, ⟨44, _⟩ => ⟨S288x512x1024, .f32⟩
  | .hbm, ⟨45, _⟩ => ⟨S288x512x1024, .f32⟩
  | .hbm, ⟨46, _⟩ => ⟨S147456x1024, .f32⟩
  | _, _ => ⟨S147456x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v9 : Ref sig .tc := ⟨.hbm, 24, rfl⟩
abbrev main_c_1 : Ref sig .tc := ⟨.hbm, 25, rfl⟩
abbrev main_v10 : Ref sig .tc := ⟨.hbm, 26, rfl⟩
abbrev main_v11 : Ref sig .tc := ⟨.hbm, 27, rfl⟩
abbrev main_c_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩

abbrev nD : Nat := 1
abbrev τ : Topo := Topo.v7x

variable {F : FTy → Type} [FloatOps F]
-- ==== EvenIn.lean ====
abbrev S65536x1024 : Shape := ⟨2, ![65536, 1024]⟩
abbrev S1024x3096 : Shape := ⟨2, ![1024, 3096]⟩
abbrev S_ : Shape := ⟨0, ![]⟩
abbrev S1024x3200 : Shape := ⟨2, ![1024, 3200]⟩
abbrev S65536x3200 : Shape := ⟨2, ![65536, 3200]⟩
abbrev S512x1024 : Shape := ⟨2, ![512, 1024]⟩
abbrev S512x3200 : Shape := ⟨2, ![512, 3200]⟩

abbrev nBuf : Space → Nat
  | .hbm => 7
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x3096, .f32⟩
  | .hbm, ⟨2, _⟩ => ⟨S1024x3096, .bf16⟩
  | .hbm, ⟨3, _⟩ => ⟨S_, .i32⟩
  | .hbm, ⟨4, _⟩ => ⟨S_, .bf16⟩
  | .hbm, ⟨5, _⟩ => ⟨S1024x3200, .bf16⟩
  | .hbm, ⟨6, _⟩ => ⟨S65536x3200, .f32⟩
  | .local _ .vmem, ⟨0, _⟩ => ⟨S512x1024, .f32⟩
  | .local _ .vmem, ⟨1, _⟩ => ⟨S512x1024, .f32⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== EvenInRefIdeal.lean ====
abbrev S65536x1024 : Shape := ⟨2, ![65536, 1024]⟩
abbrev S1024x3096 : Shape := ⟨2, ![1024, 3096]⟩
abbrev S65536x3096 : Shape := ⟨2, ![65536, 3096]⟩
abbrev S_ : Shape := ⟨0, ![]⟩
abbrev S65536x3200 : Shape := ⟨2, ![65536, 3200]⟩

abbrev nBuf : Space → Nat
  | .hbm => 6
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3096, .f32⟩
  | .hbm, ⟨2, _⟩ => ⟨S65536x3096, .f32⟩
  | .hbm, ⟨3, _⟩ => ⟨S_, .i32⟩
  | .hbm, ⟨4, _⟩ => ⟨S_, .f32⟩
  | .hbm, ⟨5, _⟩ => ⟨S65536x3200, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== OddIn.lean ====
abbrev S65536x1024 : Shape := ⟨2, ![65536, 1024]⟩
abbrev S1024x4096 : Shape := ⟨2, ![1024, 4096]⟩
abbrev S65536x4096 : Shape := ⟨2, ![65536, 4096]⟩
abbrev S512x1024 : Shape := ⟨2, ![512, 1024]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S1024x4096, .bf16⟩
  | .hbm, ⟨3, _⟩ => ⟨S65536x4096, .f32⟩
  | .local _ .vmem, ⟨0, _⟩ => ⟨S512x1024, .f32⟩
  | .local _ .vmem, ⟨1, _⟩ => ⟨S512x1024, .f32⟩
  | .local _ .vmem, ⟨2, _⟩ => ⟨S1024x4096, .bf16⟩
  | .local _ .vmem, ⟨3, _⟩ => ⟨S512x4096, .f32⟩
  | .local _ .vmem, ⟨4, _⟩ => ⟨S512x4096, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OddInRefIdeal.lean ====
abbrev S65536x1024 : Shape := ⟨2, ![65536, 1024]⟩
abbrev S1024x4096 : Shape := ⟨2, ![1024, 4096]⟩
abbrev S65536x4096 : Shape := ⟨2, ![65536, 4096]⟩

abbrev nBuf : Space → Nat
  | .hbm => 3
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4096, .f32⟩
  | .hbm, ⟨2, _⟩ => ⟨S65536x4096, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Cmp.lean ====
abbrev S8192x1024 : Shape := ⟨2, ![8192, 1024]⟩
abbrev S1024x256 : Shape := ⟨2, ![1024, 256]⟩
abbrev S8192x256 : Shape := ⟨2, ![8192, 256]⟩
abbrev S512x1024 : Shape := ⟨2, ![512, 1024]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S1024x256, .bf16⟩
  | .hbm, ⟨3, _⟩ => ⟨S8192x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CmpRefIdeal.lean ====
abbrev S8192x1024 : Shape := ⟨2, ![8192, 1024]⟩
abbrev S1024x256 : Shape := ⟨2, ![1024, 256]⟩
abbrev S8192x256 : Shape := ⟨2, ![8192, 256]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x256, .f32⟩
  | .hbm, ⟨2, _⟩ => ⟨S8192x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== EvenOut.lean ====
abbrev S65536x512 : Shape := ⟨2, ![65536, 512]⟩
abbrev S1024x1024 : Shape := ⟨2, ![1024, 1024]⟩
abbrev S65536x1024 : Shape := ⟨2, ![65536, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 13
  | .vmem => 12
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S512x1024, .f32⟩
  | .hbm, ⟨7, _⟩ => ⟨S512x1024, .bf16⟩
  | .hbm, ⟨8, _⟩ => ⟨S512x1024, .f32⟩
  | .hbm, ⟨9, _⟩ => ⟨S512x1024, .bf16⟩
  | .hbm, ⟨10, _⟩ => ⟨S1x1024, .f32⟩
  | .hbm, ⟨11, _⟩ => ⟨S1x1024, .f32⟩
  | .hbm, ⟨12, _⟩ => ⟨S65536x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S65536x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== EvenOutRefIdeal.lean ====
abbrev S65536x512 : Shape := ⟨2, ![65536, 512]⟩
abbrev S1024x1024 : Shape := ⟨2, ![1024, 1024]⟩
abbrev S65536x1024 : Shape := ⟨2, ![65536, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S65536x512, .f32⟩
  | .hbm, ⟨1, _⟩ => ⟨S65536x512, .f32⟩
  | .hbm, ⟨2, _⟩ => ⟨S1024x1024, .f32⟩
  | .hbm, ⟨3, _⟩ => ⟨S65536x1024, .f32⟩
  | .hbm, ⟨4, _⟩ => ⟨S1024, .f32⟩
  | .hbm, ⟨5, _⟩ => ⟨S1024, .f32⟩
  | .hbm, ⟨6, _⟩ => ⟨S65536x1024, .f32⟩
  | .hbm, ⟨7, _⟩ => ⟨S65536x1024, .f32⟩
  | .hbm, ⟨8, _⟩ => ⟨S_, .f32⟩
  | .hbm, ⟨9, _⟩ => ⟨S65536x1024, .f32⟩
  | .hbm, ⟨10, _⟩ => ⟨S65536x1024, .f32⟩
  | .hbm, ⟨11, _⟩ => ⟨S65536x1024, .f32⟩
  | .hbm, ⟨12, _⟩ => ⟨S_, .f32⟩
  | .hbm, ⟨13, _⟩ => ⟨S65536, .f32⟩
  | .hbm, ⟨14, _⟩ => ⟨S65536x1, .f32⟩
  | .hbm, ⟨15, _⟩ => ⟨S_, .f32⟩
  | .hbm, ⟨16, _⟩ => ⟨S65536x1, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S_, .f32⟩
  | .hbm, ⟨25, _⟩ => ⟨S65536x1, .f32⟩
  | .hbm, ⟨26, _⟩ => ⟨S65536x1, .f32⟩
  | .hbm, ⟨27, _⟩ => ⟨S_, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S65536x1024, .f32⟩
  | .hbm, ⟨32, _⟩ => ⟨S65536x1024, .f32⟩
  | .hbm, ⟨33, _⟩ => ⟨S1x1024, .f32⟩
  | .hbm, ⟨34, _⟩ => ⟨S65536x1024, .f32⟩
  | .hbm, ⟨35, _⟩ => ⟨S65536x1024, .f32⟩
  | .hbm, ⟨36, _⟩ => ⟨S1x1024, .f32⟩
  | .hbm, ⟨37, _⟩ => ⟨S65536x1024, .f32⟩
  | .hbm, ⟨38, _⟩ => ⟨S65536x1024, .f32⟩
  | _, _ => ⟨S65536x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]
-- ==== OddOut.lean ====
abbrev S65536x1024 : Shape := ⟨2, ![65536, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OddOutRefIdeal.lean ====
abbrev S65536x1024 : Shape := ⟨2, ![65536, 1024]⟩
abbrev S1024x1024 : Shape := ⟨2, ![1024, 1024]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S_, .f32⟩
  | .hbm, ⟨20, _⟩ => ⟨S65536, .f32⟩
  | .hbm, ⟨21, _⟩ => ⟨S65536x1, .f32⟩
  | .hbm, ⟨22, _⟩ => ⟨S_, .f32⟩
  | .hbm, ⟨23, _⟩ => ⟨S65536x1, .f32⟩
  | .hbm, ⟨24, _⟩ => ⟨S65536x1, .f32⟩
  | .hbm, ⟨25, _⟩ => ⟨S_, .f32⟩
  | .hbm, ⟨26, _⟩ => ⟨S65536x1, .f32⟩
  | .hbm, ⟨27, _⟩ => ⟨S65536x1, .f32⟩
  | .hbm, ⟨28, _⟩ => ⟨S65536x1, .f32⟩
  | .hbm, ⟨29, _⟩ => ⟨S65536x1024, .f32⟩
  | .hbm, ⟨30, _⟩ => ⟨S65536x1024, .f32⟩
  | .hbm, ⟨31, _⟩ => ⟨S1x1024, .f32⟩
  | .hbm, ⟨32, _⟩ => ⟨S65536x1024, .f32⟩
  | .hbm, ⟨33, _⟩ => ⟨S65536x1024, .f32⟩
  | .hbm, ⟨34, _⟩ => ⟨S1x1024, .f32⟩
  | .hbm, ⟨35, _⟩ => ⟨S65536x1024, .f32⟩
  | .hbm, ⟨36, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Ple.lean ====
abbrev S65536x1024 : Shape := ⟨2, ![65536, 1024]⟩
abbrev S65536x256 : Shape := ⟨2, ![65536, 256]⟩
abbrev S1024x1024 : Shape := ⟨2, ![1024, 1024]⟩
abbrev S256x1024 : Shape := ⟨2, ![256, 1024]⟩
abbrev S512x1024 : Shape := ⟨2, ![512, 1024]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024x1024, .f32⟩
  | .hbm, ⟨3, _⟩ => ⟨S256x1024, .f32⟩
  | .hbm, ⟨4, _⟩ => ⟨S1024x1024, .bf16⟩
  | .hbm, ⟨5, _⟩ => ⟨S256x1024, .bf16⟩
  | .hbm, ⟨6, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1024x1024, .bf16⟩
  | .local _ .vmem, ⟨5, _⟩ => ⟨S256x1024, .bf16⟩
  | .local _ .vmem, ⟨6, _⟩ => ⟨S512x1024, .f32⟩
  | .local _ .vmem, ⟨7, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PleRefIdeal.lean ====
abbrev S65536x1024 : Shape := ⟨2, ![65536, 1024]⟩
abbrev S65536x256 : Shape := ⟨2, ![65536, 256]⟩
abbrev S1024x1024 : Shape := ⟨2, ![1024, 1024]⟩
abbrev S256x1024 : Shape := ⟨2, ![256, 1024]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x256, .f32⟩
  | .hbm, ⟨2, _⟩ => ⟨S1024x1024, .f32⟩
  | .hbm, ⟨3, _⟩ => ⟨S256x1024, .f32⟩
  | .hbm, ⟨4, _⟩ => ⟨S65536x1024, .f32⟩
  | .hbm, ⟨5, _⟩ => ⟨S65536x1024, .f32⟩
  | .hbm, ⟨6, _⟩ => ⟨S65536x1024, .f32⟩
  | .hbm, ⟨7, _⟩ => ⟨S_, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Route.lean ====
abbrev S65536x1024 : Shape := ⟨2, ![65536, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S32x1024 : Shape := ⟨2, ![32, 1024]⟩
abbrev S4x1024 : Shape := ⟨2, ![4, 1024]⟩
abbrev S_ : Shape := ⟨0, ![]⟩
abbrev S40x1024 : Shape := ⟨2, ![40, 1024]⟩
abbrev S40 : Shape := ⟨1, ![40]⟩
abbrev S40x1 : Shape := ⟨2, ![40, 1]⟩
abbrev S2x65536 : Shape := ⟨2, ![2, 65536]⟩
abbrev S32x128 : Shape := ⟨2, ![32, 128]⟩
abbrev S512x1024 : Shape := ⟨2, ![512, 1024]⟩
abbrev S2x512 : Shape := ⟨2, ![2, 512]⟩
abbrev S40x512 : Shape := ⟨2, ![40, 512]⟩
abbrev S4x512 : Shape := ⟨2, ![4, 512]⟩
abbrev S512 : Shape := ⟨1, ![512]⟩
abbrev S1x512 : Shape := ⟨2, ![1, 512]⟩
abbrev S8x512 : Shape := ⟨2, ![8, 512]⟩
abbrev S32x512 : Shape := ⟨2, ![32, 512]⟩
abbrev S512x512 : Shape := ⟨2, ![512, 512]⟩
abbrev S32x1 : Shape := ⟨2, ![32, 1]⟩

abbrev nBuf : Space → Nat
  | .hbm => 18
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S1024x4, .f32⟩
  | .hbm, ⟨2, _⟩ => ⟨S4, .f32⟩
  | .hbm, ⟨3, _⟩ => ⟨S1024x32, .f32⟩
  | .hbm, ⟨4, _⟩ => ⟨S32, .f32⟩
  | .hbm, ⟨5, _⟩ => ⟨S32x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S40x1024, .f32⟩
  | .hbm, ⟨10, _⟩ => ⟨S_, .f32⟩
  | .hbm, ⟨11, _⟩ => ⟨S4, .f32⟩
  | .hbm, ⟨12, _⟩ => ⟨S40, .f32⟩
  | .hbm, ⟨13, _⟩ => ⟨S40x1, .f32⟩
  | .hbm, ⟨14, _⟩ => ⟨S2x65536, .i32⟩
  | .hbm, ⟨15, _⟩ => ⟨S2x65536, .f32⟩
  | .hbm, ⟨16, _⟩ => ⟨S2x65536, .i32⟩
  | .hbm, ⟨17, _⟩ => ⟨S32x128, .f32⟩
  | .local _ .vmem, ⟨0, _⟩ => ⟨S512x1024, .f32⟩
  | .local _ .vmem, ⟨1, _⟩ => ⟨S512x1024, .f32⟩
  | .local _ .vmem, ⟨2, _⟩ => ⟨S40x1024, .f32⟩
  | .local _ .vmem, ⟨3, _⟩ => ⟨S40x1, .f32⟩
  | .local _ .vmem, ⟨4, _⟩ => ⟨S2x512, .i32⟩
  | .local _ .vmem, ⟨5, _⟩ => ⟨S2x512, .i32⟩
  | .local _ .vmem, ⟨6, _⟩ => ⟨S2x512, .f32⟩
  | .local _ .vmem, ⟨7, _⟩ => ⟨S2x512, .f32⟩
  | .local _ .vmem, ⟨8, _⟩ => ⟨S2x512, .i32⟩
  | .local _ .vmem, ⟨9, _⟩ => ⟨S2x512, .i32⟩
  | .local _ .vmem, ⟨10, _⟩ => ⟨S32x128, .f32⟩
  | .local _ .vmem, ⟨11, _⟩ => ⟨S32x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RouteRefIdeal.lean ====
abbrev S65536x1024 : Shape := ⟨2, ![65536, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S65536x4 : Shape := ⟨2, ![65536, 4]⟩
abbrev S1x4 : Shape := ⟨2, ![1, 4]⟩
abbrev S65536x1 : Shape := ⟨2, ![65536, 1]⟩
abbrev S65536 : Shape := ⟨1, ![65536]⟩
abbrev S_ : Shape := ⟨0, ![]⟩
abbrev S65536x32 : Shape := ⟨2, ![65536, 32]⟩
abbrev S1x32 : Shape := ⟨2, ![1, 32]⟩
abbrev S65536x4x8 : Shape := ⟨3, ![65536, 4, 8]⟩
abbrev S65536x2 : Shape := ⟨2, ![65536, 2]⟩
abbrev S65536x8 : Shape := ⟨2, ![65536, 8]⟩
abbrev S65536x2x1 : Shape := ⟨3, ![65536, 2, 1]⟩
abbrev S1x1x32 : Shape := ⟨3, ![1, 1, 32]⟩
abbrev S65536x2x32 : Shape := ⟨3, ![65536, 2, 32]⟩
abbrev S2x65536 : Shape := ⟨2, ![2, 65536]⟩
abbrev S32x1 : Shape := ⟨2, ![32, 1]⟩
abbrev S32x128 : Shape := ⟨2, ![32, 128]⟩

abbrev nBuf : Space → Nat
  | .hbm => 92
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4, .f32⟩
  | .hbm, ⟨2, _⟩ => ⟨S4, .f32⟩
  | .hbm, ⟨3, _⟩ => ⟨S1024x32, .f32⟩
  | .hbm, ⟨4, _⟩ => ⟨S32, .f32⟩
  | .hbm, ⟨5, _⟩ => ⟨S65536x4, .f32⟩
  | .hbm, ⟨6, _⟩ => ⟨S1x4, .f32⟩
  | .hbm, ⟨7, _⟩ => ⟨S65536x4, .f32⟩
  | .hbm, ⟨8, _⟩ => ⟨S65536x4, .f32⟩
  | .hbm, ⟨9, _⟩ => ⟨S65536x1, .f32⟩
  | .hbm, ⟨10, _⟩ => ⟨S65536x1, .i32⟩
  | .hbm, ⟨11, _⟩ => ⟨S65536, .i32⟩
  | .hbm, ⟨12, _⟩ => ⟨S_, .f32⟩
  | .hbm, ⟨13, _⟩ => ⟨S65536, .f32⟩
  | .hbm, ⟨14, _⟩ => ⟨S_, .f32⟩
  | .hbm, ⟨15, _⟩ => ⟨S65536, .f32⟩
  | .hbm, ⟨16, _⟩ => ⟨S65536, .f32⟩
  | .hbm, ⟨17, _⟩ => ⟨S65536x1, .f32⟩
  | .hbm, ⟨18, _⟩ => ⟨S65536x4, .f32⟩
  | .hbm, ⟨19, _⟩ => ⟨S65536x4, .f32⟩
  | .hbm, ⟨20, _⟩ => ⟨S65536x4, .f32⟩
  | .hbm, ⟨21, _⟩ => ⟨S_, .f32⟩
  | .hbm, ⟨22, _⟩ => ⟨S65536, .f32⟩
  | .hbm, ⟨23, _⟩ => ⟨S65536x1, .f32⟩
  | .hbm, ⟨24, _⟩ => ⟨S65536x4, .f32⟩
  | .hbm, ⟨25, _⟩ => ⟨S65536x4, .f32⟩
  | .hbm, ⟨26, _⟩ => ⟨S_, .f32⟩
  | .hbm, ⟨27, _⟩ => ⟨S65536, .f32⟩
  | .hbm, ⟨28, _⟩ => ⟨S65536x32, .f32⟩
  | .hbm, ⟨29, _⟩ => ⟨S1x32, .f32⟩
  | .hbm, ⟨30, _⟩ => ⟨S65536x32, .f32⟩
  | .hbm, ⟨31, _⟩ => ⟨S65536x32, .f32⟩
  | .hbm, ⟨32, _⟩ => ⟨S65536x4x8, .f32⟩
  | .hbm, ⟨33, _⟩ => ⟨S65536, .i32⟩
  | .hbm, ⟨34, _⟩ => ⟨S_, .i32⟩
  | .hbm, ⟨35, _⟩ => ⟨S65536, .i32⟩
  | .hbm, ⟨36, _⟩ => ⟨S65536, .i1⟩
  | .hbm, ⟨37, _⟩ => ⟨S_, .i32⟩
  | .hbm, ⟨38, _⟩ => ⟨S65536, .i32⟩
  | .hbm, ⟨39, _⟩ => ⟨S65536, .i32⟩
  | .hbm, ⟨40, _⟩ => ⟨S65536, .i32⟩
  | .hbm, ⟨41, _⟩ => ⟨S_, .i32⟩
  | .hbm, ⟨42, _⟩ => ⟨S65536, .i32⟩
  | .hbm, ⟨43, _⟩ => ⟨S65536, .i1⟩
  | .hbm, ⟨44, _⟩ => ⟨S_, .i32⟩
  | .hbm, ⟨45, _⟩ => ⟨S65536, .i32⟩
  | .hbm, ⟨46, _⟩ => ⟨S65536, .i32⟩
  | .hbm, ⟨47, _⟩ => ⟨S65536, .i32⟩
  | .hbm, ⟨48, _⟩ => ⟨S65536x1, .i32⟩
  | .hbm, ⟨49, _⟩ => ⟨S65536x1, .i32⟩
  | .hbm, ⟨50, _⟩ => ⟨S65536x2, .i32⟩
  | .hbm, ⟨51, _⟩ => ⟨S65536x8, .f32⟩
  | .hbm, ⟨52, _⟩ => ⟨S65536x2, .f32⟩
  | .hbm, ⟨53, _⟩ => ⟨S65536x2, .i32⟩
  | .hbm, ⟨54, _⟩ => ⟨S65536x1, .f32⟩
  | .hbm, ⟨55, _⟩ => ⟨S_, .f32⟩
  | .hbm, ⟨56, _⟩ => ⟨S65536, .f32⟩
  | .hbm, ⟨57, _⟩ => ⟨S_, .f32⟩
  | .hbm, ⟨58, _⟩ => ⟨S65536, .f32⟩
  | .hbm, ⟨59, _⟩ => ⟨S65536, .f32⟩
  | .hbm, ⟨60, _⟩ => ⟨S65536x1, .f32⟩
  | .hbm, ⟨61, _⟩ => ⟨S65536x2, .f32⟩
  | .hbm, ⟨62, _⟩ => ⟨S65536x2, .f32⟩
  | .hbm, ⟨63, _⟩ => ⟨S65536x2, .f32⟩
  | .hbm, ⟨64, _⟩ => ⟨S_, .f32⟩
  | .hbm, ⟨65, _⟩ => ⟨S65536, .f32⟩
  | .hbm, ⟨66, _⟩ => ⟨S65536x1, .f32⟩
  | .hbm, ⟨67, _⟩ => ⟨S65536x2, .f32⟩
  | .hbm, ⟨68, _⟩ => ⟨S65536x2, .f32⟩
  | .hbm, ⟨69, _⟩ => ⟨S65536x2, .f32⟩
  | .hbm, ⟨70, _⟩ => ⟨S65536x2, .f32⟩
  | .hbm, ⟨71, _⟩ => ⟨S65536x1, .i32⟩
  | .hbm, ⟨72, _⟩ => ⟨S_, .i32⟩
  | .hbm, ⟨73, _⟩ => ⟨S65536x1, .i32⟩
  | .hbm, ⟨74, _⟩ => ⟨S65536x1, .i32⟩
  | .hbm, ⟨75, _⟩ => ⟨S65536x2, .i32⟩
  | .hbm, ⟨76, _⟩ => ⟨S65536x2, .i32⟩
  | .hbm, ⟨77, _⟩ => ⟨S65536x2x1, .i32⟩
  | .hbm, ⟨78, _⟩ => ⟨S32, .i32⟩
  | .hbm, ⟨79, _⟩ => ⟨S1x1x32, .i32⟩
  | .hbm, ⟨80, _⟩ => ⟨S65536x2x32, .i32⟩
  | .hbm, ⟨81, _⟩ => ⟨S65536x2x32, .i32⟩
  | .hbm, ⟨82, _⟩ => ⟨S65536x2x32, .i1⟩
  | .hbm, ⟨83, _⟩ => ⟨S65536x2x32, .f32⟩
  | .hbm, ⟨84, _⟩ => ⟨S_, .f32⟩
  | .hbm, ⟨85, _⟩ => ⟨S65536x32, .f32⟩
  | .hbm, ⟨86, _⟩ => ⟨S_, .f32⟩
  | .hbm, ⟨87, _⟩ => ⟨S32, .f32⟩
  | .hbm, ⟨88, _⟩ => ⟨S2x65536, .i32⟩
  | .hbm, ⟨89, _⟩ => ⟨S2x65536, .f32⟩
  | .hbm, ⟨90, _⟩ => ⟨S32x1, .f32⟩
  | .hbm, ⟨91, _⟩ => ⟨S32x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_values : Ref sig .tc := ⟨.hbm, 9, rfl⟩
abbrev main_indices : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_4 : Ref sig .tc := ⟨.hbm, 41, rfl⟩
abbrev main_v28 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_values_6 : Ref sig .tc := ⟨.hbm, 52, rfl⟩
abbrev main_indices_7 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_11 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_cst_13 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Prep.lean ====
abbrev S16x4096x3200 : Shape := ⟨3, ![16, 4096, 3200]⟩
abbrev S16x4096x1x32 : Shape := ⟨4, ![16, 4096, 1, 32]⟩
abbrev S16x4096x32 : Shape := ⟨3, ![16, 4096, 32]⟩
abbrev S1x16x1x4096x1x32 : Shape := ⟨6, ![1, 16, 1, 4096, 1, 32]⟩
abbrev S1x16x1x4096x4x32 : Shape := ⟨6, ![1, 16, 1, 4096, 4, 32]⟩
abbrev S16x4096x128 : Shape := ⟨3, ![16, 4096, 128]⟩
abbrev S16x8x64x4096 : Shape := ⟨4, ![16, 8, 64, 4096]⟩
abbrev S16x2x4096x64 : Shape := ⟨4, ![16, 2, 4096, 64]⟩
abbrev S16x2x64x4096 : Shape := ⟨4, ![16, 2, 64, 4096]⟩
abbrev S16x8x3x4096 : Shape := ⟨4, ![16, 8, 3, 4096]⟩
abbrev S1x256x256 : Shape := ⟨3, ![1, 256, 256]⟩
abbrev S1x256x128 : Shape := ⟨3, ![1, 256, 128]⟩
abbrev S1x8x64x256 : Shape := ⟨4, ![1, 8, 64, 256]⟩
abbrev S1x2x256x64 : Shape := ⟨4, ![1, 2, 256, 64]⟩
abbrev S1x2x64x256 : Shape := ⟨4, ![1, 2, 64, 256]⟩
abbrev S1x8x3x256 : Shape := ⟨4, ![1, 8, 3, 256]⟩
abbrev S256x128 : Shape := ⟨2, ![256, 128]⟩
abbrev S256x256 : Shape := ⟨2, ![256, 256]⟩
abbrev S128x256 : Shape := ⟨2, ![128, 256]⟩
abbrev S64x256 : Shape := ⟨2, ![64, 256]⟩
abbrev S1x1x64x256 : Shape := ⟨4, ![1, 1, 64, 256]⟩
abbrev S256x64 : Shape := ⟨2, ![256, 64]⟩
abbrev S1x1x256x64 : Shape := ⟨4, ![1, 1, 256, 64]⟩
abbrev S3x256 : Shape := ⟨2, ![3, 256]⟩
abbrev S1x1x3x256 : Shape := ⟨4, ![1, 1, 3, 256]⟩

abbrev nBuf : Space → Nat
  | .hbm => 18
  | .vmem => 28
  | .smem => 0
  | _ => 0

abbrev bufTy : (tb : Table) → Fin (tcTables nBuf tb) → BufTy
  | .hbm, ⟨0, _⟩ => ⟨S16x4096x3200, .f32⟩
  | .hbm, ⟨1, _⟩ => ⟨S16x4096x1x32, .f32⟩
  | .hbm, ⟨2, _⟩ => ⟨S16x4096x1x32, .f32⟩
  | .hbm, ⟨3, _⟩ => ⟨S16x4096x32, .f32⟩
  | .hbm, ⟨4, _⟩ => ⟨S1x16x1x4096x1x32, .f32⟩
  | .hbm, ⟨5, _⟩ => ⟨S1x16x1x4096x4x32, .f32⟩
  | .hbm, ⟨6, _⟩ => ⟨S16x4096x128, .f32⟩
  | .hbm, ⟨7, _⟩ => ⟨S16x4096x32, .f32⟩
  | .hbm, ⟨8, _⟩ => ⟨S1x16x1x4096x1x32, .f32⟩
  | .hbm, ⟨9, _⟩ => ⟨S1x16x1x4096x4x32, .f32⟩
  | .hbm, ⟨10, _⟩ => ⟨S16x4096x128, .f32⟩
  | .hbm, ⟨11, _⟩ => ⟨S16x8x64x4096, .f32⟩
  | .hbm, ⟨12, _⟩ => ⟨S16x8x64x4096, .bf16⟩
  | .hbm, ⟨13, _⟩ => ⟨S16x2x4096x64, .bf16⟩
  | .hbm, ⟨14, _⟩ => ⟨S16x2x64x4096, .bf16⟩
  | .hbm, ⟨15, _⟩ => ⟨S16x2x4096x64, .bf16⟩
  | .hbm, ⟨16, _⟩ => ⟨S16x2x64x4096, .bf16⟩
  | .hbm, ⟨17, _⟩ => ⟨S16x8x3x4096, .f32⟩
  | .local _ .vmem, ⟨0, _⟩ => ⟨S1x256x256, .f32⟩
  | .local _ .vmem, ⟨1, _⟩ => ⟨S1x256x256, .f32⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x8x64x256, .f32⟩
  | .local _ .vmem, ⟨15, _⟩ => ⟨S1x8x64x256, .f32⟩
  | .local _ .vmem, ⟨16, _⟩ => ⟨S1x8x64x256, .bf16⟩
  | .local _ .vmem, ⟨17, _⟩ => ⟨S1x8x64x256, .bf16⟩
  | .local _ .vmem, ⟨18, _⟩ => ⟨S1x2x256x64, .bf16⟩
  | .local _ .vmem, ⟨19, _⟩ => ⟨S1x2x256x64, .bf16⟩
  | .local _ .vmem, ⟨20, _⟩ => ⟨S1x2x64x256, .bf16⟩
  | .local _ .vmem, ⟨21, _⟩ => ⟨S1x2x64x256, .bf16⟩
  | .local _ .vmem, ⟨22, _⟩ => ⟨S1x2x256x64, .bf16⟩
  | .local _ .vmem, ⟨23, _⟩ => ⟨S1x2x256x64, .bf16⟩
  | .local _ .vmem, ⟨24, _⟩ => ⟨S1x2x64x256, .bf16⟩
  | .local _ .vmem, ⟨25, _⟩ => ⟨S1x2x64x256, .bf16⟩
  | .local _ .vmem, ⟨26, _⟩ => ⟨S1x8x3x256, .f32⟩
  | .local _ .vmem, ⟨27, _⟩ => ⟨S1x8x3x256, .f32⟩
  | _, _ => ⟨S16x4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev main_v8_3 : Ref sig .tc := ⟨.hbm, 14, rfl⟩
abbrev main_v8_4 : Ref sig .tc := ⟨.hbm, 15, rfl⟩
abbrev main_v8_5 : Ref sig .tc := ⟨.hbm, 16, rfl⟩
abbrev main_v8_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 16], ![false, false]⟩

def cc0_transform_0 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_4 (i : grid0.Coords) : Fin 3 → Nat :=
  let arg0 : BitVec 32 := BitVec.ofNat 32 (i 0).val
  let arg1 : BitVec 32 := BitVec.ofNat 32 (i 1).val
  let c24_i32 : BitVec 32 := 24#32
  let c0_i32 : BitVec 32 := 0#32
  ![arg0.toNat, arg1.toNat, c24_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x64x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x64x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256x64 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x256x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x3x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== PrepRefIdeal.lean ====
abbrev S16x4096x3200 : Shape := ⟨3, ![16, 4096, 3200]⟩
abbrev S16x4096x1x32 : Shape := ⟨4, ![16, 4096, 1, 32]⟩
abbrev S16x4096x1304 : Shape := ⟨3, ![16, 4096, 1304]⟩
abbrev S16x4096x512 : Shape := ⟨3, ![16, 4096, 512]⟩
abbrev S16x4096x128 : Shape := ⟨3, ![16, 4096, 128]⟩
abbrev S16x4096x24 : Shape := ⟨3, ![16, 4096, 24]⟩
abbrev S16x4096x8x64 : Shape := ⟨4, ![16, 4096, 8, 64]⟩
abbrev S16x4096x8x32 : Shape := ⟨4, ![16, 4096, 8, 32]⟩
abbrev S16x4096x2x64 : Shape := ⟨4, ![16, 4096, 2, 64]⟩
abbrev S16x4096x2x32 : Shape := ⟨4, ![16, 4096, 2, 32]⟩
abbrev S16x4096x8x3 : Shape := ⟨4, ![16, 4096, 8, 3]⟩
abbrev S_ : Shape := ⟨0, ![]⟩
abbrev S16x8x64x4096 : Shape := ⟨4, ![16, 8, 64, 4096]⟩
abbrev S16x2x4096x64 : Shape := ⟨4, ![16, 2, 4096, 64]⟩
abbrev S16x2x64x4096 : Shape := ⟨4, ![16, 2, 64, 4096]⟩
abbrev S16x8x3x4096 : Shape := ⟨4, ![16, 8, 3, 4096]⟩

abbrev nBuf : Space → Nat
  | .hbm => 75
  | .vmem => 0
  | .smem => 0
  | _ => 0

abbrev bufTy : (tb : Table) → Fin (tcTables nBuf tb) → BufTy
  | .hbm, ⟨0, _⟩ => ⟨S16x4096x3200, .f32⟩
  | .hbm, ⟨1, _⟩ => ⟨S16x4096x1x32, .f32⟩
  | .hbm, ⟨2, _⟩ => ⟨S16x4096x1x32, .f32⟩
  | .hbm, ⟨3, _⟩ => ⟨S16x4096x1304, .f32⟩
  | .hbm, ⟨4, _⟩ => ⟨S16x4096x512, .f32⟩
  | .hbm, ⟨5, _⟩ => ⟨S16x4096x128, .f32⟩
  | .hbm, ⟨6, _⟩ => ⟨S16x4096x128, .f32⟩
  | .hbm, ⟨7, _⟩ => ⟨S16x4096x128, .f32⟩
  | .hbm, ⟨8, _⟩ => ⟨S16x4096x128, .f32⟩
  | .hbm, ⟨9, _⟩ => ⟨S16x4096x128, .f32⟩
  | .hbm, ⟨10, _⟩ => ⟨S16x4096x128, .f32⟩
  | .hbm, ⟨11, _⟩ => ⟨S16x4096x24, .f32⟩
  | .hbm, ⟨12, _⟩ => ⟨S16x4096x8x64, .f32⟩
  | .hbm, ⟨13, _⟩ => ⟨S16x4096x8x32, .f32⟩
  | .hbm, ⟨14, _⟩ => ⟨S16x4096x8x32, .f32⟩
  | .hbm, ⟨15, _⟩ => ⟨S16x4096x8x32, .f32⟩
  | .hbm, ⟨16, _⟩ => ⟨S16x4096x8x32, .f32⟩
  | .hbm, ⟨17, _⟩ => ⟨S16x4096x8x32, .f32⟩
  | .hbm, ⟨18, _⟩ => ⟨S16x4096x8x32, .f32⟩
  | .hbm, ⟨19, _⟩ => ⟨S16x4096x8x32, .f32⟩
  | .hbm, ⟨20, _⟩ => ⟨S16x4096x8x32, .f32⟩
  | .hbm, ⟨21, _⟩ => ⟨S16x4096x8x32, .f32⟩
  | .hbm, ⟨22, _⟩ => ⟨S16x4096x8x32, .f32⟩
  | .hbm, ⟨23, _⟩ => ⟨S16x4096x8x32, .f32⟩
  | .hbm, ⟨24, _⟩ => ⟨S16x4096x8x32, .f32⟩
  | .hbm, ⟨25, _⟩ => ⟨S16x4096x8x64, .f32⟩
  | .hbm, ⟨26, _⟩ => ⟨S16x4096x2x64, .f32⟩
  | .hbm, ⟨27, _⟩ => ⟨S16x4096x2x32, .f32⟩
  | .hbm, ⟨28, _⟩ => ⟨S16x4096x2x32, .f32⟩
  | .hbm, ⟨29, _⟩ => ⟨S16x4096x2x32, .f32⟩
  | .hbm, ⟨30, _⟩ => ⟨S16x4096x2x32, .f32⟩
  | .hbm, ⟨31, _⟩ => ⟨S16x4096x2x32, .f32⟩
  | .hbm, ⟨32, _⟩ => ⟨S16x4096x2x32, .f32⟩
  | .hbm, ⟨33, _⟩ => ⟨S16x4096x2x32, .f32⟩
  | .hbm, ⟨34, _⟩ => ⟨S16x4096x2x32, .f32⟩
  | .hbm, ⟨35, _⟩ => ⟨S16x4096x2x32, .f32⟩
  | .hbm, ⟨36, _⟩ => ⟨S16x4096x2x32, .f32⟩
  | .hbm, ⟨37, _⟩ => ⟨S16x4096x2x32, .f32⟩
  | .hbm, ⟨38, _⟩ => ⟨S16x4096x2x32, .f32⟩
  | .hbm, ⟨39, _⟩ => ⟨S16x4096x2x64, .f32⟩
  | .hbm, ⟨40, _⟩ => ⟨S16x4096x2x64, .f32⟩
  | .hbm, ⟨41, _⟩ => ⟨S16x4096x2x32, .f32⟩
  | .hbm, ⟨42, _⟩ => ⟨S16x4096x2x32, .f32⟩
  | .hbm, ⟨43, _⟩ => ⟨S16x4096x2x32, .f32⟩
  | .hbm, ⟨44, _⟩ => ⟨S16x4096x2x32, .f32⟩
  | .hbm, ⟨45, _⟩ => ⟨S16x4096x2x32, .f32⟩
  | .hbm, ⟨46, _⟩ => ⟨S16x4096x2x32, .f32⟩
  | .hbm, ⟨47, _⟩ => ⟨S16x4096x2x32, .f32⟩
  | .hbm, ⟨48, _⟩ => ⟨S16x4096x2x32, .f32⟩
  | .hbm, ⟨49, _⟩ => ⟨S16x4096x2x32, .f32⟩
  | .hbm, ⟨50, _⟩ => ⟨S16x4096x2x32, .f32⟩
  | .hbm, ⟨51, _⟩ => ⟨S16x4096x2x32, .f32⟩
  | .hbm, ⟨52, _⟩ => ⟨S16x4096x2x32, .f32⟩
  | .hbm, ⟨53, _⟩ => ⟨S16x4096x2x64, .f32⟩
  | .hbm, ⟨54, _⟩ => ⟨S16x4096x2x64, .f32⟩
  | .hbm, ⟨55, _⟩ => ⟨S16x4096x2x64, .f32⟩
  | .hbm, ⟨56, _⟩ => ⟨S16x4096x8x3, .f32⟩
  | .hbm, ⟨57, _⟩ => ⟨S_, .f32⟩
  | .hbm, ⟨58, _⟩ => ⟨S16x4096x8x64, .f32⟩
  | .hbm, ⟨59, _⟩ => ⟨S16x4096x8x64, .f32⟩
  | .hbm, ⟨60, _⟩ => ⟨S16x8x64x4096, .f32⟩
  | .hbm, ⟨61, _⟩ => ⟨S_, .f32⟩
  | .hbm, ⟨62, _⟩ => ⟨S16x4096x8x64, .f32⟩
  | .hbm, ⟨63, _⟩ => ⟨S16x4096x8x64, .f32⟩
  | .hbm, ⟨64, _⟩ => ⟨S16x8x64x4096, .f32⟩
  | .hbm, ⟨65, _⟩ => ⟨S16x8x64x4096, .bf16⟩
  | .hbm, ⟨66, _⟩ => ⟨S16x2x4096x64, .f32⟩
  | .hbm, ⟨67, _⟩ => ⟨S16x2x4096x64, .bf16⟩
  | .hbm, ⟨68, _⟩ => ⟨S16x2x64x4096, .f32⟩
  | .hbm, ⟨69, _⟩ => ⟨S16x2x64x4096, .bf16⟩
  | .hbm, ⟨70, _⟩ => ⟨S16x2x4096x64, .f32⟩
  | .hbm, ⟨71, _⟩ => ⟨S16x2x4096x64, .bf16⟩
  | .hbm, ⟨72, _⟩ => ⟨S16x2x64x4096, .f32⟩
  | .hbm, ⟨73, _⟩ => ⟨S16x2x64x4096, .bf16⟩
  | .hbm, ⟨74, _⟩ => ⟨S16x8x3x4096, .f32⟩
  | _, _ => ⟨S16x4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_cst : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_cst_0 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩

abbrev nD : Nat := 1
abbrev τ : Topo := Topo.v7x

variable {F : FTy → Type} [FloatOps F]
-- ==== Proof.MoeTable.lean ====
/- The table of experts. The region of the mixture's program is launched with a table that names, for each
   block of 512 rows, the expert whose weights that block takes; the index maps of the three weight windows
   read it. The precondition says that every entry lies in [0, 32), and from it follows here that every
   weight block lies inside its array: once for the program as it runs and once for its ideal. -/
module

public import proofs.«01_k».proof.Defs
public import proofs.«01_k».proof.Proof.Gen.Moe.Frame
public import proofs.«01_k».proof.Proof.Gen.MoeIdeal.Frame
public import Idealize.ShloMosaic.Lib.StableHlo.Predicate
public import Idealize.ShloMosaic.Lib.Affine

@[expose] public section

/-- The precondition's one shape fact: a scalar broadcasts to the table's shape. -/
instance Cert.Pre_expert_in_range.Own.facts : Cert.Pre_expert_in_range.Facts := ⟨by decide⟩

namespace Cert.Own.MoeTable

open Idealize.ShloMosaic Idealize.ShloMosaic.TcCoe

/-- A word that is at least 0 and below 32, read signed, is below 32 read unsigned. -/
theorem word_lt {w : BitVec 32} (h : (BitVec.ofBool ((0#32).sle w) &&& BitVec.ofBool (w.slt 32#32)) = 1#1) : w.toNat < 32 := by
  have h0 : (0#32).sle w = true ∧ w.slt 32#32 = true := by
    cases h1 : (0#32).sle w <;> cases h2 : w.slt 32#32 <;> simp_all
  obtain ⟨h1, h2⟩ := h0
  simp only [BitVec.sle, BitVec.slt, decide_eq_true_eq, BitVec.toInt] at h1 h2
  have := w.isLt
  simp at h1 h2
  split at h2 <;> omega

section
open Cert.Moe Cert.Moe.Gen

theorem entry_lt (m : (ℓ : Loc nD τ sig) → Buf (Elt Bits) ℓ) (h : Cert.Pre_Moe m) (x : S288.Idx) :
    (show BitVec 32 from tbl m 0 x).toNat < 32 := by
  have e := congrFun (h 0) x
  rw [show tbl m 0 x = m (((0 : Dev nD) : Thread nD τ).loc main_arg1) x from congrFun (V_main_arg1 m 0) x]
  exact word_lt e

theorem ok_of_pre (m : (ℓ : Loc nD τ sig) → Buf (Elt Bits) ℓ) (h : Cert.Pre_Moe m) : Ok (F := Bits) m := by
  have key : ∀ i : grid0.Coords, (show BitVec 32 from (tbl m).at 0 (Rect.unit (s := S288) ![(Scalar.indexCast (BitVec.ofNat 32 (i 0).val) : Index).toNat] S1.size (k0_off1_inb i)) numel1_S1).toNat < 32 :=
    fun i => entry_lt m h _
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩ <;>
  · intro a
    have k := key i
    fin_cases a
    · show ((show BitVec 32 from (tbl m).at 0 _ _).toNat + 1) * 1 ≤ 32
      omega
    · exact Nat.le_of_eq rfl
    · exact Nat.le_of_eq rfl

end

section
open Cert.MoeIdeal Cert.MoeIdeal.Gen

theorem entry_lt_ideal (m : (ℓ : Loc nD τ sig) → Buf (Elt Ideal) ℓ) (h : Cert.Pre_MoeIdeal m) (x : S288.Idx) :
    (show BitVec 32 from tbl m 0 x).toNat < 32 := by
  have e := congrFun (h 0) x
  rw [show tbl m 0 x = m (((0 : Dev nD) : Thread nD τ).loc main_arg1) x from congrFun (V_main_arg1 m 0) x]
  exact word_lt e

theorem ok_of_pre_ideal (m : (ℓ : Loc nD τ sig) → Buf (Elt Ideal) ℓ) (h : Cert.Pre_MoeIdeal m) : Ok (F := Ideal) m := by
  have key : ∀ i : grid0.Coords, (show BitVec 32 from (tbl m).at 0 (Rect.unit (s := S288) ![(Scalar.indexCast (BitVec.ofNat 32 (i 0).val) : Index).toNat] S1.size (k0_off1_inb i)) numel1_S1).toNat < 32 :=
    fun i => entry_lt_ideal m h _
  refine ⟨fun i => ⟨?_, .inr (Affine.block_words_dvd (of_decide_eq_true rfl) (by decide))⟩,
    fun i => ⟨?_, .inr (Affine.block_words_dvd (of_decide_eq_true rfl) (by decide))⟩,
    fun i => ⟨?_, .inr (Affine.block_words_dvd (of_decide_eq_true rfl) (by decide))⟩⟩ <;>
  · intro a
    have k := key i
    fin_cases a
    · show ((show BitVec 32 from (tbl m).at 0 _ _).toNat + 1) * 1 ≤ 32
      omega
    · exact Nat.le_of_eq rfl
    · exact Nat.le_of_eq rfl

end

end Cert.Own.MoeTable
-- ==== Proof.HgrnRefFrame.lean ====
/- The recurrence's reference keeps its arguments. Its run is a fold of stretches of host operations with one counted
   loop in the middle; no operation of any stretch writes an argument, so the fold leaves each one as it was. -/
module

public import proofs.«01_k».proof.Proof.Gen.ReferenceIdeal.Run
public import Idealize.ShloMosaic.Lib.Pointwise

@[expose] public section

set_option maxRecDepth 8192

noncomputable section

namespace Cert.Own.HgrnRef

open Cert.ReferenceIdeal Cert.ReferenceIdeal.Gen Cert.ReferenceIdeal.Value
open Idealize.ShloMosaic Idealize.ShloMosaic.TcCoe Idealize.ShloMosaic.StableHlo Idealize.SL.Sem

/-- A buffer that no stretch of a list changes is not changed by the list. -/
theorem afterL_keep (b : DevRef τ sig) : ∀ (L : List (List (HloOp τ sig (Elt Ideal)))), (∀ s ∈ L, ∀ V, after s V b = V b) →
    ∀ V, afterL L V b = V b
  | [], _, _ => rfl
  | s :: L, h, V => (afterL_keep b L (fun s' hs => h s' (List.mem_cons_of_mem _ hs)) (after s V)).trans (h s List.mem_cons_self V)

/-- A buffer that neither the condition nor the body changes is not changed by any number of trips. -/
theorem atTrip_keep (b : DevRef τ sig) (hc : ∀ V, after (condOps (F := Ideal)) V b = V b) (hb : ∀ V, afterL (bodyI (F := Ideal)) V b = V b)
    (W : Dev nD → Valuation τ sig (Elt Ideal)) (c : Dev nD) : ∀ k, atTrip condOps bodyI W k c b = W c b
  | 0 => rfl
  | k + 1 => (hb _).trans ((hc _).trans (atTrip_keep b hc hb W c k))

/-- A reference that no operation of the program writes, stretch by stretch. -/
def Kept (b : Ref sig .tc) : Prop :=
  (∀ s ∈ (preI : List (List (HloOp τ sig (Elt Ideal)))), ∀ V, after s V (Proc.devRef .tc b) = V (Proc.devRef .tc b))
  ∧ (∀ V, after (condOps (F := Ideal)) V (Proc.devRef .tc b) = V (Proc.devRef .tc b))
  ∧ (∀ s ∈ (bodyI : List (List (HloOp τ sig (Elt Ideal)))), ∀ V, after s V (Proc.devRef .tc b) = V (Proc.devRef .tc b))
  ∧ (∀ s ∈ (postI : List (List (HloOp τ sig (Elt Ideal)))), ∀ V, after s V (Proc.devRef .tc b) = V (Proc.devRef .tc b))

theorem final_keep (m : (ℓ : Loc nD τ sig) → Buf (Elt Ideal) ℓ) (c : Dev nD) (b : Ref sig .tc) (h : Kept b) :
    finalContents condOps preI bodyI postI 256 m c (Proc.devRef .tc b) = m ((c.tc : Thread nD τ).loc b) :=
  (afterL_keep _ _ h.2.2.2 _).trans ((h.2.1 _).trans
    ((atTrip_keep _ h.2.1 (afterL_keep _ _ h.2.2.1) _ c 256).trans ((afterL_keep _ _ h.1 _).trans rfl)))

/-- What is shared by the arguments: a reference outside every stretch's list of written references is kept. -/
theorem kept_of (b : Ref sig .tc)
    (h : b ∉ hostOps0_W ++ hostOps0_1_W ++ hostOps0_2_W ++ hostOps0_3_W ++ hostOps0_4_W ++ hostOps0_5_W ++ hostOps0_6_W
      ++ condOps_W ++ while0Ops0_W ++ while0Ops0_1_W ++ while0Ops0_2_W ++ while0Ops0_3_W ++ while0Ops0_4_W ++ while0Ops0_5_W
      ++ while0Ops0_6_W)
    (hp : ∀ s ∈ (postI : List (List (HloOp τ sig (Elt Ideal)))), ∀ V, after s V (Proc.devRef .tc b) = V (Proc.devRef .tc b)) : Kept b := by
  simp only [List.mem_append, not_or] at h
  obtain ⟨⟨⟨⟨⟨⟨⟨⟨⟨⟨⟨⟨⟨⟨h0, h1⟩, h2⟩, h3⟩, h4⟩, h5⟩, h6⟩, hc⟩, k0⟩, k1⟩, k2⟩, k3⟩, k4⟩, k5⟩, k6⟩ := h
  refine ⟨?_, fun V => after_of_writes_sub condOps V condOps_writes hc, ?_, hp⟩
  · intro s hs V
    simp only [List.mem_cons, List.not_mem_nil, or_false] at hs
    rcases hs with rfl | rfl | rfl | rfl | rfl | rfl | rfl
    · exact after_of_writes_sub _ V hostOps0_writes h0
    · exact after_of_writes_sub _ V hostOps0_1_writes h1
    · exact after_of_writes_sub _ V hostOps0_2_writes h2
    · exact after_of_writes_sub _ V hostOps0_3_writes h3
    · exact after_of_writes_sub _ V hostOps0_4_writes h4
    · exact after_of_writes_sub _ V hostOps0_5_writes h5
    · exact after_of_writes_sub _ V hostOps0_6_writes h6
  · intro s hs V
    simp only [List.mem_cons, List.not_mem_nil, or_false] at hs
    rcases hs with rfl | rfl | rfl | rfl | rfl | rfl | rfl
    · exact after_of_writes_sub _ V while0Ops0_writes k0
    · exact after_of_writes_sub _ V while0Ops0_1_writes k1
    · exact after_of_writes_sub _ V while0Ops0_2_writes k2
    · exact after_of_writes_sub _ V while0Ops0_3_writes k3
    · exact after_of_writes_sub _ V while0Ops0_4_writes k4
    · exact after_of_writes_sub _ V while0Ops0_5_writes k5
    · exact after_of_writes_sub _ V while0Ops0_6_writes k6

/-- The stretches after the loop write no argument. -/
theorem post_keep (b : Ref sig .tc) (hb : b = main_arg0 ∨ b = main_arg1 ∨ b = main_arg2) :
    ∀ s ∈ (postI : List (List (HloOp τ sig (Elt Ideal)))), ∀ V, after s V (Proc.devRef .tc b) = V (Proc.devRef .tc b) := by
  intro s hs V
  simp only [List.mem_cons, List.not_mem_nil, or_false] at hs
  rcases hb with rfl | rfl | rfl <;> rcases hs with rfl | rfl | rfl <;> after_results

/-- From any memory with zero counters the reference runs, keeps its three arguments and ends with zero counters. -/
theorem frame (m : (ℓ : Loc nD τ sig) → Buf (Elt Ideal) ℓ) (ρ : Dev nD → PrngReg) :
    θ_run defs (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun r h => ⟨fun c =>
      ⟨(h c main_arg0 rfl).trans (final_keep m c _ (kept_of _ (by decide +kernel) (post_keep _ (.inl rfl)))),
        (h c main_arg1 rfl).trans (final_keep m c _ (kept_of _ (by decide +kernel) (post_keep _ (.inr (.inl rfl))))),
        (h c main_arg2 rfl).trans (final_keep m c _ (kept_of _ (by decide +kernel) (post_keep _ (.inr (.inr rfl)))))⟩,
      sem_eq_zero_of_no_sems (by decide) r.2⟩) (run_fold m ρ)

end Cert.Own.HgrnRef

end
-- ==== Proof.HgrnMath.lean ====
/- The recurrence's arithmetic in the extended reals. Times are grouped in chunks of 16. Within a chunk the decays' logarithms
   are summed from the chunk's start (`cum`) or from its end (`tail`), a state is carried from chunk to chunk (`next`), and a
   row's output is the sum over the chunk's earlier rows plus what it reads of the state (`row`). For finite logarithms the sum
   from the end is the chunk's sum minus the sum from the start (`last_sub_cum`), and the logarithms are finite where the gate's
   argument is and the bound is a nonnegative real (`logf_real`). -/
module

public import Idealize.ShloMosaic.Lib.Pointwise
public import Idealize.ShloMosaic.Lib.IdealHost

@[expose] public section

noncomputable section

namespace Cert.Own.Hgrn

open Idealize.ShloMosaic

/-- An extended real that is a real number. -/
def IsReal (x : EReal) : Prop := ∃ r : ℝ, x = (r : EReal)

theorem IsReal.zero : IsReal 0 := ⟨0, rfl⟩
theorem IsReal.add {x y : EReal} (hx : IsReal x) (hy : IsReal y) : IsReal (x + y) := by
  obtain ⟨r, rfl⟩ := hx; obtain ⟨s, rfl⟩ := hy; exact ⟨r + s, (EReal.coe_add r s).symm⟩
theorem IsReal.sum {ι : Type} (s : Finset ι) (f : ι → EReal) (h : ∀ i, IsReal (f i)) : IsReal (∑ i ∈ s, f i) := by
  classical
  induction s using Finset.induction_on with
  | empty => exact IsReal.zero
  | insert a s ha ih => rw [Finset.sum_insert ha]; exact (h a).add ih
theorem IsReal.ite {p : Prop} [Decidable p] {x : EReal} (h : IsReal x) : IsReal (if p then x else 0) := by
  split
  · exact h
  · exact IsReal.zero

theorem IsReal.sub_self {x : EReal} (h : IsReal x) : x - x = 0 := by
  obtain ⟨r, rfl⟩ := h; rw [← EReal.coe_sub, _root_.sub_self]; rfl
theorem IsReal.add_sub {x y : EReal} (hx : IsReal x) (hy : IsReal y) : x + y - x = y := by
  obtain ⟨r, rfl⟩ := hx; obtain ⟨s, rfl⟩ := hy; rw [← EReal.coe_add, ← EReal.coe_sub, add_sub_cancel_left]

/-! ## Sums of logarithms within a chunk -/

/-- The sum up to row `r`, `r` included. -/
def cum (L : Fin 16 → EReal) (r : Fin 16) : EReal := ∑ j, if j ≤ r then L j else 0
/-- The sum of the rows after `r`. -/
def tail (L : Fin 16 → EReal) (r : Fin 16) : EReal := ∑ j, if r < j then L j else 0

theorem cum_add_tail (L : Fin 16 → EReal) (r : Fin 16) : cum L r + tail L r = cum L 15 := by
  unfold cum tail
  rw [← Finset.sum_add_distrib]
  refine Finset.sum_congr rfl fun j _ => ?_
  rw [if_pos (show j ≤ 15 from Fin.le_last j)]
  by_cases h : j ≤ r
  · rw [if_pos h, if_neg (not_lt.2 h), add_zero]
  · rw [if_neg h, if_pos (not_le.1 h), zero_add]

theorem last_sub_cum (L : Fin 16 → EReal) (h : ∀ j, IsReal (L j)) (r : Fin 16) : cum L 15 - cum L r = tail L r := by
  rw [← cum_add_tail L r]
  exact IsReal.add_sub (IsReal.sum _ _ fun j => (h j).ite) (IsReal.sum _ _ fun j => (h j).ite)

/-! ## The recurrence -/

/-- The state after a chunk, from the one before it: every key decays to the chunk's end. -/
def next (K L V : Fin 16 → Fin 128 → EReal) (S : Fin 128 → Fin 128 → EReal) (d v : Fin 128) : EReal :=
  S d v * Ideal.exp (cum (fun j => L j d) 15) + ∑ r, K r d * Ideal.exp (tail (fun j => L j d) r) * V r v

/-- What row `r` of a chunk gives: its own chunk's rows up to it, and the state before the chunk. -/
def row (Q K L V : Fin 16 → Fin 128 → EReal) (S : Fin 128 → Fin 128 → EReal) (r : Fin 16) (v : Fin 128) : EReal :=
  (∑ s, (if s ≤ r then ∑ d, Q r d * Ideal.exp (cum (fun j => L j d) r) * (K s d * Ideal.exp (-cum (fun j => L j d) s)) else 0) * V s v)
    + ∑ d, Q r d * Ideal.exp (cum (fun j => L j d) r) * S d v

/-- The state before chunk `n`. -/
def state (K L V : ℕ → Fin 16 → Fin 128 → EReal) : ℕ → Fin 128 → Fin 128 → EReal
  | 0 => fun _ _ => 0
  | n + 1 => next (K n) (L n) (V n) (state K L V n)

/-- The norm over a head, and the gate. -/
def gated (O ng : Fin 128 → EReal) (g : EReal) (v : Fin 128) : EReal :=
  O v * Ideal.rsqrt (Ideal.div (∑ u, O u * O u) (Ideal.ofBits .f32 0x43000000#32) + Ideal.ofBits .f32 0x3727C5AC#32) * ng v
    * (g * Ideal.logistic g)

/-! ## The gate -/

/-- The decay of one step. -/
def forget (l f : EReal) : EReal := l + (1 - l) * Ideal.logistic f
def logf (l f : EReal) : EReal := Ideal.log (forget l f)
def key (l f : EReal) : EReal := (1 - l) * Ideal.logistic (-f)

theorem logistic_coe (x : ℝ) : Ideal.logistic (x : EReal) = ((1 + Real.exp (-x))⁻¹ : ℝ) := by
  have h : (0 : ℝ) < 1 + Real.exp (-x) := by positivity
  unfold Ideal.logistic Ideal.div
  rw [← EReal.coe_neg]
  show (if (1 : EReal) + (Real.exp (-x) : EReal) = 0 then _ else _) = _
  rw [show (1 : EReal) + (Real.exp (-x) : EReal) = ((1 + Real.exp (-x) : ℝ) : EReal) from by rw [EReal.coe_add]; rfl,
    if_neg (by rw [← EReal.coe_zero, EReal.coe_eq_coe_iff]; exact h.ne'), one_mul, EReal.coe_inv, EReal.coe_add]
  rfl

theorem forget_coe (l f : ℝ) : forget l f = ((l + (1 - l) * (1 + Real.exp (-f))⁻¹ : ℝ) : EReal) := by
  unfold forget
  rw [logistic_coe, EReal.coe_add, EReal.coe_mul, EReal.coe_sub]; rfl

theorem logf_real {l f : EReal} (hl : IsReal l) (h0 : 0 ≤ l) (hf : IsReal f) : IsReal (logf l f) := by
  obtain ⟨a, rfl⟩ := hl; obtain ⟨x, rfl⟩ := hf
  have ha : (0 : ℝ) ≤ a := by exact_mod_cast h0
  have hs : (0 : ℝ) < (1 + Real.exp (-x))⁻¹ := by positivity
  have hs1 : (1 + Real.exp (-x))⁻¹ ≤ (1 : ℝ) := inv_le_one_of_one_le₀ (by linarith [Real.exp_pos (-x)])
  have hp : (0 : ℝ) < a + (1 - a) * (1 + Real.exp (-x))⁻¹ := by nlinarith
  unfold logf
  rw [forget_coe]
  show IsReal (if a + (1 - a) * (1 + Real.exp (-x))⁻¹ ≤ 0 then ⊥ else _)
  rw [if_neg (not_le.2 hp)]
  exact ⟨_, rfl⟩

/-- One minus the decay is the key's factor. -/
theorem one_sub_forget {l f : EReal} (hl : IsReal l) (hf : IsReal f) : 1 - forget l f = key l f := by
  obtain ⟨a, rfl⟩ := hl; obtain ⟨x, rfl⟩ := hf
  unfold key
  rw [forget_coe, ← EReal.coe_neg, logistic_coe, ← EReal.coe_one, ← EReal.coe_sub, ← EReal.coe_sub, ← EReal.coe_mul,
    EReal.coe_eq_coe_iff, neg_neg, Real.exp_neg]
  have h := Real.exp_pos x
  field_simp
  ring

end Cert.Own.Hgrn

end
-- ==== Proof.HgrnSpec.lean ====
/- The recurrence's whole result as a function of its arguments: the projections' four column bands, the lower bound and the norm's
   gain. -/
module

public import proofs.«01_k».proof.Proof.HgrnMath

@[expose] public section

noncomputable section

namespace Cert.Own.Hgrn

open Idealize.ShloMosaic

/-- The recurrence's inputs from the raw projections, chunk by chunk. -/
def qOf (q : ℕ → Fin 16 → Fin 128 → EReal) (n : ℕ) (r : Fin 16) (d : Fin 128) : EReal := q n r d * Ideal.logistic (q n r d)
def kOf (l : Fin 128 → EReal) (f : ℕ → Fin 16 → Fin 128 → EReal) (n : ℕ) (r : Fin 16) (d : Fin 128) : EReal := key (l d) (f n r d)
def lOf (l : Fin 128 → EReal) (f : ℕ → Fin 16 → Fin 128 → EReal) (n : ℕ) (r : Fin 16) (d : Fin 128) : EReal := logf (l d) (f n r d)

/-- Row `r` of chunk `n` among the 4096 tokens; column `d` of head `h` in band `j`, and among a band's columns. -/
def tok (n : ℕ) (r : Fin 16) : Fin 4096 := ⟨(16 * n + r.val) % 4096, Nat.mod_lt _ (by decide)⟩
def col (j : Fin 4) (h : Fin 8) (d : Fin 128) : Fin 4096 := ⟨1024 * j.val + (128 * h.val + d.val), by omega⟩
def lane (h : Fin 8) (d : Fin 128) : Fin 1024 := ⟨128 * h.val + d.val, by omega⟩

/-- Band `j` of batch `b`, head `h`, chunk by chunk; the lower bound of head `h`. -/
def band (Z : FVec Ideal ⟨3, ![16, 4096, 4096]⟩ .f32) (j : Fin 4) (b : Fin 16) (h : Fin 8) (n : ℕ) (r : Fin 16) (d : Fin 128) : EReal :=
  Z (ix3 b (tok n r) (col j h d))
def bound (LB : FVec Ideal ⟨1, ![1024]⟩ .f32) (h : Fin 8) (d : Fin 128) : EReal := LB (ix1 (lane h d))

/-- The state of batch `b` and head `h` before chunk `n`. -/
def stateAt (Z : FVec Ideal ⟨3, ![16, 4096, 4096]⟩ .f32) (LB : FVec Ideal ⟨1, ![1024]⟩ .f32) (b : Fin 16) (h : Fin 8) (n : ℕ) : Fin 128 → Fin 128 → EReal :=
  state (kOf (bound LB h) (band Z 1 b h)) (lOf (bound LB h) (band Z 1 b h)) (band Z 2 b h) n

/-- The recurrence's row before the norm and the gate. -/
def rowAt (Z : FVec Ideal ⟨3, ![16, 4096, 4096]⟩ .f32) (LB : FVec Ideal ⟨1, ![1024]⟩ .f32) (b : Fin 16) (h : Fin 8) (n : ℕ) (r : Fin 16) (u : Fin 128) : EReal :=
  row (qOf (band Z 0 b h) n) (kOf (bound LB h) (band Z 1 b h) n) (lOf (bound LB h) (band Z 1 b h) n) (band Z 2 b h n) (stateAt Z LB b h n) r u

/-- The result at batch `b`, row `r` of chunk `n`, column `v` of head `h`. -/
def outAt (Z : FVec Ideal ⟨3, ![16, 4096, 4096]⟩ .f32) (LB : FVec Ideal ⟨1, ![1024]⟩ .f32) (NG : FVec Ideal ⟨1, ![128]⟩ .f32)
    (b : Fin 16) (h : Fin 8) (n : ℕ) (r : Fin 16) (v : Fin 128) : EReal :=
  gated (rowAt Z LB b h n r) (fun u => NG (ix1 u)) (band Z 3 b h n r v) v

/-- What the claim asks of the arguments: the decay's projections are real, the lower bounds real and at least zero. -/
def Fits (Z : FVec Ideal ⟨3, ![16, 4096, 4096]⟩ .f32) (LB : FVec Ideal ⟨1, ![1024]⟩ .f32) : Prop :=
  (∀ b h n r d, IsReal (band Z 1 b h n r d)) ∧ ∀ h d, IsReal (bound LB h d) ∧ 0 ≤ bound LB h d

/-- Every index of the result is a row of a chunk and a column of a head. -/
theorem ix_split (i : Shape.Idx ⟨3, ![16, 4096, 1024]⟩) : ∃ (b : Fin 16) (n : Fin 256) (r : Fin 16) (h : Fin 8) (v : Fin 128),
    i = ix3 b (tok n.val r) (lane h v) := by
  have h1 : (i 1).val < 4096 := (i 1).isLt
  have h2 : (i 2).val < 1024 := (i 2).isLt
  refine ⟨i 0, ⟨(i 1).val / 16, by omega⟩, ⟨(i 1).val % 16, by omega⟩, ⟨(i 2).val / 128, by omega⟩, ⟨(i 2).val % 128, by omega⟩, ?_⟩
  refine (eq_ix3 i).trans (congrArg₂ (ix3 (i 0)) (Fin.ext ?_) (Fin.ext ?_))
  · show (i 1).val = (16 * ((i 1).val / 16) + (i 1).val % 16) % 4096
    omega
  · show (i 2).val = 128 * ((i 2).val / 128) + (i 2).val % 128
    omega

end Cert.Own.Hgrn

end
-- ==== Proof.Decay.lean ====
/- The precondition of the recurrence's value claim in words: the decay's projections are real numbers, the lower bounds are real
   and at least zero. -/
module

public import proofs.«01_k».proof.Defs
public import proofs.«01_k».proof.Proof.HgrnSpec
public import Idealize.ShloMosaic.Lib.ReduceAll

@[expose] public section

noncomputable section

namespace Cert.Own.Decay

open Cert.Pre_decay_in_range Idealize.ShloMosaic

instance facts : Cert.Pre_decay_in_range.Facts where
  slices_S16x4096x4096_S16x4096x1024_0_0_1024 := by decide
  bcast_S_S16x4096x1024 := by decide
  reducesTo_S16x4096x1024_S_d0_1_2 := by decide
  h_S_ := by decide
  bcast_S_S1024 := by decide
  reducesTo_S1024_S_d0 := by decide

theorem both {a b : BitVec 1} (h : IntOp.andi a b = 1#1) : a = 1#1 ∧ b = 1#1 := by
  revert a b
  decide

theorem top_word : Ideal.ofBits .f32 0x7F800000#32 = ⊤ := by simp [Ideal.ofBits, Ideal.ieee]

/-- An absolute value below infinity is a real number's. -/
theorem real_of_abs {x : EReal} (h : Ideal.cmp .olt (max x (-x)) (Ideal.ofBits .f32 0x7F800000#32) = 1#1) : Hgrn.IsReal x := by
  have h' : max x (-x) < ⊤ := by
    rw [top_word] at h
    by_contra hn
    rw [Ideal.cmp, decide_eq_false hn] at h
    exact absurd h (by decide)
  induction x using EReal.rec with
  | bot => exact absurd h' (by rw [EReal.neg_bot, max_eq_right bot_le]; exact lt_irrefl _)
  | top => exact absurd h' (by rw [max_eq_left le_top]; exact lt_irrefl _)
  | coe r => exact ⟨r, rfl⟩

theorem abs_at (y : FVec Ideal S16x4096x1024 .f32) (i : S16x4096x1024.Idx)
    (e : cmpf .olt (Host.absf y) (broadcastInDim S16x4096x1024 ![] Facts.bcast_S_S16x4096x1024 (constant S_ .f32 0x7F800000#32 : FVec Ideal S_ .f32)) i = 1#1) :
    Hgrn.IsReal (y i) := real_of_abs e

/-- At least zero and below infinity. -/
theorem real_of_bounds {x : EReal} (h0 : Ideal.cmp .oge x (Ideal.ofBits .f32 0x00000000#32) = 1#1)
    (h1 : Ideal.cmp .olt x (Ideal.ofBits .f32 0x7F800000#32) = 1#1) : Hgrn.IsReal x ∧ 0 ≤ x := by
  have a : 0 ≤ x := by
    rw [Ideal.ofBits_zero_f32] at h0
    by_contra hn
    rw [Ideal.cmp, decide_eq_false hn] at h0
    exact absurd h0 (by decide)
  have b : x < ⊤ := by
    rw [top_word] at h1
    by_contra hn
    rw [Ideal.cmp, decide_eq_false hn] at h1
    exact absurd h1 (by decide)
  refine ⟨?_, a⟩
  induction x using EReal.rec with
  | bot => exact absurd a (by decide)
  | top => exact absurd b (lt_irrefl _)
  | coe r => exact ⟨r, rfl⟩

theorem fits (Z : FVec Ideal S16x4096x4096 .f32) (L : FVec Ideal S1024 .f32) (N : FVec Ideal S128 .f32)
    (h : fn (F := Ideal) Z L N = fun _ => 1#1) : Hgrn.Fits Z L := by
  obtain ⟨hz, hl⟩ := both (congrFun h (Shape.Idx.first Facts.h_S_))
  refine ⟨fun b hd n r d => ?_, fun hd d => ?_⟩
  · have e' := abs_at _ _ (Host.reduce_andi_all _ _ _ _ _ hz (ix3 b (Hgrn.tok n r) (Hgrn.lane hd d)))
    have w : extractStridedSlice S16x4096x1024 ![0, 0, 1024] Z Facts.slices_S16x4096x4096_S16x4096x1024_0_0_1024
        (ix3 b (Hgrn.tok n r) (Hgrn.lane hd d)) = Hgrn.band Z 1 b hd n r d := by
      refine congrArg Z (funext fun a => Fin.ext ?_)
      fin_cases a
      · exact Nat.zero_add _
      · exact Nat.zero_add _
      · rfl
    exact w ▸ e'
  · obtain ⟨e0, e1⟩ := both (Host.reduce_andi_all _ _ _ _ _ hl (ix1 (Hgrn.lane hd d)))
    exact real_of_bounds e0 e1

end Cert.Own.Decay

end
-- ==== Proof.OddInValue.lean ====
/- The odd layer's input projection: the array the blocked kernel leaves is the one product `x @ w`. Grid point `t` writes the
   512 rows from `512 t`; a row of a product needs only that row of the left factor (`block_eq`), and the 128 blocks tile the
   result (`final`). -/
module

public import proofs.«01_k».proof.Proof.Gen.OddInIdeal.Value
public import proofs.«01_k».proof.Proof.Gen.OddInRefIdeal.Run
public import Idealize.ShloMosaic.Lib.Pointwise

@[expose] public section

set_option maxRecDepth 16384

noncomputable section

namespace Cert.Own.OddIn

open Cert.OddInIdeal Cert.OddInIdeal.Gen Cert.OddInIdeal.Value Idealize.ShloMosaic Idealize.ShloMosaic.TcCoe Idealize.SL.Sem

/-- Both coordinates of the whole-block rectangle start at zero. -/
theorem zeros2 : (![0, 0] : Fin 2 → Nat) = fun _ => 0 := funext fun a => by fin_cases a <;> rfl

/-- The product of the whole arrays. -/
abbrev G (x : FVec Ideal S65536x1024 .f32) (w : FVec Ideal S1024x4096 .f32) : FVec Ideal S65536x4096 .f32 :=
  Host.dotGeneral (Cert.OddInRefIdeal.dot_S65536x1024_S1024x4096_S65536x4096_1_0_0_1_n_n) none x w

variable (m : (ℓ : Loc nD τ sig) → Buf (Elt Ideal) ℓ) (ρ : Dev nD → PrngReg)

/-- Which block each window stands at: the rows' windows at block `t`, the weight at its only block. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-- The region finds the weight converted, and the conversion is the identity here. -/
theorem V_weight (c : Dev nD) : V m c main_v0 = m ((c : Thread nD τ).loc main_arg1) := by
  unfold V
  after_results
  rfl

/-- The rows of `x` a point reads. -/
theorem iblk0_apply (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  obtain ⟨e0, e1⟩ := index0 t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * k.val = k.val; omega

/-- The weight a point reads is the whole weight. -/
theorem iblk1_apply (c : Dev nD) (t : Fin cfg0.N) (k : Fin 1024) (n : Fin 4096) :
    iblk m c 1 t (ix2 k n) = m ((c : Thread nD τ).loc main_arg1) (ix2 k n) := by
  obtain ⟨e0, e1⟩ := index1 t
  rw [← V_weight m c]
  show V m c main_v0 (((cfg0.win 1).blk t).view.emb (ix2 k n)) = V m c main_v0 (ix2 k n)
  refine congrArg _ (funext fun a => Fin.ext ?_)
  match a with
  | ⟨0, _⟩ => show win0_1.index t (0 : Fin 2) * 1024 + 1 * k.val = k.val; omega
  | ⟨1, _⟩ => show win0_1.index t (1 : Fin 2) * 4096 + 1 * n.val = n.val; omega

/-- A row of the block's product is the row of the whole product that it stands for. -/
theorem block_eq (c : Dev nD) (t : Fin cfg0.N) (r : Fin 512) (n : Fin 4096) (R : Fin 65536) (hR : R.val = t.val * 512 + r.val) :
    out0_2 (iblk m c 0 t) (iblk m c 1 t) (ix2 r n)
      = G (m ((c : Thread nD τ).loc main_arg0)) (m ((c : Thread nD τ).loc main_arg1)) (ix2 R n) := by
  unfold out0_2
  rw [View.canon_unit_zero zeros2, View.ld_unit_zero zeros2, View.ld_unit_zero zeros2]
  pointwise [k0_pay1, G]
  simp only [Ideal.truncf_def, iblk0_apply m c t r _ R hR, iblk1_apply m c t]

/-- The row of the result a point's row `r` is. -/
theorem emb2 (t : Fin cfg0.N) (r : Fin 512) (n : Fin 4096) (R : Fin 65536) (hR : R.val = t.val * 512 + r.val) :
    ((cfg0.win 2).blk t).view.emb (ix2 r n) = ix2 R n := by
  obtain ⟨e0, e1⟩ := index2 t
  refine funext fun a => Fin.ext ?_
  match a with
  | ⟨0, _⟩ => show win0_2.index t (0 : Fin 2) * 512 + 1 * r.val = R.val; omega
  | ⟨1, _⟩ => show win0_2.index t (1 : Fin 2) * 4096 + 1 * n.val = n.val; omega

/-- The result array after the run is the product of the arguments. -/
theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) (fun i => ?_)
  · have ht : t.val < 128 := t.isLt
    rw [flushed2]
    funext j
    obtain ⟨r, n, rfl⟩ : ∃ (r : Fin 512) (n : Fin 4096), j = ix2 r n := ⟨j 0, j 1, eq_ix2 j⟩
    refine (block_eq m c t r n ⟨t.val * 512 + r.val, by omega⟩ rfl).trans ?_
    exact congrArg _ (emb2 t r n ⟨t.val * 512 + r.val, by omega⟩ rfl).symm
  · obtain ⟨R, n, rfl⟩ : ∃ (R : Fin 65536) (n : Fin 4096), i = ix2 R n := ⟨i 0, i 1, eq_ix2 i⟩
    refine ⟨(⟨R.val / 512, show R.val / 512 < 128 by omega⟩ : Fin cfg0.N), flush0_2 _, ?_⟩
    have h := ((cfg0.win 2).blk (⟨R.val / 512, show R.val / 512 < 128 by omega⟩ : Fin cfg0.N)).view.emb_mem_set
      (ix2 (⟨R.val % 512, by omega⟩ : Fin 512) n)
    rwa [emb2 _ _ n R (by show R.val = R.val / 512 * 512 + R.val % 512; omega)] at h

/-- The kernel's run with its result named. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Own.OddIn

end
-- ==== Proof.CmpValue.lean ====
/- The projection of the attention's compressed blocks (`grp @ w1ab`): as Proof/OddInValue.lean with 8192 rows in 16 blocks
   and 256 columns. -/
module

public import proofs.«01_k».proof.Proof.Gen.CmpIdeal.Value
public import proofs.«01_k».proof.Proof.Gen.CmpRefIdeal.Run
public import Idealize.ShloMosaic.Lib.Pointwise

@[expose] public section

set_option maxRecDepth 16384

noncomputable section

namespace Cert.Own.Cmp

open Cert.CmpIdeal Cert.CmpIdeal.Gen Cert.CmpIdeal.Value Idealize.ShloMosaic Idealize.ShloMosaic.TcCoe Idealize.SL.Sem

/-- Both coordinates of the whole-block rectangle start at zero. -/
theorem zeros2 : (![0, 0] : Fin 2 → Nat) = fun _ => 0 := funext fun a => by fin_cases a <;> rfl

/-- The product of the whole arrays. -/
abbrev G (x : FVec Ideal S8192x1024 .f32) (w : FVec Ideal S1024x256 .f32) : FVec Ideal S8192x256 .f32 :=
  Host.dotGeneral (Cert.CmpRefIdeal.dot_S8192x1024_S1024x256_S8192x256_1_0_0_1_n_n) none x w

variable (m : (ℓ : Loc nD τ sig) → Buf (Elt Ideal) ℓ) (ρ : Dev nD → PrngReg)

/-- Which block each window stands at: the rows' windows at block `t`, the weight at its only block. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-- The region finds the weight converted, and the conversion is the identity here. -/
theorem V_weight (c : Dev nD) : V m c main_v0 = m ((c : Thread nD τ).loc main_arg1) := by
  unfold V
  after_results
  rfl

/-- The rows of `x` a point reads. -/
theorem iblk0_apply (c : Dev nD) (t : Fin cfg0.N) (r : Fin 512) (k : Fin 1024) (R : Fin 8192) (hR : R.val = t.val * 512 + r.val) :
    iblk m c 0 t (ix2 r k) = m ((c : Thread nD τ).loc main_arg0) (ix2 R k) := by
  obtain ⟨e0, e1⟩ := index0 t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * k.val = k.val; omega

/-- The weight a point reads is the whole weight. -/
theorem iblk1_apply (c : Dev nD) (t : Fin cfg0.N) (k : Fin 1024) (n : Fin 256) :
    iblk m c 1 t (ix2 k n) = m ((c : Thread nD τ).loc main_arg1) (ix2 k n) := by
  obtain ⟨e0, e1⟩ := index1 t
  rw [← V_weight m c]
  show V m c main_v0 (((cfg0.win 1).blk t).view.emb (ix2 k n)) = V m c main_v0 (ix2 k n)
  refine congrArg _ (funext fun a => Fin.ext ?_)
  match a with
  | ⟨0, _⟩ => show win0_1.index t (0 : Fin 2) * 1024 + 1 * k.val = k.val; omega
  | ⟨1, _⟩ => show win0_1.index t (1 : Fin 2) * 256 + 1 * n.val = n.val; omega

/-- A row of the block's product is the row of the whole product that it stands for. -/
theorem block_eq (c : Dev nD) (t : Fin cfg0.N) (r : Fin 512) (n : Fin 256) (R : Fin 8192) (hR : R.val = t.val * 512 + r.val) :
    out0_2 (iblk m c 0 t) (iblk m c 1 t) (ix2 r n)
      = G (m ((c : Thread nD τ).loc main_arg0)) (m ((c : Thread nD τ).loc main_arg1)) (ix2 R n) := by
  unfold out0_2
  rw [View.canon_unit_zero zeros2, View.ld_unit_zero zeros2, View.ld_unit_zero zeros2]
  pointwise [k0_pay1, G]
  simp only [Ideal.truncf_def, iblk0_apply m c t r _ R hR, iblk1_apply m c t]

/-- The row of the result a point's row `r` is. -/
theorem emb2 (t : Fin cfg0.N) (r : Fin 512) (n : Fin 256) (R : Fin 8192) (hR : R.val = t.val * 512 + r.val) :
    ((cfg0.win 2).blk t).view.emb (ix2 r n) = ix2 R n := by
  obtain ⟨e0, e1⟩ := index2 t
  refine funext fun a => Fin.ext ?_
  match a with
  | ⟨0, _⟩ => show win0_2.index t (0 : Fin 2) * 512 + 1 * r.val = R.val; omega
  | ⟨1, _⟩ => show win0_2.index t (1 : Fin 2) * 256 + 1 * n.val = n.val; omega

/-- The result array after the run is the product of the arguments. -/
theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) (fun i => ?_)
  · have ht : t.val < 16 := t.isLt
    rw [flushed2]
    funext j
    obtain ⟨r, n, rfl⟩ : ∃ (r : Fin 512) (n : Fin 256), j = ix2 r n := ⟨j 0, j 1, eq_ix2 j⟩
    refine (block_eq m c t r n ⟨t.val * 512 + r.val, by omega⟩ rfl).trans ?_
    exact congrArg _ (emb2 t r n ⟨t.val * 512 + r.val, by omega⟩ rfl).symm
  · obtain ⟨R, n, rfl⟩ : ∃ (R : Fin 8192) (n : Fin 256), i = ix2 R n := ⟨i 0, i 1, eq_ix2 i⟩
    refine ⟨(⟨R.val / 512, show R.val / 512 < 16 by omega⟩ : Fin cfg0.N), flush0_2 _, ?_⟩
    have h := ((cfg0.win 2).blk (⟨R.val / 512, show R.val / 512 < 16 by omega⟩ : Fin cfg0.N)).view.emb_mem_set
      (ix2 (⟨R.val % 512, by omega⟩ : Fin 512) n)
    rwa [emb2 _ _ n R (by show R.val = R.val / 512 * 512 + R.val % 512; omega)] at h

/-- The kernel's run with its result named. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Own.Cmp

end
-- ==== Proof.EvenInValue.lean ====
/- The even layers' input projection: the array the blocked kernel leaves is the one product `x @ w` with 104 columns of
   zeros after it. Grid point `t` writes the 512 rows from `512 t`; a row of a product needs only that row of the left
   factor (`block_eq`), and the 128 blocks tile the result (`final`). -/
module

public import proofs.«01_k».proof.Proof.Gen.EvenInIdeal.Value
public import proofs.«01_k».proof.Proof.Gen.EvenInRefIdeal.Run
public import Idealize.ShloMosaic.Lib.Pointwise
public import Idealize.ShloMosaic.Lib.KernelVsHost

@[expose] public section

set_option maxRecDepth 16384

noncomputable section

namespace Cert.Own.EvenIn

open Cert.EvenInIdeal Cert.EvenInIdeal.Gen Cert.EvenInIdeal.Value Idealize.ShloMosaic Idealize.ShloMosaic.TcCoe Idealize.SL.Sem

/-- Both coordinates of the whole-block rectangle start at zero. -/
theorem zeros2 : (![0, 0] : Fin 2 → Nat) = fun _ => 0 := funext fun a => by fin_cases a <;> rfl

/-- The product of the whole arrays, 104 columns of zeros after it. -/
abbrev G (x : FVec Ideal S65536x1024 .f32) (w : FVec Ideal S1024x3096 .f32) : FVec Ideal S65536x3200 .f32 :=
  pad Cert.EvenInRefIdeal.S65536x3200 ![0, 0] ![0, 104] ![0, 0]
    (Host.dotGeneral (Cert.EvenInRefIdeal.dot_S65536x1024_S1024x3096_S65536x3096_1_0_0_1_n_n) none x w)
    (sitofp .f32 (constantI Cert.EvenInRefIdeal.S_ 32 0#32)) Cert.EvenInRefIdeal.Facts₀.pads_S65536x3096_S65536x3200_000_01040
    Cert.EvenInRefIdeal.Facts₀.h_S_

/-- The weight with 104 columns of zeros after it. -/
abbrev padded (w : FVec Ideal S1024x3096 .f32) : FVec Ideal S1024x3200 .bf16 :=
  pad S1024x3200 ![0, 0] ![0, 104] ![0, 0] (truncf .bf16 w Facts₀.bitsLt_bf16_f32 : FVec Ideal S1024x3096 .bf16)
    (sitofp .bf16 (constantI S_ 32 0#32) : FVec Ideal S_ .bf16) Facts₀.pads_S1024x3096_S1024x3200_000_01040 Facts₀.h_S_

variable (m : (ℓ : Loc nD τ sig) → Buf (Elt Ideal) ℓ) (ρ : Dev nD → PrngReg)

/-- Which block each window stands at: the rows' windows at block `t`, the weight at its only block. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)

/-- The region finds the weight converted and padded. -/
theorem V_weight (c : Dev nD) : V m c main_v1 = padded (m ((c : Thread nD τ).loc main_arg1)) := by
  unfold V
  simp only [List.flatten_cons, List.flatten_nil, List.append_nil, List.cons_append, List.nil_append]
  after_results
  rfl

/-- The rows of `x` a point reads. -/
theorem iblk0_apply (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  obtain ⟨e0, e1⟩ := index0 t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * k.val = k.val; omega

/-- The weight a point reads is the whole padded weight. -/
theorem iblk1_apply (c : Dev nD) (t : Fin cfg0.N) (k : Fin 1024) (n : Fin 3200) :
    iblk m c 1 t (ix2 k n) = padded (m ((c : Thread nD τ).loc main_arg1)) (ix2 k n) := by
  obtain ⟨e0, e1⟩ := index1 t
  rw [← V_weight m c]
  show V m c main_v1 (((cfg0.win 1).blk t).view.emb (ix2 k n)) = V m c main_v1 (ix2 k n)
  refine congrArg _ (funext fun a => Fin.ext ?_)
  match a with
  | ⟨0, _⟩ => show win0_1.index t (0 : Fin 2) * 1024 + 1 * k.val = k.val; omega
  | ⟨1, _⟩ => show win0_1.index t (1 : Fin 2) * 3200 + 1 * n.val = n.val; omega

/-- A row of the block's product is the row of the whole product that it stands for. -/
theorem block_eq (c : Dev nD) (t : Fin cfg0.N) (r : Fin 512) (n : Fin 3200) (R : Fin 65536) (hR : R.val = t.val * 512 + r.val) :
    out0_2 (iblk m c 0 t) (iblk m c 1 t) (ix2 r n)
      = G (m ((c : Thread nD τ).loc main_arg0)) (m ((c : Thread nD τ).loc main_arg1)) (ix2 R n) := by
  unfold out0_2
  rw [View.canon_unit_zero zeros2, View.ld_unit_zero zeros2, View.ld_unit_zero zeros2]
  pointwise [k0_pay1, G]
  simp only [Ideal.truncf_def, iblk0_apply m c t r _ R hR, iblk1_apply m c t]
  pointwise
  split
  · rfl
  · show (∑ k : Fin 1024, _ * (Scalar.sitofp .bf16 0#32 : Ideal .bf16)) = (Scalar.sitofp .f32 0#32 : Ideal .f32)
    rw [Idealize.ShloMosaic.sitofp_zero, Idealize.ShloMosaic.sitofp_zero]
    exact Finset.sum_eq_zero fun k _ => mul_zero _

/-- The row of the result a point's row `r` is. -/
theorem emb2 (t : Fin cfg0.N) (r : Fin 512) (n : Fin 3200) (R : Fin 65536) (hR : R.val = t.val * 512 + r.val) :
    ((cfg0.win 2).blk t).view.emb (ix2 r n) = ix2 R n := by
  obtain ⟨e0, e1⟩ := index2 t
  refine funext fun a => Fin.ext ?_
  match a with
  | ⟨0, _⟩ => show win0_2.index t (0 : Fin 2) * 512 + 1 * r.val = R.val; omega
  | ⟨1, _⟩ => show win0_2.index t (1 : Fin 2) * 3200 + 1 * n.val = n.val; omega

/-- The result array after the run is the product of the arguments. -/
theorem final (c : Dev nD) : (dats m 0 c).arrAt 2 cfg0.N
    = G (m ((c : Thread nD τ).loc main_arg0)) (m ((c : Thread nD τ).loc main_arg1)) := by
  refine (dats m 0 c).arrAt_eq_of_cover 2 _ (fun t _ => ?_) (fun i => ?_)
  · have ht : t.val < 128 := t.isLt
    rw [flushed2]
    funext j
    obtain ⟨r, n, rfl⟩ : ∃ (r : Fin 512) (n : Fin 3200), j = ix2 r n := ⟨j 0, j 1, eq_ix2 j⟩
    refine (block_eq m c t r n ⟨t.val * 512 + r.val, by omega⟩ rfl).trans ?_
    exact congrArg _ (emb2 t r n ⟨t.val * 512 + r.val, by omega⟩ rfl).symm
  · obtain ⟨R, n, rfl⟩ : ∃ (R : Fin 65536) (n : Fin 3200), i = ix2 R n := ⟨i 0, i 1, eq_ix2 i⟩
    refine ⟨(⟨R.val / 512, show R.val / 512 < 128 by omega⟩ : Fin cfg0.N), flush0_2 _, ?_⟩
    have h := ((cfg0.win 2).blk (⟨R.val / 512, show R.val / 512 < 128 by omega⟩ : Fin cfg0.N)).view.emb_mem_set
      (ix2 (⟨R.val % 512, by omega⟩ : Fin 512) n)
    rwa [emb2 _ _ n R (by show R.val = R.val / 512 * 512 + R.val % 512; omega)] at h

/-- The kernel's run with its result named. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Own.EvenIn

end
-- ==== Proof.PleValue.lean ====
/- The per-layer input injection `h + sigmoid (h @ wg) * (p @ wp)`: each of the 128 blocks of 512 rows is computed from the
   same rows of `h` and `p`, and both products, the sigmoid and the sum act row by row. -/
module

public import proofs.«01_k».proof.Proof.Gen.PleIdeal.Value
public import proofs.«01_k».proof.Proof.Gen.PleRefIdeal.Run
public import Idealize.ShloMosaic.Lib.Pointwise

@[expose] public section

set_option maxRecDepth 16384

noncomputable section

namespace Cert.Own.Ple

open Cert.PleIdeal Cert.PleIdeal.Gen Cert.PleIdeal.Value Idealize.ShloMosaic Idealize.ShloMosaic.TcCoe Idealize.SL.Sem

/-- Both coordinates of the whole-block rectangle start at zero. -/
theorem zeros2 : (![0, 0] : Fin 2 → Nat) = fun _ => 0 := funext fun a => by fin_cases a <;> rfl

variable (m : (ℓ : Loc nD τ sig) → Buf (Elt Ideal) ℓ) (ρ : Dev nD → PrngReg)

/-- The injection on whole arrays, as the reference computes it. -/
abbrev G (h : FVec Ideal S65536x1024 .f32) (p : FVec Ideal S65536x256 .f32) (wg : FVec Ideal S1024x1024 .f32)
    (wp : FVec Ideal S256x1024 .f32) : FVec Ideal S65536x1024 .f32 :=
  let one : FVec Ideal S65536x1024 .f32 :=
    broadcastInDim S65536x1024 ![] Cert.PleRefIdeal.Facts₀.bcast_S_S65536x1024 (constant Cert.PleRefIdeal.S_ .f32 0x3F800000#32 : FVec Ideal Cert.PleRefIdeal.S_ .f32)
  addf h (mulf (Host.divf one (addf one (Host.exp (Host.negf
      (Host.dotGeneral Cert.PleRefIdeal.dot_S65536x1024_S1024x1024_S65536x1024_1_0_0_1_n_n none h wg)))))
    (Host.dotGeneral Cert.PleRefIdeal.dot_S65536x256_S256x1024_S65536x1024_1_0_0_1_n_n none p wp))

/-- Which block each window stands at: the rows' windows at block `t`, the weights at their only block. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)

/-- The region finds the weights converted, and the conversion is the identity here. -/
theorem V_gate (c : Dev nD) : V m c main_v0 = m ((c : Thread nD τ).loc main_arg2) := by
  unfold V
  after_results
  rfl
theorem V_proj (c : Dev nD) : V m c main_v1 = m ((c : Thread nD τ).loc main_arg3) := by
  unfold V
  after_results
  rfl

/-- The rows of `h` a point reads. -/
theorem iblk0_apply (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  obtain ⟨e0, e1⟩ := index0 t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * k.val = k.val; omega

/-- The rows of `p` a point reads. -/
theorem iblk1_apply (c : Dev nD) (t : Fin cfg0.N) (r : Fin 512) (k : Fin 256) (R : Fin 65536) (hR : R.val = t.val * 512 + r.val) :
    iblk m c 1 t (ix2 r k) = m ((c : Thread nD τ).loc main_arg1) (ix2 R k) := by
  obtain ⟨e0, e1⟩ := index1 t
  rw [← V_main_arg1 m c]
  show V m c main_arg1 (((cfg0.win 1).blk t).view.emb (ix2 r k)) = V m c main_arg1 (ix2 R k)
  refine congrArg _ (funext fun a => Fin.ext ?_)
  match a with
  | ⟨0, _⟩ => show win0_1.index t (0 : Fin 2) * 512 + 1 * r.val = R.val; omega
  | ⟨1, _⟩ => show win0_1.index t (1 : Fin 2) * 256 + 1 * k.val = k.val; omega

/-- A point reads the whole gate weight -/
theorem iblk2_apply (c : Dev nD) (t : Fin cfg0.N) (k : Fin 1024) (n : Fin 1024) :
    iblk m c 2 t (ix2 k n) = m ((c : Thread nD τ).loc main_arg2) (ix2 k n) := by
  rw [← V_gate m c]
  obtain ⟨e0, e1⟩ := index2 t
  show V m c main_v0 (((cfg0.win 2).blk t).view.emb (ix2 k n)) = V m c main_v0 (ix2 k n)
  refine congrArg _ (funext fun a => Fin.ext ?_)
  match a with
  | ⟨0, _⟩ => show win0_2.index t (0 : Fin 2) * 1024 + 1 * k.val = k.val; omega
  | ⟨1, _⟩ => show win0_2.index t (1 : Fin 2) * 1024 + 1 * n.val = n.val; omega

/-- and the whole projection weight. -/
theorem iblk3_apply (c : Dev nD) (t : Fin cfg0.N) (k : Fin 256) (n : Fin 1024) :
    iblk m c 3 t (ix2 k n) = m ((c : Thread nD τ).loc main_arg3) (ix2 k n) := by
  rw [← V_proj m c]
  obtain ⟨e0, e1⟩ := index3 t
  show V m c main_v1 (((cfg0.win 3).blk t).view.emb (ix2 k n)) = V m c main_v1 (ix2 k n)
  refine congrArg _ (funext fun a => Fin.ext ?_)
  match a with
  | ⟨0, _⟩ => show win0_3.index t (0 : Fin 2) * 256 + 1 * k.val = k.val; omega
  | ⟨1, _⟩ => show win0_3.index t (1 : Fin 2) * 1024 + 1 * n.val = n.val; omega

/-- A row of the block is the row of the whole result that it stands for. -/
theorem block_eq (c : Dev nD) (t : Fin cfg0.N) (r : Fin 512) (n : Fin 1024) (R : Fin 65536) (hR : R.val = t.val * 512 + r.val) :
    out0_4 (iblk m c 0 t) (iblk m c 1 t) (iblk m c 2 t) (iblk m c 3 t) (ix2 r n)
      = G (m ((c : Thread nD τ).loc main_arg0)) (m ((c : Thread nD τ).loc main_arg1)) (m ((c : Thread nD τ).loc main_arg2))
          (m ((c : Thread nD τ).loc main_arg3)) (ix2 R n) := by
  unfold out0_4
  rw [View.canon_unit_zero zeros2, View.ld_unit_zero zeros2, View.ld_unit_zero zeros2, View.ld_unit_zero zeros2, View.ld_unit_zero zeros2]
  pointwise [k0_pay1, G]
  simp only [Ideal.truncf_def, iblk0_apply m c t r _ R hR, iblk1_apply m c t r _ R hR, iblk2_apply m c t, iblk3_apply m c t]
  rfl

/-- The row of the result a point's row `r` is. -/
theorem emb4 (t : Fin cfg0.N) (r : Fin 512) (n : Fin 1024) (R : Fin 65536) (hR : R.val = t.val * 512 + r.val) :
    ((cfg0.win 4).blk t).view.emb (ix2 r n) = ix2 R n := by
  obtain ⟨e0, e1⟩ := index4 t
  refine funext fun a => Fin.ext ?_
  match a with
  | ⟨0, _⟩ => show win0_4.index t (0 : Fin 2) * 512 + 1 * r.val = R.val; omega
  | ⟨1, _⟩ => show win0_4.index t (1 : Fin 2) * 1024 + 1 * n.val = n.val; omega

/-- The result array after the run is the reference's function of the arguments. -/
theorem final (c : Dev nD) : (dats m 0 c).arrAt 4 cfg0.N
    = G (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) (fun i => ?_)
  · have ht : t.val < 128 := t.isLt
    rw [flushed4]
    funext j
    obtain ⟨r, n, rfl⟩ : ∃ (r : Fin 512) (n : Fin 1024), j = ix2 r n := ⟨j 0, j 1, eq_ix2 j⟩
    refine (block_eq m c t r n ⟨t.val * 512 + r.val, by omega⟩ rfl).trans ?_
    exact congrArg _ (emb4 t r n ⟨t.val * 512 + r.val, by omega⟩ rfl).symm
  · obtain ⟨R, n, rfl⟩ : ∃ (R : Fin 65536) (n : Fin 1024), i = ix2 R n := ⟨i 0, i 1, eq_ix2 i⟩
    refine ⟨(⟨R.val / 512, show R.val / 512 < 128 by omega⟩ : Fin cfg0.N), flush0_4 _, ?_⟩
    have h := ((cfg0.win 4).blk (⟨R.val / 512, show R.val / 512 < 128 by omega⟩ : Fin cfg0.N)).view.emb_mem_set
      (ix2 (⟨R.val % 512, by omega⟩ : Fin 512) n)
    rwa [emb4 _ _ n R (by show R.val = R.val / 512 * 512 + R.val % 512; omega)] at h

/-- The kernel's run with its result named. -/
theorem run : θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (run_blocks m ρ)

end Cert.Own.Ple

end
-- ==== Proof.OddOutValue.lean ====
/- The odd layer's output projection with its residual and layer normalisation: each of the 128 blocks of 512 rows is computed
   from the same rows of `y` and `x`, and the product, the scaled residual and the normalisation act row by row. -/
module

public import proofs.«01_k».proof.Proof.Gen.OddOutIdeal.Value
public import proofs.«01_k».proof.Proof.Gen.OddOutRefIdeal.Run
public import Idealize.ShloMosaic.Lib.Pointwise

@[expose] public section

set_option maxRecDepth 16384

noncomputable section

namespace Cert.Own.OddOut

open Cert.OddOutIdeal Cert.OddOutIdeal.Gen Cert.OddOutIdeal.Value Idealize.ShloMosaic Idealize.ShloMosaic.TcCoe Idealize.SL.Sem

/-- Both coordinates of the whole-block rectangle start at zero. -/
theorem zeros2 : (![0, 0] : Fin 2 → Nat) = fun _ => 0 := funext fun a => by fin_cases a <;> rfl

variable (m : (ℓ : Loc nD τ sig) → Buf (Elt Ideal) ℓ) (ρ : Dev nD → PrngReg)

/-- The product added to the scaled residual, then normalised, on whole arrays, as the reference computes it. -/
abbrev G (y : FVec Ideal S65536x1024 .f32) (w : FVec Ideal S1024x1024 .f32) (x : FVec Ideal S65536x1024 .f32)
    (g b : FVec Ideal S1024 .f32) : FVec Ideal S65536x1024 .f32 :=
  let col (v : BitVec 32) : FVec Ideal Cert.OddOutRefIdeal.S65536x1 .f32 := broadcastInDim Cert.OddOutRefIdeal.S65536x1 ![] Cert.OddOutRefIdeal.Facts₀.bcast_S_S65536x1 (constant Cert.OddOutRefIdeal.S_ .f32 v : FVec Ideal Cert.OddOutRefIdeal.S_ .f32)
  let wide (v : FVec Ideal Cert.OddOutRefIdeal.S65536x1 .f32) : FVec Ideal S65536x1024 .f32 := broadcastInDim S65536x1024 ![0, 1] Cert.OddOutRefIdeal.Facts₀.bcast_S65536x1_S65536x1024_0_1 v
  let tall (v : FVec Ideal S1024 .f32) : FVec Ideal S65536x1024 .f32 :=
    broadcastInDim S65536x1024 ![0, 1] Cert.OddOutRefIdeal.Facts₀.bcast_S1x1024_S65536x1024_0_1
      (broadcastInDim S1x1024 ![1] Cert.OddOutRefIdeal.Facts₀.bcast_S1024_S1x1024_1 v)
  let mean (v : FVec Ideal S65536x1024 .f32) : FVec Ideal Cert.OddOutRefIdeal.S65536x1 .f32 :=
    Host.divf (broadcastInDim Cert.OddOutRefIdeal.S65536x1 ![0] Cert.OddOutRefIdeal.Facts₀.bcast_S65536_S65536x1_0
      (Host.reduceAdd v (constant Cert.OddOutRefIdeal.S_ .f32 0x00000000#32 : FVec Ideal Cert.OddOutRefIdeal.S_ .f32)
        Cert.OddOutRefIdeal.Facts₀.reducesTo_S65536x1024_S65536_d1 Cert.OddOutRefIdeal.Facts₀.h_S_)) (col 0x44800000#32)
  let z : FVec Ideal S65536x1024 .f32 := addf (mulf (broadcastInDim S65536x1024 ![] Cert.OddOutRefIdeal.Facts₀.bcast_S_S65536x1024
      (constant Cert.OddOutRefIdeal.S_ .f32 0x3FB504F3#32 : FVec Ideal Cert.OddOutRefIdeal.S_ .f32)) x)
    (Host.dotGeneral Cert.OddOutRefIdeal.dot_S65536x1024_S1024x1024_S65536x1024_1_0_0_1_n_n none y w)
  let d : FVec Ideal S65536x1024 .f32 := subf z (wide (mean z))
  addf (mulf (mulf d (wide (Host.rsqrt (addf (mean (mulf d d)) (col 0x3727C5AC#32))))) (tall g)) (tall b)

/-- Which block each window stands at: the rows' windows at block `t`, the weight and the two vectors at their only block. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = t.val ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = 0 ∧ win0_4.index t (1 : Fin 2) = 0 :=
  (by decide +kernel : ∀ t : Fin grid0.N, _)
theorem index5 : ∀ t : Fin cfg0.N, win0_5.index t (0 : Fin 2) = t.val ∧ win0_5.index t (1 : Fin 2) = 0 :=
  (by decide +kernel : ∀ t : Fin grid0.N, _)

/-- The region finds the weight converted, which is the identity here, and the two vectors as rows. -/
theorem V_weight (c : Dev nD) : V m c main_v0 = m ((c : Thread nD τ).loc main_arg1) := by
  unfold V
  after_results
  rfl
theorem V_scale (c : Dev nD) (k : Fin 1) (n : Fin 1024) : V m c main_v1 (ix2 k n) = m ((c : Thread nD τ).loc main_arg3) (ix1 n) := by
  unfold V
  after_results
  pointwise
theorem V_shift (c : Dev nD) (k : Fin 1) (n : Fin 1024) : V m c main_v2 (ix2 k n) = m ((c : Thread nD τ).loc main_arg4) (ix1 n) := by
  unfold V
  after_results
  pointwise

/-- The rows of `y` a point reads. -/
theorem iblk0_apply (c : Dev nD) (t : Fin cfg0.N) (r : Fin 512) (k : Fin 1024) (R : Fin 65536) (hR : R.val = t.val * 512 + r.val) :
    iblk m c 0 t (ix2 r k) = m ((c : Thread nD τ).loc main_arg0) (ix2 R k) := by
  obtain ⟨e0, e1⟩ := index0 t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 512 + 1 * r.val = R.val; omega
  | ⟨1, _⟩ => show win0_0.index t (1 : Fin 2) * 1024 + 1 * k.val = k.val; omega

/-- The rows of `x` a point reads. -/
theorem iblk2_apply (c : Dev nD) (t : Fin cfg0.N) (r : Fin 512) (k : Fin 1024) (R : Fin 65536) (hR : R.val = t.val * 512 + r.val) :
    iblk m c 2 t (ix2 r k) = m ((c : Thread nD τ).loc main_arg2) (ix2 R k) := by
  obtain ⟨e0, e1⟩ := index2 t
  rw [← V_main_arg2 m c]
  show V m c main_arg2 (((cfg0.win 2).blk t).view.emb (ix2 r k)) = V m c main_arg2 (ix2 R k)
  refine congrArg _ (funext fun a => Fin.ext ?_)
  match a with
  | ⟨0, _⟩ => show win0_2.index t (0 : Fin 2) * 512 + 1 * r.val = R.val; omega
  | ⟨1, _⟩ => show win0_2.index t (1 : Fin 2) * 1024 + 1 * k.val = k.val; omega

/-- A point reads the whole weight, -/
theorem iblk1_apply (c : Dev nD) (t : Fin cfg0.N) (k : Fin 1024) (n : Fin 1024) :
    iblk m c 1 t (ix2 k n) = m ((c : Thread nD τ).loc main_arg1) (ix2 k n) := by
  rw [← V_weight m c]
  obtain ⟨e0, e1⟩ := index1 t
  show V m c main_v0 (((cfg0.win 1).blk t).view.emb (ix2 k n)) = V m c main_v0 (ix2 k n)
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * n.val = n.val; omega

/-- the whole scale -/
theorem iblk3_apply (c : Dev nD) (t : Fin cfg0.N) (k : Fin 1) (n : Fin 1024) :
    iblk m c 3 t (ix2 k n) = m ((c : Thread nD τ).loc main_arg3) (ix1 n) := by
  rw [← V_scale m c k n]
  obtain ⟨e0, e1⟩ := index3 t
  show V m c main_v1 (((cfg0.win 3).blk t).view.emb (ix2 k n)) = V m c main_v1 (ix2 k n)
  refine congrArg _ (funext fun a => Fin.ext ?_)
  match a with
  | ⟨0, _⟩ => show win0_3.index t (0 : Fin 2) * 1 + 1 * k.val = k.val; omega
  | ⟨1, _⟩ => show win0_3.index t (1 : Fin 2) * 1024 + 1 * n.val = n.val; omega

/-- and the whole shift. -/
theorem iblk4_apply (c : Dev nD) (t : Fin cfg0.N) (k : Fin 1) (n : Fin 1024) :
    iblk m c 4 t (ix2 k n) = m ((c : Thread nD τ).loc main_arg4) (ix1 n) := by
  rw [← V_shift m c k n]
  obtain ⟨e0, e1⟩ := index4 t
  show V m c main_v2 (((cfg0.win 4).blk t).view.emb (ix2 k n)) = V m c main_v2 (ix2 k n)
  refine congrArg _ (funext fun a => Fin.ext ?_)
  match a with
  | ⟨0, _⟩ => show win0_4.index t (0 : Fin 2) * 1 + 1 * k.val = k.val; omega
  | ⟨1, _⟩ => show win0_4.index t (1 : Fin 2) * 1024 + 1 * n.val = n.val; omega

/-- A row of the block is the row of the whole result that it stands for. -/
theorem block_eq (c : Dev nD) (t : Fin cfg0.N) (r : Fin 512) (n : Fin 1024) (R : Fin 65536) (hR : R.val = t.val * 512 + r.val) :
    out0_5 (iblk m c 0 t) (iblk m c 1 t) (iblk m c 2 t) (iblk m c 3 t) (iblk m c 4 t) (ix2 r n)
      = G (m ((c : Thread nD τ).loc main_arg0)) (m ((c : Thread nD τ).loc main_arg1)) (m ((c : Thread nD τ).loc main_arg2))
          (m ((c : Thread nD τ).loc main_arg3)) (m ((c : Thread nD τ).loc main_arg4)) (ix2 R n) := by
  unfold out0_5
  rw [View.canon_unit_zero zeros2, View.ld_unit_zero zeros2, View.ld_unit_zero zeros2, View.ld_unit_zero zeros2, View.ld_unit_zero zeros2, View.ld_unit_zero zeros2]
  pointwise [k0_pay1, G]
  simp only [Ideal.truncf_def, iblk0_apply m c t r _ R hR, iblk2_apply m c t r _ R hR, iblk1_apply m c t, iblk3_apply m c t, iblk4_apply m c t]

/-- The row of the result a point's row `r` is. -/
theorem emb5 (t : Fin cfg0.N) (r : Fin 512) (n : Fin 1024) (R : Fin 65536) (hR : R.val = t.val * 512 + r.val) :
    ((cfg0.win 5).blk t).view.emb (ix2 r n) = ix2 R n := by
  obtain ⟨e0, e1⟩ := index5 t
  refine funext fun a => Fin.ext ?_
  match a with
  | ⟨0, _⟩ => show win0_5.index t (0 : Fin 2) * 512 + 1 * r.val = R.val; omega
  | ⟨1, _⟩ => show win0_5.index t (1 : Fin 2) * 1024 + 1 * n.val = n.val; omega

/-- The result array after the run is the reference's function of the arguments. -/
theorem final (c : Dev nD) : (dats m 0 c).arrAt 5 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 _ (fun t _ => ?_) (fun i => ?_)
  · have ht : t.val < 128 := t.isLt
    rw [flushed5]
    funext j
    obtain ⟨r, n, rfl⟩ : ∃ (r : Fin 512) (n : Fin 1024), j = ix2 r n := ⟨j 0, j 1, eq_ix2 j⟩
    refine (block_eq m c t r n ⟨t.val * 512 + r.val, by omega⟩ rfl).trans ?_
    exact congrArg _ (emb5 t r n ⟨t.val * 512 + r.val, by omega⟩ rfl).symm
  · obtain ⟨R, n, rfl⟩ : ∃ (R : Fin 65536) (n : Fin 1024), i = ix2 R n := ⟨i 0, i 1, eq_ix2 i⟩
    refine ⟨(⟨R.val / 512, show R.val / 512 < 128 by omega⟩ : Fin cfg0.N), flush0_5 _, ?_⟩
    have h := ((cfg0.win 5).blk (⟨R.val / 512, show R.val / 512 < 128 by omega⟩ : Fin cfg0.N)).view.emb_mem_set
      (ix2 (⟨R.val % 512, by omega⟩ : Fin 512) n)
    rwa [emb5 _ _ n R (by show R.val = R.val / 512 * 512 + R.val % 512; omega)] at h

/-- The kernel's run with its result named. -/
theorem run : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (run_blocks m ρ)

end Cert.Own.OddOut

end
-- ==== Proof.EvenOutValue.lean ====
/- The even layer's output projection of its two branches, with the residual and layer normalisation: each of the 128 blocks of 512 rows is computed
   from the same rows of `y`, `y'` and `x`. The kernel multiplies each branch by its own half of the weight and adds; the
   reference multiplies the branches side by side by the whole weight. -/
module

public import proofs.«01_k».proof.Proof.Gen.EvenOutIdeal.Value
public import proofs.«01_k».proof.Proof.Gen.EvenOutRefIdeal.Run
public import Idealize.ShloMosaic.Lib.Pointwise

@[expose] public section

set_option maxRecDepth 16384

noncomputable section

namespace Cert.Own.EvenOut

open Cert.EvenOutIdeal Cert.EvenOutIdeal.Gen Cert.EvenOutIdeal.Value Idealize.ShloMosaic Idealize.ShloMosaic.TcCoe Idealize.SL.Sem

/-- Both coordinates of the whole-block rectangle start at zero. -/
theorem zeros2 : (![0, 0] : Fin 2 → Nat) = fun _ => 0 := funext fun a => by fin_cases a <;> rfl

variable (m : (ℓ : Loc nD τ sig) → Buf (Elt Ideal) ℓ) (ρ : Dev nD → PrngReg)

/-- The product added to the scaled residual, then normalised, on whole arrays, as the reference computes it. -/
abbrev G (y y' : FVec Ideal S65536x512 .f32) (w : FVec Ideal S1024x1024 .f32) (x : FVec Ideal S65536x1024 .f32)
    (g b : FVec Ideal S1024 .f32) : FVec Ideal S65536x1024 .f32 :=
  let col (v : BitVec 32) : FVec Ideal Cert.EvenOutRefIdeal.S65536x1 .f32 := broadcastInDim Cert.EvenOutRefIdeal.S65536x1 ![] Cert.EvenOutRefIdeal.Facts₀.bcast_S_S65536x1 (constant Cert.EvenOutRefIdeal.S_ .f32 v : FVec Ideal Cert.EvenOutRefIdeal.S_ .f32)
  let wide (v : FVec Ideal Cert.EvenOutRefIdeal.S65536x1 .f32) : FVec Ideal S65536x1024 .f32 := broadcastInDim S65536x1024 ![0, 1] Cert.EvenOutRefIdeal.Facts₀.bcast_S65536x1_S65536x1024_0_1 v
  let tall (v : FVec Ideal S1024 .f32) : FVec Ideal S65536x1024 .f32 :=
    broadcastInDim S65536x1024 ![0, 1] Cert.EvenOutRefIdeal.Facts₀.bcast_S1x1024_S65536x1024_0_1
      (broadcastInDim S1x1024 ![1] Cert.EvenOutRefIdeal.Facts₀.bcast_S1024_S1x1024_1 v)
  let mean (v : FVec Ideal S65536x1024 .f32) : FVec Ideal Cert.EvenOutRefIdeal.S65536x1 .f32 :=
    Host.divf (broadcastInDim Cert.EvenOutRefIdeal.S65536x1 ![0] Cert.EvenOutRefIdeal.Facts₀.bcast_S65536_S65536x1_0
      (Host.reduceAdd v (constant Cert.EvenOutRefIdeal.S_ .f32 0x00000000#32 : FVec Ideal Cert.EvenOutRefIdeal.S_ .f32)
        Cert.EvenOutRefIdeal.Facts₀.reducesTo_S65536x1024_S65536_d1 Cert.EvenOutRefIdeal.Facts₀.h_S_)) (col 0x44800000#32)
  let z : FVec Ideal S65536x1024 .f32 := addf (mulf (broadcastInDim S65536x1024 ![] Cert.EvenOutRefIdeal.Facts₀.bcast_S_S65536x1024
      (constant Cert.EvenOutRefIdeal.S_ .f32 0x3FB504F3#32 : FVec Ideal Cert.EvenOutRefIdeal.S_ .f32)) x)
    (Host.dotGeneral Cert.EvenOutRefIdeal.dot_S65536x1024_S1024x1024_S65536x1024_1_0_0_1_n_n none
      (concatenate S65536x1024 1 [⟨S65536x512, y⟩, ⟨S65536x512, y'⟩] Cert.EvenOutRefIdeal.Facts₀.concatenates_S65536x512_S65536x512_S65536x1024_d1) w)
  let d : FVec Ideal S65536x1024 .f32 := subf z (wide (mean z))
  addf (mulf (mulf d (wide (Host.rsqrt (addf (mean (mulf d d)) (col 0x3727C5AC#32))))) (tall g)) (tall b)

/-- Which block each window stands at: the rows' windows at block `t`, the weight's halves and the two vectors at their only
    block. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = t.val ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index4 : ∀ t : Fin cfg0.N, win0_4.index t (0 : Fin 2) = t.val ∧ win0_4.index t (1 : Fin 2) = 0 :=
  (by decide +kernel : ∀ t : Fin grid0.N, _)
theorem index5 : ∀ t : Fin cfg0.N, win0_5.index t (0 : Fin 2) = 0 ∧ win0_5.index t (1 : Fin 2) = 0 :=
  (by decide +kernel : ∀ t : Fin grid0.N, _)
theorem index6 : ∀ t : Fin cfg0.N, win0_6.index t (0 : Fin 2) = 0 ∧ win0_6.index t (1 : Fin 2) = 0 :=
  (by decide +kernel : ∀ t : Fin grid0.N, _)
theorem index7 : ∀ t : Fin cfg0.N, win0_7.index t (0 : Fin 2) = t.val ∧ win0_7.index t (1 : Fin 2) = 0 :=
  (by decide +kernel : ∀ t : Fin grid0.N, _)

/-- The region finds the weight's halves converted, which is the identity here, and the two vectors as rows. -/
theorem V_upper (c : Dev nD) (k : Fin 512) (n : Fin 1024) : V m c main_v1 (ix2 k n) = m ((c : Thread nD τ).loc main_arg2) (ix2 ⟨k.val, by omega⟩ n) := by
  unfold V
  after_results
  pointwise
theorem V_lower (c : Dev nD) (k : Fin 512) (n : Fin 1024) : V m c main_v3 (ix2 k n) = m ((c : Thread nD τ).loc main_arg2) (ix2 ⟨512 + k.val, by omega⟩ n) := by
  unfold V
  after_results
  pointwise
theorem V_scale (c : Dev nD) (k : Fin 1) (n : Fin 1024) : V m c main_v4 (ix2 k n) = m ((c : Thread nD τ).loc main_arg4) (ix1 n) := by
  unfold V
  after_results
  pointwise
theorem V_shift (c : Dev nD) (k : Fin 1) (n : Fin 1024) : V m c main_v5 (ix2 k n) = m ((c : Thread nD τ).loc main_arg5) (ix1 n) := by
  unfold V
  after_results
  pointwise

/-- The rows of `y` a point reads, -/
theorem iblk0_apply (c : Dev nD) (t : Fin cfg0.N) (r : Fin 512) (k : Fin 512) (R : Fin 65536) (hR : R.val = t.val * 512 + r.val) :
    iblk m c 0 t (ix2 r k) = m ((c : Thread nD τ).loc main_arg0) (ix2 R k) := by
  obtain ⟨e0, e1⟩ := index0 t
  rw [← V_main_arg0 m c]
  show V m c main_arg0 (((cfg0.win 0).blk t).view.emb (ix2 r k)) = V m c main_arg0 (ix2 R k)
  refine congrArg _ (funext fun a => Fin.ext ?_)
  match a with
  | ⟨0, _⟩ => show win0_0.index t (0 : Fin 2) * 512 + 1 * r.val = R.val; omega
  | ⟨1, _⟩ => show win0_0.index t (1 : Fin 2) * 512 + 1 * k.val = k.val; omega

/-- of `y'`, -/
theorem iblk1_apply (c : Dev nD) (t : Fin cfg0.N) (r : Fin 512) (k : Fin 512) (R : Fin 65536) (hR : R.val = t.val * 512 + r.val) :
    iblk m c 1 t (ix2 r k) = m ((c : Thread nD τ).loc main_arg1) (ix2 R k) := by
  obtain ⟨e0, e1⟩ := index1 t
  rw [← V_main_arg1 m c]
  show V m c main_arg1 (((cfg0.win 1).blk t).view.emb (ix2 r k)) = V m c main_arg1 (ix2 R k)
  refine congrArg _ (funext fun a => Fin.ext ?_)
  match a with
  | ⟨0, _⟩ => show win0_1.index t (0 : Fin 2) * 512 + 1 * r.val = R.val; omega
  | ⟨1, _⟩ => show win0_1.index t (1 : Fin 2) * 512 + 1 * k.val = k.val; omega

/-- and of `x`. -/
theorem iblk4_apply (c : Dev nD) (t : Fin cfg0.N) (r : Fin 512) (k : Fin 1024) (R : Fin 65536) (hR : R.val = t.val * 512 + r.val) :
    iblk m c 4 t (ix2 r k) = m ((c : Thread nD τ).loc main_arg3) (ix2 R k) := by
  obtain ⟨e0, e1⟩ := index4 t
  rw [← V_main_arg3 m c]
  show V m c main_arg3 (((cfg0.win 4).blk t).view.emb (ix2 r k)) = V m c main_arg3 (ix2 R k)
  refine congrArg _ (funext fun a => Fin.ext ?_)
  match a with
  | ⟨0, _⟩ => show win0_4.index t (0 : Fin 2) * 512 + 1 * r.val = R.val; omega
  | ⟨1, _⟩ => show win0_4.index t (1 : Fin 2) * 1024 + 1 * k.val = k.val; omega

/-- A point reads the weight's upper half, -/
theorem iblk2_apply (c : Dev nD) (t : Fin cfg0.N) (k : Fin 512) (n : Fin 1024) :
    iblk m c 2 t (ix2 k n) = m ((c : Thread nD τ).loc main_arg2) (ix2 ⟨k.val, by omega⟩ n) := by
  obtain ⟨e0, e1⟩ := index2 t
  rw [← V_upper m c k n]
  show V m c main_v1 (((cfg0.win 2).blk t).view.emb (ix2 k n)) = V m c main_v1 (ix2 k n)
  refine congrArg _ (funext fun a => Fin.ext ?_)
  match a with
  | ⟨0, _⟩ => show win0_2.index t (0 : Fin 2) * 512 + 1 * k.val = k.val; omega
  | ⟨1, _⟩ => show win0_2.index t (1 : Fin 2) * 1024 + 1 * n.val = n.val; omega

/-- its lower half, -/
theorem iblk3_apply (c : Dev nD) (t : Fin cfg0.N) (k : Fin 512) (n : Fin 1024) :
    iblk m c 3 t (ix2 k n) = m ((c : Thread nD τ).loc main_arg2) (ix2 ⟨512 + k.val, by omega⟩ n) := by
  obtain ⟨e0, e1⟩ := index3 t
  rw [← V_lower m c k n]
  show V m c main_v3 (((cfg0.win 3).blk t).view.emb (ix2 k n)) = V m c main_v3 (ix2 k n)
  refine congrArg _ (funext fun a => Fin.ext ?_)
  match a with
  | ⟨0, _⟩ => show win0_3.index t (0 : Fin 2) * 512 + 1 * k.val = k.val; omega
  | ⟨1, _⟩ => show win0_3.index t (1 : Fin 2) * 1024 + 1 * n.val = n.val; omega

/-- the whole scale -/
theorem iblk5_apply (c : Dev nD) (t : Fin cfg0.N) (k : Fin 1) (n : Fin 1024) :
    iblk m c 5 t (ix2 k n) = m ((c : Thread nD τ).loc main_arg4) (ix1 n) := by
  obtain ⟨e0, e1⟩ := index5 t
  rw [← V_scale m c k n]
  show V m c main_v4 (((cfg0.win 5).blk t).view.emb (ix2 k n)) = V m c main_v4 (ix2 k n)
  refine congrArg _ (funext fun a => Fin.ext ?_)
  match a with
  | ⟨0, _⟩ => show win0_5.index t (0 : Fin 2) * 1 + 1 * k.val = k.val; omega
  | ⟨1, _⟩ => show win0_5.index t (1 : Fin 2) * 1024 + 1 * n.val = n.val; omega

/-- and the whole shift. -/
theorem iblk6_apply (c : Dev nD) (t : Fin cfg0.N) (k : Fin 1) (n : Fin 1024) :
    iblk m c 6 t (ix2 k n) = m ((c : Thread nD τ).loc main_arg5) (ix1 n) := by
  obtain ⟨e0, e1⟩ := index6 t
  rw [← V_shift m c k n]
  show V m c main_v5 (((cfg0.win 6).blk t).view.emb (ix2 k n)) = V m c main_v5 (ix2 k n)
  refine congrArg _ (funext fun a => Fin.ext ?_)
  match a with
  | ⟨0, _⟩ => show win0_6.index t (0 : Fin 2) * 1 + 1 * k.val = k.val; omega
  | ⟨1, _⟩ => show win0_6.index t (1 : Fin 2) * 1024 + 1 * n.val = n.val; omega

/-- A row of the block is the row of the whole result that it stands for. -/
theorem block_eq (c : Dev nD) (t : Fin cfg0.N) (r : Fin 512) (n : Fin 1024) (R : Fin 65536) (hR : R.val = t.val * 512 + r.val) :
    out0_7 (iblk m c 0 t) (iblk m c 1 t) (iblk m c 2 t) (iblk m c 3 t) (iblk m c 4 t)
        (iblk m c 5 t) (iblk m c 6 t) (ix2 r n)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (ix2 R n) := by
  unfold out0_7
  rw [View.canon_unit_zero zeros2]
  rw [View.ld_unit_zero zeros2, View.ld_unit_zero zeros2, View.ld_unit_zero zeros2, View.ld_unit_zero zeros2, View.ld_unit_zero zeros2, View.ld_unit_zero zeros2, View.ld_unit_zero zeros2]
  pointwise [k0_pay1, k0_pay2, k0_pay3, G]
  simp only [Ideal.truncf_def, iblk0_apply m c t r _ R hR, iblk1_apply m c t r _ R hR, iblk4_apply m c t r _ R hR, iblk2_apply m c t,
    iblk3_apply m c t, iblk5_apply m c t, iblk6_apply m c t, add_assoc]

/-- The row of the result a point's row `r` is. -/
theorem emb7 (t : Fin cfg0.N) (r : Fin 512) (n : Fin 1024) (R : Fin 65536) (hR : R.val = t.val * 512 + r.val) :
    ((cfg0.win 7).blk t).view.emb (ix2 r n) = ix2 R n := by
  obtain ⟨e0, e1⟩ := index7 t
  refine funext fun a => Fin.ext ?_
  match a with
  | ⟨0, _⟩ => show win0_7.index t (0 : Fin 2) * 512 + 1 * r.val = R.val; omega
  | ⟨1, _⟩ => show win0_7.index t (1 : Fin 2) * 1024 + 1 * n.val = n.val; omega

/-- The result array after the run is the reference's function of the arguments. -/
theorem final (c : Dev nD) : (dats m 0 c).arrAt 7 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_cover 7 _ (fun t _ => ?_) (fun i => ?_)
  · have ht : t.val < 128 := t.isLt
    rw [flushed7]
    funext j
    obtain ⟨r, n, rfl⟩ : ∃ (r : Fin 512) (n : Fin 1024), j = ix2 r n := ⟨j 0, j 1, eq_ix2 j⟩
    refine (block_eq m c t r n ⟨t.val * 512 + r.val, by omega⟩ rfl).trans ?_
    exact congrArg _ (emb7 t r n ⟨t.val * 512 + r.val, by omega⟩ rfl).symm
  · obtain ⟨R, n, rfl⟩ : ∃ (R : Fin 65536) (n : Fin 1024), i = ix2 R n := ⟨i 0, i 1, eq_ix2 i⟩
    refine ⟨(⟨R.val / 512, show R.val / 512 < 128 by omega⟩ : Fin cfg0.N), flush0_7 _, ?_⟩
    have h := ((cfg0.win 7).blk (⟨R.val / 512, show R.val / 512 < 128 by omega⟩ : Fin cfg0.N)).view.emb_mem_set
      (ix2 (⟨R.val % 512, by omega⟩ : Fin 512) n)
    rwa [emb7 _ _ n R (by show R.val = R.val / 512 * 512 + R.val % 512; omega)] at h

/-- The kernel's run with its result named. -/
theorem run : θ_run defs (onTc (τ := τ) (main (F := Ideal))) ⟨m, fun _ => 0, ρ⟩ fun r => ∀ c : Dev nD,
      r.2.mem ((c : Thread nD τ).loc main_v6) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (run_blocks m ρ)

end Cert.Own.EvenOut

end
-- ==== Proof.StackGather.lean ====
/- Taking whole experts out of a stacked weight. A gather of one whole `A × B` matrix per entry of a list of indices, read at an
   entry: the matrix named by the index, read signed and clamped into the stack. -/
module

public import Idealize.ShloMosaic.Lib.Pointwise

@[expose] public section

noncomputable section

namespace Cert.Own.Stack

open Idealize.ShloMosaic

variable {α : Type}

/-- The dimension numbers of `w[e]` for a stack `w : [E, A, B]` and a list of indices `e : [n]` laid out as `[n, 1]`. -/
abbrev stackDims (E A B n : Nat)
    (wf : GatherDims.WF ⟨3, ![E, A, B]⟩ ⟨2, ![n, 1]⟩ ⟨3, ![n, A, B]⟩ [1, 2] [0] [] [0] [] 1 ![1, A, B]) :
    GatherDims ⟨3, ![E, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Entry `(t, a, b)` of the gather is entry `(a, b)` of the matrix that the list names at `t`. -/
theorem gather_stack_apply {E A B n w : Nat} (hE : 0 < E)
    (wf : GatherDims.WF ⟨3, ![E, A, B]⟩ ⟨2, ![n, 1]⟩ ⟨3, ![n, A, B]⟩ [1, 2] [0] [] [0] [] 1 ![1, A, B])
    (x : (⟨3, ![E, A, B]⟩ : Shape).Idx → α) (idx : IVec ⟨2, ![n, 1]⟩ w) (t : Fin n) (a : Fin A) (b : Fin B) :
    Host.gather (stackDims E A B n wf) x idx (ix3 t a b)
      = x (ix3 ⟨min (idx (ix2 t 0)).toInt.toNat (E - 1), by omega⟩ a b) := by
  unfold Host.gather
  refine congrArg x (funext fun d => Fin.ext ?_)
  show (stackDims E A B n wf).start (ix3 t a b) idx d + (stackDims E A B n wf).batchCoord (ix3 t a b) d
      + (stackDims E A B n wf).offCoord (ix3 t a b) d = _
  rw [GatherDims.batchCoord_eq_zero _ _ _ List.not_mem_nil, Nat.add_zero]
  have h0 (l) : (⟨0, l⟩ : Fin (Shape.rank ⟨3, ![E, A, B]⟩)) ∈ (stackDims E A B n wf).startIndexMap := List.mem_singleton.mpr rfl
  have h1 (l) : (⟨1, l⟩ : Fin (Shape.rank ⟨3, ![E, A, B]⟩)) ∉ (stackDims E A B n wf).startIndexMap :=
    fun h => absurd (congrArg Fin.val (List.mem_singleton.mp h)) (by decide : ¬ 1 = 0)
  have h2 (l) : (⟨2, l⟩ : Fin (Shape.rank ⟨3, ![E, A, B]⟩)) ∉ (stackDims E A B n wf).startIndexMap :=
    fun h => absurd (congrArg Fin.val (List.mem_singleton.mp h)) (by decide : ¬ 2 = 0)
  match d with
  | ⟨0, _⟩ =>
    rw [GatherDims.offCoord_eq_zero _ _ _ (fun h => ((GatherDims.mem_sKept _ _).mp h).1 (List.mem_singleton.mpr rfl)), Nat.add_zero]
    unfold GatherDims.start
    rw [dif_pos (h0 _)]
    refine congrArg₂ (fun u v => min (idx u).toInt.toNat v) (funext fun e => Fin.ext ?_) rfl
    match e with
    | ⟨0, _⟩ => rfl
    | ⟨1, _⟩ => rfl
  | ⟨1, _⟩ =>
    unfold GatherDims.start
    rw [dif_neg (h1 _), Nat.zero_add]
    rfl
  | ⟨2, _⟩ =>
    unfold GatherDims.start
    rw [dif_neg (h2 _), Nat.zero_add]
    rfl

end Cert.Own.Stack

end
-- ==== Proof.MoeValue.lean ====
/- The routed experts: the array the blocked kernel leaves is the routed layer of the whole arrays. Grid point `t` takes the rows
   `512 t .. 512 t + 511` and the weights of the expert that the table names at `t` (`block_eq`), and the 288 blocks tile the
   result (`final`). On the other side the reference takes, for each block, that expert's matrices out of the stack by a gather
   (`picked`), which reads the same entry because the table's words lie in [0, 32). -/
module

public import proofs.«01_k».proof.Proof.MoeTable
public import proofs.«01_k».proof.Proof.StackGather
public import proofs.«01_k».proof.Proof.Gen.MoeIdeal.Frame
public import proofs.«01_k».proof.Proof.Gen.MoeIdeal.Points
public import proofs.«01_k».proof.Proof.Gen.MoeRefIdeal.Run
public import Idealize.ShloMosaic.Lib.Pointwise

@[expose] public section

set_option maxRecDepth 16384

noncomputable section

namespace Cert.Own.Moe

open Cert.MoeIdeal Cert.MoeIdeal.Gen Idealize.ShloMosaic Idealize.ShloMosaic.TcCoe Idealize.SL.Sem

theorem zeros2 : (![0, 0] : Fin 2 → Nat) = fun _ => 0 := funext fun a => by fin_cases a <;> rfl
theorem zeros3 : (![0, 0, 0] : Fin 3 → Nat) = fun _ => 0 := funext fun a => by fin_cases a <;> rfl

/-! ## The layer of the whole arrays -/

/-- The table as a column of indices: a word counted from the end where it is negative. -/
abbrev col (e : IVec S288 32) : IVec Cert.MoeRefIdeal.S288x1 32 :=
  broadcastInDim Cert.MoeRefIdeal.S288x1 ![0] Cert.MoeRefIdeal.Facts₀.bcast_S288_S288x1_0
    (select (cmpi .slt e (broadcastInDim S288 ![] Cert.MoeRefIdeal.Facts₀.bcast_S_S288 (constantI Cert.MoeRefIdeal.S_ 32 0#32)))
      (addi e (broadcastInDim S288 ![] Cert.MoeRefIdeal.Facts₀.bcast_S_S288 (constantI Cert.MoeRefIdeal.S_ 32 32#32))) e)

/-- The matrices that the blocks take out of a stack. -/
abbrev pickIn (e : IVec S288 32) (w : FVec Ideal S32x1024x512 .f32) : FVec Ideal Cert.MoeRefIdeal.S288x1024x512 .f32 :=
  Host.gather Cert.MoeRefIdeal.gather_S32x1024x512_S288x1_S288x1024x512_12_0_n_n_0_1_11024512 w (col e)
abbrev pickOut (e : IVec S288 32) (w : FVec Ideal S32x512x1024 .f32) : FVec Ideal Cert.MoeRefIdeal.S288x512x1024 .f32 :=
  Host.gather Cert.MoeRefIdeal.gather_S32x512x1024_S288x1_S288x512x1024_12_0_n_n_0_1_15121024 w (col e)

/-- The rows, block by block. -/
abbrev blocks (x : FVec Ideal S147456x1024 .f32) : FVec Ideal Cert.MoeRefIdeal.S288x512x1024 .f32 :=
  shapeCast Cert.MoeRefIdeal.S288x512x1024 x Cert.MoeRefIdeal.Facts₀.shapeCasts_S147456x1024_S288x512x1024

/-- Each block times its own matrix. -/
abbrev into (x : FVec Ideal S147456x1024 .f32) (e : IVec S288 32) (w : FVec Ideal S32x1024x512 .f32) :
    FVec Ideal Cert.MoeRefIdeal.S288x512x512 .f32 :=
  Host.dotGeneral Cert.MoeRefIdeal.dot_S288x512x1024_S288x1024x512_S288x512x512_2_1_1_2_0_0 none (blocks x) (pickIn e w)

/-- `a / (1 + exp (- a))`, the way the reference writes it. -/
abbrev silu (a : FVec Ideal Cert.MoeRefIdeal.S288x512x512 .f32) : FVec Ideal Cert.MoeRefIdeal.S288x512x512 .f32 :=
  mulf a (Host.divf (broadcastInDim Cert.MoeRefIdeal.S288x512x512 ![] Cert.MoeRefIdeal.Facts₀.bcast_S_S288x512x512 (constant Cert.MoeRefIdeal.S_ .f32 0x3F800000#32 : FVec Ideal Cert.MoeRefIdeal.S_ .f32)) (addf (broadcastInDim Cert.MoeRefIdeal.S288x512x512 ![] Cert.MoeRefIdeal.Facts₀.bcast_S_S288x512x512 (constant Cert.MoeRefIdeal.S_ .f32 0x3F800000#32 : FVec Ideal Cert.MoeRefIdeal.S_ .f32)) (Host.exp (Host.negf a))))

/-- The routed experts of the whole arrays, block by block. -/
abbrev H (x : FVec Ideal S147456x1024 .f32) (e : IVec S288 32) (w1 w3 : FVec Ideal S32x1024x512 .f32) (w2 : FVec Ideal S32x512x1024 .f32) :
    FVec Ideal Cert.MoeRefIdeal.S288x512x1024 .f32 :=
  Host.dotGeneral Cert.MoeRefIdeal.dot_S288x512x512_S288x512x1024_S288x512x1024_2_1_1_2_0_0 none
    (mulf (silu (into x e w1)) (into x e w3)) (pickOut e w2)
abbrev G (x : FVec Ideal S147456x1024 .f32) (e : IVec S288 32) (w1 w3 : FVec Ideal S32x1024x512 .f32) (w2 : FVec Ideal S32x512x1024 .f32) :
    FVec Ideal S147456x1024 .f32 :=
  shapeCast S147456x1024 (H x e w1 w3 w2) Cert.MoeRefIdeal.Facts₀.shapeCasts_S288x512x1024_S147456x1024

/-! ## What the blocks take out of the stacks -/

/-- The index read at a word that is in range is the word. -/
theorem col_apply (e : IVec S288 32) (t : Fin 288) (h : (e (ix1 t)).toNat < 32) :
    (col e (ix2 t 0)).toInt.toNat = (e (ix1 t)).toNat := by
  have hs : (e (ix1 t)).slt 0#32 = false := by
    simp only [BitVec.slt, BitVec.toInt_eq_toNat_cond, decide_eq_false_iff_not]
    simp
    omega
  have hc : col e (ix2 t 0) = e (ix1 t) := by
    pointwise [col]
    show Scalar.select (BitVec.ofBool ((e (ix1 t)).slt 0#32)) _ _ = _
    rw [hs]
    rfl
  rw [hc, BitVec.toInt_eq_toNat_cond]
  split <;> omega

theorem pickIn_apply (e : IVec S288 32) (w : FVec Ideal S32x1024x512 .f32) (t : Fin 288) (a : Fin 1024) (b : Fin 512)
    (E : Fin 32) (hE : (e (ix1 t)).toNat = E.val) : pickIn e w (ix3 t a b) = w (ix3 E a b) := by
  refine (Stack.gather_stack_apply (by decide) _ w (col e) t a b).trans (congrArg (fun i => w (ix3 i a b)) (Fin.ext ?_))
  show min (col e (ix2 t 0)).toInt.toNat (32 - 1) = E.val
  rw [col_apply e t (by omega)]; omega

theorem pickOut_apply (e : IVec S288 32) (w : FVec Ideal S32x512x1024 .f32) (t : Fin 288) (a : Fin 512) (b : Fin 1024)
    (E : Fin 32) (hE : (e (ix1 t)).toNat = E.val) : pickOut e w (ix3 t a b) = w (ix3 E a b) := by
  refine (Stack.gather_stack_apply (by decide) _ w (col e) t a b).trans (congrArg (fun i => w (ix3 i a b)) (Fin.ext ?_))
  show min (col e (ix2 t 0)).toInt.toNat (32 - 1) = E.val
  rw [col_apply e t (by omega)]; omega

/-! ## What a grid point leaves -/

/-- The one store of a point covers its whole block; what it stores is computed from the whole of each input block. -/
theorem out_eq (c : Dev nD) (i : grid0.Coords) (a2 : Memref sig .tc .vmem S512x1024 .f32) (h2 : a2.IsWhole)
    (a3 : Memref sig .tc .vmem S1x1024x512 .bf16) (h3 : a3.IsWhole) (a4 : Memref sig .tc .vmem S1x1024x512 .bf16) (h4 : a4.IsWhole)
    (a5 : Memref sig .tc .vmem S1x512x1024 .bf16) (h5 : a5.IsWhole) (a6 : Memref sig .tc .vmem S512x1024 .f32) (h6 : a6.IsWhole)
    (x : Vec Ideal S512x1024 .f32) (u v : Vec Ideal S1x1024x512 .bf16) (w : Vec Ideal S1x512x1024 .bf16) (e : TbBuf0 (F := Ideal) c tbM0_0) :
    out0_A_4 c i a2 h2 a3 h3 a4 h4 a5 h5 a6 h6 x u v w e = k0_pay1 x u v w := by
  unfold out0_A_4
  rw [View.read_writes_junk_eq_canon]
  show View.canon ([⟨Rect.unit ![0, 0] S512x1024.size inb_S512x1024_S512x1024_0_0,
      k0_pay1
        (View.readAt (Elt Ideal) a2.view (Rect.unit ![0, 0] S512x1024.size inb_S512x1024_S512x1024_0_0).toLoadRect (h2.unread x))
        (View.readAt (Elt Ideal) a3.view (Rect.unit ![0, 0, 0] S1x1024x512.size inb_S1x1024x512_S1x1024x512_0_0_0).toLoadRect (h3.unread u))
        (View.readAt (Elt Ideal) a4.view (Rect.unit ![0, 0, 0] S1x1024x512.size inb_S1x1024x512_S1x1024x512_0_0_0).toLoadRect (h4.unread v))
        (View.readAt (Elt Ideal) a5.view (Rect.unit ![0, 0, 0] S1x512x1024.size inb_S1x512x1024_S1x512x1024_0_0_0).toLoadRect (h5.unread w))⟩] :
      List (View.Piece (Elt Ideal) S512x1024 .f32)) = _
  rw [View.canon_unit_zero zeros2, View.readAt_eq_ld, View.readAt_eq_ld, View.readAt_eq_ld, View.readAt_eq_ld,
    h2.read_unread, h3.read_unread, h4.read_unread, h5.read_unread,
    View.ld_unit_zero zeros2, View.ld_unit_zero zeros3, View.ld_unit_zero zeros3, View.ld_unit_zero zeros3]

/-! ## Where the windows stand -/

variable (m : (ℓ : Loc nD τ sig) → Buf (Elt Ideal) ℓ) (ρ : Dev nD → PrngReg) (hO : Ok m)

theorem index0 : ∀ t : Fin grid0.N, cc0_transform_0 (grid0.coords t) (0 : Fin 2) = t.val ∧ cc0_transform_0 (grid0.coords t) (1 : Fin 2) = 0 :=
  by decide +kernel
theorem index4 : ∀ t : Fin grid0.N, cc0_transform_4 (grid0.coords t) (0 : Fin 2) = t.val ∧ cc0_transform_4 (grid0.coords t) (1 : Fin 2) = 0 :=
  by decide +kernel
theorem place : ∀ t : Fin grid0.N, (Scalar.indexCast (BitVec.ofNat 32 (grid0.coords t 0).val) : Index).toNat = t.val := by decide +kernel

/-- The word that the weight windows' index maps read at point `t`. -/
theorem at_eq (t : Fin grid0.N) : (tbl m).at 0 (Rect.unit (s := S288) ![(Scalar.indexCast (BitVec.ofNat 32 (grid0.coords t 0).val) : Index).toNat] S1.size
    (k0_off1_inb (grid0.coords t))) numel1_S1 = tbl m 0 (ix1 (t : Fin 288)) := by
  refine congrArg (tbl m 0) (funext fun a => Fin.ext ?_)
  match a with
  | ⟨0, _⟩ =>
    refine (congrArg₂ (fun u v : Nat => u + 1 * v) (place t) (Nat.lt_one_iff.mp (Fin.isLt (n := 1) _))).trans ?_
    exact Nat.add_zero _

/-- The table is the argument's contents on the one device. -/
theorem word_eq (c : Dev nD) (i : S288.Idx) : tbl m 0 i = m ((c : Thread nD τ).loc main_arg1) i := by
  rw [Subsingleton.elim c 0]
  exact congrFun (V_main_arg1 m 0) i

/-- The region finds each stack converted, and the conversion is the identity here. -/
theorem V_w1 (c : Dev nD) : V m c main_v0 = m ((c : Thread nD τ).loc main_arg2) := by
  unfold V
  after_results
  rfl
theorem V_w3 (c : Dev nD) : V m c main_v1 = m ((c : Thread nD τ).loc main_arg3) := by
  unfold V
  after_results
  rfl
theorem V_w2 (c : Dev nD) : V m c main_v2 = m ((c : Thread nD τ).loc main_arg4) := by
  unfold V
  after_results
  rfl

/-- The rows a point reads. -/
theorem iblk0_apply (c : Dev nD) (t : Fin grid0.N) (r : Fin 512) (k : Fin 1024) (R : Fin 147456) (hR : R.val = t.val * 512 + r.val) :
    iblk m hO c 0 t (ix2 r k) = m ((c : Thread nD τ).loc main_arg0) (ix2 R k) := by
  obtain ⟨e0, e1⟩ := index0 t
  rw [← V_main_arg0 m c]
  show V m c main_arg0 ((((cfgM m hO).win 0).blk t).view.emb (ix2 r k)) = V m c main_arg0 (ix2 R k)
  refine congrArg _ (funext fun a => Fin.ext ?_)
  match a with
  | ⟨0, _⟩ => show cc0_transform_0 (grid0.coords t) (0 : Fin 2) * 512 + 1 * r.val = R.val; omega
  | ⟨1, _⟩ => show cc0_transform_0 (grid0.coords t) (1 : Fin 2) * 1024 + 1 * k.val = k.val; omega

/-- The matrices a point reads are those of the expert `E` that the table names there. -/
theorem iblk1_apply (c : Dev nD) (t : Fin grid0.N) (E : Fin 32) (hE : (show BitVec 32 from tbl m 0 (ix1 (t : Fin 288))).toNat = E.val)
    (z : Fin 1) (k : Fin 1024) (n : Fin 512) :
    iblk m hO c 1 t (ix3 z k n) = m ((c : Thread nD τ).loc main_arg2) (ix3 E k n) := by
  rw [← V_w1 m c]
  show V m c main_v0 ((((cfgM m hO).win 1).blk t).view.emb (ix3 z k n)) = V m c main_v0 (ix3 E k n)
  refine congrArg _ (funext fun a => Fin.ext ?_)
  match a with
  | ⟨0, _⟩ =>
    show BitVec.toNat (show BitVec 32 from (tbl m).at 0 (Rect.unit (s := S288) _ S1.size (k0_off1_inb (grid0.coords t))) numel1_S1) * 1 + 1 * z.val = E.val
    exact (congrArg (fun q : Nat => q * 1 + 1 * z.val) ((congrArg (fun w : BitVec 32 => w.toNat) (at_eq m t)).trans hE)).trans (by omega)
  | ⟨1, _⟩ => show 0 * 1024 + 1 * k.val = k.val; omega
  | ⟨2, _⟩ => show 0 * 512 + 1 * n.val = n.val; omega

theorem iblk2_apply (c : Dev nD) (t : Fin grid0.N) (E : Fin 32) (hE : (show BitVec 32 from tbl m 0 (ix1 (t : Fin 288))).toNat = E.val)
    (z : Fin 1) (k : Fin 1024) (n : Fin 512) :
    iblk m hO c 2 t (ix3 z k n) = m ((c : Thread nD τ).loc main_arg3) (ix3 E k n) := by
  rw [← V_w3 m c]
  show V m c main_v1 ((((cfgM m hO).win 2).blk t).view.emb (ix3 z k n)) = V m c main_v1 (ix3 E k n)
  refine congrArg _ (funext fun a => Fin.ext ?_)
  match a with
  | ⟨0, _⟩ =>
    show BitVec.toNat (show BitVec 32 from (tbl m).at 0 (Rect.unit (s := S288) _ S1.size (k0_off1_inb (grid0.coords t))) numel1_S1) * 1 + 1 * z.val = E.val
    exact (congrArg (fun q : Nat => q * 1 + 1 * z.val) ((congrArg (fun w : BitVec 32 => w.toNat) (at_eq m t)).trans hE)).trans (by omega)
  | ⟨1, _⟩ => show 0 * 1024 + 1 * k.val = k.val; omega
  | ⟨2, _⟩ => show 0 * 512 + 1 * n.val = n.val; omega

theorem iblk3_apply (c : Dev nD) (t : Fin grid0.N) (E : Fin 32) (hE : (show BitVec 32 from tbl m 0 (ix1 (t : Fin 288))).toNat = E.val)
    (z : Fin 1) (k : Fin 512) (n : Fin 1024) :
    iblk m hO c 3 t (ix3 z k n) = m ((c : Thread nD τ).loc main_arg4) (ix3 E k n) := by
  rw [← V_w2 m c]
  show V m c main_v2 ((((cfgM m hO).win 3).blk t).view.emb (ix3 z k n)) = V m c main_v2 (ix3 E k n)
  refine congrArg _ (funext fun a => Fin.ext ?_)
  match a with
  | ⟨0, _⟩ =>
    show BitVec.toNat (show BitVec 32 from (tbl m).at 0 (Rect.unit (s := S288) _ S1.size (k0_off1_inb (grid0.coords t))) numel1_S1) * 1 + 1 * z.val = E.val
    exact (congrArg (fun q : Nat => q * 1 + 1 * z.val) ((congrArg (fun w : BitVec 32 => w.toNat) (at_eq m t)).trans hE)).trans (by omega)
  | ⟨1, _⟩ => show 0 * 512 + 1 * k.val = k.val; omega
  | ⟨2, _⟩ => show 0 * 1024 + 1 * n.val = n.val; omega

/-- The row of the result a point's row `r` is. -/
theorem emb4 (t : Fin grid0.N) (r : Fin 512) (n : Fin 1024) (R : Fin 147456) (hR : R.val = t.val * 512 + r.val) :
    (((cfgM m hO).win 4).blk t).view.emb (ix2 r n) = ix2 R n := by
  obtain ⟨e0, e1⟩ := index4 t
  refine funext fun a => Fin.ext ?_
  match a with
  | ⟨0, _⟩ => show cc0_transform_4 (grid0.coords t) (0 : Fin 2) * 512 + 1 * r.val = R.val; omega
  | ⟨1, _⟩ => show cc0_transform_4 (grid0.coords t) (1 : Fin 2) * 1024 + 1 * n.val = n.val; omega

/-! ## The block -/

/-- A row of the block-by-block layer, at its place among all rows. -/
theorem G_apply (x : FVec Ideal S147456x1024 .f32) (e : IVec S288 32) (w1 w3 : FVec Ideal S32x1024x512 .f32) (w2 : FVec Ideal S32x512x1024 .f32)
    (t : Fin 288) (r : Fin 512) (n : Fin 1024) (R : Fin 147456) (hR : R.val = t.val * 512 + r.val) :
    G x e w1 w3 w2 (ix2 R n) = H x e w1 w3 w2 (ix3 t r n) := by
  generalize hH : H x e w1 w3 w2 = h
  show shapeCast S147456x1024 (H x e w1 w3 w2) _ (ix2 R n) = _
  rw [hH]
  pointwise []
  exact congrArg₂ (fun (u : Fin 288) (v : Fin 512) => h (ix3 u v n)) (Fin.ext (show R.val / 512 = t.val by omega))
    (Fin.ext (show R.val % 512 = r.val by omega))

/-- A row of one block: where the block's rows are those of `x` from `R` on and its matrices are the expert `E`'s, it is the row
    of the whole layer that it stands for. -/
theorem row_eq (x : FVec Ideal S147456x1024 .f32) (e : IVec S288 32) (w1 w3 : FVec Ideal S32x1024x512 .f32) (w2 : FVec Ideal S32x512x1024 .f32)
    (X : Vec Ideal S512x1024 .f32) (U V : Vec Ideal S1x1024x512 .bf16) (W : Vec Ideal S1x512x1024 .bf16)
    (t : Fin 288) (E : Fin 32) (hE : (e (ix1 t)).toNat = E.val) (r : Fin 512) (n : Fin 1024) (R : Fin 147456) (hR : R.val = t.val * 512 + r.val)
    (hX : ∀ k : Fin 1024, X (ix2 r k) = x (ix2 R k))
    (hU : ∀ (k : Fin 1024) (j : Fin 512), U (ix3 (0 : Fin 1) k j) = w1 (ix3 E k j))
    (hV : ∀ (k : Fin 1024) (j : Fin 512), V (ix3 (0 : Fin 1) k j) = w3 (ix3 E k j))
    (hW : ∀ (k : Fin 512) (j : Fin 1024), W (ix3 (0 : Fin 1) k j) = w2 (ix3 E k j)) :
    k0_pay1 X U V W (ix2 r n) = G x e w1 w3 w2 (ix2 R n) := by
  rw [G_apply _ _ _ _ _ t r n R hR]
  have hX' (k : Fin 1024) (h : t.val * 512 + r.val < 147456) : X (ix2 r k) = x (ix2 ⟨t.val * 512 + r.val, h⟩ k) :=
    (hX k).trans (congrArg (fun R => x (ix2 R k)) (Fin.ext hR))
  pointwise [k0_pay1, H]
  simp only [Ideal.truncf_def, hU, hV, hW, pickIn_apply _ _ t _ _ E hE, pickOut_apply _ _ t _ _ E hE]
  simp only [fun k => hX' k (by omega)]
  rfl

/-- A row of a point's block. -/
theorem block_eq (c : Dev nD) (t : Fin grid0.N) (E : Fin 32) (hE : (show BitVec 32 from tbl m 0 (ix1 (t : Fin 288))).toNat = E.val)
    (r : Fin 512) (n : Fin 1024) (R : Fin 147456) (hR : R.val = t.val * 512 + r.val) :
    k0_pay1 (iblk m hO c 0 t) (iblk m hO c 1 t) (iblk m hO c 2 t) (iblk m hO c 3 t) (ix2 r n)
      = G (m ((c : Thread nD τ).loc main_arg0)) (m ((c : Thread nD τ).loc main_arg1)) (m ((c : Thread nD τ).loc main_arg2))
        (m ((c : Thread nD τ).loc main_arg3)) (m ((c : Thread nD τ).loc main_arg4)) (ix2 R n) :=
  row_eq _ _ _ _ _ _ _ _ _ t E ((congrArg (fun w : BitVec 32 => w.toNat) (word_eq m c _).symm).trans hE) r n R hR
    (fun k => iblk0_apply m hO c t r k R hR) (iblk1_apply m hO c t E hE 0) (iblk2_apply m hO c t E hE 0) (iblk3_apply m hO c t E hE 0)

/-- What a point writes back. -/
theorem flushed4 (c : Dev nD) (t : Fin grid0.N) : (dats m hO 0 c).flushed 4 t
    = ((cfgM m hO).win 4).cut (grid0.coords t) (k0_pay1 (iblk m hO c 0 t) (iblk m hO c 1 t) (iblk m hO c 2 t) (iblk m hO c 3 t)) := by
  show ((cfgM m hO).win 4).cut (grid0.coords t) ((dats m hO 0 c).after 4 t) = _
  rw [after0_4]
  unfold outsAt0
  exact congrArg (((cfgM m hO).win 4).cut (grid0.coords t)) (out_eq c _ _ _ _ _ _ _ _ _ _ _ _ _ _ _ _)

/-- The result array after the run is the routed layer of the arguments. -/
theorem final (h : ∀ x, (show BitVec 32 from tbl m 0 x).toNat < 32) (c : Dev nD) : (dats m hO 0 c).arrAt 4 (cfgM m hO).N
    = G (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m hO 0 c).arrAt_eq_of_cover 4 _ (fun t _ => ?_) (fun i => ?_)
  · have ht : t.val < 288 := t.isLt
    rw [flushed4]
    funext j
    obtain ⟨r, n, rfl⟩ : ∃ (r : Fin 512) (n : Fin 1024), j = ix2 r n :=
      ⟨(show S512x1024.Idx from j) 0, (show S512x1024.Idx from j) 1, eq_ix2 (show S512x1024.Idx from j)⟩
    refine (block_eq m hO c t ⟨_, h (ix1 (t : Fin 288))⟩ rfl r n ⟨t.val * 512 + r.val, by omega⟩ rfl).trans ?_
    exact congrArg _ (emb4 m hO t r n ⟨t.val * 512 + r.val, by omega⟩ rfl).symm
  · obtain ⟨R, n, rfl⟩ : ∃ (R : Fin 147456) (n : Fin 1024), i = ix2 R n :=
      ⟨(show S147456x1024.Idx from i) 0, (show S147456x1024.Idx from i) 1, eq_ix2 (show S147456x1024.Idx from i)⟩
    refine ⟨(⟨R.val / 512, show R.val / 512 < 288 by omega⟩ : Fin grid0.N), flush0_4 _ _, ?_⟩
    have h := (((cfgM m hO).win 4).blk (⟨R.val / 512, show R.val / 512 < 288 by omega⟩ : Fin grid0.N)).view.emb_mem_set
      (ix2 (⟨R.val % 512, by omega⟩ : Fin 512) n)
    rwa [emb4 m hO _ _ n R (by show R.val = R.val / 512 * 512 + R.val % 512; omega)] at h

/-- The kernel's run with its result named, where the table's words lie in [0, 32). -/
theorem run (h : Cert.Pre_MoeIdeal m) : θ_run defs (onTc (τ := τ) (main (F := Ideal))) ⟨m, fun _ => 0, ρ⟩ fun r => ∀ c : Dev nD,
      r.2.mem ((c : Thread nD τ).loc main_v3) = G (m ((c : Thread nD τ).loc main_arg0)) (m ((c : Thread nD τ).loc main_arg1))
        (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  have hO := MoeTable.ok_of_pre_ideal m h
  (θ_run defs _ _).mono (fun _ g c => ⟨((g c).1 4).trans (final m hO (MoeTable.entry_lt_ideal m h) c),
      ((g c).1 0).trans (((dats m hO 0 c).arrAt_in 0 rfl _).trans ((A_eq m hO c 0).trans (V_main_arg0 m c))),
      ((g c).2 main_arg1 (by decide : main_arg1 ∈ Pipeline.restRefs sig spec0)).trans (V_main_arg1 m c),
      ((g c).2 main_arg2 (by decide : main_arg2 ∈ Pipeline.restRefs sig spec0)).trans (V_main_arg2 m c),
      ((g c).2 main_arg3 (by decide : main_arg3 ∈ Pipeline.restRefs sig spec0)).trans (V_main_arg3 m c),
      ((g c).2 main_arg4 (by decide : main_arg4 ∈ Pipeline.restRefs sig spec0)).trans (V_main_arg4 m c)⟩) (run_main m ρ hO)

end Cert.Own.Moe

end
-- ==== Proof.HgrnHeads.lean ====
/- A block's columns by heads. A block has 256 rows and 8 heads of 128 columns; the kernel cuts each head's columns out and
   stacks them. -/
module

public import proofs.«01_k».proof.Proof.HgrnMath
public import proofs.«01_k».proof.Proof.Gen.KernelIdeal.Value
public import Idealize.ShloMosaic.Lib.Pointwise

@[expose] public section

set_option maxRecDepth 16384

noncomputable section

namespace Cert.Own.Hgrn

open Cert.KernelIdeal Cert.KernelIdeal.Gen Idealize.ShloMosaic Idealize.ShloMosaic.TcCoe Idealize.SL.Sem

theorem slices_head : ∀ n : Fin 8, S256x1024.Slices ![0, 128 * n.val] S256x128 := by decide
theorem stack_heads (f : Fin 8 → S1x256x128.Idx → EReal) :
    Shape.Concatenates ((List.ofFn fun n : Fin 8 => (⟨S1x256x128, f n⟩ : (s : Shape) × (s.Idx → EReal))).map (·.1)) S8x256x128 0 :=
  concatenates_S1x256x128_S1x256x128_S1x256x128_S1x256x128_S1x256x128_S1x256x128_S1x256x128_S1x256x128_S8x256x128_d0

/-- Head `n`'s columns of a block. -/
def slab (X : FVec Ideal S1x256x1024 .f32) (n : Fin 8) : FVec Ideal S1x256x128 .f32 :=
  shapeCast S1x256x128 (extractStridedSlice S256x128 ![0, 128 * n.val]
    (shapeCast S256x1024 X shapeCasts_S1x256x1024_S256x1024) (slices_head n)) shapeCasts_S256x128_S1x256x128

/-- The heads, stacked. -/
def heads (X : FVec Ideal S1x256x1024 .f32) : FVec Ideal S8x256x128 .f32 :=
  concatenate S8x256x128 0 (List.ofFn fun n : Fin 8 => ⟨S1x256x128, slab X n⟩) (stack_heads (slab X))

/-- Column `d` of head `h`. -/
def hcol (h : Fin 8) (d : Fin 128) : Fin 1024 := ⟨128 * h.val + d.val, by omega⟩

theorem slab_apply (X : FVec Ideal S1x256x1024 .f32) (n : Fin 8) (r : Fin 256) (d : Fin 128) :
    slab X n (ix3 0 r d) = X (ix3 0 r (hcol n d)) := by
  pointwise [slab, hcol]

theorem heads_apply (X : FVec Ideal S1x256x1024 .f32) (h : Fin 8) (r : Fin 256) (d : Fin 128) :
    heads X (ix3 h r d) = X (ix3 0 r (hcol h d)) := by
  refine (concatenate_ofFn_unit_apply (t := S8x256x128) (0 : Fin 3) (slab X) (stack_heads (slab X)) rfl rfl (ix3 h r d) h rfl (ix3 0 r d) ?_).trans (slab_apply X h r d)
  intro b hb
  fin_cases b
  · exact absurd rfl hb
  · rfl
  · rfl

theorem pay27_eq (X : FVec Ideal S1x256x1024 .f32) :
    k0_pay27 (k0_pay24 X) (k0_pay25 X) (k0_pay26 X) X X X X X = heads X := rfl

/-- `x / (1 + exp (-x))`'s second factor as the kernel writes it. -/
def sg (x : FVec Ideal S8x256x128 .f32) : FVec Ideal S8x256x128 .f32 :=
  divf (broadcast S8x256x128 (Scalar.ofBits .f32 0x3F800000#32 : Ideal .f32))
    (addf (broadcast S8x256x128 (Scalar.ofBits .f32 0x3F800000#32 : Ideal .f32))
      (exp (subf (broadcast S8x256x128 (Scalar.ofBits .f32 0x00000000#32 : Ideal .f32)) x)))

theorem sg_apply (x : FVec Ideal S8x256x128 .f32) (j : S8x256x128.Idx) : sg x j = Ideal.logistic (x j) := by
  show Ideal.div (Ideal.ofBits .f32 0x3F800000#32) (Ideal.ofBits .f32 0x3F800000#32 + Ideal.exp (Ideal.ofBits .f32 0x00000000#32 - x j)) = _
  rw [Ideal.ofBits_one_f32, Ideal.ofBits_zero_f32, zero_sub]
  rfl

end Cert.Own.Hgrn

end
-- ==== Proof.HgrnSums.lean ====
/- The gate and the sums of its logarithms, as the kernel computes them. A head's 256 rows are two panels of 128, a panel is 8
   chunks of 16. The sum from a chunk's start, and the sum from its end, is a product with a matrix of zeros and ones, taken
   three times: of the logarithms, and of two remainders of rounding them, which are 0 for real numbers. -/
module

public import proofs.«01_k».proof.Proof.HgrnHeads

@[expose] public section

set_option maxRecDepth 16384

noncomputable section

namespace Cert.Own.Hgrn

open Cert.KernelIdeal Cert.KernelIdeal.Gen Idealize.ShloMosaic Idealize.ShloMosaic.TcCoe Idealize.SL.Sem

/-! ## The gate -/

/-- The decays of a block. -/
def fg (lb : FVec Ideal S8x1x128 .f32) (X : FVec Ideal S1x256x1024 .f32) : FVec Ideal S8x256x128 .f32 :=
  addf (broadcastTo S8x256x128 (shapeCast S8x1x128 lb shapeCasts_S8x1x128_S8x1x128) broadcasts_S8x1x128_S8x256x128)
    (mulf (broadcastTo S8x256x128 (subf (broadcast S8x1x128 (Scalar.ofBits .f32 0x3F800000#32 : Ideal .f32))
      (shapeCast S8x1x128 lb shapeCasts_S8x1x128_S8x1x128)) broadcasts_S8x1x128_S8x256x128) (sg (heads X)))
def lg (lb : FVec Ideal S8x1x128 .f32) (X : FVec Ideal S1x256x1024 .f32) : FVec Ideal S8x256x128 .f32 := log (fg lb X)
def ky (lb : FVec Ideal S8x1x128 .f32) (X : FVec Ideal S1x256x1024 .f32) : FVec Ideal S8x256x128 .f32 :=
  subf (broadcast S8x256x128 (Scalar.ofBits .f32 0x3F800000#32 : Ideal .f32)) (fg lb X)
def qs (X : FVec Ideal S1x256x1024 .f32) : FVec Ideal S8x256x128 .f32 := mulf (heads X) (sg (heads X))

theorem fg_apply (lb : FVec Ideal S8x1x128 .f32) (X : FVec Ideal S1x256x1024 .f32) (h : Fin 8) (r : Fin 256) (d : Fin 128) :
    fg lb X (ix3 h r d) = forget (lb (ix3 h 0 d)) (X (ix3 0 r (hcol h d))) := by
  pointwise [fg]
  simp only [sg_apply, heads_apply]
  rfl

theorem lg_apply (lb : FVec Ideal S8x1x128 .f32) (X : FVec Ideal S1x256x1024 .f32) (h : Fin 8) (r : Fin 256) (d : Fin 128) :
    lg lb X (ix3 h r d) = logf (lb (ix3 h 0 d)) (X (ix3 0 r (hcol h d))) := congrArg Ideal.log (fg_apply lb X h r d)

theorem ky_apply (lb : FVec Ideal S8x1x128 .f32) (X : FVec Ideal S1x256x1024 .f32) (h : Fin 8) (r : Fin 256) (d : Fin 128)
    (hl : IsReal (lb (ix3 h 0 d))) (hf : IsReal (X (ix3 0 r (hcol h d)))) :
    ky lb X (ix3 h r d) = key (lb (ix3 h 0 d)) (X (ix3 0 r (hcol h d))) := by
  rw [← one_sub_forget hl hf, ← fg_apply]
  show Ideal.ofBits .f32 0x3F800000#32 - _ = _
  rw [Ideal.ofBits_one_f32]

theorem qs_apply (X : FVec Ideal S1x256x1024 .f32) (h : Fin 8) (r : Fin 256) (d : Fin 128) :
    qs X (ix3 h r d) = X (ix3 0 r (hcol h d)) * Ideal.logistic (X (ix3 0 r (hcol h d))) := by
  show heads X _ * sg (heads X) _ = _
  rw [sg_apply, heads_apply]

theorem pay16_eq (lb : FVec Ideal S8x1x128 .f32) (X : FVec Ideal S1x256x1024 .f32) :
    k0_pay16 (k0_pay7 lb) (k0_pay8 lb) (k0_pay9 X) (k0_pay10 X) (k0_pay11 X) (k0_pay12 X) (k0_pay13 X) (k0_pay14 X) (k0_pay15 X) X = fg lb X := rfl
theorem pay23_eq (X : FVec Ideal S1x256x1024 .f32) :
    k0_pay23 (k0_pay19 X) (k0_pay20 X) (k0_pay21 X) (k0_pay22 X) X X X X = qs X := rfl

/-! ## Panels and chunks -/

/-- Row `r` of chunk `c` of a block. -/
def brow (c r : Fin 16) : Fin 256 := ⟨16 * c.val + r.val, by omega⟩
/-- The same row within its panel. -/
def prow (c r : Fin 16) : Fin 128 := ⟨16 * (c.val % 8) + r.val, by omega⟩
/-- Chunk `c`'s panel. -/
def half (c : Fin 16) : Fin 2 := ⟨c.val / 8, by omega⟩
/-- Chunk `c`'s panel of head `h` among all the panels. -/
def pan (h : Fin 8) (c : Fin 16) : Fin 16 := ⟨2 * h.val + c.val / 8, by omega⟩

/-- Rows regrouped from heads to panels. -/
def panels (x : FVec Ideal S8x256x128 .f32) : FVec Ideal S16x128x128 .f32 := shapeCast S16x128x128 x shapeCasts_S8x256x128_S16x128x128

theorem panels_apply (x : FVec Ideal S8x256x128 .f32) (h : Fin 8) (c r : Fin 16) (d : Fin 128) :
    panels x (ix3 (pan h c) (prow c r) d) = x (ix3 h (brow c r) d) := by
  refine shapeCast_apply x _ _ _ ?_
  rw [rowMajor_val3 _ (256 * 128) 128 rfl rfl, rowMajor_val3 _ (128 * 128) 128 rfl rfl]
  show h.val * (256 * 128) + (16 * c.val + r.val) * 128 + d.val
    = (2 * h.val + c.val / 8) * (128 * 128) + (16 * (c.val % 8) + r.val) * 128 + d.val
  omega

/-! ## The masks -/

/-- Rows of the same chunk. -/
def sameChunk : IVec S128x128 1 := k0_pay28
/-- Rows of the same chunk, the column not after the row. -/
def upTo : IVec S128x128 1 := k0_pay29
/-- Rows of the same chunk, the column after the row. -/
def after : IVec S128x128 1 :=
  andi k0_pay28 (cmpi .sgt (iota .tc S128x128 32 [1] iota_S128x128_d1_w32) (iota .tc S128x128 32 [0] iota_S128x128_d0_w32))

/-! Row numbers as 32-bit words. -/

theorem shr4 : ∀ s : Fin 128, IntOp.shrui ArithUnit.vector (BitVec.ofNat 32 s.val) 4#32 = BitVec.ofNat 32 (s.val / 16) := by decide +kernel
theorem toInt_small {a : ℕ} (ha : a < 256) : (BitVec.ofNat 32 a).toInt = a := by
  rw [BitVec.toInt_eq_toNat_of_lt] <;> rw [BitVec.toNat_ofNat] <;> omega
theorem cmp_eq {a b : ℕ} (ha : a < 256) (hb : b < 256) :
    IntOp.cmpi .eq (BitVec.ofNat 32 a) (BitVec.ofNat 32 b) = BitVec.ofBool (decide (a = b)) := by
  refine congrArg BitVec.ofBool ?_
  rw [Bool.eq_iff_iff]
  simp only [beq_iff_eq, decide_eq_true_eq, ← BitVec.toInt_inj, toInt_small ha, toInt_small hb]
  omega
theorem cmp_ge {a b : ℕ} (ha : a < 256) (hb : b < 256) :
    IntOp.cmpi .sge (BitVec.ofNat 32 a) (BitVec.ofNat 32 b) = BitVec.ofBool (decide (b ≤ a)) := by
  refine congrArg BitVec.ofBool ?_
  simp only [BitVec.sle, toInt_small ha, toInt_small hb, Nat.cast_le]
theorem cmp_gt {a b : ℕ} (ha : a < 256) (hb : b < 256) :
    IntOp.cmpi .sgt (BitVec.ofNat 32 a) (BitVec.ofNat 32 b) = BitVec.ofBool (decide (b < a)) := by
  refine congrArg BitVec.ofBool ?_
  simp only [BitVec.slt, toInt_small ha, toInt_small hb, Nat.cast_lt]
theorem and_iff (p q : Prop) [Decidable p] [Decidable q] :
    IntOp.andi (BitVec.ofBool (decide p)) (BitVec.ofBool (decide q)) = 1#1 ↔ p ∧ q := by
  by_cases hp : p <;> by_cases hq : q <;> simp [hp, hq, IntOp.andi]

theorem upTo_iff (s j : Fin 128) : (upTo (ix2 s j) = 1#1) ↔ (s.val / 16 = j.val / 16 ∧ j.val ≤ s.val) := by
  pointwise [upTo, k0_pay28, k0_pay29]
  rw [shr4, shr4, cmp_eq (by omega) (by omega), cmp_ge (by omega) (by omega), and_iff]
theorem after_iff (s j : Fin 128) : (after (ix2 s j) = 1#1) ↔ (s.val / 16 = j.val / 16 ∧ s.val < j.val) := by
  pointwise [after, k0_pay28]
  rw [shr4, shr4, cmp_eq (by omega) (by omega), cmp_gt (by omega) (by omega), and_iff]

/-- The matrix of zeros and ones of a mask, for every panel. -/
def ones (m : IVec S128x128 1) : FVec Ideal S16x128x128 .bf16 :=
  broadcastTo S16x128x128 (shapeCast S1x128x128 (truncf .bf16 (select m
    (broadcast S128x128 (Scalar.ofBits .f32 0x3F800000#32 : Ideal .f32))
    (broadcast S128x128 (Scalar.ofBits .f32 0x00000000#32 : Ideal .f32))) bitsLt_bf16_f32) shapeCasts_S128x128_S1x128x128)
    broadcasts_S1x128x128_S16x128x128

/-- A sum over the rows a mask picks, in three parts. -/
def msum (m : IVec S128x128 1) (l : FVec Ideal S16x128x128 .f32) : FVec Ideal S16x128x128 .f32 :=
  have r0 : FVec Ideal S16x128x128 .bf16 := truncf .bf16 l bitsLt_bf16_f32
  have d1 : FVec Ideal S16x128x128 .f32 := subf l (extf .f32 r0 bitsLt_bf16_f32)
  have r1 : FVec Ideal S16x128x128 .bf16 := truncf .bf16 d1 bitsLt_bf16_f32
  have d2 : FVec Ideal S16x128x128 .f32 := subf d1 (extf .f32 r1 bitsLt_bf16_f32)
  have r2 : FVec Ideal S16x128x128 .bf16 := truncf .bf16 d2 bitsLt_bf16_f32
  addf (addf (addf (broadcast S16x128x128 (Scalar.ofBits .f32 0x00000000#32 : Ideal .f32))
    (matmul dot_S16x128x128_S16x128x128_S16x128x128_2_1_1_2_0_0 none (ones m) r0 (constant S16x128x128 .f32 0x00000000#32)))
    (matmul dot_S16x128x128_S16x128x128_S16x128x128_2_1_1_2_0_0 none (ones m) r1 (constant S16x128x128 .f32 0x00000000#32)))
    (matmul dot_S16x128x128_S16x128x128_S16x128x128_2_1_1_2_0_0 none (ones m) r2 (constant S16x128x128 .f32 0x00000000#32))

theorem ones_apply (m : IVec S128x128 1) (P : Fin 16) (s j : Fin 128) :
    ones m (ix3 P s j) = if m (ix2 s j) = 1#1 then 1 else 0 := by
  pointwise [ones]
  rfl

theorem msum_apply (m : IVec S128x128 1) (l : FVec Ideal S16x128x128 .f32) (P : Fin 16) (s d : Fin 128)
    (hl : ∀ j, IsReal (l (ix3 P j d))) :
    msum m l (ix3 P s d) = ∑ j : Fin 128, if m (ix2 s j) = 1#1 then l (ix3 P j d) else 0 := by
  pointwise [msum]
  have h0 : ∀ j, l (ix3 P j d) - l (ix3 P j d) = 0 := fun j => (hl j).sub_self
  simp only [h0, sub_zero, mul_zero, Finset.sum_const_zero, add_zero, ones_apply]
  refine Finset.sum_congr rfl fun j _ => ?_
  split_ifs <;> simp

/-- A sum over a panel's rows with terms in one chunk alone is the sum over the chunk. -/
theorem sum_chunk (c : Fin 16) (F : Fin 128 → EReal) (hF : ∀ j : Fin 128, j.val / 16 ≠ c.val % 8 → F j = 0) :
    ∑ j, F j = ∑ i : Fin 16, F (prow c i) := by
  rw [← Fintype.sum_equiv (finProdFinEquiv (m := 8) (n := 16)) (fun x => F (finProdFinEquiv x)) F (fun _ => rfl),
    Fintype.sum_prod_type, Finset.sum_eq_single (⟨c.val % 8, by omega⟩ : Fin 8)]
  · refine Finset.sum_congr rfl fun i _ => congrArg F (Fin.ext ?_)
    simp only [finProdFinEquiv, Equiv.coe_fn_mk, prow]
    omega
  · intro a _ ha
    refine Finset.sum_eq_zero fun i _ => hF _ ?_
    simp only [finProdFinEquiv, Equiv.coe_fn_mk]
    intro h
    refine ha (Fin.ext ?_)
    show a.val = c.val % 8
    omega
  · intro h
    exact absurd (Finset.mem_univ _) h

theorem panels_real (l : FVec Ideal S8x256x128 .f32) (h : Fin 8) (c : Fin 16) (d : Fin 128) (hl : ∀ r, IsReal (l (ix3 h r d))) (j : Fin 128) :
    IsReal (panels l (ix3 (pan h c) j d)) := by
  have e : panels l (ix3 (pan h c) j d) = l (ix3 h ⟨128 * (c.val / 8) + j.val, by omega⟩ d) := by
    refine shapeCast_apply l _ _ _ ?_
    rw [rowMajor_val3 _ (256 * 128) 128 rfl rfl, rowMajor_val3 _ (128 * 128) 128 rfl rfl]
    show h.val * (256 * 128) + (128 * (c.val / 8) + j.val) * 128 + d.val = (2 * h.val + c.val / 8) * (128 * 128) + j.val * 128 + d.val
    omega
  rw [e]
  exact hl _

theorem msum_upTo (l : FVec Ideal S8x256x128 .f32) (h : Fin 8) (c r : Fin 16) (d : Fin 128) (hl : ∀ r, IsReal (l (ix3 h r d))) :
    msum upTo (panels l) (ix3 (pan h c) (prow c r) d) = cum (fun j => l (ix3 h (brow c j) d)) r := by
  rw [msum_apply, sum_chunk c]
  · refine Finset.sum_congr rfl fun i _ => ?_
    rw [panels_apply]
    refine if_congr ((upTo_iff _ _).trans ?_) rfl rfl
    simp only [prow, Fin.le_def]
    omega
  · intro j hj
    refine if_neg fun hm => hj ?_
    have := ((upTo_iff _ _).1 hm).1
    simp only [prow] at this
    omega
  · exact panels_real l h c d hl

theorem msum_after (l : FVec Ideal S8x256x128 .f32) (h : Fin 8) (c r : Fin 16) (d : Fin 128) (hl : ∀ r, IsReal (l (ix3 h r d))) :
    msum after (panels l) (ix3 (pan h c) (prow c r) d) = tail (fun j => l (ix3 h (brow c j) d)) r := by
  rw [msum_apply, sum_chunk c]
  · refine Finset.sum_congr rfl fun i _ => ?_
    rw [panels_apply]
    refine if_congr ((after_iff _ _).trans ?_) rfl rfl
    simp only [prow, Fin.lt_def]
    omega
  · intro j hj
    refine if_neg fun hm => hj ?_
    have := ((after_iff _ _).1 hm).1
    simp only [prow] at this
    omega
  · exact panels_real l h c d hl

end Cert.Own.Hgrn

end
-- ==== Proof.HgrnBody.lean ====
/- One block of the kernel: the within-chunk attention of its 16 chunks, and the state carried through them, as functions of
   the block's queries, keys, values and log decays. -/
module

public import proofs.«01_k».proof.Proof.HgrnSums

@[expose] public section

set_option maxRecDepth 16384

noncomputable section

namespace Cert.Own.Hgrn

open Cert.KernelIdeal Cert.KernelIdeal.Gen Idealize.ShloMosaic Idealize.ShloMosaic.TcCoe Idealize.SL.Sem

/-! ## The decayed queries and keys, panel by panel -/

/-- Queries times the decay from the chunk's start. -/
def qeP (q l : FVec Ideal S8x256x128 .f32) : FVec Ideal S16x128x128 .bf16 :=
  truncf .bf16 (mulf (panels q) (exp (msum upTo (panels l)))) bitsLt_bf16_f32
/-- Keys divided by the decay from the chunk's start. -/
def keP (k l : FVec Ideal S8x256x128 .f32) : FVec Ideal S16x128x128 .bf16 :=
  truncf .bf16 (mulf (panels k) (exp (subf (broadcast S16x128x128 (Scalar.ofBits .f32 0x00000000#32 : Ideal .f32))
    (msum upTo (panels l))))) bitsLt_bf16_f32
/-- Keys times the decay to the chunk's end. -/
def ktP (k l : FVec Ideal S8x256x128 .f32) : FVec Ideal S8x2x128x128 .f32 :=
  shapeCast S8x2x128x128 (mulf (panels k) (exp (msum after (panels l)))) shapeCasts_S16x128x128_S8x2x128x128
/-- Rows regrouped from panels to heads. -/
def unpanels {e : FTy} (x : FVec Ideal S16x128x128 e) : FVec Ideal S8x256x128 e := shapeCast S8x256x128 x shapeCasts_S16x128x128_S8x256x128

/-- The within-chunk part of the output. -/
def intra (q k v l : FVec Ideal S8x256x128 .f32) : FVec Ideal S8x256x128 .f32 :=
  unpanels (matmul dot_S16x128x128_S16x128x128_S16x128x128_2_1_1_2_0_0 none
    (truncf .bf16 (select (broadcastTo S16x128x128 (shapeCast S1x128x128 upTo shapeCasts_S128x128_S1x128x128) broadcasts_S1x128x128_S16x128x128)
      (matmul dot_S16x128x128_S16x128x128_S16x128x128_2_2_1_1_0_0 none (qeP q l) (keP k l) (constant S16x128x128 .f32 0x00000000#32))
      (broadcast S16x128x128 (Scalar.ofBits .f32 0x00000000#32 : Ideal .f32))) bitsLt_bf16_f32)
    (truncf .bf16 (panels v) bitsLt_bf16_f32) (constant S16x128x128 .f32 0x00000000#32))

theorem slices_panel : ∀ n : Fin 16, S16x128x128.Slices ![n.val, 0, 0] S1x128x128 := by decide
/-- Panel `n` of the values, transposed. -/
def flip (v : FVec Ideal S8x256x128 .f32) (n : Fin 16) : FVec Ideal S1x128x128 .f32 :=
  shapeCast S1x128x128 (transpose S128x128 [1, 0] (shapeCast S128x128
    (extractStridedSlice S1x128x128 ![n.val, 0, 0] (panels v) (slices_panel n)) shapeCasts_S1x128x128_S128x128) transposes_S128x128_p1_0_S128x128)
    shapeCasts_S128x128_S1x128x128
theorem stack_panels (v : FVec Ideal S8x256x128 .f32) :
    Shape.Concatenates ((List.ofFn fun n : Fin 16 => (⟨S1x128x128, flip v n⟩ : Sigma (fun s : Shape => FVec Ideal s .f32))).map (·.1)) S16x128x128 0 :=
  concatenates_S1x128x128_S1x128x128_S1x128x128_S1x128x128_S1x128x128_S1x128x128_S1x128x128_S1x128x128_S1x128x128_S1x128x128_S1x128x128_S1x128x128_S1x128x128_S1x128x128_S1x128x128_S1x128x128_S16x128x128_d0
/-- The values, each panel transposed. -/
def vT (v : FVec Ideal S8x256x128 .f32) : FVec Ideal S8x2x128x128 .bf16 :=
  shapeCast S8x2x128x128 (truncf .bf16 (concatenate S16x128x128 0
    (List.ofFn fun n : Fin 16 => (⟨S1x128x128, flip v n⟩ : Sigma (fun s : Shape => FVec Ideal s .f32))) (stack_panels v)) bitsLt_bf16_f32)
    shapeCasts_S16x128x128_S8x2x128x128

/-! ## The state through the chunks -/

theorem slices_rows : ∀ c : Fin 16, S8x256x128.Slices ![0, 16 * c.val, 0] S8x16x128 := by decide
theorem slices_last : ∀ c : Fin 16, S8x256x128.Slices ![0, 16 * c.val + 15, 0] S8x1x128 := by decide
theorem slices_half : ∀ c : Fin 16, S8x2x128x128.Slices ![0, c.val / 8, 0, 0] S8x1x128x128 := by decide

/-- What chunk `c` reads of the state. -/
def inter (c : Fin 16) (qe : FVec Ideal S8x256x128 .bf16) (st : FVec Ideal S8x128x128 .f32) : FVec Ideal S8x16x128 .f32 :=
  matmul dot_S8x16x128_S8x128x128_S8x16x128_2_2_1_1_0_0 none (extractStridedSlice S8x16x128 ![0, 16 * c.val, 0] qe (slices_rows c))
    (truncf .bf16 st bitsLt_bf16_f32) (constant S8x16x128 .f32 0x00000000#32)

/-- The state after chunk `c`. -/
def step (c : Fin 16) (kt : FVec Ideal S8x2x128x128 .f32) (vt : FVec Ideal S8x2x128x128 .bf16) (b : FVec Ideal S8x256x128 .f32)
    (st : FVec Ideal S8x128x128 .f32) : FVec Ideal S8x128x128 .f32 :=
  addf (mulf st (broadcastTo S8x128x128 (exp (extractStridedSlice S8x1x128 ![0, 16 * c.val + 15, 0] b (slices_last c))) broadcasts_S8x1x128_S8x128x128))
    (matmul dot_S8x128x128_S8x128x128_S8x128x128_2_1_1_2_0_0 none
      (shapeCast S8x128x128 (extractStridedSlice S8x1x128x128 ![0, c.val / 8, 0, 0] vt (slices_half c)) shapeCasts_S8x1x128x128_S8x128x128)
      (truncf .bf16 (select (broadcastTo S8x128x128 (shapeCast S1x128x128 (cmpi .eq k0_pay59 (broadcast S128x128 (BitVec.ofNat 32 (c.val % 8))))
          shapeCasts_S128x128_S1x128x128) broadcasts_S1x128x128_S8x128x128)
        (shapeCast S8x128x128 (extractStridedSlice S8x1x128x128 ![0, c.val / 8, 0, 0] kt (slices_half c)) shapeCasts_S8x1x128x128_S8x128x128)
        (broadcast S8x128x128 (Scalar.ofBits .f32 0x00000000#32 : Ideal .f32))) bitsLt_bf16_f32)
      (constant S8x128x128 .f32 0x00000000#32))

/-- The state before chunk `n`. -/
def chain (kt : FVec Ideal S8x2x128x128 .f32) (vt : FVec Ideal S8x2x128x128 .bf16) (b : FVec Ideal S8x256x128 .f32)
    (st : FVec Ideal S8x128x128 .f32) : ℕ → FVec Ideal S8x128x128 .f32
  | 0 => st
  | n + 1 => step ⟨n % 16, Nat.mod_lt _ (by decide)⟩ kt vt b (chain kt vt b st n)

/-! ## The printed values are these -/

theorem pay34_eq (l : FVec Ideal S8x256x128 .f32) : k0_pay34 k0_pay31 (k0_pay32 l) (k0_pay33 l) = msum upTo (panels l) := rfl
theorem pay35_eq (q l : FVec Ideal S8x256x128 .f32) : k0_pay35 q k0_pay31 (k0_pay32 l) (k0_pay33 l) = qeP q l := rfl
theorem pay36_eq (k l : FVec Ideal S8x256x128 .f32) : k0_pay36 k k0_pay31 (k0_pay32 l) (k0_pay33 l) = keP k l := rfl
theorem pay37_eq (k l : FVec Ideal S8x256x128 .f32) : k0_pay37 k (iota .tc S128x128 32 [0] iota_S128x128_d0_w32) (iota .tc S128x128 32 [1] iota_S128x128_d1_w32) k0_pay28 (k0_pay30 l) = ktP k l := rfl
theorem pay39_eq (q k v l : FVec Ideal S8x256x128 .f32) :
    k0_pay39 k0_pay29 (qeP q l) (keP k l) (k0_pay38 v) (constant S16x128x128 .f32 0x00000000#32) = intra q k v l := rfl
theorem pay56_eq (v : FVec Ideal S8x256x128 .f32) :
    k0_pay56 (k0_pay40 (k0_pay38 v)) (k0_pay41 (k0_pay38 v)) (k0_pay42 (k0_pay38 v)) (k0_pay43 (k0_pay38 v)) (k0_pay44 (k0_pay38 v))
      (k0_pay45 (k0_pay38 v)) (k0_pay46 (k0_pay38 v)) (k0_pay47 (k0_pay38 v)) (k0_pay48 (k0_pay38 v)) (k0_pay49 (k0_pay38 v))
      (k0_pay50 (k0_pay38 v)) (k0_pay51 (k0_pay38 v)) (k0_pay52 (k0_pay38 v)) (k0_pay53 (k0_pay38 v)) (k0_pay54 (k0_pay38 v))
      (k0_pay55 (k0_pay38 v)) = vT v := rfl

end Cert.Own.Hgrn

end
-- ==== Proof.HgrnStages.lean ====
/- The kernel's printed values, one chunk after the other, are the state through the chunks and what each chunk reads of it;
   then the normalised and gated output of a block. -/
module

public import proofs.«01_k».proof.Proof.HgrnBody

@[expose] public section

set_option maxRecDepth 16384

noncomputable section

namespace Cert.Own.Hgrn

open Cert.KernelIdeal Cert.KernelIdeal.Gen Idealize.ShloMosaic Idealize.ShloMosaic.TcCoe Idealize.SL.Sem

variable (kt : FVec Ideal S8x2x128x128 .f32) (vt : FVec Ideal S8x2x128x128 .bf16) (b : FVec Ideal S8x256x128 .f32)
    (qe : FVec Ideal S8x256x128 .bf16) (st : FVec Ideal S8x128x128 .f32) (P : FVec Ideal S16x128x128 .f32)
    (Q : FVec Ideal S16x128x128 .bf16) (v : FVec Ideal S8x256x128 .f32)

/-- The state decayed over chunk `c`. -/
def faded (c : Fin 16) (b : FVec Ideal S8x256x128 .f32) (st : FVec Ideal S8x128x128 .f32) : FVec Ideal S8x128x128 .f32 :=
  mulf st (broadcastTo S8x128x128 (exp (extractStridedSlice S8x1x128 ![0, 16 * c.val + 15, 0] b (slices_last c))) broadcasts_S8x1x128_S8x128x128)

theorem pay57_eq : k0_pay57 Q = unpanels Q := rfl
theorem pay58_eq : k0_pay58 P = unpanels P := rfl
theorem pay60_eq : k0_pay60 Q st = inter 0 (unpanels Q) st := rfl
theorem pay61_eq : k0_pay61 P kt (k0_pay40 (k0_pay38 v)) (k0_pay41 (k0_pay38 v)) (k0_pay42 (k0_pay38 v)) (k0_pay43 (k0_pay38 v)) (k0_pay44 (k0_pay38 v))
      (k0_pay45 (k0_pay38 v)) (k0_pay46 (k0_pay38 v)) (k0_pay47 (k0_pay38 v)) (k0_pay48 (k0_pay38 v)) (k0_pay49 (k0_pay38 v))
      (k0_pay50 (k0_pay38 v)) (k0_pay51 (k0_pay38 v)) (k0_pay52 (k0_pay38 v)) (k0_pay53 (k0_pay38 v)) (k0_pay54 (k0_pay38 v))
      (k0_pay55 (k0_pay38 v)) st
    = chain kt (vT v) (unpanels P) st 1 := rfl
theorem pay62_eq : k0_pay62 P Q kt (k0_pay40 (k0_pay38 v)) (k0_pay41 (k0_pay38 v)) (k0_pay42 (k0_pay38 v)) (k0_pay43 (k0_pay38 v)) (k0_pay44 (k0_pay38 v))
      (k0_pay45 (k0_pay38 v)) (k0_pay46 (k0_pay38 v)) (k0_pay47 (k0_pay38 v)) (k0_pay48 (k0_pay38 v)) (k0_pay49 (k0_pay38 v))
      (k0_pay50 (k0_pay38 v)) (k0_pay51 (k0_pay38 v)) (k0_pay52 (k0_pay38 v)) (k0_pay53 (k0_pay38 v)) (k0_pay54 (k0_pay38 v))
      (k0_pay55 (k0_pay38 v)) st
    = inter 1 (unpanels Q) (chain kt (vT v) (unpanels P) st 1) := rfl

theorem pay66_eq : k0_pay66 vt qe b (chain kt vt b st 1) k0_pay63 (k0_pay64 kt) = inter 2 qe (chain kt vt b st 2) := rfl
theorem pay68_eq : k0_pay68 kt vt qe b k0_pay59 (chain kt vt b st 1) k0_pay63 (k0_pay64 kt) = inter 3 qe (chain kt vt b st 3) := rfl
theorem pay70_eq : k0_pay70 kt vt b k0_pay59 (chain kt vt b st 1) k0_pay63 (k0_pay64 kt) = faded 3 b (chain kt vt b st 3) := rfl
theorem pay73_eq : k0_pay73 qe (k0_pay69 kt k0_pay59) (faded 3 b (chain kt vt b st 3)) (k0_pay71 vt) = inter 4 qe (chain kt vt b st 4) := rfl
theorem pay75_eq : k0_pay75 kt vt qe b k0_pay59 (k0_pay69 kt k0_pay59) (faded 3 b (chain kt vt b st 3)) (k0_pay71 vt) = inter 5 qe (chain kt vt b st 5) := rfl
theorem pay76_eq : k0_pay76 kt vt b k0_pay59 (k0_pay69 kt k0_pay59) (faded 3 b (chain kt vt b st 3)) (k0_pay71 vt) = chain kt vt b st 6 := rfl
theorem pay77_eq : k0_pay77 kt vt qe b k0_pay59 (k0_pay69 kt k0_pay59) (faded 3 b (chain kt vt b st 3)) (k0_pay71 vt) = inter 6 qe (chain kt vt b st 6) := rfl
theorem pay81_eq : k0_pay81 vt qe b (chain kt vt b st 6) (k0_pay78 k0_pay59) (k0_pay79 kt) = inter 7 qe (chain kt vt b st 7) := rfl
theorem pay83_eq : k0_pay83 kt vt qe b k0_pay59 (chain kt vt b st 6) (k0_pay78 k0_pay59) (k0_pay79 kt) = inter 8 qe (chain kt vt b st 8) := rfl
theorem pay85_eq : k0_pay85 kt vt b k0_pay59 (chain kt vt b st 6) (k0_pay78 k0_pay59) (k0_pay79 kt) = faded 8 b (chain kt vt b st 8) := rfl
theorem pay88_eq : k0_pay88 qe (k0_pay84 kt k0_pay59) (faded 8 b (chain kt vt b st 8)) (k0_pay86 vt) = inter 9 qe (chain kt vt b st 9) := rfl
theorem pay90_eq : k0_pay90 kt vt qe b k0_pay59 (k0_pay84 kt k0_pay59) (faded 8 b (chain kt vt b st 8)) (k0_pay86 vt) = inter 10 qe (chain kt vt b st 10) := rfl
theorem pay91_eq : k0_pay91 kt vt b k0_pay59 (k0_pay84 kt k0_pay59) (faded 8 b (chain kt vt b st 8)) (k0_pay86 vt) = chain kt vt b st 11 := rfl
theorem pay92_eq : k0_pay92 kt vt qe b k0_pay59 (k0_pay84 kt k0_pay59) (faded 8 b (chain kt vt b st 8)) (k0_pay86 vt) = inter 11 qe (chain kt vt b st 11) := rfl
theorem pay96_eq : k0_pay96 vt qe b (chain kt vt b st 11) (k0_pay93 k0_pay59) (k0_pay94 kt) = inter 12 qe (chain kt vt b st 12) := rfl
theorem pay98_eq : k0_pay98 kt vt qe b k0_pay59 (chain kt vt b st 11) (k0_pay93 k0_pay59) (k0_pay94 kt) = inter 13 qe (chain kt vt b st 13) := rfl
theorem pay100_eq : k0_pay100 kt vt b k0_pay59 (chain kt vt b st 11) (k0_pay93 k0_pay59) (k0_pay94 kt) = faded 13 b (chain kt vt b st 13) := rfl
theorem pay104_eq : k0_pay104 kt vt b k0_pay59 (k0_pay99 kt k0_pay59) (faded 13 b (chain kt vt b st 13)) (k0_pay101 vt)
    = chain kt vt b st 16 :=
  show shapeCast S8x128x128 (chain kt vt b st 16) shapeCasts_S8x128x128_S8x128x128 = _ from funext fun j => shapeCast_apply _ _ j j rfl

theorem stack_chunks (f : Fin 16 → FVec Ideal S8x16x128 .f32) :
    Shape.Concatenates ((List.ofFn fun c : Fin 16 => (⟨S8x16x128, f c⟩ : Sigma (fun s : Shape => FVec Ideal s .f32))).map (·.1)) S8x256x128 1 :=
  concatenates_S8x16x128_S8x16x128_S8x16x128_S8x16x128_S8x16x128_S8x16x128_S8x16x128_S8x16x128_S8x16x128_S8x16x128_S8x16x128_S8x16x128_S8x16x128_S8x16x128_S8x16x128_S8x16x128_S8x256x128_d1
/-- What the chunks read of the state, one below the other. -/
def across : FVec Ideal S8x256x128 .f32 :=
  concatenate S8x256x128 1 (List.ofFn fun c : Fin 16 => (⟨S8x16x128, inter c qe (chain kt vt b st c.val)⟩ : Sigma (fun s : Shape => FVec Ideal s .f32)))
    (stack_chunks fun c : Fin 16 => inter c qe (chain kt vt b st c.val))

theorem pay105_eq : k0_pay105 kt vt qe b k0_pay59 (inter 0 qe st) (inter 1 qe (chain kt vt b st 1)) (inter 2 qe (chain kt vt b st 2))
      (inter 3 qe (chain kt vt b st 3)) (inter 4 qe (chain kt vt b st 4)) (inter 5 qe (chain kt vt b st 5)) (inter 6 qe (chain kt vt b st 6))
      (inter 7 qe (chain kt vt b st 7)) (inter 8 qe (chain kt vt b st 8)) (inter 9 qe (chain kt vt b st 9)) (inter 10 qe (chain kt vt b st 10))
      (inter 11 qe (chain kt vt b st 11)) (inter 12 qe (chain kt vt b st 12)) (inter 13 qe (chain kt vt b st 13))
      (k0_pay99 kt k0_pay59) (faded 13 b (chain kt vt b st 13)) (k0_pay101 vt) = across kt vt b qe st := rfl

/-- The normalised output. -/
def normed (o i : FVec Ideal S8x256x128 .f32) (ng : FVec Ideal S1x1x128 .f32) : FVec Ideal S8x256x128 .f32 := k0_pay106 o i ng
/-- The gated output. -/
def gatedOut (x : FVec Ideal S8x256x128 .f32) (X : FVec Ideal S1x256x1024 .f32) : FVec Ideal S8x256x128 .f32 :=
  mulf x (mulf (heads X) (sg (heads X)))
/-- One head of the output. -/
def headOf (O : FVec Ideal S8x256x128 .f32) (n : Fin 8) (hn : S8x256x128.Slices ![n.val, 0, 0] S1x256x128) : FVec Ideal S1x256x128 .f32 :=
  shapeCast S1x256x128 (shapeCast S256x128 (extractStridedSlice S1x256x128 ![n.val, 0, 0] O hn) shapeCasts_S1x256x128_S256x128) shapeCasts_S256x128_S1x256x128

variable (x : FVec Ideal S8x256x128 .f32) (X : FVec Ideal S1x256x1024 .f32)

theorem pay113_eq : k0_pay113 x (k0_pay107 X) (k0_pay108 X) (k0_pay109 X) (k0_pay110 X) (k0_pay111 X) (k0_pay112 X) X X = gatedOut x X := rfl
theorem slices_out : ∀ n : Fin 8, S8x256x128.Slices ![n.val, 0, 0] S1x256x128 := by decide
theorem pay114_eq : k0_pay114 x (k0_pay107 X) (k0_pay108 X) (k0_pay109 X) (k0_pay110 X) (k0_pay111 X) (k0_pay112 X) X X
    = headOf (gatedOut x X) 0 (slices_out 0) := rfl
theorem pay115_eq : k0_pay115 x (k0_pay107 X) (k0_pay108 X) (k0_pay109 X) (k0_pay110 X) (k0_pay111 X) (k0_pay112 X) X X
    = headOf (gatedOut x X) 1 (slices_out 1) := rfl
theorem pay116_eq : k0_pay116 x (k0_pay107 X) (k0_pay108 X) (k0_pay109 X) (k0_pay110 X) (k0_pay111 X) (k0_pay112 X) X X
    = headOf (gatedOut x X) 2 (slices_out 2) := rfl
theorem pay1_eq : k0_pay1 (k0_pay117 x (k0_pay107 X) (k0_pay108 X) (k0_pay109 X) (k0_pay110 X) (k0_pay111 X) (k0_pay112 X) X X)
    = headOf (gatedOut x X) 3 (slices_out 3) := rfl
theorem pay2_eq : k0_pay2 x = headOf x 4 (slices_out 4) := rfl
theorem pay3_eq : k0_pay3 x = headOf x 5 (slices_out 5) := rfl
theorem pay4_eq : k0_pay4 x = headOf x 6 (slices_out 6) := rfl
theorem pay5_eq : k0_pay5 x = headOf x 7 (slices_out 7) := rfl

end Cert.Own.Hgrn

end
-- ==== Proof.HgrnBlock.lean ====
/- What the kernel's body leaves after a block: the state after its 16 chunks, and the output's 8 heads side by side; from
   the carried state, or from zeros at the first block of a sequence. -/
module

public import proofs.«01_k».proof.Proof.HgrnStages
public import proofs.«01_k».proof.Proof.Gen.KernelIdeal.Value

@[expose] public section

set_option maxRecDepth 16384

noncomputable section

namespace Cert.Own.Hgrn

open Cert.KernelIdeal Cert.KernelIdeal.Gen Idealize.ShloMosaic Idealize.ShloMosaic.TcCoe Idealize.SL.Sem

theorem zeros3 : (![0, 0, 0] : Fin 3 → Nat) = fun _ => 0 := funext fun a => by fin_cases a <;> rfl

/-- The state after a block. -/
def stateAfter (lb : FVec Ideal S8x1x128 .f32) (X1 X2 : FVec Ideal S1x256x1024 .f32) (st : FVec Ideal S8x128x128 .f32) (n : ℕ) : FVec Ideal S8x128x128 .f32 :=
  chain (ktP (ky lb X1) (lg lb X1)) (vT (heads X2)) (unpanels (msum upTo (panels (lg lb X1)))) st n

/-- A block's output, head by head. -/
def blockOut (lb : FVec Ideal S8x1x128 .f32) (ng : FVec Ideal S1x1x128 .f32) (X0 X1 X2 X3 : FVec Ideal S1x256x1024 .f32)
    (st : FVec Ideal S8x128x128 .f32) : FVec Ideal S8x256x128 .f32 :=
  gatedOut (normed (intra (qs X0) (ky lb X1) (heads X2) (lg lb X1))
    (across (ktP (ky lb X1) (lg lb X1)) (vT (heads X2)) (unpanels (msum upTo (panels (lg lb X1)))) (unpanels (qeP (qs X0) (lg lb X1))) st) ng) X3

theorem inb_head : ∀ n : Fin 8, ∀ a, (![0, 0, 128 * n.val] : Fin 3 → Nat) a + S1x256x128.size a ≤ S1x256x1024.size a := by decide

/-- The output's heads as stores, the last first. -/
def heads8 (O : FVec Ideal S8x256x128 .f32) : List (View.Piece (Elt Ideal) S1x256x1024 .f32) :=
  (List.finRange 8).reverse.map fun n => ⟨Rect.unit ![0, 0, 128 * n.val] S1x256x128.size (inb_head n), headOf O n (slices_out n)⟩

theorem pay17_eq' (lb : FVec Ideal S8x1x128 .f32) (X : FVec Ideal S1x256x1024 .f32) :
    k0_pay17 (k0_pay7 lb) (k0_pay8 lb) (k0_pay9 X) (k0_pay10 X) (k0_pay11 X) (k0_pay12 X) (k0_pay13 X) (k0_pay14 X) (k0_pay15 X) X = lg lb X := rfl
theorem pay18_eq' (lb : FVec Ideal S8x1x128 .f32) (X : FVec Ideal S1x256x1024 .f32) :
    k0_pay18 (k0_pay7 lb) (k0_pay8 lb) (k0_pay9 X) (k0_pay10 X) (k0_pay11 X) (k0_pay12 X) (k0_pay13 X) (k0_pay14 X) (k0_pay15 X) X = ky lb X := rfl

/-! A load of a whole buffer reads it. -/

theorem load_rows (g : Memref sig .tc .vmem S1x256x1024 .f32) (h : g.IsWhole) (x : Vec Ideal S1x256x1024 .f32) :
    View.readAt (Elt Ideal) g.view (Rect.unit (s := S1x256x1024) ![0, 0, 0] ![1, 256, 1024] inb_S1x256x1024_S1x256x1024_0_0_0).toLoadRect (h.unread x) = x := by
  show View.readAt (Elt Ideal) g.view (Rect.unit ![0, 0, 0] S1x256x1024.size inb_S1x256x1024_S1x256x1024_0_0_0).toLoadRect (h.unread x) = x
  rw [View.readAt_eq_ld, h.read_unread, View.ld_unit_zero zeros3]
theorem load_bound (g : Memref sig .tc .vmem S8x1x128 .f32) (h : g.IsWhole) (x : Vec Ideal S8x1x128 .f32) :
    View.readAt (Elt Ideal) g.view (Rect.unit (s := S8x1x128) ![0, 0, 0] ![8, 1, 128] inb_S8x1x128_S8x1x128_0_0_0).toLoadRect (h.unread x) = x := by
  show View.readAt (Elt Ideal) g.view (Rect.unit ![0, 0, 0] S8x1x128.size inb_S8x1x128_S8x1x128_0_0_0).toLoadRect (h.unread x) = x
  rw [View.readAt_eq_ld, h.read_unread, View.ld_unit_zero zeros3]
theorem load_norm (g : Memref sig .tc .vmem S1x1x128 .f32) (h : g.IsWhole) (x : Vec Ideal S1x1x128 .f32) :
    View.readAt (Elt Ideal) g.view (Rect.unit (s := S1x1x128) ![0, 0, 0] ![1, 1, 128] inb_S1x1x128_S1x1x128_0_0_0).toLoadRect (h.unread x) = x := by
  show View.readAt (Elt Ideal) g.view (Rect.unit ![0, 0, 0] S1x1x128.size inb_S1x1x128_S1x1x128_0_0_0).toLoadRect (h.unread x) = x
  rw [View.readAt_eq_ld, h.read_unread, View.ld_unit_zero zeros3]
theorem load_state (g : Memref sig .tc .vmem S8x128x128 .f32) (h : g.IsWhole) (x : Vec Ideal S8x128x128 .f32) :
    View.readAt (Elt Ideal) g.view (Rect.unit (s := S8x128x128) ![0, 0, 0] ![8, 128, 128] inb_S8x128x128_S8x128x128_0_0_0).toLoadRect (h.unread x) = x := by
  show View.readAt (Elt Ideal) g.view (Rect.unit ![0, 0, 0] S8x128x128.size inb_S8x128x128_S8x128x128_0_0_0).toLoadRect (h.unread x) = x
  rw [View.readAt_eq_ld, h.read_unread, View.ld_unit_zero zeros3]

/-- A load of the state just set to zeros reads zeros. -/
theorem readCov_state (g : View sig .tc .vmem S8x128x128 .f32) :
    g.readCov [(⟨Rect.unit (s := S8x128x128) ![0, 0, 0] ![8, 128, 128] inb_S8x128x128_S8x128x128_0_0_0, (k0_pay6 (F := Ideal))⟩ : View.Piece (Elt Ideal) S8x128x128 .f32)]
      (Rect.unit (s := S8x128x128) ![0, 0, 0] ![8, 128, 128] inb_S8x128x128_S8x128x128_0_0_0).toLoadRect = (k0_pay6 (F := Ideal)) :=
  View.readCov_unit_zero g zeros3 _ _

section
variable (c : Dev nD) (i : grid0.Coords) (arg3 : Memref sig .tc .vmem S1x256x1024 .f32) (harg3 : arg3.IsWhole) (arg4 : Memref sig .tc .vmem S1x256x1024 .f32) (harg4 : arg4.IsWhole) (arg5 : Memref sig .tc .vmem S1x256x1024 .f32) (harg5 : arg5.IsWhole) (arg6 : Memref sig .tc .vmem S1x256x1024 .f32) (harg6 : arg6.IsWhole) (arg7 : Memref sig .tc .vmem S8x1x128 .f32) (harg7 : arg7.IsWhole) (arg8 : Memref sig .tc .vmem S1x1x128 .f32) (harg8 : arg8.IsWhole) (arg9 : Memref sig .tc .vmem S1x256x1024 .f32) (harg9 : arg9.IsWhole) (arg10 : Memref sig .tc .vmem S8x128x128 .f32) (harg10 : arg10.IsWhole)
  (x0 x1 x2 x3 : Vec Ideal S1x256x1024 .f32) (x4 : Vec Ideal S8x1x128 .f32) (x5 : Vec Ideal S1x1x128 .f32) (xs0 : Vec Ideal S8x128x128 .f32)

theorem sout_B (hc0 : ¬cond0_0 i) :
    sout0_B_0 (F := Ideal) c i arg3 harg3 arg4 harg4 arg5 harg5 arg6 harg6 arg7 harg7 arg8 harg8 arg9 harg9 arg10 harg10 hc0 x0 x1 x2 x3 x4 x5 xs0 = stateAfter x4 x1 x2 xs0 16 := by
  unfold sout0_B_0
  rw [View.read_writes_junk_eq_canon]
  show View.canon ([⟨Rect.unit ![0, 0, 0] S8x128x128.size inb_S8x128x128_S8x128x128_0_0_0,
    k0_pay104 (kernelRun0_B.sl.r_27 c arg4 harg4 arg7 harg7 x1 x4) (kernelRun0_B.sl.r_46 c arg5 harg5 x2)
      (kernelRun0_B.sl.r_48 c arg4 harg4 arg7 harg7 x1 x4) k0_pay59 (kernelRun0_B.sl.r_75 c arg4 harg4 arg7 harg7 x1 x4)
      (kernelRun0_B.sl.r_76 c arg4 harg4 arg5 harg5 arg7 harg7 arg10 harg10 x1 x2 x4 xs0) (kernelRun0_B.sl.r_77 c arg5 harg5 x2)⟩] :
    List (View.Piece (Elt Ideal) S8x128x128 .f32)) = _
  rw [View.canon_unit_zero zeros3]
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.v128, kernelRun0_B.sl.v129, kernelRun0_B.sl.cst_96, load_rows, load_bound, load_norm, load_state, pay16_eq, pay17_eq', pay18_eq', pay23_eq, pay27_eq, pay34_eq, pay35_eq, pay36_eq, pay37_eq, pay39_eq, pay56_eq, pay57_eq, pay58_eq, pay60_eq, pay61_eq, pay62_eq, pay66_eq, pay68_eq, pay70_eq, pay73_eq, pay75_eq, pay76_eq, pay77_eq, pay81_eq, pay83_eq, pay85_eq, pay88_eq, pay90_eq, pay91_eq, pay92_eq, pay96_eq, pay98_eq, pay100_eq, pay104_eq, pay105_eq, pay113_eq, pay114_eq, pay115_eq, pay116_eq, pay1_eq, pay2_eq, pay3_eq, pay4_eq, pay5_eq]
  rfl

theorem out_B (hc0 : ¬cond0_0 i) :
    out0_B_6 (F := Ideal) c i arg3 harg3 arg4 harg4 arg5 harg5 arg6 harg6 arg7 harg7 arg8 harg8 arg9 harg9 arg10 harg10 hc0 x0 x1 x2 x3 x4 x5 xs0 = View.canon (heads8 (blockOut x4 x5 x0 x1 x2 x3 xs0)) := by
  unfold out0_B_6
  rw [View.read_writes_junk_eq_canon]
  refine congrArg View.canon ?_
  show ([⟨Rect.unit (s := S1x256x1024) ![0, 0, 896] ![1, 256, 128] inb_S1x256x1024_S1x256x128_0_0_896, k0_pay5 (kernelRun0_B.sl.r_86 c arg3 harg3 arg4 harg4 arg5 harg5 arg6 harg6 arg7 harg7 arg8 harg8 arg10 harg10 x0 x1 x2 x3 x4 x5 xs0)⟩,
    ⟨Rect.unit (s := S1x256x1024) ![0, 0, 768] ![1, 256, 128] inb_S1x256x1024_S1x256x128_0_0_768, k0_pay4 (kernelRun0_B.sl.r_86 c arg3 harg3 arg4 harg4 arg5 harg5 arg6 harg6 arg7 harg7 arg8 harg8 arg10 harg10 x0 x1 x2 x3 x4 x5 xs0)⟩,
    ⟨Rect.unit (s := S1x256x1024) ![0, 0, 640] ![1, 256, 128] inb_S1x256x1024_S1x256x128_0_0_640, k0_pay3 (kernelRun0_B.sl.r_86 c arg3 harg3 arg4 harg4 arg5 harg5 arg6 harg6 arg7 harg7 arg8 harg8 arg10 harg10 x0 x1 x2 x3 x4 x5 xs0)⟩,
    ⟨Rect.unit (s := S1x256x1024) ![0, 0, 512] ![1, 256, 128] inb_S1x256x1024_S1x256x128_0_0_512, k0_pay2 (kernelRun0_B.sl.r_86 c arg3 harg3 arg4 harg4 arg5 harg5 arg6 harg6 arg7 harg7 arg8 harg8 arg10 harg10 x0 x1 x2 x3 x4 x5 xs0)⟩,
    ⟨Rect.unit (s := S1x256x1024) ![0, 0, 384] ![1, 256, 128] inb_S1x256x1024_S1x256x128_0_0_384, k0_pay1 (kernelRun0_B.sl.r_87 c arg3 harg3 arg4 harg4 arg5 harg5 arg6 harg6 arg7 harg7 arg8 harg8 arg10 harg10 x0 x1 x2 x3 x4 x5 xs0)⟩,
    ⟨Rect.unit (s := S1x256x1024) ![0, 0, 256] ![1, 256, 128] inb_S1x256x1024_S1x256x128_0_0_256, k0_pay116 (kernelRun0_B.sl.r_79 c arg3 harg3 arg4 harg4 arg5 harg5 arg7 harg7 arg8 harg8 arg10 harg10 x0 x1 x2 x4 x5 xs0) (kernelRun0_B.sl.r_80 c arg6 harg6 x3) (kernelRun0_B.sl.r_81 c arg6 harg6 x3) (kernelRun0_B.sl.r_82 c arg6 harg6 x3) (kernelRun0_B.sl.r_83 c arg6 harg6 x3) (kernelRun0_B.sl.r_84 c arg6 harg6 x3) (kernelRun0_B.sl.r_85 c arg6 harg6 x3) (View.readAt (Elt Ideal) arg6.view (Rect.unit (s := S1x256x1024) ![0, 0, 0] ![1, 256, 1024] inb_S1x256x1024_S1x256x1024_0_0_0).toLoadRect (harg6.unread x3)) (View.readAt (Elt Ideal) arg6.view (Rect.unit (s := S1x256x1024) ![0, 0, 0] ![1, 256, 1024] inb_S1x256x1024_S1x256x1024_0_0_0).toLoadRect (harg6.unread x3))⟩,
    ⟨Rect.unit (s := S1x256x1024) ![0, 0, 128] ![1, 256, 128] inb_S1x256x1024_S1x256x128_0_0_128, k0_pay115 (kernelRun0_B.sl.r_79 c arg3 harg3 arg4 harg4 arg5 harg5 arg7 harg7 arg8 harg8 arg10 harg10 x0 x1 x2 x4 x5 xs0) (kernelRun0_B.sl.r_80 c arg6 harg6 x3) (kernelRun0_B.sl.r_81 c arg6 harg6 x3) (kernelRun0_B.sl.r_82 c arg6 harg6 x3) (kernelRun0_B.sl.r_83 c arg6 harg6 x3) (kernelRun0_B.sl.r_84 c arg6 harg6 x3) (kernelRun0_B.sl.r_85 c arg6 harg6 x3) (View.readAt (Elt Ideal) arg6.view (Rect.unit (s := S1x256x1024) ![0, 0, 0] ![1, 256, 1024] inb_S1x256x1024_S1x256x1024_0_0_0).toLoadRect (harg6.unread x3)) (View.readAt (Elt Ideal) arg6.view (Rect.unit (s := S1x256x1024) ![0, 0, 0] ![1, 256, 1024] inb_S1x256x1024_S1x256x1024_0_0_0).toLoadRect (harg6.unread x3))⟩,
    ⟨Rect.unit (s := S1x256x1024) ![0, 0, 0] ![1, 256, 128] inb_S1x256x1024_S1x256x128_0_0_0, k0_pay114 (kernelRun0_B.sl.r_79 c arg3 harg3 arg4 harg4 arg5 harg5 arg7 harg7 arg8 harg8 arg10 harg10 x0 x1 x2 x4 x5 xs0) (kernelRun0_B.sl.r_80 c arg6 harg6 x3) (kernelRun0_B.sl.r_81 c arg6 harg6 x3) (kernelRun0_B.sl.r_82 c arg6 harg6 x3) (kernelRun0_B.sl.r_83 c arg6 harg6 x3) (kernelRun0_B.sl.r_84 c arg6 harg6 x3) (kernelRun0_B.sl.r_85 c arg6 harg6 x3) (View.readAt (Elt Ideal) arg6.view (Rect.unit (s := S1x256x1024) ![0, 0, 0] ![1, 256, 1024] inb_S1x256x1024_S1x256x1024_0_0_0).toLoadRect (harg6.unread x3)) (View.readAt (Elt Ideal) arg6.view (Rect.unit (s := S1x256x1024) ![0, 0, 0] ![1, 256, 1024] inb_S1x256x1024_S1x256x1024_0_0_0).toLoadRect (harg6.unread x3))⟩] : List (View.Piece (Elt Ideal) S1x256x1024 .f32)) = _
  simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.r_19, kernelRun0_B.sl.r_20, kernelRun0_B.sl.r_21, kernelRun0_B.sl.r_22, kernelRun0_B.sl.r_23, kernelRun0_B.sl.r_24, kernelRun0_B.sl.r_25, kernelRun0_B.sl.r_26, kernelRun0_B.sl.r_27, kernelRun0_B.sl.r_28, kernelRun0_B.sl.r_29, kernelRun0_B.sl.r_30, kernelRun0_B.sl.r_31, kernelRun0_B.sl.r_32, kernelRun0_B.sl.r_33, kernelRun0_B.sl.r_34, kernelRun0_B.sl.r_35, kernelRun0_B.sl.r_36, kernelRun0_B.sl.r_37, kernelRun0_B.sl.r_38, kernelRun0_B.sl.r_39, kernelRun0_B.sl.r_40, kernelRun0_B.sl.r_41, kernelRun0_B.sl.r_42, kernelRun0_B.sl.r_43, kernelRun0_B.sl.r_44, kernelRun0_B.sl.r_45, kernelRun0_B.sl.r_46, kernelRun0_B.sl.r_47, kernelRun0_B.sl.r_48, kernelRun0_B.sl.r_49, kernelRun0_B.sl.r_50, kernelRun0_B.sl.r_51, kernelRun0_B.sl.r_52, kernelRun0_B.sl.r_53, kernelRun0_B.sl.r_54, kernelRun0_B.sl.r_55, kernelRun0_B.sl.r_56, kernelRun0_B.sl.r_57, kernelRun0_B.sl.r_58, kernelRun0_B.sl.r_59, kernelRun0_B.sl.r_60, kernelRun0_B.sl.r_61, kernelRun0_B.sl.r_62, kernelRun0_B.sl.r_63, kernelRun0_B.sl.r_64, kernelRun0_B.sl.r_65, kernelRun0_B.sl.r_66, kernelRun0_B.sl.r_67, kernelRun0_B.sl.r_68, kernelRun0_B.sl.r_69, kernelRun0_B.sl.r_70, kernelRun0_B.sl.r_71, kernelRun0_B.sl.r_72, kernelRun0_B.sl.r_73, kernelRun0_B.sl.r_74, kernelRun0_B.sl.r_75, kernelRun0_B.sl.r_76, kernelRun0_B.sl.r_77, kernelRun0_B.sl.r_78, kernelRun0_B.sl.r_79, kernelRun0_B.sl.r_80, kernelRun0_B.sl.r_81, kernelRun0_B.sl.r_82, kernelRun0_B.sl.r_83, kernelRun0_B.sl.r_84, kernelRun0_B.sl.r_85, kernelRun0_B.sl.r_86, kernelRun0_B.sl.r_87, kernelRun0_B.sl.v128, kernelRun0_B.sl.v129, kernelRun0_B.sl.cst_96, load_rows, load_bound, load_norm, load_state, pay16_eq, pay17_eq', pay18_eq', pay23_eq, pay27_eq, pay34_eq, pay35_eq, pay36_eq, pay37_eq, pay39_eq, pay56_eq, pay57_eq, pay58_eq, pay60_eq, pay61_eq, pay62_eq, pay66_eq, pay68_eq, pay70_eq, pay73_eq, pay75_eq, pay76_eq, pay77_eq, pay81_eq, pay83_eq, pay85_eq, pay88_eq, pay90_eq, pay91_eq, pay92_eq, pay96_eq, pay98_eq, pay100_eq, pay104_eq, pay105_eq, pay113_eq, pay114_eq, pay115_eq, pay116_eq, pay1_eq, pay2_eq, pay3_eq, pay4_eq, pay5_eq]
  rfl

theorem sout_A (hc0 : cond0_0 i) :
    sout0_A_0 (F := Ideal) c i arg3 harg3 arg4 harg4 arg5 harg5 arg6 harg6 arg7 harg7 arg8 harg8 arg9 harg9 arg10 harg10 hc0 x0 x1 x2 x3 x4 x5 = stateAfter x4 x1 x2 k0_pay6 16 := by
  unfold sout0_A_0
  rw [View.read_writes_junk_eq_canon]
  show View.canon ((⟨Rect.unit ![0, 0, 0] S8x128x128.size inb_S8x128x128_S8x128x128_0_0_0,
    k0_pay104 (kernelRun0_A.sl.r_27 c arg4 harg4 arg7 harg7 x1 x4) (kernelRun0_A.sl.r_46 c arg5 harg5 x2)
      (kernelRun0_A.sl.r_48 c arg4 harg4 arg7 harg7 x1 x4) k0_pay59 (kernelRun0_A.sl.r_75 c arg4 harg4 arg7 harg7 x1 x4)
      (kernelRun0_A.sl.r_76 c arg4 harg4 arg5 harg5 arg7 harg7 arg10 x1 x2 x4) (kernelRun0_A.sl.r_77 c arg5 harg5 x2)⟩ :
    View.Piece (Elt Ideal) S8x128x128 .f32) :: kernelRun0_A.sl.HS0_1) = _
  rw [View.canon_cons_unit_zero zeros3]
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.v128, kernelRun0_A.sl.v129, kernelRun0_A.sl.cst_96, kernelRun0_A.sl.v276, kernelRun0_A.sl.HS0_1, readCov_state, load_rows, load_bound, load_norm, load_state, pay16_eq, pay17_eq', pay18_eq', pay23_eq, pay27_eq, pay34_eq, pay35_eq, pay36_eq, pay37_eq, pay39_eq, pay56_eq, pay57_eq, pay58_eq, pay60_eq, pay61_eq, pay62_eq, pay66_eq, pay68_eq, pay70_eq, pay73_eq, pay75_eq, pay76_eq, pay77_eq, pay81_eq, pay83_eq, pay85_eq, pay88_eq, pay90_eq, pay91_eq, pay92_eq, pay96_eq, pay98_eq, pay100_eq, pay104_eq, pay105_eq, pay113_eq, pay114_eq, pay115_eq, pay116_eq, pay1_eq, pay2_eq, pay3_eq, pay4_eq, pay5_eq]
  rfl

theorem out_A (hc0 : cond0_0 i) :
    out0_A_6 (F := Ideal) c i arg3 harg3 arg4 harg4 arg5 harg5 arg6 harg6 arg7 harg7 arg8 harg8 arg9 harg9 arg10 harg10 hc0 x0 x1 x2 x3 x4 x5 = View.canon (heads8 (blockOut x4 x5 x0 x1 x2 x3 k0_pay6)) := by
  unfold out0_A_6
  rw [View.read_writes_junk_eq_canon]
  refine congrArg View.canon ?_
  show ([⟨Rect.unit (s := S1x256x1024) ![0, 0, 896] ![1, 256, 128] inb_S1x256x1024_S1x256x128_0_0_896, k0_pay5 (kernelRun0_A.sl.r_86 c arg3 harg3 arg4 harg4 arg5 harg5 arg6 harg6 arg7 harg7 arg8 harg8 arg10 x0 x1 x2 x3 x4 x5)⟩,
    ⟨Rect.unit (s := S1x256x1024) ![0, 0, 768] ![1, 256, 128] inb_S1x256x1024_S1x256x128_0_0_768, k0_pay4 (kernelRun0_A.sl.r_86 c arg3 harg3 arg4 harg4 arg5 harg5 arg6 harg6 arg7 harg7 arg8 harg8 arg10 x0 x1 x2 x3 x4 x5)⟩,
    ⟨Rect.unit (s := S1x256x1024) ![0, 0, 640] ![1, 256, 128] inb_S1x256x1024_S1x256x128_0_0_640, k0_pay3 (kernelRun0_A.sl.r_86 c arg3 harg3 arg4 harg4 arg5 harg5 arg6 harg6 arg7 harg7 arg8 harg8 arg10 x0 x1 x2 x3 x4 x5)⟩,
    ⟨Rect.unit (s := S1x256x1024) ![0, 0, 512] ![1, 256, 128] inb_S1x256x1024_S1x256x128_0_0_512, k0_pay2 (kernelRun0_A.sl.r_86 c arg3 harg3 arg4 harg4 arg5 harg5 arg6 harg6 arg7 harg7 arg8 harg8 arg10 x0 x1 x2 x3 x4 x5)⟩,
    ⟨Rect.unit (s := S1x256x1024) ![0, 0, 384] ![1, 256, 128] inb_S1x256x1024_S1x256x128_0_0_384, k0_pay1 (kernelRun0_A.sl.r_87 c arg3 harg3 arg4 harg4 arg5 harg5 arg6 harg6 arg7 harg7 arg8 harg8 arg10 x0 x1 x2 x3 x4 x5)⟩,
    ⟨Rect.unit (s := S1x256x1024) ![0, 0, 256] ![1, 256, 128] inb_S1x256x1024_S1x256x128_0_0_256, k0_pay116 (kernelRun0_A.sl.r_79 c arg3 harg3 arg4 harg4 arg5 harg5 arg7 harg7 arg8 harg8 arg10 x0 x1 x2 x4 x5) (kernelRun0_A.sl.r_80 c arg6 harg6 x3) (kernelRun0_A.sl.r_81 c arg6 harg6 x3) (kernelRun0_A.sl.r_82 c arg6 harg6 x3) (kernelRun0_A.sl.r_83 c arg6 harg6 x3) (kernelRun0_A.sl.r_84 c arg6 harg6 x3) (kernelRun0_A.sl.r_85 c arg6 harg6 x3) (View.readAt (Elt Ideal) arg6.view (Rect.unit (s := S1x256x1024) ![0, 0, 0] ![1, 256, 1024] inb_S1x256x1024_S1x256x1024_0_0_0).toLoadRect (harg6.unread x3)) (View.readAt (Elt Ideal) arg6.view (Rect.unit (s := S1x256x1024) ![0, 0, 0] ![1, 256, 1024] inb_S1x256x1024_S1x256x1024_0_0_0).toLoadRect (harg6.unread x3))⟩,
    ⟨Rect.unit (s := S1x256x1024) ![0, 0, 128] ![1, 256, 128] inb_S1x256x1024_S1x256x128_0_0_128, k0_pay115 (kernelRun0_A.sl.r_79 c arg3 harg3 arg4 harg4 arg5 harg5 arg7 harg7 arg8 harg8 arg10 x0 x1 x2 x4 x5) (kernelRun0_A.sl.r_80 c arg6 harg6 x3) (kernelRun0_A.sl.r_81 c arg6 harg6 x3) (kernelRun0_A.sl.r_82 c arg6 harg6 x3) (kernelRun0_A.sl.r_83 c arg6 harg6 x3) (kernelRun0_A.sl.r_84 c arg6 harg6 x3) (kernelRun0_A.sl.r_85 c arg6 harg6 x3) (View.readAt (Elt Ideal) arg6.view (Rect.unit (s := S1x256x1024) ![0, 0, 0] ![1, 256, 1024] inb_S1x256x1024_S1x256x1024_0_0_0).toLoadRect (harg6.unread x3)) (View.readAt (Elt Ideal) arg6.view (Rect.unit (s := S1x256x1024) ![0, 0, 0] ![1, 256, 1024] inb_S1x256x1024_S1x256x1024_0_0_0).toLoadRect (harg6.unread x3))⟩,
    ⟨Rect.unit (s := S1x256x1024) ![0, 0, 0] ![1, 256, 128] inb_S1x256x1024_S1x256x128_0_0_0, k0_pay114 (kernelRun0_A.sl.r_79 c arg3 harg3 arg4 harg4 arg5 harg5 arg7 harg7 arg8 harg8 arg10 x0 x1 x2 x4 x5) (kernelRun0_A.sl.r_80 c arg6 harg6 x3) (kernelRun0_A.sl.r_81 c arg6 harg6 x3) (kernelRun0_A.sl.r_82 c arg6 harg6 x3) (kernelRun0_A.sl.r_83 c arg6 harg6 x3) (kernelRun0_A.sl.r_84 c arg6 harg6 x3) (kernelRun0_A.sl.r_85 c arg6 harg6 x3) (View.readAt (Elt Ideal) arg6.view (Rect.unit (s := S1x256x1024) ![0, 0, 0] ![1, 256, 1024] inb_S1x256x1024_S1x256x1024_0_0_0).toLoadRect (harg6.unread x3)) (View.readAt (Elt Ideal) arg6.view (Rect.unit (s := S1x256x1024) ![0, 0, 0] ![1, 256, 1024] inb_S1x256x1024_S1x256x1024_0_0_0).toLoadRect (harg6.unread x3))⟩] : List (View.Piece (Elt Ideal) S1x256x1024 .f32)) = _
  simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.v128, kernelRun0_A.sl.v129, kernelRun0_A.sl.cst_96, kernelRun0_A.sl.v276, kernelRun0_A.sl.HS0_1, readCov_state, load_rows, load_bound, load_norm, load_state, pay16_eq, pay17_eq', pay18_eq', pay23_eq, pay27_eq, pay34_eq, pay35_eq, pay36_eq, pay37_eq, pay39_eq, pay56_eq, pay57_eq, pay58_eq, pay60_eq, pay61_eq, pay62_eq, pay66_eq, pay68_eq, pay70_eq, pay73_eq, pay75_eq, pay76_eq, pay77_eq, pay81_eq, pay83_eq, pay85_eq, pay88_eq, pay90_eq, pay91_eq, pay92_eq, pay96_eq, pay98_eq, pay100_eq, pay104_eq, pay105_eq, pay113_eq, pay114_eq, pay115_eq, pay116_eq, pay1_eq, pay2_eq, pay3_eq, pay4_eq, pay5_eq]
  rfl

end

end Cert.Own.Hgrn

end
-- ==== Proof.HgrnRead.lean ====
/- The kernel's block read at an index: the state's step and a row of the output are the recurrence's `next` and `row`. -/
module

public import proofs.«01_k».proof.Proof.HgrnStages

@[expose] public section

set_option maxRecDepth 16384

noncomputable section

namespace Cert.Own.Hgrn

open Cert.KernelIdeal Cert.KernelIdeal.Gen Idealize.ShloMosaic Idealize.ShloMosaic.TcCoe Idealize.SL.Sem

theorem unpanels_apply {e : FTy} (x : FVec Ideal S16x128x128 e) (h : Fin 8) (c r : Fin 16) (d : Fin 128) :
    unpanels x (ix3 h (brow c r) d) = x (ix3 (pan h c) (prow c r) d) := by
  refine shapeCast_apply x _ _ _ ?_
  rw [rowMajor_val3 _ (128 * 128) 128 rfl rfl, rowMajor_val3 _ (256 * 128) 128 rfl rfl]
  show (2 * h.val + c.val / 8) * (128 * 128) + (16 * (c.val % 8) + r.val) * 128 + d.val
    = h.val * (256 * 128) + (16 * c.val + r.val) * 128 + d.val
  omega

theorem qeP_apply (q l : FVec Ideal S8x256x128 .f32) (h : Fin 8) (c r : Fin 16) (d : Fin 128) (hl : ∀ r, IsReal (l (ix3 h r d))) :
    qeP q l (ix3 (pan h c) (prow c r) d) = q (ix3 h (brow c r) d) * Ideal.exp (cum (fun j => l (ix3 h (brow c j) d)) r) := by
  show panels q _ * Ideal.exp (msum upTo (panels l) _) = _
  rw [panels_apply, msum_upTo l h c r d hl]

theorem keP_apply (k l : FVec Ideal S8x256x128 .f32) (h : Fin 8) (c r : Fin 16) (d : Fin 128) (hl : ∀ r, IsReal (l (ix3 h r d))) :
    keP k l (ix3 (pan h c) (prow c r) d) = k (ix3 h (brow c r) d) * Ideal.exp (-(cum (fun j => l (ix3 h (brow c j) d)) r)) := by
  show panels k _ * Ideal.exp (Ideal.ofBits .f32 0x00000000#32 - msum upTo (panels l) _) = _
  rw [panels_apply, msum_upTo l h c r d hl, Ideal.ofBits_zero_f32, zero_sub]

theorem halves_apply {e : FTy} (x : FVec Ideal S16x128x128 e) (h : Fin 8) (c : Fin 16) (a d : Fin 128) :
    shapeCast S8x2x128x128 x shapeCasts_S16x128x128_S8x2x128x128 (ix4 h (half c) a d) = x (ix3 (pan h c) a d) := by
  refine shapeCast_apply x _ _ _ ?_
  rw [rowMajor_val4 _ (2 * (128 * 128)) (128 * 128) 128 rfl rfl rfl, rowMajor_val3 _ (128 * 128) 128 rfl rfl]
  show (2 * h.val + c.val / 8) * (128 * 128) + a.val * 128 + d.val = h.val * (2 * (128 * 128)) + c.val / 8 * (128 * 128) + a.val * 128 + d.val
  omega

theorem ktP_apply (k l : FVec Ideal S8x256x128 .f32) (h : Fin 8) (c r : Fin 16) (d : Fin 128) (hl : ∀ r, IsReal (l (ix3 h r d))) :
    ktP k l (ix4 h (half c) (prow c r) d) = k (ix3 h (brow c r) d) * Ideal.exp (tail (fun j => l (ix3 h (brow c j) d)) r) := by
  unfold ktP
  rw [halves_apply]
  show panels k _ * Ideal.exp (msum after (panels l) _) = _
  rw [panels_apply, msum_after l h c r d hl]

theorem flip_apply (v : FVec Ideal S8x256x128 .f32) (n : Fin 16) (a s : Fin 128) :
    flip v n (ix3 0 a s) = panels v (ix3 n s a) := by
  unfold flip
  generalize panels v = w
  pointwise

theorem vT_apply (v : FVec Ideal S8x256x128 .f32) (h : Fin 8) (c r : Fin 16) (a : Fin 128) :
    vT v (ix4 h (half c) a (prow c r)) = v (ix3 h (brow c r) a) := by
  unfold vT
  rw [halves_apply, ← panels_apply v, ← flip_apply]
  exact concatenate_ofFn_unit_apply (t := S16x128x128) 0 (fun n => flip v n) (stack_panels v) rfl rfl (ix3 (pan h c) a (prow c r)) (pan h c) rfl
    (ix3 0 a (prow c r)) (fun b hb => by fin_cases b <;> first | exact absurd rfl hb | rfl)

theorem intra_apply (q k v l : FVec Ideal S8x256x128 .f32) (h : Fin 8) (c r : Fin 16) (a : Fin 128) (hl : ∀ r d, IsReal (l (ix3 h r d))) :
    intra q k v l (ix3 h (brow c r) a) = ∑ s : Fin 16, (if s ≤ r then
      ∑ d, q (ix3 h (brow c r) d) * Ideal.exp (cum (fun j => l (ix3 h (brow c j) d)) r)
        * (k (ix3 h (brow c s) d) * Ideal.exp (-(cum (fun j => l (ix3 h (brow c j) d)) s))) else 0) * v (ix3 h (brow c s) a) := by
  have e : ∀ (A B : FVec Ideal S16x128x128 .bf16) (w : FVec Ideal S16x128x128 .f32) (m : IVec S128x128 1) (P : Fin 16) (s a : Fin 128),
      matmul dot_S16x128x128_S16x128x128_S16x128x128_2_1_1_2_0_0 none
        (truncf .bf16 (select (broadcastTo S16x128x128 (shapeCast S1x128x128 m shapeCasts_S128x128_S1x128x128) broadcasts_S1x128x128_S16x128x128)
          (matmul dot_S16x128x128_S16x128x128_S16x128x128_2_2_1_1_0_0 none A B (constant S16x128x128 .f32 0x00000000#32))
          (broadcast S16x128x128 (Scalar.ofBits .f32 0x00000000#32 : Ideal .f32))) bitsLt_bf16_f32)
        (truncf .bf16 w bitsLt_bf16_f32) (constant S16x128x128 .f32 0x00000000#32) (ix3 P s a)
      = ∑ j : Fin 128, (if m (ix2 s j) = 1#1 then ∑ d, A (ix3 P s d) * B (ix3 P j d) else 0) * w (ix3 P j a) := by
    intro A B w m P s a
    pointwise
    refine Finset.sum_congr rfl fun j _ => ?_
    rw [ite_mul, zero_mul]
    rfl
  unfold intra
  rw [unpanels_apply, e, sum_chunk c]
  · refine Finset.sum_congr rfl fun s _ => ?_
    rw [panels_apply]
    refine congrArg (· * _) (if_congr ((upTo_iff _ _).trans ?_) (Finset.sum_congr rfl fun d _ => ?_) rfl)
    · simp only [prow, Fin.le_def]
      omega
    · rw [qeP_apply q l h c r d fun r => hl r d, keP_apply k l h c s d fun r => hl r d]
  · intro j hj
    rw [if_neg, zero_mul]
    intro hm
    have := ((upTo_iff _ _).1 hm).1
    simp only [prow] at this
    omega

theorem inter_apply (c : Fin 16) (qe : FVec Ideal S8x256x128 .bf16) (st : FVec Ideal S8x128x128 .f32) (h : Fin 8) (r : Fin 16) (a : Fin 128) :
    inter c qe st (ix3 h r a) = ∑ d, qe (ix3 h (brow c r) d) * st (ix3 h a d) := by
  pointwise [inter, brow]

theorem ofBool_iff (p : Prop) [Decidable p] : BitVec.ofBool (decide p) = 1#1 ↔ p := by
  by_cases h : p <;> simp [h]

theorem step_apply (c : Fin 16) (kt : FVec Ideal S8x2x128x128 .f32) (vt : FVec Ideal S8x2x128x128 .bf16) (b : FVec Ideal S8x256x128 .f32)
    (st : FVec Ideal S8x128x128 .f32) (h : Fin 8) (a d : Fin 128) :
    step c kt vt b st (ix3 h a d) = st (ix3 h a d) * Ideal.exp (b (ix3 h (brow c 15) d))
      + ∑ s : Fin 16, vt (ix4 h (half c) a (prow c s)) * kt (ix4 h (half c) (prow c s) d) := by
  pointwise [step, k0_pay59]
  refine congrArg (fun z : EReal => (st (ix3 h a d) * Ideal.exp (b (ix3 h (brow c 15) d)) : EReal) + z) ?_
  rw [sum_chunk c]
  · refine Finset.sum_congr rfl fun s _ => ?_
    refine if_pos (α := EReal) (c := _ = 1#1) ?_
    rw [shr4, cmp_eq (by omega) (by omega), ofBool_iff]
    simp only [prow]
    omega
  · intro j hj
    refine if_neg (α := EReal) (c := _ = 1#1) ?_
    rw [shr4, cmp_eq (by omega) (by omega), ofBool_iff]
    exact hj

theorem across_apply (kt : FVec Ideal S8x2x128x128 .f32) (vt : FVec Ideal S8x2x128x128 .bf16) (b : FVec Ideal S8x256x128 .f32)
    (qe : FVec Ideal S8x256x128 .bf16) (st : FVec Ideal S8x128x128 .f32) (h : Fin 8) (c r : Fin 16) (a : Fin 128) :
    across kt vt b qe st (ix3 h (brow c r) a) = ∑ d, qe (ix3 h (brow c r) d) * chain kt vt b st c.val (ix3 h a d) := by
  rw [← inter_apply]
  refine concatenate_ofFn_apply (t := S8x256x128) 1 (fun c : Fin 16 => inter c qe (chain kt vt b st c.val)) (stack_chunks _) rfl 16 rfl
    (ix3 h (brow c r) a) c ?_ (ix3 h r a) ?_ (fun b hb => by fin_cases b <;> first | exact absurd rfl hb | rfl)
  · show (16 * c.val + r.val) / 16 = c.val
    omega
  · show r.val = (16 * c.val + r.val) % 16
    omega

theorem normed_apply (o i : FVec Ideal S8x256x128 .f32) (ng : FVec Ideal S1x1x128 .f32) (X : FVec Ideal S1x256x1024 .f32) (h : Fin 8) (r : Fin 256) (a : Fin 128) :
    gatedOut (normed o i ng) X (ix3 h r a) = gated (fun u => o (ix3 h r u) + i (ix3 h r u)) (fun u => ng (ix3 0 0 u)) (X (ix3 0 r (hcol h a))) a := by
  show normed o i ng (ix3 h r a) * (heads X (ix3 h r a) * sg (heads X) (ix3 h r a)) = _
  rw [sg_apply, heads_apply]
  pointwise [normed, k0_pay106]
  rfl

end Cert.Own.Hgrn

end
-- ==== Proof.HgrnRows.lean ====
/- A block against the recurrence: if the rows read are those of the chunks from `n₀` on and the carried state is the state before
   chunk `n₀`, then the state left is the one 16 chunks later and the output's rows are the recurrence's, normed and gated. -/
module

public import proofs.«01_k».proof.Proof.HgrnBlock
public import proofs.«01_k».proof.Proof.HgrnRead
public import proofs.«01_k».proof.Proof.HgrnSpec

@[expose] public section

set_option maxRecDepth 16384

noncomputable section

namespace Cert.Own.Hgrn

open Cert.KernelIdeal Cert.KernelIdeal.Gen Idealize.ShloMosaic Idealize.ShloMosaic.TcCoe Idealize.SL.Sem

section Block

variable (lb : FVec Ideal S8x1x128 .f32) (ng : FVec Ideal S1x1x128 .f32) (X0 X1 X2 X3 : FVec Ideal S1x256x1024 .f32) (st : FVec Ideal S8x128x128 .f32)
  (h : Fin 8) (n₀ : ℕ) (q f v : ℕ → Fin 16 → Fin 128 → EReal) (l : Fin 128 → EReal)

variable (h0 : ∀ (c r : Fin 16) d, X0 (ix3 0 (brow c r) (hcol h d)) = q (n₀ + c.val) r d)
  (h1 : ∀ (c r : Fin 16) d, X1 (ix3 0 (brow c r) (hcol h d)) = f (n₀ + c.val) r d)
  (h2 : ∀ (c r : Fin 16) d, X2 (ix3 0 (brow c r) (hcol h d)) = v (n₀ + c.val) r d)
  (hb : ∀ d, lb (ix3 h 0 d) = l d) (hl : ∀ d, IsReal (l d)) (hp : ∀ d, 0 ≤ l d) (hf : ∀ n r d, IsReal (f n r d))

include h1 hb in
theorem lg_at (c r : Fin 16) (d : Fin 128) : lg lb X1 (ix3 h (brow c r) d) = lOf l f (n₀ + c.val) r d := by
  rw [lg_apply, hb, h1]
  rfl

include h1 hb hl hf in
theorem ky_at (c r : Fin 16) (d : Fin 128) : ky lb X1 (ix3 h (brow c r) d) = kOf l f (n₀ + c.val) r d := by
  rw [ky_apply, hb, h1]
  · rfl
  · rw [hb]
    exact hl d
  · rw [h1]
    exact hf _ _ _

theorem brow_surj (r : Fin 256) : ∃ c s, r = brow c s :=
  ⟨⟨r.val / 16, by omega⟩, ⟨r.val % 16, by omega⟩, Fin.ext (by simp only [brow]; omega)⟩

include h1 hb hl hp hf in
theorem lg_real (r : Fin 256) (d : Fin 128) : IsReal (lg lb X1 (ix3 h r d)) := by
  obtain ⟨c, s, rfl⟩ := brow_surj r
  rw [lg_at lb X1 h n₀ f l h1 hb]
  exact logf_real (hl d) (hp d) (hf _ _ _)

include h1 h2 hb hl hp hf in
/-- The state after the first `n` chunks of a block. -/
theorem stateAfter_apply (hs : ∀ a d, st (ix3 h a d) = state (kOf l f) (lOf l f) v n₀ d a) :
    ∀ n ≤ 16, ∀ a d, stateAfter lb X1 X2 st n (ix3 h a d) = state (kOf l f) (lOf l f) v (n₀ + n) d a
  | 0, _, a, d => hs a d
  | n + 1, hn, a, d => by
    have R := lg_real lb X1 h n₀ f l h1 hb hl hp hf
    have L : ∀ (c : Fin 16) d, (fun j => lg lb X1 (ix3 h (brow c j) d)) = fun j => lOf l f (n₀ + c.val) j d :=
      fun c d => funext fun j => lg_at lb X1 h n₀ f l h1 hb c j d
    have hc : (⟨n % 16, Nat.mod_lt _ (by decide)⟩ : Fin 16).val = n := Nat.mod_eq_of_lt hn
    show step ⟨n % 16, _⟩ (ktP (ky lb X1) (lg lb X1)) (vT (heads X2)) (unpanels (msum upTo (panels (lg lb X1)))) (stateAfter lb X1 X2 st n) (ix3 h a d)
      = next (kOf l f (n₀ + n)) (lOf l f (n₀ + n)) (v (n₀ + n)) (state (kOf l f) (lOf l f) v (n₀ + n)) d a
    rw [step_apply, stateAfter_apply hs n (by omega) a d, unpanels_apply, msum_upTo _ _ _ _ _ fun r => R r d, L, hc]
    refine congrArg₂ (fun x y : EReal => x + y) rfl (Finset.sum_congr rfl fun s _ => ?_)
    rw [vT_apply, heads_apply, h2, ktP_apply _ _ _ _ _ _ fun r => R r d, ky_at lb X1 h n₀ f l h1 hb hl hf, L, hc, mul_comm]

include h0 h1 h2 hb hl hp hf in
/-- The block's output at a row of its chunk `c`. -/
theorem blockOut_apply (hs : ∀ a d, st (ix3 h a d) = state (kOf l f) (lOf l f) v n₀ d a) (c r : Fin 16) (a : Fin 128) :
    blockOut lb ng X0 X1 X2 X3 st (ix3 h (brow c r) a)
      = gated (row (qOf q (n₀ + c.val)) (kOf l f (n₀ + c.val)) (lOf l f (n₀ + c.val)) (v (n₀ + c.val)) (state (kOf l f) (lOf l f) v (n₀ + c.val)) r)
          (fun u => ng (ix3 0 0 u)) (X3 (ix3 0 (brow c r) (hcol h a))) a := by
  have R := lg_real lb X1 h n₀ f l h1 hb hl hp hf
  have L : ∀ d, (fun j => lg lb X1 (ix3 h (brow c j) d)) = fun j => lOf l f (n₀ + c.val) j d :=
    fun d => funext fun j => lg_at lb X1 h n₀ f l h1 hb c j d
  have Q : ∀ d, qs X0 (ix3 h (brow c r) d) = qOf q (n₀ + c.val) r d := fun d => by rw [qs_apply, h0]; rfl
  unfold blockOut
  rw [normed_apply]
  refine congrArg (fun o => gated o _ _ a) (funext fun u => ?_)
  rw [intra_apply _ _ _ _ _ _ _ _ R, across_apply]
  unfold row
  refine congrArg₂ (fun x y : EReal => x + y) (Finset.sum_congr rfl fun s _ => ?_) (Finset.sum_congr rfl fun d _ => ?_)
  · rw [heads_apply, h2]
    refine congrArg (· * _) (if_congr Iff.rfl (Finset.sum_congr rfl fun d _ => ?_) rfl)
    rw [Q, L, ky_at lb X1 h n₀ f l h1 hb hl hf]
  · rw [unpanels_apply, qeP_apply _ _ _ _ _ _ fun r => R r d, Q, L]
    exact congrArg (_ * ·) (stateAfter_apply lb X1 X2 st h n₀ f v l h1 h2 hb hl hp hf hs c.val c.isLt.le u d)

end Block

theorem headOf_apply (O : FVec Ideal S8x256x128 .f32) (n : Fin 8) (r : Fin 256) (d : Fin 128) :
    headOf O n (slices_out n) (ix3 0 r d) = O (ix3 n r d) := by
  pointwise [headOf]

/-- The heads side by side, read at a column of one of them. -/
theorem heads8_apply (O : FVec Ideal S8x256x128 .f32) (h : Fin 8) (r : Fin 256) (d : Fin 128) :
    View.canon (heads8 O) (ix3 0 r (hcol h d)) = O (ix3 h r d) := by
  have key : ∀ l : List (Fin 8), h ∈ l → View.canon (l.map fun n => (⟨Rect.unit ![0, 0, 128 * n.val] S1x256x128.size (inb_head n), headOf O n (slices_out n)⟩ :
      View.Piece (Elt Ideal) S1x256x1024 .f32)) (ix3 0 r (hcol h d)) = O (ix3 h r d) := by
    intro l
    induction l with
    | nil => exact fun hm => absurd hm List.not_mem_nil
    | cons n l ih =>
      intro hm
      rw [List.map_cons]
      by_cases e : h = n
      · subst e
        have at_ : (Rect.unit (s := S1x256x1024) ![0, 0, 128 * h.val] S1x256x128.size (inb_head h)).emb (ix3 0 r d) = ix3 0 r (hcol h d) := by
          funext b
          refine Fin.ext ?_
          fin_cases b
          · rfl
          · show 0 + 1 * r.val = r.val
            omega
          · show 128 * h.val + 1 * d.val = 128 * h.val + d.val
            omega
        rw [← at_, View.canon_cons_emb]
        exact headOf_apply O h r d
      · rw [View.canon_cons_of_not_mem]
        · exact ih ((List.mem_cons.1 hm).resolve_left e)
        · rw [Rect.mem_set_unit]
          intro hb
          have hb2 := hb 2
          have : 128 * n.val ≤ 128 * h.val + d.val ∧ 128 * h.val + d.val < 128 * n.val + 128 := hb2
          exact e (Fin.ext (by omega))
  exact key _ (List.mem_reverse.2 (List.mem_finRange h))

end Cert.Own.Hgrn

end
-- ==== Proof.HgrnLaunch.lean ====
/- The kernel's launch: by induction over the grid's points each block is the recurrence's block, so the result array is the
   recurrence's whole result. -/
module

public import proofs.«01_k».proof.Proof.HgrnRows

@[expose] public section

set_option maxRecDepth 16384

noncomputable section

namespace Cert.Own.Hgrn

open Cert.KernelIdeal Cert.KernelIdeal.Gen Cert.KernelIdeal.Value Idealize.ShloMosaic Idealize.ShloMosaic.TcCoe Idealize.SL.Sem

variable (m : (ℓ : Loc nD τ sig) → Buf (Elt Ideal) ℓ) (ρ : Dev nD → PrngReg)

/-- The three arguments. -/
abbrev argZ (c : Dev nD) : FVec Ideal S16x4096x4096 .f32 := m ((c : Thread nD τ).loc main_arg0)
abbrev argL (c : Dev nD) : FVec Ideal S1024 .f32 := m ((c : Thread nD τ).loc main_arg1)
abbrev argN (c : Dev nD) : FVec Ideal S128 .f32 := m ((c : Thread nD τ).loc main_arg2)

/-- Which block each window stands at. -/
theorem index0 : ∀ t : Fin cfg0.N, win0_0.index t (0 : Fin 3) = t.val / 16 ∧ win0_0.index t (1 : Fin 3) = t.val % 16 ∧ win0_0.index t (2 : Fin 3) = 0 :=
  (by decide +kernel : ∀ t : Fin grid0.N, _)
theorem index1 : ∀ t : Fin cfg0.N, win0_1.index t (0 : Fin 3) = t.val / 16 ∧ win0_1.index t (1 : Fin 3) = t.val % 16 ∧ win0_1.index t (2 : Fin 3) = 1 :=
  (by decide +kernel : ∀ t : Fin grid0.N, _)
theorem index2 : ∀ t : Fin cfg0.N, win0_2.index t (0 : Fin 3) = t.val / 16 ∧ win0_2.index t (1 : Fin 3) = t.val % 16 ∧ win0_2.index t (2 : Fin 3) = 2 :=
  (by decide +kernel : ∀ t : Fin grid0.N, _)
theorem index3 : ∀ t : Fin cfg0.N, win0_3.index t (0 : Fin 3) = t.val / 16 ∧ win0_3.index t (1 : Fin 3) = t.val % 16 ∧ win0_3.index t (2 : Fin 3) = 3 :=
  (by decide +kernel : ∀ t : Fin grid0.N, _)
theorem index4 : ∀ t : Fin cfg0.N, win0_4.index t (0 : Fin 3) = 0 ∧ win0_4.index t (1 : Fin 3) = 0 ∧ win0_4.index t (2 : Fin 3) = 0 :=
  (by decide +kernel : ∀ t : Fin grid0.N, _)
theorem index5 : ∀ t : Fin cfg0.N, win0_5.index t (0 : Fin 3) = 0 ∧ win0_5.index t (1 : Fin 3) = 0 ∧ win0_5.index t (2 : Fin 3) = 0 :=
  (by decide +kernel : ∀ t : Fin grid0.N, _)

/-- The batch a point stands in. -/
def batch (n : ℕ) (hn : n < 256) : Fin 16 := ⟨n / 16, by omega⟩

theorem iblk0_apply (c : Dev nD) (t : Fin cfg0.N) (ht : t.val < 256) (k r : Fin 16) (h : Fin 8) (d : Fin 128) :
    iblk m c 0 t (ix3 0 (brow k r) (hcol h d)) = band (argZ m c) 0 (batch t.val ht) h (16 * (t.val % 16) + k.val) r d := by
  obtain ⟨e0, e1, e2⟩ := index0 t
  unfold band argZ
  rw [← V_main_arg0 m c]
  show V m c main_arg0 (((cfg0.win 0).blk t).view.emb (ix3 0 (brow k r) (hcol h d))) = V m c main_arg0 (ix3 _ _ _)
  refine congrArg _ (funext fun a => Fin.ext ?_)
  match a with
  | ⟨0, _⟩ => show win0_0.index t (0 : Fin 3) * 1 + 1 * 0 = t.val / 16; omega
  | ⟨1, _⟩ => show win0_0.index t (1 : Fin 3) * 256 + 1 * (16 * k.val + r.val) = (16 * (16 * (t.val % 16) + k.val) + r.val) % 4096; omega
  | ⟨2, _⟩ => show win0_0.index t (2 : Fin 3) * 1024 + 1 * (128 * h.val + d.val) = 1024 * 0 + (128 * h.val + d.val); omega

theorem iblk1_apply (c : Dev nD) (t : Fin cfg0.N) (ht : t.val < 256) (k r : Fin 16) (h : Fin 8) (d : Fin 128) :
    iblk m c 1 t (ix3 0 (brow k r) (hcol h d)) = band (argZ m c) 1 (batch t.val ht) h (16 * (t.val % 16) + k.val) r d := by
  obtain ⟨e0, e1, e2⟩ := index1 t
  unfold band argZ
  rw [← V_main_arg0 m c]
  show V m c main_arg0 (((cfg0.win 1).blk t).view.emb (ix3 0 (brow k r) (hcol h d))) = V m c main_arg0 (ix3 _ _ _)
  refine congrArg _ (funext fun a => Fin.ext ?_)
  match a with
  | ⟨0, _⟩ => show win0_1.index t (0 : Fin 3) * 1 + 1 * 0 = t.val / 16; omega
  | ⟨1, _⟩ => show win0_1.index t (1 : Fin 3) * 256 + 1 * (16 * k.val + r.val) = (16 * (16 * (t.val % 16) + k.val) + r.val) % 4096; omega
  | ⟨2, _⟩ => show win0_1.index t (2 : Fin 3) * 1024 + 1 * (128 * h.val + d.val) = 1024 * 1 + (128 * h.val + d.val); omega

theorem iblk2_apply (c : Dev nD) (t : Fin cfg0.N) (ht : t.val < 256) (k r : Fin 16) (h : Fin 8) (d : Fin 128) :
    iblk m c 2 t (ix3 0 (brow k r) (hcol h d)) = band (argZ m c) 2 (batch t.val ht) h (16 * (t.val % 16) + k.val) r d := by
  obtain ⟨e0, e1, e2⟩ := index2 t
  unfold band argZ
  rw [← V_main_arg0 m c]
  show V m c main_arg0 (((cfg0.win 2).blk t).view.emb (ix3 0 (brow k r) (hcol h d))) = V m c main_arg0 (ix3 _ _ _)
  refine congrArg _ (funext fun a => Fin.ext ?_)
  match a with
  | ⟨0, _⟩ => show win0_2.index t (0 : Fin 3) * 1 + 1 * 0 = t.val / 16; omega
  | ⟨1, _⟩ => show win0_2.index t (1 : Fin 3) * 256 + 1 * (16 * k.val + r.val) = (16 * (16 * (t.val % 16) + k.val) + r.val) % 4096; omega
  | ⟨2, _⟩ => show win0_2.index t (2 : Fin 3) * 1024 + 1 * (128 * h.val + d.val) = 1024 * 2 + (128 * h.val + d.val); omega

theorem iblk3_apply (c : Dev nD) (t : Fin cfg0.N) (ht : t.val < 256) (k r : Fin 16) (h : Fin 8) (d : Fin 128) :
    iblk m c 3 t (ix3 0 (brow k r) (hcol h d)) = band (argZ m c) 3 (batch t.val ht) h (16 * (t.val % 16) + k.val) r d := by
  obtain ⟨e0, e1, e2⟩ := index3 t
  unfold band argZ
  rw [← V_main_arg0 m c]
  show V m c main_arg0 (((cfg0.win 3).blk t).view.emb (ix3 0 (brow k r) (hcol h d))) = V m c main_arg0 (ix3 _ _ _)
  refine congrArg _ (funext fun a => Fin.ext ?_)
  match a with
  | ⟨0, _⟩ => show win0_3.index t (0 : Fin 3) * 1 + 1 * 0 = t.val / 16; omega
  | ⟨1, _⟩ => show win0_3.index t (1 : Fin 3) * 256 + 1 * (16 * k.val + r.val) = (16 * (16 * (t.val % 16) + k.val) + r.val) % 4096; omega
  | ⟨2, _⟩ => show win0_3.index t (2 : Fin 3) * 1024 + 1 * (128 * h.val + d.val) = 1024 * 3 + (128 * h.val + d.val); omega

/-- The region finds the lower bound and the gain reshaped. -/
theorem V_bound (c : Dev nD) : V m c main_v0 = shapeCast S8x1x128 (argL m c) shapeCasts_S1024_S8x1x128 := by
  unfold V
  after_results
  rfl
theorem V_gain (c : Dev nD) : V m c main_v1 = shapeCast S1x1x128 (argN m c) shapeCasts_S128_S1x1x128 := by
  unfold V
  after_results
  rfl

theorem iblk4_apply (c : Dev nD) (t : Fin cfg0.N) (h : Fin 8) (d : Fin 128) : iblk m c 4 t (ix3 h 0 d) = bound (argL m c) h d := by
  obtain ⟨e0, e1, e2⟩ := index4 t
  have e : iblk m c 4 t (ix3 h 0 d) = V m c main_v0 (ix3 h 0 d) := by
    show V m c main_v0 (((cfg0.win 4).blk t).view.emb (ix3 h 0 d)) = V m c main_v0 (ix3 h 0 d)
    refine congrArg _ (funext fun a => Fin.ext ?_)
    match a with
    | ⟨0, _⟩ => show win0_4.index t (0 : Fin 3) * 8 + 1 * h.val = h.val; omega
    | ⟨1, _⟩ => show win0_4.index t (1 : Fin 3) * 1 + 1 * 0 = 0; omega
    | ⟨2, _⟩ => show win0_4.index t (2 : Fin 3) * 128 + 1 * d.val = d.val; omega
  rw [e, V_bound]
  refine shapeCast_apply _ _ _ _ ?_
  rw [rowMajor_val3 _ (1 * 128) 128 rfl rfl, rowMajor_val1]
  show 128 * h.val + d.val = h.val * (1 * 128) + 0 * 128 + d.val
  omega

theorem iblk5_apply (c : Dev nD) (t : Fin cfg0.N) (d : Fin 128) : iblk m c 5 t (ix3 0 0 d) = argN m c (ix1 d) := by
  obtain ⟨e0, e1, e2⟩ := index5 t
  have e : iblk m c 5 t (ix3 0 0 d) = V m c main_v1 (ix3 0 0 d) := by
    show V m c main_v1 (((cfg0.win 5).blk t).view.emb (ix3 0 0 d)) = V m c main_v1 (ix3 0 0 d)
    refine congrArg _ (funext fun a => Fin.ext ?_)
    match a with
    | ⟨0, _⟩ => show win0_5.index t (0 : Fin 3) * 1 + 1 * 0 = 0; omega
    | ⟨1, _⟩ => show win0_5.index t (1 : Fin 3) * 1 + 1 * 0 = 0; omega
    | ⟨2, _⟩ => show win0_5.index t (2 : Fin 3) * 128 + 1 * d.val = d.val; omega
  rw [e, V_gain]
  refine shapeCast_apply _ _ _ _ ?_
  rw [rowMajor_val3 _ (1 * 128) 128 rfl rfl, rowMajor_val1]
  show d.val = 0 * (1 * 128) + 0 * 128 + d.val
  omega

/-- What a point leaves, over some state that is the recurrence's before the point's first chunk. -/
def Leaves (c : Dev nD) (n : ℕ) (hn : n < cfg0.N) (hN : n < 256) : Prop :=
  ∃ st : FVec Ideal S8x128x128 .f32, (∀ h a d, st (ix3 h a d) = stateAt (argZ m c) (argL m c) (batch n hN) h (16 * (n % 16)) d a)
    ∧ (outsAt0 m c n hn).2 = stateAfter (iblk m c 4 ⟨n, hn⟩) (iblk m c 1 ⟨n, hn⟩) (iblk m c 2 ⟨n, hn⟩) st 16
    ∧ (outsAt0 m c n hn).1 = View.canon (heads8 (blockOut (iblk m c 4 ⟨n, hn⟩) (iblk m c 5 ⟨n, hn⟩) (iblk m c 0 ⟨n, hn⟩) (iblk m c 1 ⟨n, hn⟩)
        (iblk m c 2 ⟨n, hn⟩) (iblk m c 3 ⟨n, hn⟩) st))

variable {m}

theorem left_state {c : Dev nD} (H : Fits (argZ m c) (argL m c)) {n : ℕ} {hn : n < cfg0.N} {hN : n < 256} (L : Leaves m c n hn hN) (h : Fin 8) (a d : Fin 128) :
    (outsAt0 m c n hn).2 (ix3 h a d) = stateAt (argZ m c) (argL m c) (batch n hN) h (16 * (n % 16) + 16) d a := by
  obtain ⟨st, hs, e, -⟩ := L
  rw [e]
  exact stateAfter_apply _ _ _ _ h (16 * (n % 16)) _ _ _ (fun k r d => iblk1_apply m c ⟨n, hn⟩ hN k r h d)
    (fun k r d => iblk2_apply m c ⟨n, hn⟩ hN k r h d) (fun d => iblk4_apply m c ⟨n, hn⟩ h d)
    (fun d => (H.2 h d).1) (fun d => (H.2 h d).2) (H.1 (batch n hN) h) (hs h) 16 le_rfl a d

theorem left_out {c : Dev nD} (H : Fits (argZ m c) (argL m c)) {n : ℕ} {hn : n < cfg0.N} {hN : n < 256} (L : Leaves m c n hn hN) (h : Fin 8) (k r : Fin 16) (v : Fin 128) :
    (outsAt0 m c n hn).1 (ix3 0 (brow k r) (hcol h v)) = outAt (argZ m c) (argL m c) (argN m c) (batch n hN) h (16 * (n % 16) + k.val) r v := by
  obtain ⟨st, hs, -, e⟩ := L
  rw [e, heads8_apply]
  refine (blockOut_apply _ _ _ _ _ _ _ h (16 * (n % 16)) _ _ _ _ (fun k r d => iblk0_apply m c ⟨n, hn⟩ hN k r h d)
    (fun k r d => iblk1_apply m c ⟨n, hn⟩ hN k r h d)
    (fun k r d => iblk2_apply m c ⟨n, hn⟩ hN k r h d) (fun d => iblk4_apply m c ⟨n, hn⟩ h d)
    (fun d => (H.2 h d).1) (fun d => (H.2 h d).2) (H.1 (batch n hN) h) (hs h) k r v).trans ?_
  rw [iblk3_apply m c ⟨n, hn⟩ hN]
  exact congrArg (fun g => gated _ g _ v) (funext fun u => iblk5_apply m c ⟨n, hn⟩ u)

theorem pay6_apply (i : S8x128x128.Idx) : k0_pay6 (F := Ideal) i = 0 := Ideal.ofBits_zero_f32

/-- At the first block of a sequence the state is the zeros stored there; -/
theorem leaves_first (c : Dev nD) (n : ℕ) (hn : n < cfg0.N) (hN : n < 256) (h0 : n % 16 = 0) : Leaves m c n hn hN := by
  refine ⟨k0_pay6, fun h a d => ?_, ?_, ?_⟩
  · rw [pay6_apply, h0]
    rfl
  · rw [outsAt0_A m c ⟨n, hn⟩ h0, sout_A]
  · rw [outsAt0_A m c ⟨n, hn⟩ h0, out_A]

/-- at a later one it is what the block before left. -/
theorem leaves_later (c : Dev nD) (t : Fin cfg0.N) (hN : t.val < 256) (h0 : ¬t.val % 16 = 0)
    (hs : ∀ h a d, (outsAt0 m c (t.val - 1) (Nat.lt_of_le_of_lt (Nat.sub_le t.val 1) t.isLt)).2 (ix3 h a d)
      = stateAt (argZ m c) (argL m c) (batch t.val hN) h (16 * (t.val % 16)) d a) : Leaves m c t.val t.isLt hN := by
  refine ⟨_, hs, ?_, ?_⟩
  · rw [outsAt0_B m c t h0, sout_B]
  · rw [outsAt0_B m c t h0, out_B]

theorem leaves (c : Dev nD) (H : Fits (argZ m c) (argL m c)) : ∀ (n : ℕ) (hn : n < cfg0.N) (hN : n < 256), Leaves m c n hn hN
  | 0, hn, hN => leaves_first c 0 hn hN rfl
  | n + 1, hn, hN => by
    by_cases h0 : (n + 1) % 16 = 0
    · exact leaves_first c _ hn hN h0
    · refine leaves_later c ⟨n + 1, hn⟩ hN h0 fun h a d => (left_state H (leaves c H n (by omega) (by omega)) h a d).trans ?_
      show stateAt (argZ m c) (argL m c) (batch n _) h (16 * (n % 16) + 16) d a = stateAt (argZ m c) (argL m c) (batch (n + 1) hN) h (16 * ((n + 1) % 16)) d a
      rw [show batch n (by omega) = batch (n + 1) hN from Fin.ext (by show n / 16 = (n + 1) / 16; omega),
        show 16 * (n % 16) + 16 = 16 * ((n + 1) % 16) by omega]

variable (m)

/-- The result array holds the recurrence's whole result. -/
theorem result_apply (c : Dev nD) (H : Fits (argZ m c) (argL m c)) (b : Fin 16) (n : Fin 256) (r : Fin 16) (h : Fin 8) (v : Fin 128) :
    G6 m c (ix3 b (tok n.val r) (lane h v)) = outAt (argZ m c) (argL m c) (argN m c) b h n.val r v := by
  have hp : pt6Of (ix3 b (tok n.val r) (lane h v)) = 16 * b.val + n.val / 16 := by
    show 16 * (b.val / 1 - 0) + 1 * ((16 * n.val + r.val) % 4096 / 256 - 0) + 1 * ((128 * h.val + v.val) / 1024 - 0) = _
    omega
  have hN : 16 * b.val + n.val / 16 < 256 := by omega
  have hn : 16 * b.val + n.val / 16 < cfg0.N := lt_of_lt_of_eq hN N_0.symm
  have hl : loc6Of (ix3 b (tok n.val r) (lane h v)) = ix3 0 (brow ⟨n.val % 16, by omega⟩ r) (hcol h v) := by
    funext a
    refine Fin.ext ?_
    match a with
    | ⟨0, _⟩ => show b.val % 1 = 0; omega
    | ⟨1, _⟩ => show (16 * n.val + r.val) % 4096 % 256 = 16 * (n.val % 16) + r.val; omega
    | ⟨2, _⟩ => show (128 * h.val + v.val) % 1024 = 128 * h.val + v.val; omega
  unfold G6
  rw [dif_pos (hp ▸ hn), fold0_congr m c _ _ _ (by omega) hp, ← outsAt0_sweep m c _ hn, hl, left_out H (leaves c H _ hn hN)]
  rw [show batch (16 * b.val + n.val / 16) hN = b from Fin.ext (by show (16 * b.val + n.val / 16) / 16 = b.val; omega),
    show 16 * ((16 * b.val + n.val / 16) % 16) + n.val % 16 = n.val by omega]

end Cert.Own.Hgrn

end
-- ==== Proof.HgrnRefSum.lean ====
/- The reference's running sum within a chunk, printed as a sum over windows of 16 positions that start 15 positions early: read at
   an index it is the sum of the entries up to it. -/
module

public import proofs.«01_k».proof.Proof.HgrnMath
public import proofs.«01_k».proof.Proof.Gen.ReferenceIdeal

@[expose] public section

set_option maxRecDepth 8192

noncomputable section

namespace Cert.Own.Hgrn

open Cert.ReferenceIdeal Cert.ReferenceIdeal.Gen Idealize.ShloMosaic

theorem foldl_add {N : ℕ} (g : Fin N → EReal) : ∀ (L : List (Fin N)) (v : EReal), L.foldl (fun r n => r + g n) v = v + (L.map g).sum
  | [], v => (add_zero v).symm
  | n :: L, v => by
    rw [List.foldl_cons, foldl_add g L, List.map_cons, List.sum_cons, add_assoc]

/-- A window of 16 that starts 15 early holds the entries up to the position, and padding. -/
theorem window_sum (g : Fin 16 → EReal) (r : Fin 16) :
    ∑ n : Fin 16, (if h : 15 ≤ r.val + n.val ∧ r.val + n.val - 15 < 16 then g ⟨r.val + n.val - 15, h.2⟩ else 0) = cum g r := by
  have e : ∀ n : Fin 16, (if h : 15 ≤ r.val + n.val ∧ r.val + n.val - 15 < 16 then g ⟨r.val + n.val - 15, h.2⟩ else 0)
      = ∑ j : Fin 16, if r.val + n.val = j.val + 15 then g j else 0 := by
    intro n
    by_cases h : 15 ≤ r.val + n.val ∧ r.val + n.val - 15 < 16
    · rw [dif_pos h, Finset.sum_eq_single ⟨r.val + n.val - 15, h.2⟩]
      · rw [if_pos (by simp only; omega)]
      · intro j _ hj
        rw [if_neg]
        intro hh
        exact hj (Fin.ext (by simp only; omega))
      · exact fun h => absurd (Finset.mem_univ _) h
    · rw [dif_neg h, Finset.sum_eq_zero]
      intro j _
      rw [if_neg]
      omega
  rw [Finset.sum_congr rfl fun n _ => e n, Finset.sum_comm]
  refine Finset.sum_congr rfl fun j _ => ?_
  by_cases h : j ≤ r
  · have h' : j.val ≤ r.val := h
    rw [if_pos h, Finset.sum_eq_single ⟨j.val + 15 - r.val, by omega⟩]
    · rw [if_pos (by simp only; omega)]
    · intro n _ hn
      rw [if_neg]
      intro hh
      exact hn (Fin.ext (by simp only; omega))
    · exact fun h => absurd (Finset.mem_univ _) h
  · have h' : ¬j.val ≤ r.val := h
    rw [if_neg h, Finset.sum_eq_zero]
    intro n _
    rw [if_neg]
    omega

abbrev Win : Shape := ⟨5, ![1, 1, 1, 16, 1]⟩

theorem win_ix (y : Win.Idx) : y = ix5 0 0 0 (y 3) 0 := by
  funext a
  refine Fin.ext ?_
  match a with
  | ⟨0, _⟩ => exact Nat.lt_one_iff.1 (y 0).isLt
  | ⟨1, _⟩ => exact Nat.lt_one_iff.1 (y 1).isLt
  | ⟨2, _⟩ => exact Nat.lt_one_iff.1 (y 2).isLt
  | ⟨3, _⟩ => rfl
  | ⟨4, _⟩ => exact Nat.lt_one_iff.1 (y 4).isLt

/-- The positions of a window are its 16 rows. -/
theorem win_sum (g : Win.Idx → EReal) : ∑ y, g y = ∑ k : Fin 16, g (ix5 0 0 0 k 0) :=
  Finset.sum_nbij' (fun y => (y 3 : Fin 16)) (fun k => ix5 0 0 0 k 0) (fun _ _ => Finset.mem_univ _) (fun _ _ => Finset.mem_univ _)
    (fun y _ => (win_ix y).symm) (fun _ _ => rfl) (fun y _ => congrArg g (win_ix y))

theorem cumsum_apply (x : FVec Ideal S16x8x256x16x128 .f32) (v : FVec Ideal S_ .f32) (hv : ∀ i, v i = 0) (H : S16x8x256x16x128.ReduceWindows ![1, 1, 1, 16, 1] ![1, 1, 1, 1, 1] ![0, 0, 0, 15, 0] ![0, 0, 0, 0, 0] S16x8x256x16x128) (hu : 0 < S_.numel)
    (b : Fin 16) (h : Fin 8) (n : Fin 256) (r : Fin 16) (d : Fin 128) :
    Host.reduceWindowAdd ![1, 1, 1, 16, 1] ![1, 1, 1, 1, 1] ![0, 0, 0, 15, 0] ![0, 0, 0, 0, 0] x v H hu (ix5 b h n r d)
      = cum (fun j => x (ix5 b h n j d)) r := by
  unfold Host.reduceWindowAdd
  rw [Ideal.hostReduceWindowAdd_def]
  unfold Ideal.hostReduceWindowAdd Host.reduceWindow
  dsimp only
  rw [foldl_add, hv, zero_add, ← List.ofFn_eq_map, List.sum_ofFn, ← window_sum]
  refine (Fintype.sum_equiv Win.rowMajor.symm _ (fun y : Win.Idx => if h' : 15 ≤ r.val + (y 3).val ∧ r.val + (y 3).val - 15 < 16
    then x (ix5 b h n ⟨r.val + (y 3).val - 15, h'.2⟩ d) else 0) (fun k => ?_)).trans (win_sum _)
  have y0 : (Win.rowMajor.symm k 0).val = 0 := Nat.lt_one_iff.1 (Win.rowMajor.symm k 0).isLt
  have y1 : (Win.rowMajor.symm k 1).val = 0 := Nat.lt_one_iff.1 (Win.rowMajor.symm k 1).isLt
  have y2 : (Win.rowMajor.symm k 2).val = 0 := Nat.lt_one_iff.1 (Win.rowMajor.symm k 2).isLt
  have y4 : (Win.rowMajor.symm k 4).val = 0 := Nat.lt_one_iff.1 (Win.rowMajor.symm k 4).isLt
  by_cases hk : 15 ≤ r.val + (Win.rowMajor.symm k 3).val ∧ r.val + (Win.rowMajor.symm k 3).val - 15 < 16
  · rw [dif_pos hk, dif_pos]
    · refine congrArg x (funext fun a => Fin.ext ?_)
      match a with
      | ⟨0, _⟩ => show b.val * 1 + (Win.rowMajor.symm k 0).val - 0 = b.val; omega
      | ⟨1, _⟩ => show h.val * 1 + (Win.rowMajor.symm k 1).val - 0 = h.val; omega
      | ⟨2, _⟩ => show n.val * 1 + (Win.rowMajor.symm k 2).val - 0 = n.val; omega
      | ⟨3, _⟩ => show r.val * 1 + (Win.rowMajor.symm k 3).val - 15 = r.val + (Win.rowMajor.symm k 3).val - 15; omega
      | ⟨4, _⟩ => show d.val * 1 + (Win.rowMajor.symm k 4).val - 0 = d.val; omega
    · intro a
      match a with
      | ⟨0, _⟩ => show 0 ≤ b.val * 1 + (Win.rowMajor.symm k 0).val ∧ b.val * 1 + (Win.rowMajor.symm k 0).val - 0 < 16; omega
      | ⟨1, _⟩ => show 0 ≤ h.val * 1 + (Win.rowMajor.symm k 1).val ∧ h.val * 1 + (Win.rowMajor.symm k 1).val - 0 < 8; omega
      | ⟨2, _⟩ => show 0 ≤ n.val * 1 + (Win.rowMajor.symm k 2).val ∧ n.val * 1 + (Win.rowMajor.symm k 2).val - 0 < 256; omega
      | ⟨3, _⟩ => show 15 ≤ r.val * 1 + (Win.rowMajor.symm k 3).val ∧ r.val * 1 + (Win.rowMajor.symm k 3).val - 15 < 16; omega
      | ⟨4, _⟩ => show 0 ≤ d.val * 1 + (Win.rowMajor.symm k 4).val ∧ d.val * 1 + (Win.rowMajor.symm k 4).val - 0 < 128; omega
  · rw [dif_neg hk, dif_neg]
    intro hin
    have h3 : 15 ≤ r.val * 1 + (Win.rowMajor.symm k 3).val ∧ r.val * 1 + (Win.rowMajor.symm k 3).val - 15 < 16 := hin 3
    omega

end Cert.Own.Hgrn

end
-- ==== Proof.HgrnRefDefs.lean ====
/- The reference's arrays named: what its host operations compute before its loop, and after it from what the loop leaves. -/
module

public import proofs.«01_k».proof.Proof.HgrnRefSum
public import proofs.«01_k».proof.Proof.HgrnRefFrame

@[expose] public section

set_option maxRecDepth 8192

noncomputable section

namespace Cert.Own.Hgrn

open Cert.ReferenceIdeal Cert.ReferenceIdeal.Gen Cert.ReferenceIdeal.Value
open Idealize.ShloMosaic Idealize.ShloMosaic.TcCoe Idealize.ShloMosaic.StableHlo Idealize.SL.Sem

/-- The sigmoid as the host writes it. -/
def sg4 (x : FVec Ideal S16x4096x8x128 .f32) : FVec Ideal S16x4096x8x128 .f32 :=
  Host.divf (broadcastInDim S16x4096x8x128 ![] bcast_S_S16x4096x8x128 (constant S_ .f32 0x3F800000#32))
    (addf (broadcastInDim S16x4096x8x128 ![] bcast_S_S16x4096x8x128 (constant S_ .f32 0x3F800000#32)) (Host.exp (Host.negf x)))
def sg3 (x : FVec Ideal S16x4096x1024 .f32) : FVec Ideal S16x4096x1024 .f32 :=
  Host.divf (broadcastInDim S16x4096x1024 ![] bcast_S_S16x4096x1024 (constant S_ .f32 0x3F800000#32))
    (addf (broadcastInDim S16x4096x1024 ![] bcast_S_S16x4096x1024 (constant S_ .f32 0x3F800000#32)) (Host.exp (Host.negf x)))

/-- The lower bound by heads, and one minus it, over all tokens. -/
def lb2 (L : FVec Ideal S1024 .f32) : FVec Ideal S8x128 .f32 := shapeCast S8x128 L shapeCasts_S1024_S8x128
def over (x : FVec Ideal S8x128 .f32) : FVec Ideal S16x4096x8x128 .f32 :=
  broadcastInDim S16x4096x8x128 ![0, 1, 2, 3] bcast_S1x1x8x128_S16x4096x8x128_0_1_2_3 (broadcastInDim S1x1x8x128 ![2, 3] bcast_S8x128_S1x1x8x128_2_3 x)
def lb2' (L : FVec Ideal S1024 .f32) : FVec Ideal S8x128 .f32 :=
  subf (broadcastInDim S8x128 ![] bcast_S_S8x128 (constant S_ .f32 0x3F800000#32)) (lb2 L)

/-- A band by heads, and by heads and chunks. -/
def by4 (x : FVec Ideal S16x4096x1024 .f32) : FVec Ideal S16x4096x8x128 .f32 := shapeCast S16x4096x8x128 x shapeCasts_S16x4096x1024_S16x4096x8x128
def by5 (x : FVec Ideal S16x4096x8x128 .f32) : FVec Ideal S16x8x256x16x128 .f32 :=
  transpose S16x8x256x16x128 [0, 3, 1, 2, 4] (shapeCast S16x256x16x8x128 x shapeCasts_S16x4096x8x128_S16x256x16x8x128)
    transposes_S16x256x16x8x128_S16x8x256x16x128_0_3_1_2_4

section Before

variable (Z : FVec Ideal S16x4096x4096 .f32) (L : FVec Ideal S1024 .f32)

def rF : FVec Ideal S16x4096x8x128 .f32 := by4 (extractStridedSlice S16x4096x1024 ![0, 0, 1024] Z slices_S16x4096x4096_S16x4096x1024_0_0_1024)
def rForget : FVec Ideal S16x4096x8x128 .f32 := addf (over (lb2 L)) (mulf (over (lb2' L)) (sg4 (rF Z)))
def rQ4 : FVec Ideal S16x4096x8x128 .f32 := by4 (extractStridedSlice S16x4096x1024 ![0, 0, 0] Z slices_S16x4096x4096_S16x4096x1024_0_0_0)
def rQ : FVec Ideal S16x8x256x16x128 .f32 := by5 (mulf (rQ4 Z) (sg4 (rQ4 Z)))
def rK : FVec Ideal S16x8x256x16x128 .f32 := by5 (mulf (over (lb2' L)) (sg4 (Host.negf (rF Z))))
def rV : FVec Ideal S16x8x256x16x128 .f32 := by5 (by4 (extractStridedSlice S16x4096x1024 ![0, 0, 2048] Z slices_S16x4096x4096_S16x4096x1024_0_0_2048))
def rL : FVec Ideal S16x8x256x16x128 .f32 := by5 (Host.log (rForget Z L))
def rG : FVec Ideal S16x4096x1024 .f32 := extractStridedSlice S16x4096x1024 ![0, 0, 3072] Z slices_S16x4096x4096_S16x4096x1024_0_0_3072

/-- The running sums of the logarithms, and each chunk's last. -/
def rB : FVec Ideal S16x8x256x16x128 .f32 :=
  Host.reduceWindowAdd ![1, 1, 1, 16, 1] ![1, 1, 1, 1, 1] ![0, 0, 0, 15, 0] ![0, 0, 0, 0, 0] (rL Z L)
    (broadcastInDim S_ ![] bcast_S_S_ (constant S_ .f32 0x00000000#32 : FVec Ideal S_ .f32)) reduceWindows_S16x8x256x16x128_S16x8x256x16x128_w1s1p0_0_w1s1p0_0_w1s1p0_0_w16s1p15_0_w1s1p0_0 h_S_
def rLast : FVec Ideal S16x8x256x1x128 .f32 := extractStridedSlice S16x8x256x1x128 ![0, 0, 0, 15, 0] (rB Z L) slices_S16x8x256x16x128_S16x8x256x1x128_0_0_0_15_0

def rQe : FVec Ideal S16x8x256x16x128 .f32 := mulf (rQ Z) (Host.exp (rB Z L))
def rKe : FVec Ideal S16x8x256x16x128 .f32 := mulf (rK Z L) (Host.exp (Host.negf (rB Z L)))
def rKt : FVec Ideal S16x8x256x16x128 .f32 :=
  mulf (rK Z L) (Host.exp (subf (broadcastInDim S16x8x256x16x128 ![0, 1, 2, 3, 4] bcast_S16x8x256x1x128_S16x8x256x16x128_0_1_2_3_4 (rLast Z L)) (rB Z L)))

def maskBits : IVec S16x16 1 := fun i => lit0 (S16x16.rowMajor i)

/-- The rows' sums within their chunk. -/
def rIntra : FVec Ideal S16x8x256x16x128 .f32 :=
  Host.dotGeneral dot_S16x8x256x16x16_S16x8x256x16x128_S16x8x256x16x128_4_3_3_4_012_012 none
    (select (broadcastInDim S16x8x256x16x16 ![3, 4] bcast_S16x16_S16x8x256x16x16_3_4 maskBits)
      (Host.dotGeneral dot_S16x8x256x16x128_S16x8x256x16x128_S16x8x256x16x16_4_4_3_3_012_012 none (rQe Z L) (rKe Z L))
      (broadcastInDim S16x8x256x16x16 ![] bcast_S_S16x8x256x16x16 (constant S_ .f32 0x00000000#32)))
    (rV Z)

def chunksFirst (x : FVec Ideal S16x8x256x16x128 .f32) : FVec Ideal S256x16x8x16x128 .f32 :=
  transpose S256x16x8x16x128 [2, 0, 1, 3, 4] x transposes_S16x8x256x16x128_S256x16x8x16x128_2_0_1_3_4
def rDecay : FVec Ideal S256x16x8x128 .f32 :=
  transpose S256x16x8x128 [2, 0, 1, 3] (Host.exp (shapeCast S16x8x256x128 (rLast Z L) shapeCasts_S16x8x256x1x128_S16x8x256x128))
    transposes_S16x8x256x128_S256x16x8x128_2_0_1_3

end Before

/-- What the reference does after its loop, from the sums within the chunks, the loop's rows, the gate's band and the gain. -/
def rOut4 (A : FVec Ideal S16x8x256x16x128 .f32) (B : FVec Ideal S256x16x8x16x128 .f32) : FVec Ideal S16x4096x8x128 .f32 :=
  shapeCast S16x4096x8x128 (transpose S16x256x16x8x128 [0, 2, 3, 1, 4] (addf A (transpose S16x8x256x16x128 [1, 2, 0, 3, 4] B
      transposes_S256x16x8x16x128_S16x8x256x16x128_1_2_0_3_4)) transposes_S16x8x256x16x128_S16x256x16x8x128_0_2_3_1_4) shapeCasts_S16x256x16x8x128_S16x4096x8x128
def rNormed (x : FVec Ideal S16x4096x8x128 .f32) (N : FVec Ideal S128 .f32) : FVec Ideal S16x4096x8x128 .f32 :=
  mulf (mulf x (broadcastInDim S16x4096x8x128 ![0, 1, 2, 3] bcast_S16x4096x8x1_S16x4096x8x128_0_1_2_3
      (Host.rsqrt (addf (Host.divf (broadcastInDim S16x4096x8x1 ![0, 1, 2] bcast_S16x4096x8_S16x4096x8x1_0_1_2
          (Host.reduceAdd (mulf x x) (constant S_ .f32 0x00000000#32) reducesTo_S16x4096x8x128_S16x4096x8_d3 h_S_))
        (broadcastInDim S16x4096x8x1 ![] bcast_S_S16x4096x8x1 (constant S_ .f32 0x43000000#32)))
        (broadcastInDim S16x4096x8x1 ![] bcast_S_S16x4096x8x1 (constant S_ .f32 0x3727C5AC#32))))))
    (broadcastInDim S16x4096x8x128 ![0, 1, 2, 3] bcast_S1x1x1x128_S16x4096x8x128_0_1_2_3 (broadcastInDim S1x1x1x128 ![3] bcast_S128_S1x1x1x128_3 N))
def rOut (A : FVec Ideal S16x8x256x16x128 .f32) (B : FVec Ideal S256x16x8x16x128 .f32) (G : FVec Ideal S16x4096x1024 .f32) (N : FVec Ideal S128 .f32) :
    FVec Ideal S16x4096x1024 .f32 :=
  mulf (shapeCast S16x4096x1024 (rNormed (rOut4 A B) N) shapeCasts_S16x4096x8x128_S16x4096x1024) (mulf G (sg3 G))

variable (V : Valuation τ sig (Elt Ideal))

/-- The loop's entry, buffer by buffer. -/
theorem entry_qe : afterL preI V (Proc.devRef .tc main_v66_0) = chunksFirst (rQe (V (Proc.devRef .tc main_arg0)) (V (Proc.devRef .tc main_arg1))) := by
  simp only [afterL_cons, afterL_nil]
  after_results
  rfl
theorem entry_kt : afterL preI V (Proc.devRef .tc main_v66_1) = chunksFirst (rKt (V (Proc.devRef .tc main_arg0)) (V (Proc.devRef .tc main_arg1))) := by
  simp only [afterL_cons, afterL_nil]
  after_results
  rfl
theorem entry_v : afterL preI V (Proc.devRef .tc main_v66_2) = chunksFirst (rV (V (Proc.devRef .tc main_arg0))) := by
  simp only [afterL_cons, afterL_nil]
  after_results
  rfl
theorem entry_decay : afterL preI V (Proc.devRef .tc main_v66_3) = rDecay (V (Proc.devRef .tc main_arg0)) (V (Proc.devRef .tc main_arg1)) := by
  simp only [afterL_cons, afterL_nil]
  after_results
  rfl
theorem entry_state : afterL preI V (Proc.devRef .tc main_v66_5)
    = broadcastInDim S16x8x128x128 ![] bcast_S_S16x8x128x128 (constant S_ .f32 0x00000000#32 : FVec Ideal S_ .f32) := by
  simp only [afterL_cons, afterL_nil]
  after_results
  rfl
theorem entry_intra : afterL preI V (Proc.devRef .tc main_v57) = rIntra (V (Proc.devRef .tc main_arg0)) (V (Proc.devRef .tc main_arg1)) := by
  simp only [afterL_cons, afterL_nil]
  after_results
  rfl
theorem entry_gate : afterL preI V (Proc.devRef .tc main_v3) = rG (V (Proc.devRef .tc main_arg0)) := by
  simp only [afterL_cons, afterL_nil]
  after_results
  rfl

/-- The result, from what the loop leaves. -/
theorem exit_out : afterL postI V (Proc.devRef .tc main_v86) = rOut (V (Proc.devRef .tc main_v57)) (V (Proc.devRef .tc main_v66_6)) (V (Proc.devRef .tc main_v3))
    (V (Proc.devRef .tc main_arg2)) := by
  simp only [afterL_cons, afterL_nil]
  after_results
  rfl

end Cert.Own.Hgrn

end
-- ==== Proof.HgrnRefRead.lean ====
/- The reference's arrays read at an index: the recurrence's inputs, the sums within a chunk, and what its loop carries in. -/
module

public import proofs.«01_k».proof.Proof.HgrnRefDefs
public import proofs.«01_k».proof.Proof.HgrnSpec
public import Idealize.ShloMosaic.Lib.KernelVsHost

@[expose] public section

set_option maxRecDepth 16384

noncomputable section

namespace Cert.Own.Hgrn

open Cert.ReferenceIdeal Cert.ReferenceIdeal.Gen Idealize.ShloMosaic Idealize.ShloMosaic.TcCoe Idealize.SL.Sem

theorem sg4_apply (x : FVec Ideal S16x4096x8x128 .f32) (i : S16x4096x8x128.Idx) : sg4 x i = Ideal.logistic (x i) := by
  show Ideal.div (Ideal.ofBits .f32 0x3F800000#32) (Ideal.ofBits .f32 0x3F800000#32 + Ideal.exp (-(x i))) = _
  rw [Ideal.ofBits_one_f32]
  rfl
theorem sg3_apply (x : FVec Ideal S16x4096x1024 .f32) (i : S16x4096x1024.Idx) : sg3 x i = Ideal.logistic (x i) := by
  show Ideal.div (Ideal.ofBits .f32 0x3F800000#32) (Ideal.ofBits .f32 0x3F800000#32 + Ideal.exp (-(x i))) = _
  rw [Ideal.ofBits_one_f32]
  rfl

theorem by4_apply (x : FVec Ideal S16x4096x1024 .f32) (b : Fin 16) (t : Fin 4096) (h : Fin 8) (d : Fin 128) :
    by4 x (ix4 b t h d) = x (ix3 b t (lane h d)) := by
  refine shapeCast_apply x _ _ _ ?_
  rw [rowMajor_val3 _ (4096 * 1024) 1024 rfl rfl, rowMajor_val4 _ (4096 * (8 * 128)) (8 * 128) 128 rfl rfl rfl]
  show b.val * (4096 * 1024) + t.val * 1024 + (128 * h.val + d.val) = b.val * (4096 * (8 * 128)) + t.val * (8 * 128) + h.val * 128 + d.val
  omega

theorem chunked_apply (x : FVec Ideal S16x4096x8x128 .f32) (b : Fin 16) (h : Fin 8) (n : Fin 256) (r : Fin 16) (d : Fin 128) :
    shapeCast S16x256x16x8x128 x shapeCasts_S16x4096x8x128_S16x256x16x8x128 (ix5 b n r h d) = x (ix4 b (tok n.val r) h d) := by
  refine shapeCast_apply x _ _ _ ?_
  rw [rowMajor_val4 _ (4096 * (8 * 128)) (8 * 128) 128 rfl rfl rfl, rowMajor_val5 _ (256 * (16 * (8 * 128))) (16 * (8 * 128)) (8 * 128) 128 rfl rfl rfl rfl]
  show b.val * (4096 * (8 * 128)) + (16 * n.val + r.val) % 4096 * (8 * 128) + h.val * 128 + d.val
    = b.val * (256 * (16 * (8 * 128))) + n.val * (16 * (8 * 128)) + r.val * (8 * 128) + h.val * 128 + d.val
  omega

theorem by5_apply (x : FVec Ideal S16x4096x8x128 .f32) (b : Fin 16) (h : Fin 8) (n : Fin 256) (r : Fin 16) (d : Fin 128) :
    by5 x (ix5 b h n r d) = x (ix4 b (tok n.val r) h d) := by
  rw [← chunked_apply x]
  unfold by5
  generalize shapeCast S16x256x16x8x128 x shapeCasts_S16x4096x8x128_S16x256x16x8x128 = y
  pointwise

theorem lb2_apply (L : FVec Ideal S1024 .f32) (h : Fin 8) (d : Fin 128) : lb2 L (ix2 h d) = bound L h d := by
  refine shapeCast_apply L _ _ _ ?_
  rw [rowMajor_val1 _, rowMajor_val2 _ 128 rfl]
  show 128 * h.val + d.val = h.val * 128 + d.val
  omega

theorem over_apply (x : FVec Ideal S8x128 .f32) (b : Fin 16) (t : Fin 4096) (h : Fin 8) (d : Fin 128) : over x (ix4 b t h d) = x (ix2 h d) := by
  pointwise [over]

theorem lb2'_apply (L : FVec Ideal S1024 .f32) (h : Fin 8) (d : Fin 128) : lb2' L (ix2 h d) = 1 - bound L h d := by
  show Ideal.ofBits .f32 0x3F800000#32 - lb2 L (ix2 h d) = _
  rw [Ideal.ofBits_one_f32, lb2_apply]

variable (Z : FVec Ideal S16x4096x4096 .f32) (L : FVec Ideal S1024 .f32) (b : Fin 16) (h : Fin 8) (n : Fin 256) (r : Fin 16) (d : Fin 128)

theorem slice0 (t : Fin 4096) : extractStridedSlice S16x4096x1024 ![0, 0, 0] Z slices_S16x4096x4096_S16x4096x1024_0_0_0 (ix3 b t (lane h d)) = Z (ix3 b t (col 0 h d)) :=
  congrArg Z (funext fun a => Fin.ext (by
    fin_cases a
    · exact Nat.zero_add _
    · exact Nat.zero_add _
    · show 0 + (128 * h.val + d.val) = 1024 * 0 + (128 * h.val + d.val)
      omega))
theorem slice1 (t : Fin 4096) : extractStridedSlice S16x4096x1024 ![0, 0, 1024] Z slices_S16x4096x4096_S16x4096x1024_0_0_1024 (ix3 b t (lane h d)) = Z (ix3 b t (col 1 h d)) := by
  refine congrArg Z (funext fun a => Fin.ext ?_)
  fin_cases a
  · exact Nat.zero_add _
  · exact Nat.zero_add _
  · rfl
theorem slice2 (t : Fin 4096) : extractStridedSlice S16x4096x1024 ![0, 0, 2048] Z slices_S16x4096x4096_S16x4096x1024_0_0_2048 (ix3 b t (lane h d)) = Z (ix3 b t (col 2 h d)) := by
  refine congrArg Z (funext fun a => Fin.ext ?_)
  fin_cases a
  · exact Nat.zero_add _
  · exact Nat.zero_add _
  · rfl

theorem rF_apply : rF Z (ix4 b (tok n.val r) h d) = band Z 1 b h n.val r d := by
  unfold rF
  rw [by4_apply, slice1]
  rfl

theorem rQ_apply : rQ Z (ix5 b h n r d) = qOf (band Z 0 b h) n.val r d := by
  unfold rQ
  rw [by5_apply]
  show rQ4 Z _ * sg4 (rQ4 Z) _ = _
  rw [sg4_apply]
  unfold rQ4
  rw [by4_apply, slice0]
  rfl

theorem rK_apply : rK Z L (ix5 b h n r d) = kOf (bound L h) (band Z 1 b h) n.val r d := by
  unfold rK
  rw [by5_apply]
  show over (lb2' L) _ * sg4 (Host.negf (rF Z)) _ = _
  rw [over_apply, lb2'_apply, sg4_apply]
  show _ * Ideal.logistic (-(rF Z _)) = _
  rw [rF_apply]
  rfl

theorem rV_apply : rV Z (ix5 b h n r d) = band Z 2 b h n.val r d := by
  unfold rV
  rw [by5_apply, by4_apply, slice2]
  rfl

theorem rL_apply : rL Z L (ix5 b h n r d) = lOf (bound L h) (band Z 1 b h) n.val r d := by
  unfold rL
  rw [by5_apply]
  show Ideal.log (over (lb2 L) _ + over (lb2' L) _ * sg4 (rF Z) _) = _
  rw [over_apply, over_apply, lb2_apply, lb2'_apply, sg4_apply, rF_apply]
  rfl

theorem rB_apply : rB Z L (ix5 b h n r d) = cum (fun j => lOf (bound L h) (band Z 1 b h) n.val j d) r := by
  unfold rB
  refine (cumsum_apply _ _ (fun _ => Ideal.ofBits_zero_f32) _ _ b h n r d).trans ?_
  exact congrArg (cum · r) (funext fun j => rL_apply Z L b h n j d)

theorem rLast_apply : rLast Z L (ix5 b h n 0 d) = cum (fun j => lOf (bound L h) (band Z 1 b h) n.val j d) 15 := by
  rw [← rB_apply]
  unfold rLast
  generalize rB Z L = y
  pointwise

theorem rQe_apply : rQe Z L (ix5 b h n r d) = qOf (band Z 0 b h) n.val r d * Ideal.exp (cum (fun j => lOf (bound L h) (band Z 1 b h) n.val j d) r) := by
  show rQ Z _ * Ideal.exp (rB Z L _) = _
  rw [rQ_apply, rB_apply]

theorem rKe_apply : rKe Z L (ix5 b h n r d)
    = kOf (bound L h) (band Z 1 b h) n.val r d * Ideal.exp (-cum (fun j => lOf (bound L h) (band Z 1 b h) n.val j d) r) := by
  show rK Z L _ * Ideal.exp (-(rB Z L _)) = _
  rw [rK_apply, rB_apply]

theorem toRows_apply (x : FVec Ideal S16x8x256x1x128 .f32) :
    broadcastInDim S16x8x256x16x128 ![0, 1, 2, 3, 4] bcast_S16x8x256x1x128_S16x8x256x16x128_0_1_2_3_4 x (ix5 b h n r d) = x (ix5 b h n 0 d) := by
  pointwise

theorem rKt_apply (H : Fits Z L) : rKt Z L (ix5 b h n r d)
    = kOf (bound L h) (band Z 1 b h) n.val r d * Ideal.exp (tail (fun j => lOf (bound L h) (band Z 1 b h) n.val j d) r) := by
  show rK Z L _ * Ideal.exp (broadcastInDim S16x8x256x16x128 ![0, 1, 2, 3, 4] bcast_S16x8x256x1x128_S16x8x256x16x128_0_1_2_3_4 (rLast Z L) _ - rB Z L _) = _
  rw [rK_apply, toRows_apply, rLast_apply, rB_apply, last_sub_cum]
  exact fun j => logf_real (H.2 h d).1 (H.2 h d).2 (H.1 b h n.val j d)

theorem chunksFirst_apply (x : FVec Ideal S16x8x256x16x128 .f32) : chunksFirst x (ix5 n b h r d) = x (ix5 b h n r d) := by
  pointwise [chunksFirst]

theorem rDecay_apply : rDecay Z L (ix4 n b h d) = Ideal.exp (cum (fun j => lOf (bound L h) (band Z 1 b h) n.val j d) 15) := by
  rw [← rLast_apply]
  have e : shapeCast S16x8x256x128 (rLast Z L) shapeCasts_S16x8x256x1x128_S16x8x256x128 (ix4 b h n d) = rLast Z L (ix5 b h n 0 d) := by
    generalize rLast Z L = y
    refine shapeCast_apply y _ _ _ ?_
    rw [rowMajor_val5 _ (8 * (256 * 128)) (256 * 128) 128 128 rfl rfl rfl rfl, rowMajor_val4 _ (8 * (256 * 128)) (256 * 128) 128 rfl rfl rfl]
    show b.val * (8 * (256 * 128)) + h.val * (256 * 128) + n.val * 128 + 0 * 128 + d.val = b.val * (8 * (256 * 128)) + h.val * (256 * 128) + n.val * 128 + d.val
    omega
  rw [← e]
  unfold rDecay
  generalize shapeCast S16x8x256x128 (rLast Z L) shapeCasts_S16x8x256x1x128_S16x8x256x128 = y
  pointwise

/-- The mask's bit at row `r` and column `s` says that `s` is not after `r`. -/
theorem maskBits_apply (s : Fin 16) : maskBits (ix2 r s) = 1#1 ↔ s ≤ r := by
  have e : maskBits (ix2 r s) = lit0 ⟨16 * r.val + s.val, by omega⟩ := by
    refine congrArg lit0 (Fin.ext ?_)
    rw [rowMajor_val2 _ 16 rfl]
    show r.val * 16 + s.val = 16 * r.val + s.val
    omega
  rw [e]
  clear e
  revert r s
  decide +kernel

theorem masked_apply (M : IVec S16x16 1) (x y : FVec Ideal S16x8x256x16x16 .f32) (s : Fin 16) :
    select (broadcastInDim S16x8x256x16x16 ![3, 4] bcast_S16x16_S16x8x256x16x16_3_4 M) x y (ix5 b h n r s)
      = Scalar.select (M (ix2 r s)) (x (ix5 b h n r s)) (y (ix5 b h n r s)) := by
  pointwise

theorem dots_apply (x y : FVec Ideal S16x8x256x16x128 .f32) (s : Fin 16) :
    Host.dotGeneral dot_S16x8x256x16x128_S16x8x256x16x128_S16x8x256x16x16_4_4_3_3_012_012 none x y (ix5 b h n r s)
      = ∑ d : Fin 128, x (ix5 b h n r d) * y (ix5 b h n s d) := by
  pointwise
theorem mixed_apply (x : FVec Ideal S16x8x256x16x16 .f32) (y : FVec Ideal S16x8x256x16x128 .f32) :
    Host.dotGeneral dot_S16x8x256x16x16_S16x8x256x16x128_S16x8x256x16x128_4_3_3_4_012_012 none x y (ix5 b h n r d)
      = ∑ s : Fin 16, x (ix5 b h n r s) * y (ix5 b h n s d) := by
  pointwise

/-- The rows' sums within the chunk: the first half of the recurrence's row. -/
theorem rIntra_apply : rIntra Z L (ix5 b h n r d)
    = ∑ s, (if s ≤ r then ∑ u, qOf (band Z 0 b h) n.val r u * Ideal.exp (cum (fun j => lOf (bound L h) (band Z 1 b h) n.val j u) r)
          * (kOf (bound L h) (band Z 1 b h) n.val s u * Ideal.exp (-cum (fun j => lOf (bound L h) (band Z 1 b h) n.val j u) s)) else 0)
        * band Z 2 b h n.val s d := by
  unfold rIntra
  rw [mixed_apply]
  refine Finset.sum_congr rfl fun s _ => ?_
  rw [rV_apply, masked_apply, dots_apply]
  refine congrArg (· * _) ?_
  have z : (broadcastInDim S16x8x256x16x16 ![] bcast_S_S16x8x256x16x16 (constant S_ .f32 0x00000000#32 : FVec Ideal S_ .f32)) (ix5 b h n r s) = 0 :=
    Ideal.ofBits_zero_f32
  rw [z]
  refine Eq.trans ?_ (if_congr (maskBits_apply r s) (Finset.sum_congr rfl fun u _ => congrArg₂ (fun x y : EReal => x * y) (rQe_apply Z L b h n r u) (rKe_apply Z L b h n s u)) rfl)
  rfl

end Cert.Own.Hgrn

end
-- ==== Proof.HgrnLoop.lean ====
/- The reference's loop over chunks: before chunk `k` its carried state is the recurrence's state, and the rows of the chunks
   before `k` hold what those chunks read of their states. -/
module

public import proofs.«01_k».proof.Proof.HgrnRefRead
public import Idealize.ShloMosaic.Lib.DynamicIndex
public import Idealize.ShloMosaic.Lib.Pipeline.Value

@[expose] public section

set_option maxRecDepth 16384

noncomputable section

namespace Cert.Own.Hgrn

open Cert.ReferenceIdeal Cert.ReferenceIdeal.Gen Cert.ReferenceIdeal.Value
open Idealize.ShloMosaic Idealize.ShloMosaic.TcCoe Idealize.ShloMosaic.StableHlo Idealize.SL.Sem

/-- Chunk `n` cut out of an array of chunks. -/
theorem chunk5_apply (n : Fin 256) (x : FVec Ideal S256x16x8x16x128 .f32) (start : Fin 5 → Int)
    (hs : ∀ a, start a = ((![n.val, 0, 0, 0, 0] : Fin 5 → ℕ) a : ℤ)) (b : Fin 16) (h : Fin 8) (r : Fin 16) (d : Fin 128) :
    shapeCast S16x8x16x128 (Host.dynamicSlice S1x16x8x16x128 x start sliceFits_S256x16x8x16x128_S1x16x8x16x128) shapeCasts_S1x16x8x16x128_S16x8x16x128
      (ix4 b h r d) = x (ix5 n b h r d) := by
  have hoff : S256x16x8x16x128.Slices (![n.val, 0, 0, 0, 0] : Fin 5 → ℕ) S1x16x8x16x128 := by
    refine ⟨rfl, fun a => ?_⟩
    fin_cases a
    · exact n.isLt
    all_goals exact Nat.le_of_eq rfl
  rw [Host.dynamicSlice_eq_extractStridedSlice S1x16x8x16x128 x start _ _ hoff hs]
  refine (shapeCast_apply _ _ _ (ix5 0 b h r d) ?_).trans (congrArg x (funext fun a => Fin.ext ?_))
  · rw [rowMajor_val5 _ (16 * (8 * (16 * 128))) (8 * (16 * 128)) (16 * 128) 128 rfl rfl rfl rfl, rowMajor_val4 _ (8 * (16 * 128)) (16 * 128) 128 rfl rfl rfl]
    show 0 * (16 * (8 * (16 * 128))) + b.val * (8 * (16 * 128)) + h.val * (16 * 128) + r.val * 128 + d.val
      = b.val * (8 * (16 * 128)) + h.val * (16 * 128) + r.val * 128 + d.val
    omega
  · fin_cases a
    · exact Nat.add_zero _
    all_goals exact Nat.zero_add _

theorem chunk4_apply (n : Fin 256) (x : FVec Ideal S256x16x8x128 .f32) (start : Fin 4 → Int)
    (hs : ∀ a, start a = ((![n.val, 0, 0, 0] : Fin 4 → ℕ) a : ℤ)) (b : Fin 16) (h : Fin 8) (d : Fin 128) :
    shapeCast S16x8x128 (Host.dynamicSlice S1x16x8x128 x start sliceFits_S256x16x8x128_S1x16x8x128) shapeCasts_S1x16x8x128_S16x8x128
      (ix3 b h d) = x (ix4 n b h d) := by
  have hoff : S256x16x8x128.Slices (![n.val, 0, 0, 0] : Fin 4 → ℕ) S1x16x8x128 := by
    refine ⟨rfl, fun a => ?_⟩
    fin_cases a
    · exact n.isLt
    all_goals exact Nat.le_of_eq rfl
  rw [Host.dynamicSlice_eq_extractStridedSlice S1x16x8x128 x start _ _ hoff hs]
  refine (shapeCast_apply _ _ _ (ix4 0 b h d) ?_).trans (congrArg x (funext fun a => Fin.ext ?_))
  · rw [rowMajor_val4 _ (16 * (8 * 128)) (8 * 128) 128 rfl rfl rfl, rowMajor_val3 _ (8 * 128) 128 rfl rfl]
    show 0 * (16 * (8 * 128)) + b.val * (8 * 128) + h.val * 128 + d.val = b.val * (8 * 128) + h.val * 128 + d.val
    omega
  · fin_cases a
    · exact Nat.add_zero _
    all_goals exact Nat.zero_add _

/-- Chunk `n` written into an array of chunks. -/
theorem put5_apply (n : Fin 256) (x : FVec Ideal S256x16x8x16x128 .f32) (y : FVec Ideal S16x8x16x128 .f32) (start : Fin 5 → Int)
    (hs : ∀ a, start a = ((![n.val, 0, 0, 0, 0] : Fin 5 → ℕ) a : ℤ)) (m : Fin 256) (b : Fin 16) (h : Fin 8) (r : Fin 16) (d : Fin 128) :
    Host.dynamicUpdateSlice x (broadcastInDim S1x16x8x16x128 ![1, 2, 3, 4] bcast_S16x8x16x128_S1x16x8x16x128_1_2_3_4 y) start
      updateFits_S256x16x8x16x128_S1x16x8x16x128 (ix5 m b h r d) = if m = n then y (ix4 b h r d) else x (ix5 m b h r d) := by
  have hoff : S256x16x8x16x128.Slices (![n.val, 0, 0, 0, 0] : Fin 5 → ℕ) S1x16x8x16x128 := by
    refine ⟨rfl, fun a => ?_⟩
    fin_cases a
    · exact n.isLt
    all_goals exact Nat.le_of_eq rfl
  rw [Host.dynamicUpdateSlice_eq_updateSlice _ _ _ _ (![n.val, 0, 0, 0, 0] : Fin 5 → ℕ) (fun a => by have := hoff.2 a; rw [hs a]; omega) hoff]
  unfold updateSlice
  by_cases e : m = n
  · subst e
    rw [if_pos rfl]
    refine (dif_pos (fun a => ?_)).trans ?_
    · fin_cases a
      · exact ⟨Nat.le_refl _, Nat.lt_succ_self _⟩
      · exact ⟨Nat.zero_le _, (Nat.zero_add _).symm ▸ b.isLt⟩
      · exact ⟨Nat.zero_le _, (Nat.zero_add _).symm ▸ h.isLt⟩
      · exact ⟨Nat.zero_le _, (Nat.zero_add _).symm ▸ r.isLt⟩
      · exact ⟨Nat.zero_le _, (Nat.zero_add _).symm ▸ d.isLt⟩
    · refine congrArg y (funext fun a => Fin.ext ?_)
      fin_cases a <;> rfl
  · rw [if_neg e]
    refine dif_neg fun c => e (Fin.ext ?_)
    have c0 : n.val ≤ m.val ∧ m.val < n.val + 1 := c 0
    omega

theorem outer_apply (x y : FVec Ideal S16x8x16x128 .f32) (b : Fin 16) (h : Fin 8) (d v : Fin 128) :
    Host.dotGeneral dot_S16x8x16x128_S16x8x16x128_S16x8x128x128_2_2_3_3_01_01 none x y (ix4 b h d v)
      = ∑ r : Fin 16, x (ix4 b h r d) * y (ix4 b h r v) := by
  pointwise
theorem reads_apply (x : FVec Ideal S16x8x16x128 .f32) (S : FVec Ideal S16x8x128x128 .f32) (b : Fin 16) (h : Fin 8) (r : Fin 16) (v : Fin 128) :
    Host.dotGeneral dot_S16x8x16x128_S16x8x128x128_S16x8x16x128_3_2_2_3_01_01 none x S (ix4 b h r v)
      = ∑ d : Fin 128, x (ix4 b h r d) * S (ix4 b h d v) := by
  pointwise
theorem decays_apply (x : FVec Ideal S16x8x128 .f32) (b : Fin 16) (h : Fin 8) (d v : Fin 128) :
    broadcastInDim S16x8x128x128 ![0, 1, 2, 3] bcast_S16x8x128x1_S16x8x128x128_0_1_2_3 (broadcastInDim S16x8x128x1 ![0, 1, 2] bcast_S16x8x128_S16x8x128x1_0_1_2 x)
      (ix4 b h d v) = x (ix3 b h d) := by
  pointwise

/-- The loop's buffers in a state of the program. -/
abbrev cQ (V : Valuation τ sig (Elt Ideal)) : FVec Ideal S256x16x8x16x128 .f32 := V (Proc.devRef .tc main_v66_0)
abbrev cK (V : Valuation τ sig (Elt Ideal)) : FVec Ideal S256x16x8x16x128 .f32 := V (Proc.devRef .tc main_v66_1)
abbrev cV (V : Valuation τ sig (Elt Ideal)) : FVec Ideal S256x16x8x16x128 .f32 := V (Proc.devRef .tc main_v66_2)
abbrev cDecay (V : Valuation τ sig (Elt Ideal)) : FVec Ideal S256x16x8x128 .f32 := V (Proc.devRef .tc main_v66_3)
abbrev cState (V : Valuation τ sig (Elt Ideal)) : FVec Ideal S16x8x128x128 .f32 := V (Proc.devRef .tc main_v66_5)
abbrev cRows (V : Valuation τ sig (Elt Ideal)) : FVec Ideal S256x16x8x16x128 .f32 := V (Proc.devRef .tc main_v66_6)

section Trip

variable (V : Valuation τ sig (Elt Ideal)) (n : Fin 256) (hc : V (Proc.devRef .tc main_v66_4) = fun _ => (BitVec.ofNat 32 n.val : BitVec 32))

include hc in
theorem starts5 (a : Fin 5) : (((![V (Proc.devRef .tc main_v66_4), constantI S_ 32 0#32, constantI S_ 32 0#32, constantI S_ 32 0#32, constantI S_ 32 0#32]
      : Fin 5 → (⟨S_, .i32⟩ : BufTy).Contents (Elt Ideal))) a (Shape.Idx.first h_S_)).toInt = ((![n.val, 0, 0, 0, 0] : Fin 5 → ℕ) a : ℤ) := by
  fin_cases a
  · show BitVec.toInt (V (Proc.devRef .tc main_v66_4) (Shape.Idx.first h_S_)) = _
    rw [hc]
    exact toInt_ofNat_of_lt (by have := n.isLt; omega)
  all_goals rfl

include hc in
theorem starts4 (a : Fin 4) : (((![V (Proc.devRef .tc main_v66_4), constantI S_ 32 0#32, constantI S_ 32 0#32, constantI S_ 32 0#32]
      : Fin 4 → (⟨S_, .i32⟩ : BufTy).Contents (Elt Ideal))) a (Shape.Idx.first h_S_)).toInt = ((![n.val, 0, 0, 0] : Fin 4 → ℕ) a : ℤ) := by
  fin_cases a
  · show BitVec.toInt (V (Proc.devRef .tc main_v66_4) (Shape.Idx.first h_S_)) = _
    rw [hc]
    exact toInt_ofNat_of_lt (by have := n.isLt; omega)
  all_goals rfl

include hc in
theorem trip_ctr : step_main_v66_4 V = fun _ => (BitVec.ofNat 32 (n.val + 1) : BitVec 32) := by
  unfold step_main_v66_4
  rw [hc]
  funext i
  show BitVec.ofNat 32 n.val + 1#32 = _
  rw [BitVec.ofNat_add]

include hc in
theorem trip_state (b : Fin 16) (h : Fin 8) (d v : Fin 128) : (step_main_v66_5 V : FVec Ideal S16x8x128x128 .f32) (ix4 b h d v)
    = cState V (ix4 b h d v) * cDecay V (ix4 n b h d)
      + ∑ r : Fin 16, cK V (ix5 n b h r d) * cV V (ix5 n b h r v) := by
  unfold step_main_v66_5
  refine congrArg₂ (fun x y : EReal => x + y) (congrArg₂ (fun x y : EReal => x * y) rfl ?_) ?_
  · exact (decays_apply _ b h d v).trans (chunk4_apply n _ _ (starts4 V n hc) b h d)
  · refine (outer_apply _ _ b h d v).trans (Finset.sum_congr rfl fun r _ => ?_)
    exact congrArg₂ (fun x y : EReal => x * y) (chunk5_apply n _ _ (starts5 V n hc) b h r d) (chunk5_apply n _ _ (starts5 V n hc) b h r v)

include hc in
theorem trip_rows (m : Fin 256) (b : Fin 16) (h : Fin 8) (r : Fin 16) (v : Fin 128) : (step_main_v66_6 V : FVec Ideal S256x16x8x16x128 .f32) (ix5 m b h r v)
    = if m = n then ∑ d : Fin 128, cQ V (ix5 n b h r d) * cState V (ix4 b h d v)
      else cRows V (ix5 m b h r v) := by
  unfold step_main_v66_6
  refine (put5_apply n _ _ _ (starts5 V n hc) m b h r v).trans ?_
  by_cases e : m = n
  · rw [if_pos e, if_pos e]
    refine (reads_apply _ _ b h r v).trans (Finset.sum_congr rfl fun d _ => ?_)
    exact congrArg₂ (fun x y : EReal => x * y) (chunk5_apply n _ _ (starts5 V n hc) b h r d) rfl
  · rw [if_neg e, if_neg e]

end Trip

/-- What the loop holds before chunk `k`. -/
structure Before (Z : FVec Ideal S16x4096x4096 .f32) (L : FVec Ideal S1024 .f32) (k : ℕ) (V : Valuation τ sig (Elt Ideal)) : Prop where
  qe : cQ V = chunksFirst (rQe Z L)
  kt : cK V = chunksFirst (rKt Z L)
  v : cV V = chunksFirst (rV Z)
  decay : cDecay V = rDecay Z L
  ctr : V (Proc.devRef .tc main_v66_4) = fun _ => (BitVec.ofNat 32 k : BitVec 32)
  state : ∀ b h d v, cState V (ix4 b h d v) = stateAt Z L b h k d v
  rows : ∀ (n : Fin 256), n.val < k → ∀ b h r v, cRows V (ix5 n b h r v)
    = ∑ d, qOf (band Z 0 b h) n.val r d * Ideal.exp (cum (fun j => lOf (bound L h) (band Z 1 b h) n.val j d) r) * stateAt Z L b h n.val d v

theorem Before.step {Z : FVec Ideal S16x4096x4096 .f32} {L : FVec Ideal S1024 .f32} (H : Fits Z L) {k : ℕ} (hk : k < 256)
    {V : Valuation τ sig (Elt Ideal)} (B : Before Z L k V) : Before Z L (k + 1) (STEP V) where
  qe := (STEP_main_v66_0 V).trans B.qe
  kt := (STEP_main_v66_1 V).trans B.kt
  v := (STEP_main_v66_2 V).trans B.v
  decay := (STEP_main_v66_3 V).trans B.decay
  ctr := (STEP_main_v66_4 V).trans (trip_ctr V ⟨k, hk⟩ B.ctr)
  state b h d v := by
    unfold cState
    rw [STEP_main_v66_5, trip_state V ⟨k, hk⟩ B.ctr, B.state, B.decay, rDecay_apply, B.kt, B.v]
    refine congrArg₂ (fun x y : EReal => x + y) rfl (Finset.sum_congr rfl fun r _ => ?_)
    rw [chunksFirst_apply, chunksFirst_apply, rKt_apply _ _ _ _ _ _ _ H, rV_apply]
  rows n hn b h r v := by
    unfold cRows
    rw [STEP_main_v66_6, trip_rows V ⟨k, hk⟩ B.ctr]
    by_cases e : n = ⟨k, hk⟩
    · subst e
      rw [if_pos rfl, B.qe]
      refine Finset.sum_congr rfl fun d _ => ?_
      rw [chunksFirst_apply, rQe_apply, B.state]
    · rw [if_neg e]
      refine B.rows n ?_ b h r v
      have : n.val ≠ k := fun h => e (Fin.ext h)
      omega

theorem Before.iterate {Z : FVec Ideal S16x4096x4096 .f32} {L : FVec Ideal S1024 .f32} (H : Fits Z L) {V : Valuation τ sig (Elt Ideal)} (B : Before Z L 0 V) :
    ∀ k ≤ 256, Before Z L k (STEP^[k] V)
  | 0, _ => B
  | k + 1, hk => by
    rw [Function.iterate_succ_apply']
    exact (Before.iterate H B k (by omega)).step H (by omega)

end Cert.Own.Hgrn

end
-- ==== Proof.HgrnRefOut.lean ====
/- The reference's result: what it does after its loop, and its run with the result named. -/
module

public import proofs.«01_k».proof.Proof.HgrnLoop

@[expose] public section

set_option maxRecDepth 16384

noncomputable section

namespace Cert.Own.Hgrn

open Cert.ReferenceIdeal Cert.ReferenceIdeal.Gen Cert.ReferenceIdeal.Value
open Idealize.ShloMosaic Idealize.ShloMosaic.TcCoe Idealize.ShloMosaic.StableHlo Idealize.SL.Sem

theorem tokens_apply (x : FVec Ideal S16x256x16x8x128 .f32) (b : Fin 16) (n : Fin 256) (r : Fin 16) (h : Fin 8) (v : Fin 128) :
    shapeCast S16x4096x8x128 x shapeCasts_S16x256x16x8x128_S16x4096x8x128 (ix4 b (tok n.val r) h v) = x (ix5 b n r h v) := by
  refine shapeCast_apply x _ _ _ ?_
  rw [rowMajor_val5 _ (256 * (16 * (8 * 128))) (16 * (8 * 128)) (8 * 128) 128 rfl rfl rfl rfl, rowMajor_val4 _ (4096 * (8 * 128)) (8 * 128) 128 rfl rfl rfl]
  show b.val * (256 * (16 * (8 * 128))) + n.val * (16 * (8 * 128)) + r.val * (8 * 128) + h.val * 128 + v.val
    = b.val * (4096 * (8 * 128)) + (16 * n.val + r.val) % 4096 * (8 * 128) + h.val * 128 + v.val
  omega

theorem turned_apply (A : FVec Ideal S16x8x256x16x128 .f32) (B : FVec Ideal S256x16x8x16x128 .f32)
    (b : Fin 16) (n : Fin 256) (r : Fin 16) (h : Fin 8) (v : Fin 128) :
    transpose S16x256x16x8x128 [0, 2, 3, 1, 4] (addf A (transpose S16x8x256x16x128 [1, 2, 0, 3, 4] B
      transposes_S256x16x8x16x128_S16x8x256x16x128_1_2_0_3_4)) transposes_S16x8x256x16x128_S16x256x16x8x128_0_2_3_1_4 (ix5 b n r h v)
      = A (ix5 b h n r v) + B (ix5 n b h r v) := by
  pointwise

theorem rOut4_apply (A : FVec Ideal S16x8x256x16x128 .f32) (B : FVec Ideal S256x16x8x16x128 .f32)
    (b : Fin 16) (n : Fin 256) (r : Fin 16) (h : Fin 8) (v : Fin 128) :
    rOut4 A B (ix4 b (tok n.val r) h v) = A (ix5 b h n r v) + B (ix5 n b h r v) :=
  (tokens_apply _ b n r h v).trans (turned_apply A B b n r h v)

theorem back_apply (x : FVec Ideal S16x4096x8x128 .f32) (b : Fin 16) (t : Fin 4096) (h : Fin 8) (v : Fin 128) :
    shapeCast S16x4096x1024 x shapeCasts_S16x4096x8x128_S16x4096x1024 (ix3 b t (lane h v)) = x (ix4 b t h v) := by
  refine shapeCast_apply x _ _ _ ?_
  rw [rowMajor_val4 _ (4096 * (8 * 128)) (8 * 128) 128 rfl rfl rfl, rowMajor_val3 _ (4096 * 1024) 1024 rfl rfl]
  show b.val * (4096 * (8 * 128)) + t.val * (8 * 128) + h.val * 128 + v.val = b.val * (4096 * 1024) + t.val * 1024 + (128 * h.val + v.val)
  omega

theorem rNormed_apply (x : FVec Ideal S16x4096x8x128 .f32) (N : FVec Ideal S128 .f32) (b : Fin 16) (t : Fin 4096) (h : Fin 8) (v : Fin 128) :
    rNormed x N (ix4 b t h v) = x (ix4 b t h v)
      * Ideal.rsqrt (Ideal.div (∑ u : Fin 128, x (ix4 b t h u) * x (ix4 b t h u)) (Ideal.ofBits .f32 0x43000000#32) + Ideal.ofBits .f32 0x3727C5AC#32)
      * N (ix1 v) := by
  pointwise [rNormed]

theorem slice3 (Z : FVec Ideal S16x4096x4096 .f32) (b : Fin 16) (t : Fin 4096) (h : Fin 8) (d : Fin 128) :
    extractStridedSlice S16x4096x1024 ![0, 0, 3072] Z slices_S16x4096x4096_S16x4096x1024_0_0_3072 (ix3 b t (lane h d)) = Z (ix3 b t (col 3 h d)) := by
  refine congrArg Z (funext fun a => Fin.ext ?_)
  fin_cases a
  · exact Nat.zero_add _
  · exact Nat.zero_add _
  · rfl

theorem rG_apply (Z : FVec Ideal S16x4096x4096 .f32) (b : Fin 16) (n : Fin 256) (r : Fin 16) (h : Fin 8) (v : Fin 128) :
    rG Z (ix3 b (tok n.val r) (lane h v)) = band Z 3 b h n.val r v := by
  unfold rG band
  rw [slice3]

theorem rOut_at (A : FVec Ideal S16x8x256x16x128 .f32) (B : FVec Ideal S256x16x8x16x128 .f32) (G : FVec Ideal S16x4096x1024 .f32) (N : FVec Ideal S128 .f32)
    (i : S16x4096x1024.Idx) :
    rOut A B G N i = shapeCast S16x4096x1024 (rNormed (rOut4 A B) N) shapeCasts_S16x4096x8x128_S16x4096x1024 i * (G i * sg3 G i) := rfl

/-- The result at an index, where the two summands of a row are those of the recurrence. -/
theorem rOut_apply (Z : FVec Ideal S16x4096x4096 .f32) (L : FVec Ideal S1024 .f32) (N : FVec Ideal S128 .f32) (B : FVec Ideal S256x16x8x16x128 .f32)
    (hB : ∀ (n : Fin 256) b h r v, B (ix5 n b h r v)
      = ∑ d, qOf (band Z 0 b h) n.val r d * Ideal.exp (cum (fun j => lOf (bound L h) (band Z 1 b h) n.val j d) r) * stateAt Z L b h n.val d v)
    (b : Fin 16) (n : Fin 256) (r : Fin 16) (h : Fin 8) (v : Fin 128) :
    rOut (rIntra Z L) B (rG Z) N (ix3 b (tok n.val r) (lane h v)) = outAt Z L N b h n.val r v := by
  have rows : ∀ u, rOut4 (rIntra Z L) B (ix4 b (tok n.val r) h u) = rowAt Z L b h n.val r u := fun u => by
    rw [rOut4_apply, rIntra_apply, hB]
    unfold rowAt row
    rfl
  rw [rOut_at, back_apply, rNormed_apply, sg3_apply, rG_apply]
  unfold outAt gated
  simp only [rows]

section Run

variable (m : (ℓ : Loc nD τ sig) → Buf (Elt Ideal) ℓ) (c : Dev nD)

abbrev refZ : FVec Ideal S16x4096x4096 .f32 := m ((c.tc : Thread nD τ).loc main_arg0)
abbrev refL : FVec Ideal S1024 .f32 := m ((c.tc : Thread nD τ).loc main_arg1)
abbrev refN : FVec Ideal S128 .f32 := m ((c.tc : Thread nD τ).loc main_arg2)

theorem entry_before : Before (refZ m c) (refL m c) 0 (entryContents preI m c) where
  qe := entry_qe _
  kt := entry_kt _
  v := entry_v _
  decay := entry_decay _
  ctr := ctr_entry m c
  state b h d v := by
    unfold cState entryContents
    rw [entry_state]
    exact Ideal.ofBits_zero_f32
  rows n hn := absurd hn (Nat.not_lt_zero _)

open Cert.Own.HgrnRef in
/-- Nothing of the loop writes the buffers of the rows' sums, the gate and the arguments. -/
theorem loop_keeps (b : Ref sig .tc)
    (h : b ∉ condOps_W ++ while0Ops0_W ++ while0Ops0_1_W ++ while0Ops0_2_W ++ while0Ops0_3_W ++ while0Ops0_4_W ++ while0Ops0_5_W ++ while0Ops0_6_W) :
    after condOps (atK m 256 c) (Proc.devRef .tc b) = entryContents preI m c (Proc.devRef .tc b) := by
  simp only [List.mem_append, not_or] at h
  obtain ⟨⟨⟨⟨⟨⟨⟨hc, k0⟩, k1⟩, k2⟩, k3⟩, k4⟩, k5⟩, k6⟩ := h
  have C : ∀ V, after (condOps (F := Ideal)) V (Proc.devRef .tc b) = V (Proc.devRef .tc b) := fun V => after_of_writes_sub condOps V condOps_writes hc
  refine (C _).trans (atTrip_keep _ C (afterL_keep _ _ fun s hs V => ?_) _ c 256)
  simp only [List.mem_cons, List.not_mem_nil, or_false] at hs
  rcases hs with rfl | rfl | rfl | rfl | rfl | rfl | rfl
  · exact after_of_writes_sub _ V while0Ops0_writes k0
  · exact after_of_writes_sub _ V while0Ops0_1_writes k1
  · exact after_of_writes_sub _ V while0Ops0_2_writes k2
  · exact after_of_writes_sub _ V while0Ops0_3_writes k3
  · exact after_of_writes_sub _ V while0Ops0_4_writes k4
  · exact after_of_writes_sub _ V while0Ops0_5_writes k5
  · exact after_of_writes_sub _ V while0Ops0_6_writes k6

theorem entry_arg2 : entryContents preI m c (Proc.devRef .tc main_arg2) = refN m c := by
  unfold entryContents
  simp only [afterL_cons, afterL_nil]
  after_results

/-- The result buffer after the run, at an index. -/
theorem final_apply (H : Fits (refZ m c) (refL m c)) (b : Fin 16) (n : Fin 256) (r : Fin 16) (h : Fin 8) (v : Fin 128) :
    (finalContents condOps preI bodyI postI 256 m c (Proc.devRef .tc main_v86) : FVec Ideal S16x4096x1024 .f32) (ix3 b (tok n.val r) (lane h v))
      = outAt (refZ m c) (refL m c) (refN m c) b h n.val r v := by
  have E : finalContents condOps preI bodyI postI 256 m c (Proc.devRef .tc main_v86)
      = rOut (rIntra (refZ m c) (refL m c)) (cRows (after condOps (atK m 256 c))) (rG (refZ m c)) (refN m c) := by
    refine (exit_out (after condOps (atK m 256 c))).trans ?_
    rw [loop_keeps m c main_v57 (by decide +kernel), loop_keeps m c main_v3 (by decide +kernel), loop_keeps m c main_arg2 (by decide +kernel), entry_arg2]
    exact congrArg₂ (fun A G => rOut A _ G _) (entry_intra _) (entry_gate _)
  refine (congrFun E _).trans (rOut_apply _ _ _ _ (fun n b h r v => ?_) b n r h v)
  have B := (entry_before m c).iterate H 256 (Nat.le_refl _)
  have e : cRows (after condOps (atK m 256 c)) = cRows (STEP^[256] (entryContents preI m c)) :=
    (cond_keeps (atK m 256 c) main_v66_6 (by decide)).trans (atK_agree m c 256 main_v66_6 (by decide))
  rw [e]
  exact B.rows n n.isLt b h r v

end Run

end Cert.Own.Hgrn

end
-- ==== Proof.HgrnValue.lean ====
/- The recurrence's value claim: from equal arguments that fit, kernel and reference end with the one array whose entries are
   `outAt`. -/
module

public import proofs.«01_k».proof.Proof.Decay
public import proofs.«01_k».proof.Proof.HgrnLaunch
public import proofs.«01_k».proof.Proof.HgrnRefOut

@[expose] public section

noncomputable section

namespace Cert.Own.Hgrn

open Idealize.ShloMosaic Idealize.ShloMosaic.TcCoe Idealize.SL.Sem

theorem algebraic : Cert.algebraic_KernelIdeal_ReferenceIdeal_pre_decay_in_range := fun m ρ m' ρ' pre hag => by
  refine ⟨fun c => Cert.KernelIdeal.Value.G6 m c, Cert.KernelIdeal.Value.run m ρ, ?_⟩
  refine (θ_run _ _ _).mono (fun r h c => ⟨(h c Cert.ReferenceIdeal.main_v86 rfl).trans ?_,
    (h c Cert.ReferenceIdeal.main_arg0 rfl).trans (HgrnRef.final_keep m' c _ (HgrnRef.kept_of _ (by decide +kernel) (HgrnRef.post_keep _ (.inl rfl)))),
    (h c Cert.ReferenceIdeal.main_arg1 rfl).trans (HgrnRef.final_keep m' c _ (HgrnRef.kept_of _ (by decide +kernel) (HgrnRef.post_keep _ (.inr (.inl rfl))))),
    (h c Cert.ReferenceIdeal.main_arg2 rfl).trans (HgrnRef.final_keep m' c _ (HgrnRef.kept_of _ (by decide +kernel) (HgrnRef.post_keep _ (.inr (.inr rfl)))))⟩)
    (Cert.ReferenceIdeal.Value.run_fold m' ρ')
  have H : Fits (argZ m c) (argL m c) := Decay.fits _ _ _ (pre c)
  have eZ : refZ m' c = argZ m c := (hag c).1
  have eL : refL m' c = argL m c := (hag c).2.1
  have eN : refN m' c = argN m c := (hag c).2.2
  funext i
  obtain ⟨b, n, r, h, v, rfl⟩ := ix_split i
  refine (final_apply m' c (by rw [eZ, eL]; exact H) b n r h v).trans ?_
  rw [eZ, eL, eN]
  exact (result_apply m c H b n r h v).symm

end Cert.Own.Hgrn

end
-- ==== Proof.RouteChoice.lean ====
/- The choice of the greatest of a few values and of the next one. `First f i` says that position `i` holds the greatest value of `f`
   and is the first that does; `Second f a i` says the same among the positions other than `a`. Two ways of finding them are shown
   to agree with this: a stable sort by decreasing value (`sorted_first`, `sorted_second`), and the least position whose value
   equals the greatest (`fold_least`), the second choice after the first has been overwritten with minus infinity (`masked`). -/
module

public import Idealize.ShloMosaic.Lib.Pointwise
public import Idealize.ShloMosaic.Lib.SortFacts
public import Idealize.ShloMosaic.Lib.SortPrefix

@[expose] public section

noncomputable section

namespace Cert.Own.Route

open Idealize.ShloMosaic

variable {n : Nat}

/-- Position `i` holds the greatest value and is the first that does. -/
def First (f : Fin n → EReal) (i : Fin n) : Prop := ∀ j, f j < f i ∨ (f j = f i ∧ i ≤ j)

/-- The same among the positions other than `a`. -/
def Second (f : Fin n → EReal) (a i : Fin n) : Prop := i ≠ a ∧ ∀ j, j ≠ a → f j < f i ∨ (f j = f i ∧ i ≤ j)

theorem First.le {f : Fin n → EReal} {i : Fin n} (h : First f i) (j : Fin n) : f j ≤ f i :=
  (h j).elim le_of_lt fun e => le_of_eq e.1

theorem Second.le {f : Fin n → EReal} {a i : Fin n} (h : Second f a i) (j : Fin n) (hj : j ≠ a) : f j ≤ f i :=
  (h.2 j hj).elim le_of_lt fun e => le_of_eq e.1

/-- Among finitely many positions, not none, one is the first with the greatest value. -/
theorem exists_among (f : Fin n → EReal) (s : Finset (Fin n)) (hs : s.Nonempty) :
    ∃ i ∈ s, ∀ j ∈ s, f j < f i ∨ (f j = f i ∧ i ≤ j) := by
  obtain ⟨k, hk, hm⟩ := s.exists_max_image f hs
  have ht : (s.filter fun j => f j = f k).Nonempty := ⟨k, Finset.mem_filter.2 ⟨hk, rfl⟩⟩
  have hi := Finset.mem_filter.1 (Finset.min'_mem _ ht)
  refine ⟨_, hi.1, fun j hj => ?_⟩
  rw [hi.2]
  rcases lt_or_eq_of_le (hm j hj) with h | h
  · exact Or.inl h
  · exact Or.inr ⟨h, Finset.min'_le _ _ (Finset.mem_filter.2 ⟨hj, h⟩)⟩

theorem exists_first (f : Fin n → EReal) (hn : 0 < n) : ∃ i, First f i := by
  obtain ⟨i, _, h⟩ := exists_among f Finset.univ ⟨⟨0, hn⟩, Finset.mem_univ _⟩
  exact ⟨i, fun j => h j (Finset.mem_univ _)⟩

theorem exists_second (f : Fin n → EReal) (a : Fin n) (hn : 1 < n) : ∃ i, Second f a i := by
  have hs : (Finset.univ.erase a).Nonempty := by
    rw [← Finset.card_pos, Finset.card_erase_of_mem (Finset.mem_univ _), Finset.card_univ, Fintype.card_fin]
    omega
  obtain ⟨i, hi, h⟩ := exists_among f (Finset.univ.erase a) hs
  exact ⟨i, Finset.ne_of_mem_erase hi, fun j hj => h j (Finset.mem_erase.2 ⟨hj, Finset.mem_univ _⟩)⟩

/-! ## By a stable sort -/

/-- The order of a sort by decreasing value. -/
def above (f : Fin n → EReal) (k k' : Fin n) : Bool := decide (f k' < f k)

/-- The same with equal values in the order of their positions. -/
def ahead (f : Fin n → EReal) (k k' : Fin n) : Bool := decide (f k' < f k) || (decide (f k = f k') && decide (k < k'))

theorem ahead_total (f : Fin n → EReal) : StrictTotalBefore (ahead f) :=
  StrictTotalBefore.of_key_then_position (fun x y => decide (y < x)) f (fun a => by simp)
    (fun a b c h h' => by simp only [decide_eq_true_eq] at *; exact lt_trans h' h)
    (fun a b => by
      simp only [decide_eq_true_eq]
      rcases lt_trichotomy a b with h | h | h
      · exact Or.inr (Or.inr h)
      · exact Or.inr (Or.inl h)
      · exact Or.inl h)

/-- On positions in increasing order the stable sort by value is the sort by value and position. -/
theorem stable_eq (f : Fin n → EReal) (l : List (Fin n)) (hl : l.Pairwise (· < ·)) : stableSort (above f) l = stableSort (ahead f) l := by
  induction l with
  | nil => rfl
  | cons a l ih =>
    rw [List.pairwise_cons] at hl
    unfold stableSort
    rw [ih hl.2]
    refine insertBefore_congr _ _ a _ fun b hb => ?_
    have hab : a < b := hl.1 b ((perm_stableSort _ _).mem_iff.1 hb)
    simp [above, ahead, not_lt_of_gt hab]

theorem sortedFrom_above (f : Fin n → EReal) (k : Fin n) : sortedFrom (above f) k = sortedFrom (ahead f) k := by
  have e : sortPositions n (above f) = sortPositions n (ahead f) := stable_eq f _ (List.pairwise_lt_finRange n)
  unfold sortedFrom
  simp only [e, List.get_eq_getElem, Fin.val_cast]

theorem not_ahead {f : Fin n → EReal} {i j : Fin n} (h : f j < f i ∨ (f j = f i ∧ i ≤ j)) : ahead f j i = false := by
  rcases h with h | ⟨h, h'⟩
  · simp [ahead, not_lt_of_gt h, h.ne]
  · simp [ahead, h, not_lt_of_ge h']

/-- The sort puts the first choice first. -/
theorem sorted_first {f : Fin n → EReal} {i : Fin n} (h : First f i) (hn : 0 < n) : sortedFrom (above f) ⟨0, hn⟩ = i := by
  rw [sortedFrom_above]
  exact (ahead_total f).sortedFrom_eq_of_prefix (k := 1) hn (fun _ => i) (fun a b _ => Subsingleton.elim a b)
    (fun a b hab => absurd hab (by omega)) (fun _ p _ => not_ahead (h p)) 0

/-- And the second choice second. -/
theorem sorted_second {f : Fin n → EReal} {a i : Fin n} (h : First f a) (h' : Second f a i) (hn : 1 < n) :
    sortedFrom (above f) ⟨1, hn⟩ = i := by
  rw [sortedFrom_above]
  refine (ahead_total f).sortedFrom_eq_of_prefix (k := 2) hn ![a, i] ?_ ?_ ?_ 1
  · intro x y hxy
    fin_cases x <;> fin_cases y
    · rfl
    · exact absurd hxy.symm h'.1
    · exact absurd hxy h'.1
    · rfl
  · intro x y hxy
    fin_cases x <;> fin_cases y
    · exact absurd hxy (lt_irrefl _)
    · exact not_ahead (h i)
    · exact absurd hxy (by decide)
    · exact absurd hxy (lt_irrefl _)
  · intro x p hp
    fin_cases x
    · exact not_ahead (h p)
    · exact not_ahead (h'.2 p fun e => hp 0 e.symm)

/-! ## By a fold -/

/-- A fold reaches the value that absorbs all others, when it is one of them. -/
theorem foldl_reach {α ι : Type} (op : α → α → α) [Std.Commutative op] [Std.Associative op] (w : α) (g : ι → α) (l : List ι)
    (hw : ∀ j ∈ l, op w (g j) = w) (acc : α) (hacc : op acc w = w) (hm : ∃ j ∈ l, g j = w) : l.foldl (fun r j => op r (g j)) acc = w := by
  have stay : ∀ l : List ι, (∀ j ∈ l, op w (g j) = w) → l.foldl (fun r j => op r (g j)) w = w := by
    intro l hl
    induction l with
    | nil => rfl
    | cons b l ih =>
      rw [List.foldl_cons, hl b (by simp)]
      exact ih fun j hj => hl j (by simp [hj])
  induction l generalizing acc with
  | nil => obtain ⟨j, hj, _⟩ := hm; exact absurd hj (by simp)
  | cons b l ih =>
    rw [List.foldl_cons]
    by_cases hb : g b = w
    · rw [hb, hacc]
      exact stay l fun j hj => hw j (by simp [hj])
    · obtain ⟨j, hj, hjw⟩ := hm
      have hjl : j ∈ l := by
        rcases List.mem_cons.1 hj with e | e
        · exact absurd (e ▸ hjw) hb
        · exact e
      refine ih (fun k hk => hw k (by simp [hk])) _ ?_ ⟨j, hjl, hjw⟩
      rw [Std.Associative.assoc (op := op), Std.Commutative.comm (op := op) (g b) w, hw b (by simp), hacc]

/-- The fold of maxima is the first choice's value. -/
theorem fold_greatest {f : Fin n → EReal} {i : Fin n} (h : First f i) : (List.finRange n).foldl (fun r j => max r (f j)) ⊥ = f i :=
  foldl_reach max (f i) f _ (fun j _ => max_eq_left (h.le j)) ⊥ (max_eq_right bot_le) ⟨i, List.mem_finRange i, rfl⟩

/-- A small number as a word. -/
abbrev word (i : Nat) : BitVec 32 := BitVec.ofNat 32 i

theorem minsi_word : ∀ i j : Fin 9, i ≤ j → IntOp.minsi (word i) (word j) = word i := by decide
theorem minsi_top : ∀ i : Fin 9, IntOp.minsi 2147483647#32 (word i) = word i := by decide

/-- The least position whose value is the greatest is the first choice. -/
theorem fold_least {f : Fin n → EReal} {i : Fin n} (h : First f i) (hn : n ≤ 8) :
    (List.finRange n).foldl (fun r j => IntOp.minsi r (if f j = f i then word j else word n)) 2147483647#32 = word i := by
  refine foldl_reach IntOp.minsi (word i) (fun j : Fin n => if f j = f i then word j else word n) _ (fun j _ => ?_) _
    (minsi_top ⟨i, by omega⟩) ⟨i, List.mem_finRange i, if_pos rfl⟩
  split
  · rename_i e
    rcases h j with hj | hj
    · exact absurd e hj.ne
    · exact minsi_word ⟨i, by omega⟩ ⟨j, by omega⟩ hj.2
  · exact minsi_word ⟨i, by omega⟩ ⟨n, by omega⟩ (by simp only [Fin.mk_le_mk]; omega)

/-- With the first choice overwritten by minus infinity, the second choice is the first one. -/
theorem masked {f : Fin n → EReal} {a i : Fin n} (h : Second f a i) (hi : f i ≠ ⊥) : First (fun j => if j = a then ⊥ else f j) i := by
  intro j
  dsimp only
  rw [if_neg h.1]
  by_cases hj : j = a
  · rw [if_pos hj]; exact Or.inl (bot_lt_iff_ne_bot.2 hi)
  · rw [if_neg hj]; exact h.2 j hj

end Cert.Own.Route

end
-- ==== Proof.RouteBody.lean ====
/- What the router's kernel writes for one token of a block, from the two rows of logits: the chosen group's number times eight plus
   the expert's number within the group, and the gate. -/
module

public import proofs.«01_k».proof.Proof.Gen.RouteIdeal.Skeleton
public import proofs.«01_k».proof.Proof.RouteChoice
public import Idealize.ShloMosaic.PureOps.Reduce
public import Idealize.ShloMosaic.Lib.IdealHost

@[expose] public section

set_option maxRecDepth 16384

noncomputable section

namespace Cert.Own.Route

open Cert.RouteIdeal Cert.RouteIdeal.Gen Idealize.ShloMosaic

/-! ## Reductions down a column -/

theorem neg_inf : Ideal.ofBits .f32 0xFF800000#32 = ⊥ := by simp [Ideal.ofBits, Ideal.ieee]
theorem one_word : Ideal.ofBits .f32 0x3F800000#32 = 1 := Ideal.ofBits_one_f32

theorem col_greatest {n m : Nat} (x : FVec Ideal ⟨2, ![n, m]⟩ .f32) (h : (⟨2, ![n, m]⟩ : Shape).Reduces [0] ⟨1, ![m]⟩) (hφ : FKind.Formats .f32)
    (hacc) (c : Fin m) (i : Fin n) (hi : First (fun j => x (ix2 j c)) i) :
    multiReduction (F := Ideal) .maximumf [0] ⟨1, ![m]⟩ x 0xFF800000#32 h hφ hacc (ix1 c) = x (ix2 i c) := by
  show reduceFold h (fun a b : EReal => max a b) (Ideal.ofBits .f32 0xFF800000#32) x (ix1 c) = _
  rw [reduceFold_rows, neg_inf]
  refine Eq.trans ?_ (fold_greatest hi)
  congr 1
  funext r j
  exact congrArg (max r) (congrArg x (funext fun a => by fin_cases a <;> rfl))

theorem col_least {n m : Nat} (x : FVec Ideal ⟨2, ![n, m]⟩ .f32) (y : IVec ⟨2, ![n, m]⟩ 32) (h : (⟨2, ![n, m]⟩ : Shape).Reduces [0] ⟨1, ![m]⟩)
    (hacc) (c : Fin m) (i : Fin n) (hn : n ≤ 8) (hi : First (fun j => x (ix2 j c)) i)
    (hy : ∀ j, y (ix2 j c) = if x (ix2 j c) = x (ix2 i c) then word j else word n) :
    multiReductionI .minsi [0] ⟨1, ![m]⟩ y 2147483647#32 h hacc (ix1 c) = word i := by
  show reduceFold h IntOp.minsi 2147483647#32 y (ix1 c) = _
  rw [reduceFold_rows]
  refine Eq.trans ?_ (fold_least hi hn)
  congr 1
  funext r j
  refine congrArg (IntOp.minsi r) (Eq.trans (congrArg y (funext fun a => ?_)) (hy j))
  fin_cases a <;> rfl

/-! ## Reading single operations -/

theorem row_read {α : Type} (x : S512.Idx → α) (h : S512.ShapeCasts S1x512) (c : Fin 512) : shapeCast S1x512 x h (ix2 0 c) = x (ix1 c) := by
  pointwise

theorem oeq_word (x y : EReal) : (Ideal.cmp .oeq x y = 1#1) = (x = y) := by
  by_cases h : x = y <;> simp [Ideal.cmp, h]

theorem mark4 (x : FVec Ideal S4x512 .f32) (m : FVec Ideal S1x512 .f32) (h : S1x512.Broadcasts S4x512) (hi) (j : Fin 4) (c : Fin 512) :
    select (cmpf .oeq x (broadcastTo S4x512 m h)) (iota .tc S4x512 32 [0] hi) (broadcast S4x512 4#32) (ix2 j c)
      = if x (ix2 j c) = m (ix2 0 c) then word j else word 4 := by
  pointwise

theorem mark8 (x : FVec Ideal S8x512 .f32) (m : FVec Ideal S1x512 .f32) (h : S1x512.Broadcasts S8x512) (hi) (j : Fin 8) (c : Fin 512) :
    select (cmpf .oeq x (broadcastTo S8x512 m h)) (iota .tc S8x512 32 [0] hi) (broadcast S8x512 8#32) (ix2 j c)
      = if x (ix2 j c) = m (ix2 0 c) then word j else word 8 := by
  pointwise

/-! ## The groups -/

section
variable (v3 : Vec Ideal S40x1024 .f32) (v5 : Vec Ideal S512x1024 .f32) (v7 : Vec Ideal S40x1 .f32) (c : Fin 512)

theorem pay4_read (q : Fin 40) : k0_pay4 (F := Ideal) v3 v5 v7 (ix2 q c) = (∑ k : Fin 1024, v3 (ix2 q k) * v5 (ix2 c k)) + v7 (ix2 q 0) := by
  pointwise [k0_pay4]

theorem pay5_read (j : Fin 4) : k0_pay5 (F := Ideal) v3 v5 v7 (ix2 j c) = k0_pay4 (F := Ideal) v3 v5 v7 (ix2 ⟨32 + j, by omega⟩ c) := by
  pointwise [k0_pay5]

variable {g : Fin 4} (hg : First (fun j : Fin 4 => k0_pay5 (F := Ideal) v3 v5 v7 (ix2 j c)) g)
include hg

theorem pay6_read : k0_pay6 (F := Ideal) v3 v5 v7 (ix2 0 c) = k0_pay5 (F := Ideal) v3 v5 v7 (ix2 g c) :=
  (row_read _ _ c).trans (col_greatest _ _ _ _ c g hg)

theorem pay7_read : k0_pay7 (F := Ideal) v3 v5 v7 (ix2 0 c) = word g :=
  (row_read _ _ c).trans (col_least (k0_pay5 (F := Ideal) v3 v5 v7) _ _ _ c g (by decide) hg fun j => by
    rw [mark4, pay6_read v3 v5 v7 c hg])

theorem pay8_read : k0_pay8 (F := Ideal) v3 v5 v7 (ix2 0 c)
    = Ideal.div 1 (∑ j : Fin 4, Ideal.exp (k0_pay5 (F := Ideal) v3 v5 v7 (ix2 j c) - k0_pay5 (F := Ideal) v3 v5 v7 (ix2 g c))) := by
  pointwise [k0_pay8]
  rw [pay6_read v3 v5 v7 c hg]

theorem pay10_read (q : Fin 8) : k0_pay10 (k0_pay4 (F := Ideal) v3 v5 v7) (k0_pay7 (F := Ideal) v3 v5 v7) (k0_pay9 (F := Ideal) v3 v5 v7) 3#32 (ix2 q c)
    = k0_pay4 (F := Ideal) v3 v5 v7 (ix2 ⟨8 * g + q, by omega⟩ c) := by
  pointwise [k0_pay10, k0_pay9]
  rw [pay7_read v3 v5 v7 c hg]
  fin_cases g
  · exact congrArg (fun n => k0_pay4 (F := Ideal) v3 v5 v7 (ix2 n c)) (Fin.ext (Nat.zero_add _).symm)
  · rfl
  · rfl
  · rfl

end

/-! ## The experts of the group -/

theorem word_inj : ∀ i j : Fin 8, word i = word j → i = j := by decide

section
variable (v10 : FVec Ideal S40x512 .f32) (v20 : IVec S1x512 32) (v27 : FVec Ideal S1x512 .f32) (v40 : FVec Ideal S8x512 .f32) (w : BitVec 32) (c : Fin 512)
variable {i₁ i₂ : Fin 8} (h1 : First (fun j : Fin 8 => k0_pay10 (F := Ideal) v10 v20 v40 w (ix2 j c)) i₁)
include h1

theorem pay11_read : k0_pay11 (F := Ideal) v10 v20 v40 w (ix2 0 c) = k0_pay10 (F := Ideal) v10 v20 v40 w (ix2 i₁ c) :=
  (row_read _ _ c).trans (col_greatest _ _ _ _ c i₁ h1)

theorem pay12_read : k0_pay12 (F := Ideal) v10 v20 v40 w (ix2 0 c) = word i₁ :=
  (row_read _ _ c).trans (col_least (k0_pay10 (F := Ideal) v10 v20 v40 w) _ _ _ c i₁ (by decide) h1 fun j => by
    rw [mark8, pay11_read v10 v20 v40 w c h1])

theorem pay13_read (q : Fin 8) : k0_pay13 (F := Ideal) v10 v20 v40 w (ix2 q c) = if q = i₁ then ⊥ else k0_pay10 (F := Ideal) v10 v20 v40 w (ix2 q c) := by
  pointwise [k0_pay13]
  rw [pay12_read v10 v20 v40 w c h1, neg_inf]
  by_cases e : q = i₁
  · rw [e, if_pos rfl]
    simp [IntOp.cmpi, Scalar.select]
  · rw [if_neg e]
    have hne : (BitVec.ofNat 32 q == word i₁) = false := beq_eq_false_iff_ne.2 fun h => e (word_inj q i₁ h)
    simp [IntOp.cmpi, Scalar.select, hne]

variable (h2 : Second (fun j : Fin 8 => k0_pay10 (F := Ideal) v10 v20 v40 w (ix2 j c)) i₁ i₂) (hb : k0_pay10 (F := Ideal) v10 v20 v40 w (ix2 i₂ c) ≠ ⊥)
include h2 hb

theorem second_read : First (fun j : Fin 8 => k0_pay13 (F := Ideal) v10 v20 v40 w (ix2 j c)) i₂ := by
  simp only [pay13_read v10 v20 v40 w c h1]
  exact masked h2 hb

theorem pay14_read : k0_pay14 (F := Ideal) v10 v20 v40 w (ix2 0 c) = k0_pay10 (F := Ideal) v10 v20 v40 w (ix2 i₂ c) := by
  refine (row_read _ _ c).trans ((col_greatest _ _ _ _ c i₂ (second_read v10 v20 v40 w c h1 h2 hb)).trans ?_)
  rw [pay13_read v10 v20 v40 w c h1, if_neg h2.1]

theorem pay16_read : k0_pay16 (F := Ideal) v10 v20 v40 w (ix2 0 c) = v20 (ix2 0 c) * 8#32 + word i₂ := by
  refine congrArg (fun b : BitVec 32 => v20 (ix2 0 c) * 8#32 + b) ((row_read _ _ c).trans (col_least (k0_pay13 (F := Ideal) v10 v20 v40 w) _ _ _ c i₂
    (by decide) (second_read v10 v20 v40 w c h1 h2 hb) fun j => ?_))
  rw [mark8, pay14_read v10 v20 v40 w c h1 h2 hb, pay13_read v10 v20 v40 w c h1 i₂, if_neg h2.1]

theorem pay17_read (s : Fin 2) : k0_pay17 (F := Ideal) v10 v20 v40 w (ix2 s c) = v20 (ix2 0 c) * 8#32 + word (![i₁, i₂] s) := by
  pointwise [k0_pay17, k0_pay15]
  fin_cases s
  · exact congrArg (fun b : BitVec 32 => v20 (ix2 0 c) * 8#32 + b) (pay12_read v10 v20 v40 w c h1)
  · exact pay16_read v10 v20 v40 w c h1 h2 hb

theorem pay18_read (s : Fin 2) : k0_pay18 (F := Ideal) v10 v20 v27 v40 w (ix2 s c)
    = Ideal.div (if s = 0 then v27 (ix2 0 c) else v27 (ix2 0 c) * Ideal.exp (k0_pay10 (F := Ideal) v10 v20 v40 w (ix2 i₂ c) - k0_pay10 (F := Ideal) v10 v20 v40 w (ix2 i₁ c)))
      (1 + Ideal.exp (k0_pay10 (F := Ideal) v10 v20 v40 w (ix2 i₂ c) - k0_pay10 (F := Ideal) v10 v20 v40 w (ix2 i₁ c))) := by
  pointwise [k0_pay18]
  rw [← pay11_read v10 v20 v40 w c h1, ← pay14_read v10 v20 v40 w c h1 h2 hb]
  fin_cases s <;> rfl

end

end Cert.Own.Route

end
-- ==== Proof.RouteLaunch.lean ====
/- What one block of the router's launch leaves: the two rows of expert numbers and the two rows of gates, of the block's rows, the
   stacked weights and the stacked bias. -/
module

public import proofs.«01_k».proof.Proof.RouteBody
public import proofs.«01_k».proof.Proof.Gen.RouteIdeal.Value

@[expose] public section

set_option maxRecDepth 16384

noncomputable section

namespace Cert.Own.Route

open Cert.RouteIdeal Cert.RouteIdeal.Gen Cert.RouteIdeal.Value Idealize.ShloMosaic Idealize.ShloMosaic.TcCoe Idealize.SL.Sem

theorem zeros2 : (![0, 0] : Fin 2 → Nat) = fun _ => 0 := funext fun a => by fin_cases a <;> rfl

/-- The expert numbers of a block. -/
def eidBlock (x : Vec Ideal S512x1024 .f32) (w : Vec Ideal S40x1024 .f32) (b : Vec Ideal S40x1 .f32) : Vec Ideal S2x512 .i32 :=
  k0_pay17 (F := Ideal) (k0_pay4 (F := Ideal) w x b) (k0_pay7 (F := Ideal) w x b) (k0_pay9 (F := Ideal) w x b) 3#32

/-- The gates of a block. -/
def gateBlock (x : Vec Ideal S512x1024 .f32) (w : Vec Ideal S40x1024 .f32) (b : Vec Ideal S40x1 .f32) : Vec Ideal S2x512 .f32 :=
  k0_pay18 (F := Ideal) (k0_pay4 (F := Ideal) w x b) (k0_pay7 (F := Ideal) w x b) (k0_pay8 (F := Ideal) w x b) (k0_pay9 (F := Ideal) w x b) 3#32

/-! A load of a whole buffer reads it. -/

theorem load_rows (g : Memref sig .tc .vmem S512x1024 .f32) (h : g.IsWhole) (x : Vec Ideal S512x1024 .f32) :
    View.readAt (Elt Ideal) g.view (Rect.unit (s := S512x1024) ![0, 0] ![512, 1024] inb_S512x1024_S512x1024_0_0).toLoadRect (h.unread x) = x := by
  show View.readAt (Elt Ideal) g.view (Rect.unit ![0, 0] S512x1024.size inb_S512x1024_S512x1024_0_0).toLoadRect (h.unread x) = x
  rw [View.readAt_eq_ld, h.read_unread, View.ld_unit_zero zeros2]
theorem load_weights (g : Memref sig .tc .vmem S40x1024 .f32) (h : g.IsWhole) (x : Vec Ideal S40x1024 .f32) :
    View.readAt (Elt Ideal) g.view (Rect.unit (s := S40x1024) ![0, 0] ![40, 1024] inb_S40x1024_S40x1024_0_0).toLoadRect (h.unread x) = x := by
  show View.readAt (Elt Ideal) g.view (Rect.unit ![0, 0] S40x1024.size inb_S40x1024_S40x1024_0_0).toLoadRect (h.unread x) = x
  rw [View.readAt_eq_ld, h.read_unread, View.ld_unit_zero zeros2]
theorem load_bias (g : Memref sig .tc .vmem S40x1 .f32) (h : g.IsWhole) (x : Vec Ideal S40x1 .f32) :
    View.readAt (Elt Ideal) g.view (Rect.unit (s := S40x1) ![0, 0] ![40, 1] inb_S40x1_S40x1_0_0).toLoadRect (h.unread x) = x := by
  show View.readAt (Elt Ideal) g.view (Rect.unit ![0, 0] S40x1.size inb_S40x1_S40x1_0_0).toLoadRect (h.unread x) = x
  rw [View.readAt_eq_ld, h.read_unread, View.ld_unit_zero zeros2]

section
variable (c : Dev nD) (i : grid0.Coords) (arg1 : Memref sig .tc .vmem S512x1024 .f32) (harg1 : arg1.IsWhole) (arg2 : Memref sig .tc .vmem S40x1024 .f32) (harg2 : arg2.IsWhole) (arg3 : Memref sig .tc .vmem S40x1 .f32) (harg3 : arg3.IsWhole) (arg4 : Memref sig .tc .vmem S2x512 .i32) (harg4 : arg4.IsWhole) (arg5 : Memref sig .tc .vmem S2x512 .f32) (harg5 : arg5.IsWhole) (arg6 : Memref sig .tc .vmem S2x512 .i32) (harg6 : arg6.IsWhole) (arg7 : Memref sig .tc .vmem S32x128 .f32) (harg7 : arg7.IsWhole) (arg8 : Memref sig .tc .vmem S32x128 .f32) (harg8 : arg8.IsWhole)
  (x0 : Vec Ideal S512x1024 .f32) (x1 : Vec Ideal S40x1024 .f32) (x2 : Vec Ideal S40x1 .f32) (xs0 : Vec Ideal S32x128 .f32)

theorem eid_A (hc0 : cond0_0 i) :
    out0_A_3 (F := Ideal) c i arg1 harg1 arg2 harg2 arg3 harg3 arg4 harg4 arg5 harg5 arg6 harg6 arg7 harg7 arg8 harg8 hc0 x0 x1 x2 = eidBlock x0 x1 x2 := by
  unfold out0_A_3
  rw [View.read_writes_junk_eq_canon]
  show View.canon ([⟨Rect.unit ![0, 0] S2x512.size inb_S2x512_S2x512_0_0,
    k0_pay17 (kernelRun0_A.sl.r c arg1 harg1 arg2 harg2 arg3 harg3 x0 x1 x2) (kernelRun0_A.sl.r_1 c arg1 harg1 arg2 harg2 arg3 harg3 x0 x1 x2) (kernelRun0_A.sl.r_3 c arg1 harg1 arg2 harg2 arg3 harg3 x0 x1 x2) 3#32⟩] : List (View.Piece (Elt Ideal) S2x512 .i32)) = _
  rw [View.canon_unit_zero zeros2]
  simp only [kernelRun0_A.sl.r, kernelRun0_A.sl.r_1, kernelRun0_A.sl.r_2, kernelRun0_A.sl.r_3, load_rows, load_weights, load_bias]
  rfl

theorem gate_A (hc0 : cond0_0 i) :
    out0_A_4 (F := Ideal) c i arg1 harg1 arg2 harg2 arg3 harg3 arg4 harg4 arg5 harg5 arg6 harg6 arg7 harg7 arg8 harg8 hc0 x0 x1 x2 = gateBlock x0 x1 x2 := by
  unfold out0_A_4
  rw [View.read_writes_junk_eq_canon]
  show View.canon ([⟨Rect.unit ![0, 0] S2x512.size inb_S2x512_S2x512_0_0,
    k0_pay18 (kernelRun0_A.sl.r c arg1 harg1 arg2 harg2 arg3 harg3 x0 x1 x2) (kernelRun0_A.sl.r_1 c arg1 harg1 arg2 harg2 arg3 harg3 x0 x1 x2) (kernelRun0_A.sl.r_2 c arg1 harg1 arg2 harg2 arg3 harg3 x0 x1 x2) (kernelRun0_A.sl.r_3 c arg1 harg1 arg2 harg2 arg3 harg3 x0 x1 x2) 3#32⟩] : List (View.Piece (Elt Ideal) S2x512 .f32)) = _
  rw [View.canon_unit_zero zeros2]
  simp only [kernelRun0_A.sl.r, kernelRun0_A.sl.r_1, kernelRun0_A.sl.r_2, kernelRun0_A.sl.r_3, load_rows, load_weights, load_bias]
  rfl

theorem eid_B (hc0 : ¬cond0_0 i) :
    out0_B_3 (F := Ideal) c i arg1 harg1 arg2 harg2 arg3 harg3 arg4 harg4 arg5 harg5 arg6 harg6 arg7 harg7 arg8 harg8 hc0 x0 x1 x2 xs0 = eidBlock x0 x1 x2 := by
  unfold out0_B_3
  rw [View.read_writes_junk_eq_canon]
  show View.canon ([⟨Rect.unit ![0, 0] S2x512.size inb_S2x512_S2x512_0_0,
    k0_pay17 (kernelRun0_B.sl.r c arg1 harg1 arg2 harg2 arg3 harg3 x0 x1 x2) (kernelRun0_B.sl.r_1 c arg1 harg1 arg2 harg2 arg3 harg3 x0 x1 x2) (kernelRun0_B.sl.r_3 c arg1 harg1 arg2 harg2 arg3 harg3 x0 x1 x2) 3#32⟩] : List (View.Piece (Elt Ideal) S2x512 .i32)) = _
  rw [View.canon_unit_zero zeros2]
  simp only [kernelRun0_B.sl.r, kernelRun0_B.sl.r_1, kernelRun0_B.sl.r_2, kernelRun0_B.sl.r_3, load_rows, load_weights, load_bias]
  rfl

theorem gate_B (hc0 : ¬cond0_0 i) :
    out0_B_4 (F := Ideal) c i arg1 harg1 arg2 harg2 arg3 harg3 arg4 harg4 arg5 harg5 arg6 harg6 arg7 harg7 arg8 harg8 hc0 x0 x1 x2 xs0 = gateBlock x0 x1 x2 := by
  unfold out0_B_4
  rw [View.read_writes_junk_eq_canon]
  show View.canon ([⟨Rect.unit ![0, 0] S2x512.size inb_S2x512_S2x512_0_0,
    k0_pay18 (kernelRun0_B.sl.r c arg1 harg1 arg2 harg2 arg3 harg3 x0 x1 x2) (kernelRun0_B.sl.r_1 c arg1 harg1 arg2 harg2 arg3 harg3 x0 x1 x2) (kernelRun0_B.sl.r_2 c arg1 harg1 arg2 harg2 arg3 harg3 x0 x1 x2) (kernelRun0_B.sl.r_3 c arg1 harg1 arg2 harg2 arg3 harg3 x0 x1 x2) 3#32⟩] : List (View.Piece (Elt Ideal) S2x512 .f32)) = _
  rw [View.canon_unit_zero zeros2]
  simp only [kernelRun0_B.sl.r, kernelRun0_B.sl.r_1, kernelRun0_B.sl.r_2, kernelRun0_B.sl.r_3, load_rows, load_weights, load_bias]
  rfl

end

variable (m : (ℓ : Loc nD τ sig) → Buf (Elt Ideal) ℓ) (ρ : Dev nD → PrngReg)

/-- The five arguments. -/
abbrev argH (c : Dev nD) : FVec Ideal S65536x1024 .f32 := m ((c : Thread nD τ).loc main_arg0)
abbrev argWg (c : Dev nD) : FVec Ideal S1024x4 .f32 := m ((c : Thread nD τ).loc main_arg1)
abbrev argBg (c : Dev nD) : FVec Ideal S4 .f32 := m ((c : Thread nD τ).loc main_arg2)
abbrev argWe (c : Dev nD) : FVec Ideal S1024x32 .f32 := m ((c : Thread nD τ).loc main_arg3)
abbrev argBe (c : Dev nD) : FVec Ideal S32 .f32 := m ((c : Thread nD τ).loc main_arg4)

/-- Which block each window stands at. -/
theorem index0 : ∀ t : Fin cfg0.N, win0_0.index t (0 : Fin 2) = t.val ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)

/-- What a point leaves in the two results. -/
theorem point_eid (c : Dev nD) (t : Fin cfg0.N) : (outsAt0 m c t.val t.isLt).1 = eidBlock (iblk m c 0 t) (iblk m c 1 t) (iblk m c 2 t) := by
  by_cases h0 : t.val % 128 = 0
  · rw [outsAt0_A m c t h0, eid_A]
  · rw [outsAt0_B m c t h0, eid_B]
theorem point_gate (c : Dev nD) (t : Fin cfg0.N) : (outsAt0 m c t.val t.isLt).2.1 = gateBlock (iblk m c 0 t) (iblk m c 1 t) (iblk m c 2 t) := by
  by_cases h0 : t.val % 128 = 0
  · rw [outsAt0_A m c t h0, gate_A]
  · rw [outsAt0_B m c t h0, gate_B]

/-- The row of the hidden states that a block's row is. -/
def row (t : Nat) (ht : t < 128) (r : Fin 512) : Fin 65536 := ⟨512 * t + r.val, by omega⟩

theorem rows_apply (c : Dev nD) (t : Fin cfg0.N) (ht : t.val < 128) (r : Fin 512) (k : Fin 1024) :
    iblk m c 0 t (ix2 r k) = argH m c (ix2 (row t.val ht r) k) := by
  obtain ⟨e0, e1⟩ := index0 t
  unfold argH
  rw [← V_main_arg0 m c]
  show V m c main_arg0 (((cfg0.win 0).blk t).view.emb (ix2 r k)) = V m c main_arg0 (ix2 _ _)
  refine congrArg _ (funext fun a => Fin.ext ?_)
  match a with
  | ⟨0, _⟩ => show win0_0.index t (0 : Fin 2) * 512 + 1 * r.val = 512 * t.val + r.val; omega
  | ⟨1, _⟩ => show win0_0.index t (1 : Fin 2) * 1024 + 1 * k.val = k.val; omega

/-- The stacked weights and the stacked bias, as the launch finds them. -/
theorem V_weights (c : Dev nD) : V m c main_v3 = concatenate S40x1024 0 [⟨S32x1024, transpose S32x1024 [1, 0] (argWe m c) transposes_S1024x32_S32x1024_1_0⟩,
    ⟨S4x1024, transpose S4x1024 [1, 0] (argWg m c) transposes_S1024x4_S4x1024_1_0⟩,
    ⟨S4x1024, broadcastInDim S4x1024 ![] bcast_S_S4x1024 (constant S_ .f32 0x00000000#32)⟩] concatenates_S32x1024_S4x1024_S4x1024_S40x1024_d0 := by
  unfold V
  after_results
  rfl
theorem V_bias (c : Dev nD) : V m c main_v6 = shapeCast S40x1 (concatenate S40 0 [⟨S32, argBe m c⟩, ⟨S4, argBg m c⟩,
    ⟨S4, broadcastInDim S4 ![] bcast_S_S4 (constant S_ .f32 0x00000000#32)⟩] concatenates_S32_S4_S4_S40_d0) shapeCasts_S40_S40x1 := by
  unfold V
  after_results
  rfl

theorem weights_apply (c : Dev nD) (t : Fin cfg0.N) (q : Fin 40) (k : Fin 1024) : iblk m c 1 t (ix2 q k) = V m c main_v3 (ix2 q k) := by
  obtain ⟨e0, e1⟩ := index1 t
  show V m c main_v3 (((cfg0.win 1).blk t).view.emb (ix2 q k)) = V m c main_v3 (ix2 q k)
  refine congrArg _ (funext fun a => Fin.ext ?_)
  match a with
  | ⟨0, _⟩ => show win0_1.index t (0 : Fin 2) * 40 + 1 * q.val = q.val; omega
  | ⟨1, _⟩ => show win0_1.index t (1 : Fin 2) * 1024 + 1 * k.val = k.val; omega
theorem bias_apply (c : Dev nD) (t : Fin cfg0.N) (q : Fin 40) : iblk m c 2 t (ix2 q 0) = V m c main_v6 (ix2 q 0) := by
  obtain ⟨e0, e1⟩ := index2 t
  show V m c main_v6 (((cfg0.win 2).blk t).view.emb (ix2 q 0)) = V m c main_v6 (ix2 q 0)
  refine congrArg _ (funext fun a => Fin.ext ?_)
  match a with
  | ⟨0, _⟩ => show win0_2.index t (0 : Fin 2) * 40 + 1 * q.val = q.val; omega
  | ⟨1, _⟩ => show win0_2.index t (1 : Fin 2) * 1 + 1 * 0 = 0; omega

theorem weights_expert (c : Dev nD) (q : Fin 32) (k : Fin 1024) : V m c main_v3 (ix2 ⟨q, by omega⟩ k) = argWe m c (ix2 k q) := by
  rw [V_weights]
  pointwise
theorem weights_group (c : Dev nD) (j : Fin 4) (k : Fin 1024) : V m c main_v3 (ix2 ⟨32 + j, by omega⟩ k) = argWg m c (ix2 k j) := by
  rw [V_weights]
  pointwise
theorem bias_expert (c : Dev nD) (q : Fin 32) : V m c main_v6 (ix2 ⟨q, by omega⟩ 0) = argBe m c (ix1 q) := by
  rw [V_bias]
  pointwise
theorem bias_group (c : Dev nD) (j : Fin 4) : V m c main_v6 (ix2 ⟨32 + j, by omega⟩ 0) = argBg m c (ix1 j) := by
  rw [V_bias]
  pointwise

end Cert.Own.Route

end
-- ==== Proof.RouteSpec.lean ====
/- The router's choice in plain words. A token has four group logits and, in each group, eight expert logits. The group is the first
   with the greatest logit; in it two experts are chosen, the first with the greatest logit and the first with the greatest among the
   rest. An expert's number is eight times the group's plus its own; its gate is the group's softmax weight times the softmax weight
   among the two. -/
module

public import proofs.«01_k».proof.Proof.RouteChoice
public import proofs.«01_k».proof.Proof.HgrnMath

@[expose] public section

noncomputable section

namespace Cert.Own.Route

open Idealize.ShloMosaic Cert.Own.Hgrn

section
variable (H : FVec Ideal ⟨2, ![65536, 1024]⟩ .f32) (Wg : FVec Ideal ⟨2, ![1024, 4]⟩ .f32) (Bg : FVec Ideal ⟨1, ![4]⟩ .f32)
  (We : FVec Ideal ⟨2, ![1024, 32]⟩ .f32) (Be : FVec Ideal ⟨1, ![32]⟩ .f32)

/-- A token's group logits. -/
def group (r : Fin 65536) (j : Fin 4) : EReal := (∑ k : Fin 1024, H (ix2 r k) * Wg (ix2 k j)) + Bg (ix1 j)

/-- A token's expert logits in a group. -/
def member (r : Fin 65536) (g : Fin 4) (q : Fin 8) : EReal :=
  (∑ k : Fin 1024, H (ix2 r k) * We (ix2 k ⟨8 * g + q, by omega⟩)) + Be (ix1 ⟨8 * g + q, by omega⟩)

end

/-- The group and the two experts of a token. -/
structure Chosen (a : Fin 4 → EReal) (b : Fin 4 → Fin 8 → EReal) (g : Fin 4) (i₁ i₂ : Fin 8) : Prop where
  group : First a g
  first : First (b g) i₁
  second : Second (b g) i₁ i₂

/-- The experts' numbers. -/
def eid (g : Fin 4) (i₁ i₂ : Fin 8) (s : Fin 2) : BitVec 32 := word g * 8#32 + word (![i₁, i₂] s)

/-- The group's weight. -/
def groupWeight (a : Fin 4 → EReal) (g : Fin 4) : EReal := Ideal.div 1 (∑ j : Fin 4, Ideal.exp (a j - a g))

/-- The gates, from the group's weight and the two experts' logits. -/
def gate (p x y : EReal) (s : Fin 2) : EReal := Ideal.div (if s = 0 then p else p * Ideal.exp (y - x)) (1 + Ideal.exp (y - x))

theorem exists_chosen (a : Fin 4 → EReal) (b : Fin 4 → Fin 8 → EReal) : ∃ g i₁ i₂, Chosen a b g i₁ i₂ := by
  obtain ⟨g, hg⟩ := exists_first a (by decide)
  obtain ⟨i₁, h1⟩ := exists_first (b g) (by decide)
  obtain ⟨i₂, h2⟩ := exists_second (b g) i₁ (by decide)
  exact ⟨g, i₁, i₂, hg, h1, h2⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem group_real {H Wg Bg} (hH : ∀ i, IsReal (H i)) (hW : ∀ i, IsReal (Wg i)) (hB : ∀ i, IsReal (Bg i)) (r : Fin 65536) (j : Fin 4) :
    IsReal (group H Wg Bg r j) :=
  (IsReal.sum _ _ fun _ => IsReal.mul (hH _) (hW _)).add (hB _)
theorem member_real {H We Be} (hH : ∀ i, IsReal (H i)) (hW : ∀ i, IsReal (We i)) (hB : ∀ i, IsReal (Be i)) (r : Fin 65536) (g : Fin 4) (q : Fin 8) :
    IsReal (member H We Be r g q) :=
  (IsReal.sum _ _ fun _ => IsReal.mul (hH _) (hW _)).add (hB _)

theorem IsReal.ne_bot {x : EReal} (h : IsReal x) : x ≠ ⊥ := by obtain ⟨r, rfl⟩ := h; exact EReal.coe_ne_bot r

end Cert.Own.Route

end
-- ==== Proof.RouteRows.lean ====
/- The router's launch as a whole: in each of a token's two columns stands the number and the gate of an expert chosen for it. -/
module

public import proofs.«01_k».proof.Proof.RouteLaunch
public import proofs.«01_k».proof.Proof.RouteSpec

@[expose] public section

set_option maxRecDepth 16384

noncomputable section

namespace Cert.Own.Route

open Cert.RouteIdeal Cert.RouteIdeal.Gen Cert.RouteIdeal.Value Idealize.ShloMosaic Idealize.ShloMosaic.TcCoe Idealize.SL.Sem

variable (m : (ℓ : Loc nD τ sig) → Buf (Elt Ideal) ℓ)

/-- The logits of a token, of the launch's arguments. -/
abbrev groupAt (c : Dev nD) : Fin 65536 → Fin 4 → EReal := group (argH m c) (argWg m c) (argBg m c)
abbrev memberAt (c : Dev nD) : Fin 65536 → Fin 4 → Fin 8 → EReal := member (argH m c) (argWe m c) (argBe m c)

section
variable (c : Dev nD) (t : Fin cfg0.N) (ht : t.val < 128) (r : Fin 512)

/-- The block's logits are the token's. -/
theorem block_group (j : Fin 4) : k0_pay5 (F := Ideal) (iblk m c 1 t) (iblk m c 0 t) (iblk m c 2 t) (ix2 j r) = groupAt m c (row t.val ht r) j := by
  rw [pay5_read, pay4_read, bias_apply, bias_group]
  refine congrArg (· + argBg m c (ix1 j)) (Finset.sum_congr rfl fun k _ => ?_)
  rw [weights_apply, weights_group, rows_apply m c t ht, mul_comm]
theorem block_member (g : Fin 4) (q : Fin 8) : k0_pay4 (F := Ideal) (iblk m c 1 t) (iblk m c 0 t) (iblk m c 2 t) (ix2 ⟨8 * g + q, by omega⟩ r)
    = memberAt m c (row t.val ht r) g q := by
  rw [pay4_read, bias_apply, bias_expert m c ⟨8 * g + q, by omega⟩]
  refine congrArg (· + argBe m c (ix1 ⟨8 * g + q, by omega⟩)) (Finset.sum_congr rfl fun k _ => ?_)
  rw [weights_apply, weights_expert m c ⟨8 * g + q, by omega⟩, rows_apply m c t ht, mul_comm]

variable {g : Fin 4} {i₁ i₂ : Fin 8} (h : Chosen (groupAt m c (row t.val ht r)) (memberAt m c (row t.val ht r)) g i₁ i₂)
  (hb : memberAt m c (row t.val ht r) g i₂ ≠ ⊥)
include h

theorem block_chosen : First (fun j : Fin 4 => k0_pay5 (F := Ideal) (iblk m c 1 t) (iblk m c 0 t) (iblk m c 2 t) (ix2 j r)) g := by
  rw [show (fun j : Fin 4 => k0_pay5 (F := Ideal) (iblk m c 1 t) (iblk m c 0 t) (iblk m c 2 t) (ix2 j r)) = groupAt m c (row t.val ht r) from
    funext fun j => block_group m c t ht r j]
  exact h.group

theorem block_le (q : Fin 8) : k0_pay10 (F := Ideal) (k0_pay4 (F := Ideal) (iblk m c 1 t) (iblk m c 0 t) (iblk m c 2 t))
    (k0_pay7 (F := Ideal) (iblk m c 1 t) (iblk m c 0 t) (iblk m c 2 t)) (k0_pay9 (F := Ideal) (iblk m c 1 t) (iblk m c 0 t) (iblk m c 2 t)) 3#32 (ix2 q r)
      = memberAt m c (row t.val ht r) g q := by
  rw [pay10_read _ _ _ r (block_chosen m c t ht r h), block_member m c t ht]

theorem block_les : (fun q : Fin 8 => k0_pay10 (F := Ideal) (k0_pay4 (F := Ideal) (iblk m c 1 t) (iblk m c 0 t) (iblk m c 2 t))
    (k0_pay7 (F := Ideal) (iblk m c 1 t) (iblk m c 0 t) (iblk m c 2 t)) (k0_pay9 (F := Ideal) (iblk m c 1 t) (iblk m c 0 t) (iblk m c 2 t)) 3#32 (ix2 q r))
      = memberAt m c (row t.val ht r) g := funext fun q => block_le m c t ht r h q

include hb

theorem block_eid (s : Fin 2) : eidBlock (iblk m c 0 t) (iblk m c 1 t) (iblk m c 2 t) (ix2 s r) = eid g i₁ i₂ s := by
  unfold eidBlock
  rw [pay17_read _ _ _ _ r (by rw [block_les m c t ht r h]; exact h.first) (by rw [block_les m c t ht r h]; exact h.second)
    (by rw [block_le m c t ht r h]; exact hb), pay7_read _ _ _ r (block_chosen m c t ht r h)]
  rfl

theorem block_gate (s : Fin 2) : gateBlock (iblk m c 0 t) (iblk m c 1 t) (iblk m c 2 t) (ix2 s r)
    = gate (groupWeight (groupAt m c (row t.val ht r)) g) (memberAt m c (row t.val ht r) g i₁) (memberAt m c (row t.val ht r) g i₂) s := by
  unfold gateBlock
  rw [pay18_read _ _ _ _ _ r (by rw [block_les m c t ht r h]; exact h.first) (by rw [block_les m c t ht r h]; exact h.second)
    (by rw [block_le m c t ht r h]; exact hb), pay8_read _ _ _ r (block_chosen m c t ht r h), block_le m c t ht r h, block_le m c t ht r h]
  simp only [block_group m c t ht]
  rfl

end

/-! ## The result arrays -/

section
variable (c : Dev nD) (s : Fin 2) (r : Fin 65536)

theorem place : row (r.val / 512) (by omega) ⟨r.val % 512, by omega⟩ = r := Fin.ext (by show 512 * (r.val / 512) + r.val % 512 = r.val; omega)

/-- The first result holds a block's expert numbers at the block's tokens. -/
theorem block_result (t : Fin cfg0.N) (ht : t.val < 128) (q : Fin 512) :
    G3 m c (ix2 s (row t.val ht q)) = eidBlock (iblk m c 0 t) (iblk m c 1 t) (iblk m c 2 t) (ix2 s q) := by
  have hp : pt3Of (ix2 s (row t.val ht q)) = t.val := by
    show 128 * (s.val / 2 - 0) + 1 * ((512 * t.val + q.val) / 512 - 0) = _
    omega
  have hl : loc3Of (ix2 s (row t.val ht q)) = ix2 s q := by
    funext a
    refine Fin.ext ?_
    match a with
    | ⟨0, _⟩ => show s.val % 2 = s.val; omega
    | ⟨1, _⟩ => show (512 * t.val + q.val) % 512 = q.val; omega
  unfold G3
  rw [dif_pos (lt_of_eq_of_lt hp t.isLt), fold0_congr m c _ _ _ (by omega) hp, ← outsAt0_sweep m c _ t.isLt, hl, point_eid m c t]

variable {g : Fin 4} {i₁ i₂ : Fin 8} (h : Chosen (groupAt m c r) (memberAt m c r) g i₁ i₂) (hb : memberAt m c r g i₂ ≠ ⊥)
include h hb

theorem result_eid : G3 m c (ix2 s r) = eid g i₁ i₂ s := by
  have hN : r.val / 512 < 128 := by omega
  have hn : r.val / 512 < cfg0.N := lt_of_lt_of_eq hN N_0.symm
  rw [← place r] at h hb ⊢
  rw [block_result m c s ⟨r.val / 512, hn⟩ hN]
  exact block_eid m c ⟨r.val / 512, hn⟩ hN ⟨r.val % 512, by omega⟩ h hb s

theorem result_gate : G4 m c (ix2 s r) = gate (groupWeight (groupAt m c r) g) (memberAt m c r g i₁) (memberAt m c r g i₂) s := by
  have hp : pt4Of (ix2 s r) = r.val / 512 := by
    show 128 * (s.val / 2 - 0) + 1 * (r.val / 512 - 0) = _
    omega
  have hN : r.val / 512 < 128 := by omega
  have hn : r.val / 512 < cfg0.N := lt_of_lt_of_eq hN N_0.symm
  have hl : loc4Of (ix2 s r) = ix2 s ⟨r.val % 512, by omega⟩ := by
    funext a
    refine Fin.ext ?_
    match a with
    | ⟨0, _⟩ => show s.val % 2 = s.val; omega
    | ⟨1, _⟩ => show r.val % 512 = r.val % 512; rfl
  have e := place r
  rw [← e] at h hb
  unfold G4
  rw [dif_pos (hp ▸ hn), fold0_congr m c _ _ _ (by omega) hp, ← outsAt0_sweep m c _ hn, hl, point_gate m c ⟨_, hn⟩]
  refine (block_gate m c ⟨r.val / 512, hn⟩ hN ⟨r.val % 512, by omega⟩ h hb s).trans ?_
  show gate (groupWeight (groupAt m c (row (r.val / 512) _ ⟨r.val % 512, _⟩)) g) (memberAt m c (row (r.val / 512) _ ⟨r.val % 512, _⟩) g i₁)
    (memberAt m c (row (r.val / 512) _ ⟨r.val % 512, _⟩) g i₂) s = _
  rw [e]

end

end Cert.Own.Route

end
-- ==== Proof.RouteTop.lean ====
/- Three of the reference's array operations, read at a row: the positions and the values of a row's greatest entries, a row's
   maximum, and one group's logits taken out of each row's. -/
module

public import proofs.«01_k».proof.Proof.RouteChoice
public import Idealize.ShloMosaic.PureOps.Reduce
public import Idealize.ShloMosaic.Lib.IdealHost

@[expose] public section

set_option maxRecDepth 8192

noncomputable section

namespace Cert.Own.Route

open Idealize.ShloMosaic

section
variable {M n k : Nat} (x : FVec Ideal ⟨2, ![M, n]⟩ .f32) (h : (⟨2, ![M, n]⟩ : Shape).Slices (fun _ => 0) ⟨2, ![M, k]⟩) (hk : k ≤ n)
  (R : Fin M) (s : Fin k)

/-- A row's sort, by decreasing value. -/
theorem before_row (i : (⟨2, ![M, n]⟩ : Shape).Idx) (hi : ∀ k : Fin n, Shape.Idx.along i (1 : Fin 2) k = ix2 R k) :
    (fun a b : Fin n => (FloatOps.cmpfTotal (F := Ideal) (φ := .f32) .gt (x (Shape.Idx.along i (1 : Fin 2) a)) (x (Shape.Idx.along i (1 : Fin 2) b)) == 1#1))
      = above fun j => x (ix2 R j) := by
  funext a b
  rw [hi, hi]
  show (BitVec.ofBool (decide (x (ix2 R b) < x (ix2 R a))) == 1#1) = decide (x (ix2 R b) < x (ix2 R a))
  by_cases h : x (ix2 R b) < x (ix2 R a)
  · rw [decide_eq_true h]; rfl
  · rw [decide_eq_false h]; rfl

theorem along_row (s : Fin n) (a : Fin n) : Shape.Idx.along (ix2 R s : (⟨2, ![M, n]⟩ : Shape).Idx) (1 : Fin 2) a = ix2 R a := by
  funext b
  refine Fin.ext ?_
  match b with
  | ⟨0, _⟩ => rfl
  | ⟨1, _⟩ => rfl

/-- A slice from the start, at an index. -/
theorem slice_row {α : Type} (y : (⟨2, ![M, n]⟩ : Shape).Idx → α) : extractStridedSlice ⟨2, ![M, k]⟩ (fun _ => 0) y h (ix2 R s) = y (ix2 R ⟨s, by omega⟩) := by
  unfold extractStridedSlice
  refine congrArg y (funext fun b => Fin.ext ?_)
  match b with
  | ⟨0, _⟩ => exact Nat.zero_add _
  | ⟨1, _⟩ => exact Nat.zero_add _

/-- The value and the position at place `s` of a row's greatest entries. -/
theorem top_value : (Host.topK ⟨2, ![M, k]⟩ 1 (FloatOps.cmpfTotal (F := Ideal) (φ := .f32) .gt) x h).1 (ix2 R s)
    = x (ix2 R (sortedFrom (above fun j => x (ix2 R j)) ⟨s, by omega⟩)) := by
  unfold Host.topK Host.sort2
  simp only [Nat.one_lt_ofNat, ↓reduceDIte]
  refine (slice_row h hk R s _).trans ?_
  have e := before_row x R (ix2 R ⟨s, by omega⟩) fun j => along_row R ⟨s, by omega⟩ j
  exact congrArg x ((congrArg (Shape.Idx.along (ix2 R ⟨s, by omega⟩ : (⟨2, ![M, n]⟩ : Shape).Idx) (1 : Fin 2))
    (congrArg (fun f => sortedFrom f (⟨s, by omega⟩ : Fin n)) e)).trans (along_row R _ _))
theorem top_place : (Host.topK ⟨2, ![M, k]⟩ 1 (FloatOps.cmpfTotal (F := Ideal) (φ := .f32) .gt) x h).2 (ix2 R s)
    = word (sortedFrom (above fun j => x (ix2 R j)) ⟨s, by omega⟩) := by
  unfold Host.topK Host.sort2
  simp only [Nat.one_lt_ofNat, ↓reduceDIte]
  refine (slice_row h hk R s _).trans ?_
  have e := before_row x R (ix2 R ⟨s, by omega⟩) fun j => along_row R ⟨s, by omega⟩ j
  exact congrArg (iotaInDim ⟨2, ![M, n]⟩ 32 (1 : Fin 2)) ((congrArg (Shape.Idx.along (ix2 R ⟨s, by omega⟩ : (⟨2, ![M, n]⟩ : Shape).Idx) (1 : Fin 2))
    (congrArg (fun f => sortedFrom f (⟨s, by omega⟩ : Fin n)) e)).trans (along_row R _ _))

/-- A row's maximum is its greatest entry. -/
theorem row_max {g : Fin n} (hg : ∀ j, x (ix2 R j) ≤ x (ix2 R g)) (u : FVec Ideal ⟨0, ![]⟩ .f32) (hu0 : ∀ i, u i = ⊥)
    (hr : (⟨2, ![M, n]⟩ : Shape).ReducesTo [1] ⟨1, ![M]⟩) (hu : 0 < (⟨0, ![]⟩ : Shape).numel) :
    Host.reduce FloatOps.maximumf x u hr hu (ix1 R) = x (ix2 R g) := by
  pointwise
  rw [hu0]
  refine le_antisymm ?_ ?_
  · exact (Finset.fold_max_le _).2 ⟨bot_le, fun j _ => hg j⟩
  · exact (Finset.le_fold_max _).2 (Or.inr ⟨g, Finset.mem_univ g, le_rfl⟩)

end

/-! ## One group of each row -/

/-- The dimension numbers of `x[i, g]` for `x : [M, G, E]` and pairs of indices laid out as `[M, 2]`. -/
abbrev pairDims (M G E : Nat) (wf : GatherDims.WF ⟨3, ![M, G, E]⟩ ⟨2, ![M, 2]⟩ ⟨2, ![M, E]⟩ [1] [0, 1] [] [0, 1] [] 1 ![1, 1, E]) :
    GatherDims ⟨3, ![M, G, E]⟩ ⟨2, ![M, 2]⟩ ⟨2, ![M, E]⟩ where
  offsetDims := [1]
  collapsedSliceDims := [0, 1]
  operandBatchingDims := []
  startIndicesBatchingDims := []
  startIndexMap := [0, 1]
  indexVectorDim := 1
  sliceSizes := ![1, 1, E]
  wf := wf

/-- Entry `(i, q)` of the gather is entry `q` of the row that the pair at `i` names. -/
theorem gather_pair {α : Type} {M G E w : Nat} (hM : 0 < M) (hG : 0 < G)
    (wf : GatherDims.WF ⟨3, ![M, G, E]⟩ ⟨2, ![M, 2]⟩ ⟨2, ![M, E]⟩ [1] [0, 1] [] [0, 1] [] 1 ![1, 1, E])
    (x : (⟨3, ![M, G, E]⟩ : Shape).Idx → α) (idx : IVec ⟨2, ![M, 2]⟩ w) (i : Fin M) (q : Fin E) :
    Host.gather (pairDims M G E wf) x idx (ix2 i q)
      = x (ix3 ⟨min (idx (ix2 i 0)).toInt.toNat (M - 1), by omega⟩ ⟨min (idx (ix2 i 1)).toInt.toNat (G - 1), by omega⟩ q) := by
  unfold Host.gather
  refine congrArg x (funext fun d => Fin.ext ?_)
  show (pairDims M G E wf).start (ix2 i q) idx d + (pairDims M G E wf).batchCoord (ix2 i q) d
      + (pairDims M G E wf).offCoord (ix2 i q) d = _
  rw [GatherDims.batchCoord_eq_zero _ _ _ List.not_mem_nil, Nat.add_zero]
  have h0 (l) : (⟨0, l⟩ : Fin (Shape.rank ⟨3, ![M, G, E]⟩)) ∈ (pairDims M G E wf).startIndexMap := List.mem_cons_self
  have h1 (l) : (⟨1, l⟩ : Fin (Shape.rank ⟨3, ![M, G, E]⟩)) ∈ (pairDims M G E wf).startIndexMap := List.mem_cons_of_mem _ List.mem_cons_self
  have h2 (l) : (⟨2, l⟩ : Fin (Shape.rank ⟨3, ![M, G, E]⟩)) ∉ (pairDims M G E wf).startIndexMap := fun h => by
    rcases List.mem_cons.1 h with h | h
    · exact absurd (congrArg Fin.val h) (by decide : ¬ 2 = 0)
    · exact absurd (congrArg Fin.val (List.mem_singleton.1 h)) (by decide : ¬ 2 = 1)
  match d with
  | ⟨0, _⟩ =>
    rw [GatherDims.offCoord_eq_zero _ _ _ (fun h => ((GatherDims.mem_sKept _ _).mp h).1 (h0 _)), Nat.add_zero]
    unfold GatherDims.start
    rw [dif_pos (h0 _)]
    refine congrArg₂ (fun u v => min (idx u).toInt.toNat v) (funext fun e => Fin.ext ?_) rfl
    match e with
    | ⟨0, _⟩ => rfl
    | ⟨1, _⟩ => rfl
  | ⟨1, _⟩ =>
    rw [GatherDims.offCoord_eq_zero _ _ _ (fun h => ((GatherDims.mem_sKept _ _).mp h).1 (h1 _)), Nat.add_zero]
    unfold GatherDims.start
    rw [dif_pos (h1 _)]
    refine congrArg₂ (fun u v => min (idx u).toInt.toNat v) (funext fun e => Fin.ext ?_) rfl
    match e with
    | ⟨0, _⟩ => rfl
    | ⟨1, _⟩ => rfl
  | ⟨2, _⟩ =>
    unfold GatherDims.start
    rw [dif_neg (h2 _), Nat.zero_add]
    rfl

end Cert.Own.Route

end
-- ==== Proof.RouteRefDefs.lean ====
/- The reference's arrays named, and its three results said in these names. -/
module

public import proofs.«01_k».proof.Proof.Gen.RouteRefIdeal.Run
public import proofs.«01_k».proof.Proof.RouteTop

@[expose] public section

set_option maxRecDepth 8192

noncomputable section

namespace Cert.Own.RouteRef

open Cert.RouteRefIdeal Cert.RouteRefIdeal.Gen Cert.RouteRefIdeal.Value
open Idealize.ShloMosaic Idealize.ShloMosaic.TcCoe Idealize.ShloMosaic.StableHlo Idealize.SL.Sem

/-- Columns of one entry a row, and the same in every column. -/
def col {α : Type} (v : S65536.Idx → α) : S65536x1.Idx → α := broadcastInDim S65536x1 ![0] bcast_S65536_S65536x1_0 v
def wide4 (v : FVec Ideal S65536 .f32) : FVec Ideal S65536x4 .f32 := broadcastInDim S65536x4 ![0, 1] bcast_S65536x1_S65536x4_0_1 (col v)
def wide2 {α : Type} (v : S65536x1.Idx → α) : S65536x2.Idx → α := broadcastInDim S65536x2 ![0, 1] bcast_S65536x1_S65536x2_0_1 v

/-- Minus infinity, and the greater of it and a row's maximum. -/
def low : FVec Ideal S_ .f32 := constant S_ .f32 0xFF800000#32
def atLeast (v : FVec Ideal S65536 .f32) : FVec Ideal S65536 .f32 := maximumf (broadcastInDim S65536 ![] bcast_S_S65536 low) v

/-- Softmax along rows of four and of two. -/
def exps4 (x : FVec Ideal S65536x4 .f32) : FVec Ideal S65536x4 .f32 :=
  Host.exp (subf x (wide4 (atLeast (Host.reduce FloatOps.maximumf x low reducesTo_S65536x4_S65536_d1 h_S_))))
def soft4 (x : FVec Ideal S65536x4 .f32) : FVec Ideal S65536x4 .f32 :=
  Host.divf (exps4 x) (wide4 (Host.reduceAdd (exps4 x) (constant S_ .f32 0x00000000#32) reducesTo_S65536x4_S65536_d1 h_S_))
def exps2 (x : FVec Ideal S65536x2 .f32) : FVec Ideal S65536x2 .f32 :=
  Host.exp (subf x (wide2 (col (atLeast (Host.reduce FloatOps.maximumf x low reducesTo_S65536x2_S65536_d1 h_S_)))))
def soft2 (x : FVec Ideal S65536x2 .f32) : FVec Ideal S65536x2 .f32 :=
  Host.divf (exps2 x) (wide2 (col (Host.reduceAdd (exps2 x) (constant S_ .f32 0x00000000#32) reducesTo_S65536x2_S65536_d1 h_S_)))

/-- A row's greatest softmax entry, and the position of its greatest entry. -/
def weight (x : FVec Ideal S65536x4 .f32) : FVec Ideal S65536 .f32 :=
  Host.reduce FloatOps.maximumf (soft4 x) low reducesTo_S65536x4_S65536_d1 h_S_
def greatest (x : FVec Ideal S65536x4 .f32) : IVec S65536 32 :=
  shapeCast S65536 (Host.topK S65536x1 1 (FloatOps.cmpfTotal .gt) x sliceFits_S65536x4_S65536x1).2 shapeCasts_S65536x1_S65536

/-- A list of indices, a negative one counted from the end of `n`. -/
def fromEnd (n : BitVec 32) (v : IVec S65536 32) : IVec S65536 32 :=
  select (cmpi .slt v (broadcastInDim S65536 ![] bcast_S_S65536 (constantI S_ 32 0#32)))
    (addi v (broadcastInDim S65536 ![] bcast_S_S65536 (constantI S_ 32 n))) v
/-- Each row's own number with a group's. -/
def pairs (v : IVec S65536 32) : IVec S65536x2 32 :=
  concatenate S65536x2 1 [⟨S65536x1, col (fromEnd 65536#32 (iotaInDim S65536 32 0))⟩, ⟨S65536x1, col (fromEnd 4#32 v)⟩]
    concatenates_S65536x1_S65536x1_S65536x2_d1

/-- How many entries are an expert's number, in 128 columns alike. -/
def tally (v : IVec S65536x2 32) : FVec Ideal S32x128 .f32 :=
  broadcastInDim S32x128 ![0, 1] bcast_S32x1_S32x128_0_1 (broadcastInDim S32x1 ![0] bcast_S32_S32x1_0 (Host.reduceAdd (Host.reduceAdd (uitofp .f32 (cmpi .eq
    (broadcastInDim S65536x2x32 ![0, 1, 2] bcast_S65536x2x1_S65536x2x32_0_1_2 (broadcastInDim S65536x2x1 ![0, 1] bcast_S65536x2_S65536x2x1_0_1 v))
    (broadcastInDim S65536x2x32 ![0, 1, 2] bcast_S1x1x32_S65536x2x32_0_1_2 (broadcastInDim S1x1x32 ![2] bcast_S32_S1x1x32_2 (iotaInDim S32 32 0)))))
    (constant S_ .f32 0x00000000#32) reducesTo_S65536x2x32_S65536x32_d1 h_S_) (constant S_ .f32 0x00000000#32) reducesTo_S65536x32_S32_d0 h_S_))

section
variable (H : FVec Ideal S65536x1024 .f32) (Wg : FVec Ideal S1024x4 .f32) (Bg : FVec Ideal S4 .f32) (We : FVec Ideal S1024x32 .f32)
  (Be : FVec Ideal S32 .f32)

/-- The group logits. -/
def groups : FVec Ideal S65536x4 .f32 :=
  addf (Host.dotGeneral dot_S65536x1024_S1024x4_S65536x4_1_0_0_1_n_n none H Wg)
    (broadcastInDim S65536x4 ![0, 1] bcast_S1x4_S65536x4_0_1 (broadcastInDim S1x4 ![1] bcast_S4_S1x4_1 Bg))
/-- The expert logits by groups. -/
def experts : FVec Ideal S65536x4x8 .f32 :=
  shapeCast S65536x4x8 (addf (Host.dotGeneral dot_S65536x1024_S1024x32_S65536x32_1_0_0_1_n_n none H We)
    (broadcastInDim S65536x32 ![0, 1] bcast_S1x32_S65536x32_0_1 (broadcastInDim S1x32 ![1] bcast_S32_S1x32_1 Be))) shapeCasts_S65536x32_S65536x4x8
/-- Those of the greatest group. -/
def members : FVec Ideal S65536x8 .f32 :=
  Host.gather gather_S65536x4x8_S65536x2_S65536x8_1_01_n_n_01_1_118 (experts H We Be) (pairs (greatest (groups H Wg Bg)))
/-- Its two greatest. -/
def top : FVec Ideal S65536x2 .f32 × IVec S65536x2 32 :=
  Host.topK S65536x2 1 (FloatOps.cmpfTotal .gt) (members H Wg Bg We Be) sliceFits_S65536x8_S65536x2

/-- The experts' numbers. -/
def choices : IVec S65536x2 32 :=
  addi (wide2 (muli (col (greatest (groups H Wg Bg))) (broadcastInDim S65536x1 ![] bcast_S_S65536x1 (constantI S_ 32 8#32)))) (top H Wg Bg We Be).2

/-- The three results. -/
def eids : IVec S2x65536 32 := transpose S2x65536 [1, 0] (choices H Wg Bg We Be) transposes_S65536x2_S2x65536_1_0
def gates : FVec Ideal S2x65536 .f32 :=
  transpose S2x65536 [1, 0] (mulf (wide2 (col (weight (groups H Wg Bg)))) (soft2 (top H Wg Bg We Be).1)) transposes_S65536x2_S2x65536_1_0

def cnts : FVec Ideal S32x128 .f32 := tally (choices H Wg Bg We Be)

end

variable (m : (ℓ : Loc nD τ sig) → Buf (Elt Ideal) ℓ) (ρ : Dev nD → PrngReg)

theorem gates_eq (c : Dev nD) : res_out1 m c = gates (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) := by
  unfold res_out1 res_main_v66
  rfl

/-- The reference's run leaves the three arrays and its arguments. -/
theorem run_named :
    θ_run defs (onTc (τ := τ) (main (F := Ideal))) ⟨m, fun _ => 0, ρ⟩ fun r => ∀ c : Dev nD,
      r.2.mem ((c.tc : Thread nD τ).loc main_v65) = eids (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v66) = gates (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v68) = cnts (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1, (h c).2.1.trans (gates_eq m c), (h c).2.2⟩) (run m ρ)

end Cert.Own.RouteRef

end
-- ==== Proof.RouteSoft.lean ====
/- Softmax of real entries. The greatest softmax entry is one over the sum of the exponentials of the differences to the greatest
   entry; a gate is the same whether the group's weight is multiplied by a softmax entry or into its numerator. -/
module

public import proofs.«01_k».proof.Proof.RouteSpec

@[expose] public section

noncomputable section

namespace Cert.Own.Route

open Idealize.ShloMosaic Cert.Own.Hgrn

theorem exp_real (x y : ℝ) : Ideal.exp ((x : EReal) - (y : EReal)) = ((Real.exp (x - y) : ℝ) : EReal) := by
  rw [← EReal.coe_sub, Ideal.exp_coe]

theorem exp_self {x : EReal} (h : IsReal x) : Ideal.exp (x - x) = 1 := by
  obtain ⟨r, rfl⟩ := h
  rw [exp_real, sub_self, Real.exp_zero]; rfl

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

/-- A sum of exponentials is a positive real. -/
theorem sum_exp {n : Nat} (a : Fin n → EReal) (ha : ∀ j, IsReal (a j)) (g : Fin n) :
    ∃ S : ℝ, 0 < S ∧ ∑ j, Ideal.exp (a j - a g) = (S : EReal) := by
  choose r hr using ha
  refine ⟨∑ j, Real.exp (r j - r g), Finset.sum_pos (fun j _ => Real.exp_pos _) ⟨g, Finset.mem_univ g⟩, ?_⟩
  rw [coe_sum]
  exact Finset.sum_congr rfl fun j _ => by rw [hr j, hr g, exp_real]

/-- The greatest entry's softmax is the greatest. -/
theorem soft_le {n : Nat} (a : Fin n → EReal) (ha : ∀ j, IsReal (a j)) (g : Fin n) (hg : ∀ j, a j ≤ a g) (j : Fin n) :
    Ideal.div (Ideal.exp (a j - a g)) (∑ j, Ideal.exp (a j - a g)) ≤ Ideal.div (Ideal.exp (a g - a g)) (∑ j, Ideal.exp (a j - a g)) := by
  obtain ⟨S, hS, e⟩ := sum_exp a ha g
  have hj := hg j
  obtain ⟨x, hx⟩ := ha j
  obtain ⟨y, hy⟩ := ha g
  rw [e, Ideal.div_coe hS.ne', Ideal.div_coe hS.ne', hx, hy, exp_real, exp_real, ← EReal.coe_mul, ← EReal.coe_mul, EReal.coe_le_coe_iff]
  rw [hx, hy, EReal.coe_le_coe_iff] at hj
  exact mul_le_mul_of_nonneg_right (Real.exp_le_exp.2 (by linarith)) (by positivity)

/-- The gates as the weight times the softmax of the two logits. -/
theorem gate_soft (p : EReal) {x y : EReal} (hx : IsReal x) (hy : IsReal y) (s : Fin 2) :
    p * Ideal.div (Ideal.exp (![x, y] s - x)) (∑ j : Fin 2, Ideal.exp (![x, y] j - x)) = gate p x y s := by
  have h1 : Ideal.exp (x - x) = 1 := exp_self hx
  obtain ⟨a, rfl⟩ := hx
  obtain ⟨b, rfl⟩ := hy
  rw [Fin.sum_univ_two]
  show p * Ideal.div (Ideal.exp (![(a : EReal), (b : EReal)] s - a)) (Ideal.exp ((a : EReal) - a) + Ideal.exp ((b : EReal) - a)) = _
  unfold gate
  have hD : (1 : EReal) + Ideal.exp ((b : EReal) - a) = ((1 + Real.exp (b - a) : ℝ) : EReal) := by
    rw [exp_real, EReal.coe_add]; rfl
  have hne : (1 + Real.exp (b - a) : ℝ) ≠ 0 := by positivity
  rw [h1, hD, Ideal.div_coe hne, Ideal.div_coe hne, ← mul_assoc]
  refine congrArg (· * (((1 / (1 + Real.exp (b - a)) : ℝ)) : EReal)) ?_
  fin_cases s
  · show p * Ideal.exp ((a : EReal) - a) = p
    rw [h1, mul_one]
  · rfl

end Cert.Own.Route

end
-- ==== Proof.RouteRefRows.lean ====
/- The reference's two results, read at a token and a place: the chosen expert's number and its gate. -/
module

public import proofs.«01_k».proof.Proof.RouteRefDefs
public import proofs.«01_k».proof.Proof.RouteSoft

@[expose] public section

set_option maxRecDepth 8192

noncomputable section

namespace Cert.Own.RouteRef

open Cert.RouteRefIdeal Cert.RouteRefIdeal.Gen Cert.Own.Hgrn Cert.Own.Route Idealize.ShloMosaic

theorem low_apply (i : S_.Idx) : low i = ⊥ := by
  show Ideal.ofBits .f32 0xFF800000#32 = ⊥
  simp [Ideal.ofBits, Ideal.ieee]

section
variable (v : FVec Ideal S65536 .f32) (R : Fin 65536)

theorem atLeast_apply : atLeast v (ix1 R) = v (ix1 R) := by
  show max (low _) (v (ix1 R)) = _
  rw [low_apply]
  exact max_eq_right bot_le

end

section
variable (x : FVec Ideal S65536x4 .f32) (R : Fin 65536) {g : Fin 4} (hg : ∀ j, x (ix2 R j) ≤ x (ix2 R g))
include hg

theorem exps4_apply (j : Fin 4) : exps4 x (ix2 R j) = Ideal.exp (x (ix2 R j) - x (ix2 R g)) := by
  have e : exps4 x (ix2 R j) = Ideal.exp (x (ix2 R j) - atLeast (Host.reduce FloatOps.maximumf x low Facts₀.reducesTo_S65536x4_S65536_d1 Facts₀.h_S_) (ix1 R)) := by
    pointwise [exps4, wide4, col]
  rw [e, atLeast_apply, row_max x R hg low low_apply]

theorem soft4_apply (j : Fin 4) : soft4 x (ix2 R j)
    = Ideal.div (Ideal.exp (x (ix2 R j) - x (ix2 R g))) (∑ k : Fin 4, Ideal.exp (x (ix2 R k) - x (ix2 R g))) := by
  have e : soft4 x (ix2 R j) = Ideal.div (exps4 x (ix2 R j)) (∑ k : Fin 4, exps4 x (ix2 R k)) := by
    pointwise [soft4, wide4, col]
  rw [e]
  simp only [exps4_apply x R hg]

theorem weight_apply (hx : ∀ j, IsReal (x (ix2 R j))) : weight x (ix1 R) = groupWeight (fun j => x (ix2 R j)) g := by
  refine (row_max (soft4 x) R (g := g) (fun j => ?_) low low_apply _ _).trans ?_
  · rw [soft4_apply x R hg, soft4_apply x R hg]
    exact soft_le (fun j => x (ix2 R j)) hx g hg j
  · rw [soft4_apply x R hg, exp_self (hx g)]
    rfl

end

section
variable (x : FVec Ideal S65536x2 .f32) (R : Fin 65536) (hx : ∀ j, x (ix2 R j) ≤ x (ix2 R 0))
include hx

theorem exps2_apply (j : Fin 2) : exps2 x (ix2 R j) = Ideal.exp (x (ix2 R j) - x (ix2 R 0)) := by
  have e : exps2 x (ix2 R j) = Ideal.exp (x (ix2 R j) - atLeast (Host.reduce FloatOps.maximumf x low Facts₀.reducesTo_S65536x2_S65536_d1 Facts₀.h_S_) (ix1 R)) := by
    pointwise [exps2, wide2, col]
  rw [e, atLeast_apply, row_max x R hx low low_apply]

theorem soft2_apply (j : Fin 2) : soft2 x (ix2 R j)
    = Ideal.div (Ideal.exp (x (ix2 R j) - x (ix2 R 0))) (∑ k : Fin 2, Ideal.exp (x (ix2 R k) - x (ix2 R 0))) := by
  have e : soft2 x (ix2 R j) = Ideal.div (exps2 x (ix2 R j)) (∑ k : Fin 2, exps2 x (ix2 R k)) := by
    pointwise [soft2, wide2, col]
  rw [e]
  simp only [exps2_apply x R hx]

end

theorem greatest_apply (x : FVec Ideal S65536x4 .f32) (R : Fin 65536) {g : Fin 4} (hg : First (fun j => x (ix2 R j)) g) :
    greatest x (ix1 R) = word g := by
  have e : greatest x (ix1 R) = (Host.topK S65536x1 1 (FloatOps.cmpfTotal (F := Ideal) (φ := .f32) .gt) x Facts₀.sliceFits_S65536x4_S65536x1).2 (ix2 R 0) := by
    pointwise [greatest]
  rw [e, top_place x _ (by decide) R 0]
  exact congrArg (fun i : Fin 4 => word i) (sorted_first hg (by decide))

/-- A number below the middle is not counted from the end. -/
theorem not_negative (n : BitVec 32) (i : Nat) (hi : i < 2147483648) : Scalar.select (IntOp.cmpi .slt (word i) 0#32) (IntOp.addi (word i) n) (word i) = word i := by
  have e : IntOp.cmpi .slt (word i) 0#32 = 0#1 := by
    have hs : BitVec.slt (word i) 0#32 = false := by
      simp only [BitVec.slt, decide_eq_false_iff_not, BitVec.toInt_zero, not_lt]
      rw [BitVec.toInt_eq_toNat_cond, BitVec.toNat_ofNat]
      omega
    show BitVec.ofBool (BitVec.slt (word i) 0#32) = 0#1
    rw [hs]; rfl
  rw [e]; rfl

/-- A small number read out of its word and clamped. -/
theorem named {n i : Nat} {w : BitVec 32} (e : w = word i) (hi : i < n) (hn : n ≤ 65536) : min w.toInt.toNat (n - 1) = i := by
  have h : (word i).toInt.toNat = i := by
    rw [BitVec.toInt_eq_toNat_cond, BitVec.toNat_ofNat]
    omega
  rw [e, h]
  omega

theorem pairs_row (v : IVec S65536 32) (R : Fin 65536) : pairs v (ix2 R 0) = word R := by
  have e : pairs v (ix2 R 0) = Scalar.select (IntOp.cmpi .slt (word R) 0#32) (IntOp.addi (word R) 65536#32) (word R) := by
    pointwise [pairs, fromEnd, col]
  rw [e, not_negative _ _ (by omega)]

theorem pairs_group (v : IVec S65536 32) (R : Fin 65536) (g : Fin 4) (hv : v (ix1 R) = word g) : pairs v (ix2 R 1) = word g := by
  have e : pairs v (ix2 R 1) = Scalar.select (IntOp.cmpi .slt (v (ix1 R)) 0#32) (IntOp.addi (v (ix1 R)) 4#32) (v (ix1 R)) := by
    pointwise [pairs, fromEnd, col]
  rw [e, hv, not_negative _ _ (by omega)]

section
variable (H : FVec Ideal S65536x1024 .f32) (Wg : FVec Ideal S1024x4 .f32) (Bg : FVec Ideal S4 .f32) (We : FVec Ideal S1024x32 .f32)
  (Be : FVec Ideal S32 .f32) (R : Fin 65536)

theorem groups_apply (j : Fin 4) : groups H Wg Bg (ix2 R j) = group H Wg Bg R j := by
  unfold group
  pointwise [groups, dot_S65536x1024_S1024x4_S65536x4_1_0_0_1_n_n]

theorem experts_apply (g : Fin 4) (q : Fin 8) : experts H We Be (ix3 R g q) = member H We Be R g q := by
  unfold member
  pointwise [experts, dot_S65536x1024_S1024x32_S65536x32_1_0_0_1_n_n]
  simp only [Nat.mul_comm 8 g.val]

variable {g : Fin 4} {i₁ i₂ : Fin 8} (h : Chosen (group H Wg Bg R) (member H We Be R) g i₁ i₂)
include h

theorem first_group : First (fun j => groups H Wg Bg (ix2 R j)) g := by
  rw [show (fun j => groups H Wg Bg (ix2 R j)) = group H Wg Bg R from funext fun j => groups_apply H Wg Bg R j]
  exact h.group

theorem members_apply (q : Fin 8) : members H Wg Bg We Be (ix2 R q) = member H We Be R g q := by
  rw [← experts_apply]
  refine (gather_pair (by decide) (by decide) Facts₀.gather_S65536x4x8_S65536x2_S65536x8_1_01_n_n_01_1_118_wf _ _ R q).trans ?_
  have e0 := pairs_row (greatest (groups H Wg Bg)) R
  have e1 := pairs_group (greatest (groups H Wg Bg)) R g (greatest_apply _ R (first_group H Wg Bg We Be R h))
  exact congrArg (experts H We Be) (congrArg₂ (fun a b => ix3 a b q) (Fin.ext (named e0 R.isLt (by decide)))
    (Fin.ext (named e1 g.isLt (by decide))))

theorem members_row : (fun q => members H Wg Bg We Be (ix2 R q)) = member H We Be R g := funext fun q => members_apply H Wg Bg We Be R h q

theorem chosen_place (s : Fin 2) : sortedFrom (above fun q => members H Wg Bg We Be (ix2 R q)) ⟨s, by omega⟩ = ![i₁, i₂] s := by
  rw [members_row H Wg Bg We Be R h]
  fin_cases s
  · exact sorted_first h.first (by decide)
  · exact sorted_second h.first h.second (by decide)

theorem top_places (s : Fin 2) : (top H Wg Bg We Be).2 (ix2 R s) = word (![i₁, i₂] s) := by
  refine (top_place (members H Wg Bg We Be) _ (by decide) R s).trans ?_
  exact congrArg (fun i : Fin 8 => word i) (chosen_place H Wg Bg We Be R h s)
theorem top_values (s : Fin 2) : (top H Wg Bg We Be).1 (ix2 R s) = ![member H We Be R g i₁, member H We Be R g i₂] s := by
  refine (top_value (members H Wg Bg We Be) _ (by decide) R s).trans ?_
  rw [chosen_place H Wg Bg We Be R h s, members_apply H Wg Bg We Be R h]
  fin_cases s <;> rfl

theorem eids_apply (s : Fin 2) : eids H Wg Bg We Be (ix2 s R) = eid g i₁ i₂ s := by
  have e : eids H Wg Bg We Be (ix2 s R) = greatest (groups H Wg Bg) (ix1 R) * 8#32 + (top H Wg Bg We Be).2 (ix2 R s) := by
    pointwise [eids, choices, wide2, col]
    rfl
  rw [e, greatest_apply _ R (first_group H Wg Bg We Be R h), top_places H Wg Bg We Be R h]
  rfl

theorem gates_apply (hg : ∀ j, IsReal (group H Wg Bg R j)) (hm : ∀ q, IsReal (member H We Be R g q)) (s : Fin 2) :
    gates H Wg Bg We Be (ix2 s R) = gate (groupWeight (group H Wg Bg R) g) (member H We Be R g i₁) (member H We Be R g i₂) s := by
  have e : gates H Wg Bg We Be (ix2 s R) = weight (groups H Wg Bg) (ix1 R) * soft2 (top H Wg Bg We Be).1 (ix2 R s) := by
    pointwise [gates, wide2, col]
  have hv := top_values H Wg Bg We Be R h
  have hle : ∀ j, (top H Wg Bg We Be).1 (ix2 R j) ≤ (top H Wg Bg We Be).1 (ix2 R 0) := fun j => by
    rw [hv, hv]
    fin_cases j
    · exact le_rfl
    · exact h.first.le i₂
  rw [e, weight_apply _ R (first_group H Wg Bg We Be R h).le (fun j => by rw [groups_apply]; exact hg j), soft2_apply _ R hle]
  simp only [hv, groups_apply]
  exact gate_soft _ (hm i₁) (hm i₂) s

end

end Cert.Own.RouteRef

end
-- ==== Proof.RouteCount.lean ====
/- How many of a block's choices name an expert: the launch adds them, block after block, to a column it carries, and its fourth
   result is that column after the last block. -/
module

public import proofs.«01_k».proof.Proof.RouteRows

@[expose] public section

set_option maxRecDepth 16384

noncomputable section

namespace Cert.Own.Route

open Cert.RouteIdeal Cert.RouteIdeal.Gen Cert.RouteIdeal.Value Idealize.ShloMosaic Idealize.ShloMosaic.TcCoe Idealize.SL.Sem

/-- One where a number is the expert's, else zero. -/
def one (e : Fin 32) (v : BitVec 32) : EReal := if v = BitVec.ofNat 32 e.val then 1 else 0

/-! ## The operations -/

theorem mark_one (e : Fin 32) (v : BitVec 32) : Scalar.select (IntOp.cmpi CmpIPredicate.eq (BitVec.ofNat 32 e.val) v) (1 : EReal) 0 = one e v := by
  unfold one
  by_cases h : v = BitVec.ofNat 32 e.val
  · simp [IntOp.cmpi, Scalar.select, h]
  · have hne : (BitVec.ofNat 32 e.val == v) = false := beq_eq_false_iff_ne.2 fun g => h g.symm
    simp [IntOp.cmpi, Scalar.select, h, hne]

section
variable (v v' : IVec S1x512 32) (a b : FVec Ideal S32x1 .f32) (e : Fin 32) (l : Fin 128)

theorem pay21_read : k0_pay21 (F := Ideal) v (ix2 e 0) = ∑ r : Fin 512, one e (v (ix2 0 r)) := by
  pointwise [k0_pay21, k0_pay19]
  exact Finset.sum_congr rfl fun r _ => mark_one e _

theorem pay22_read : k0_pay22 (F := Ideal) v (ix2 e 0) = ∑ r : Fin 512, one e (v (ix2 0 r)) := by
  pointwise [k0_pay22, k0_pay20]
  exact Finset.sum_congr rfl fun r _ => mark_one e _

theorem pay1_read : k0_pay1 (F := Ideal) a b (ix2 e l) = b (ix2 e 0) + a (ix2 e 0) := by
  pointwise [k0_pay1]

theorem pay2_eq : k0_pay2 (F := Ideal) a b = k0_pay1 (F := Ideal) a b := by
  funext i
  obtain ⟨e, l, rfl⟩ : ∃ (e : Fin 32) (l : Fin 128), i = ix2 e l := ⟨i 0, i 1, eq_ix2 i⟩
  pointwise [k0_pay2]

theorem pay24_read : k0_pay24 (F := Ideal) v b (ix2 e 0) = b (ix2 e 0) + k0_pay21 (F := Ideal) v (ix2 e 0) := by
  pointwise [k0_pay24]

theorem pay3_read : k0_pay3 (F := Ideal) (ix2 e l) = 0 := by
  pointwise [k0_pay3]

/-- Two rows, one upon the other. -/
theorem rows_read (s : Fin 2) (r : Fin 512) :
    concatenate S2x512 0 [⟨S1x512, v⟩, ⟨S1x512, v'⟩] concatenates_S1x512_S1x512_S2x512_d0 (ix2 s r) = (![v, v'] s) (ix2 0 r) := by
  pointwise
  fin_cases s <;> rfl

end

/-! ## A block's part -/

section
variable (x : Vec Ideal S512x1024 .f32) (w : Vec Ideal S40x1024 .f32) (b : Vec Ideal S40x1 .f32) (p : FVec Ideal S32x1 .f32)

/-- The two rows of expert numbers of a block. -/
def firsts : IVec S1x512 32 :=
  k0_pay15 (F := Ideal) (k0_pay4 (F := Ideal) w x b) (k0_pay7 (F := Ideal) w x b) (k0_pay9 (F := Ideal) w x b) 3#32
def seconds : IVec S1x512 32 :=
  k0_pay16 (F := Ideal) (k0_pay4 (F := Ideal) w x b) (k0_pay7 (F := Ideal) w x b) (k0_pay9 (F := Ideal) w x b) 3#32

/-- What the block leaves, over the column it finds. -/
def cntBlock : Vec Ideal S32x128 .f32 := k0_pay1 (F := Ideal) (k0_pay22 (F := Ideal) (seconds x w b)) (k0_pay24 (F := Ideal) (firsts x w b) p)

/-- The block's choices of an expert. -/
def tally (e : Fin 32) : EReal := ∑ r : Fin 512, ∑ s : Fin 2, one e (eidBlock x w b (ix2 s r))

theorem cntBlock_read (e : Fin 32) (l : Fin 128) : cntBlock x w b p (ix2 e l) = p (ix2 e 0) + tally x w b e := by
  unfold cntBlock tally
  rw [pay1_read, pay24_read, pay21_read, pay22_read, add_assoc, ← Finset.sum_add_distrib]
  refine congrArg (p (ix2 e 0) + ·) (Finset.sum_congr rfl fun r _ => ?_)
  rw [Fin.sum_univ_two, show eidBlock x w b (ix2 0 r) = firsts x w b (ix2 0 r) from rows_read _ _ 0 r,
    show eidBlock x w b (ix2 1 r) = seconds x w b (ix2 0 r) from rows_read _ _ 1 r]

end

/-! ## What a point leaves -/

/-- The carried buffer's first column. -/
def first (y : Vec Ideal S32x128 .f32) : Vec Ideal S32x1 .f32 := View.ld y (Rect.unit (s := S32x128) ![0, 0] S32x1.size inb_S32x128_S32x1_0_0)

theorem first_read (y : Vec Ideal S32x128 .f32) (e : Fin 32) : first y (ix2 e 0) = y (ix2 e 0) :=
  congrArg y (funext fun a => Fin.ext (match a with
    | ⟨0, _⟩ => by show 0 + 1 * e.val = e.val; omega
    | ⟨1, _⟩ => rfl))

section
variable (c : Dev nD) (i : grid0.Coords) (arg1 : Memref sig .tc .vmem S512x1024 .f32) (harg1 : arg1.IsWhole) (arg2 : Memref sig .tc .vmem S40x1024 .f32) (harg2 : arg2.IsWhole) (arg3 : Memref sig .tc .vmem S40x1 .f32) (harg3 : arg3.IsWhole) (arg4 : Memref sig .tc .vmem S2x512 .i32) (harg4 : arg4.IsWhole) (arg5 : Memref sig .tc .vmem S2x512 .f32) (harg5 : arg5.IsWhole) (arg6 : Memref sig .tc .vmem S2x512 .i32) (harg6 : arg6.IsWhole) (arg7 : Memref sig .tc .vmem S32x128 .f32) (harg7 : arg7.IsWhole) (arg8 : Memref sig .tc .vmem S32x128 .f32) (harg8 : arg8.IsWhole)
  (x0 : Vec Ideal S512x1024 .f32) (x1 : Vec Ideal S40x1024 .f32) (x2 : Vec Ideal S40x1 .f32) (xs0 : Vec Ideal S32x128 .f32)

theorem zeroed (g : Memref sig .tc .vmem S32x128 .f32) : kernelRun0_A.sl.v111 (F := Ideal) c g = first (k0_pay3 (F := Ideal)) := by
  show View.ld (g.view.read (Elt Ideal) (g.view.writes (Elt Ideal) g.view.junk [⟨Rect.unit ![0, 0] S32x128.size inb_S32x128_S32x128_0_0, k0_pay3 (F := Ideal)⟩])) _ = _
  rw [View.read_writes_junk_eq_canon, View.canon_unit_zero zeros2]
  rfl

theorem load_carried : View.readAt (Elt Ideal) arg8.view (Rect.unit (s := S32x128) ![0, 0] S32x1.size inb_S32x128_S32x1_0_0).toLoadRect (harg8.unread xs0) = first xs0 := by
  rw [View.readAt_eq_ld, harg8.read_unread]
  rfl

theorem second_A : kernelRun0_A.sl.r_6 (F := Ideal) c arg1 harg1 arg2 harg2 arg3 harg3 x0 x1 x2 = k0_pay22 (F := Ideal) (seconds x0 x1 x2) := by
  simp only [kernelRun0_A.sl.r_6, kernelRun0_A.sl.r_5, kernelRun0_A.sl.r, kernelRun0_A.sl.r_1, kernelRun0_A.sl.r_2, kernelRun0_A.sl.r_3, load_rows, load_weights, load_bias]
  rfl
theorem first_A : kernelRun0_A.sl.r_7 (F := Ideal) c arg1 harg1 arg2 harg2 arg3 harg3 arg8 x0 x1 x2
    = k0_pay24 (F := Ideal) (firsts x0 x1 x2) (first (k0_pay3 (F := Ideal))) := by
  simp only [kernelRun0_A.sl.r_7, kernelRun0_A.sl.r_4, kernelRun0_A.sl.r, kernelRun0_A.sl.r_1, kernelRun0_A.sl.r_2, kernelRun0_A.sl.r_3, load_rows, load_weights, load_bias, zeroed]
  rfl
theorem second_B : kernelRun0_B.sl.r_6 (F := Ideal) c arg1 harg1 arg2 harg2 arg3 harg3 x0 x1 x2 = k0_pay22 (F := Ideal) (seconds x0 x1 x2) := by
  simp only [kernelRun0_B.sl.r_6, kernelRun0_B.sl.r_5, kernelRun0_B.sl.r, kernelRun0_B.sl.r_1, kernelRun0_B.sl.r_2, kernelRun0_B.sl.r_3, load_rows, load_weights, load_bias]
  rfl
theorem first_B : kernelRun0_B.sl.r_7 (F := Ideal) c arg1 harg1 arg2 harg2 arg3 harg3 arg8 harg8 x0 x1 x2 xs0
    = k0_pay24 (F := Ideal) (firsts x0 x1 x2) (first xs0) := by
  simp only [kernelRun0_B.sl.r_7, kernelRun0_B.sl.r_4, kernelRun0_B.sl.r, kernelRun0_B.sl.r_1, kernelRun0_B.sl.r_2, kernelRun0_B.sl.r_3, load_rows, load_weights, load_bias]
  exact congrArg (k0_pay24 (F := Ideal) (firsts x0 x1 x2)) (load_carried arg8 harg8 xs0)

theorem cnt_A (hc0 : cond0_0 i) :
    out0_A_6 (F := Ideal) c i arg1 harg1 arg2 harg2 arg3 harg3 arg4 harg4 arg5 harg5 arg6 harg6 arg7 harg7 arg8 harg8 hc0 x0 x1 x2
      = cntBlock x0 x1 x2 (first (k0_pay3 (F := Ideal))) := by
  unfold out0_A_6
  rw [View.read_writes_junk_eq_canon]
  show View.canon ([⟨Rect.unit ![0, 0] S32x128.size inb_S32x128_S32x128_0_0,
    k0_pay1 (kernelRun0_A.sl.r_6 c arg1 harg1 arg2 harg2 arg3 harg3 x0 x1 x2) (kernelRun0_A.sl.r_7 c arg1 harg1 arg2 harg2 arg3 harg3 arg8 x0 x1 x2)⟩] : List (View.Piece (Elt Ideal) S32x128 .f32)) = _
  rw [View.canon_unit_zero zeros2, second_A, first_A]
  rfl

theorem carry_A (hc0 : cond0_0 i) :
    sout0_A_0 (F := Ideal) c i arg1 harg1 arg2 harg2 arg3 harg3 arg4 harg4 arg5 harg5 arg6 harg6 arg7 harg7 arg8 harg8 hc0 x0 x1 x2
      = cntBlock x0 x1 x2 (first (k0_pay3 (F := Ideal))) := by
  unfold sout0_A_0
  rw [View.read_writes_junk_eq_canon]
  show View.canon ((⟨Rect.unit ![0, 0] S32x128.size inb_S32x128_S32x128_0_0,
    k0_pay2 (kernelRun0_A.sl.r_6 c arg1 harg1 arg2 harg2 arg3 harg3 x0 x1 x2) (kernelRun0_A.sl.r_7 c arg1 harg1 arg2 harg2 arg3 harg3 arg8 x0 x1 x2)⟩ :: kernelRun0_A.sl.HS0_1) : List (View.Piece (Elt Ideal) S32x128 .f32)) = _
  rw [View.canon_cons_unit_zero zeros2, pay2_eq, second_A, first_A]
  rfl

theorem cnt_B (hc0 : ¬cond0_0 i) :
    out0_B_6 (F := Ideal) c i arg1 harg1 arg2 harg2 arg3 harg3 arg4 harg4 arg5 harg5 arg6 harg6 arg7 harg7 arg8 harg8 hc0 x0 x1 x2 xs0
      = cntBlock x0 x1 x2 (first xs0) := by
  unfold out0_B_6
  rw [View.read_writes_junk_eq_canon]
  show View.canon ([⟨Rect.unit ![0, 0] S32x128.size inb_S32x128_S32x128_0_0,
    k0_pay1 (kernelRun0_B.sl.r_6 c arg1 harg1 arg2 harg2 arg3 harg3 x0 x1 x2) (kernelRun0_B.sl.r_7 c arg1 harg1 arg2 harg2 arg3 harg3 arg8 harg8 x0 x1 x2 xs0)⟩] : List (View.Piece (Elt Ideal) S32x128 .f32)) = _
  rw [View.canon_unit_zero zeros2, second_B, first_B]
  rfl

theorem carry_B (hc0 : ¬cond0_0 i) :
    sout0_B_0 (F := Ideal) c i arg1 harg1 arg2 harg2 arg3 harg3 arg4 harg4 arg5 harg5 arg6 harg6 arg7 harg7 arg8 harg8 hc0 x0 x1 x2 xs0
      = cntBlock x0 x1 x2 (first xs0) := by
  unfold sout0_B_0
  rw [View.read_writes_junk_eq_canon]
  show View.canon ([⟨Rect.unit ![0, 0] S32x128.size inb_S32x128_S32x128_0_0,
    k0_pay2 (kernelRun0_B.sl.r_6 c arg1 harg1 arg2 harg2 arg3 harg3 x0 x1 x2) (kernelRun0_B.sl.r_7 c arg1 harg1 arg2 harg2 arg3 harg3 arg8 harg8 x0 x1 x2 xs0)⟩] : List (View.Piece (Elt Ideal) S32x128 .f32)) = _
  rw [View.canon_unit_zero zeros2, pay2_eq, second_B, first_B]
  rfl

end

/-! ## All points -/

section
variable (m : (ℓ : Loc nD τ sig) → Buf (Elt Ideal) ℓ) (c : Dev nD)

/-- The choices of an expert in block `n`. -/
def tallyAt (n : Nat) (e : Fin 32) : EReal :=
  if h : n < cfg0.N then tally (iblk m c 0 ⟨n, h⟩) (iblk m c 1 ⟨n, h⟩) (iblk m c 2 ⟨n, h⟩) e else 0

theorem tallyAt_eq (n : Nat) (h : n < cfg0.N) (e : Fin 32) :
    tallyAt m c n e = tally (iblk m c 0 ⟨n, h⟩) (iblk m c 1 ⟨n, h⟩) (iblk m c 2 ⟨n, h⟩) e := dif_pos h

/-- After block `n` the result's buffer and the carried one hold the choices so far. -/
theorem point_cnt (n : Nat) : ∀ (hn : n < cfg0.N) (e : Fin 32) (l : Fin 128),
    (outsAt0 m c n hn).2.2.2.1 (ix2 e l) = ∑ k ∈ Finset.range (n + 1), tallyAt m c k e
      ∧ (outsAt0 m c n hn).2.2.2.2 (ix2 e l) = ∑ k ∈ Finset.range (n + 1), tallyAt m c k e := by
  induction n with
  | zero =>
    intro hn e l
    rw [outsAt0_A m c ⟨0, hn⟩ (Nat.zero_mod _)]
    dsimp only
    rw [cnt_A, carry_A, cntBlock_read, first_read, pay3_read, zero_add, Finset.sum_range_one, tallyAt_eq m c 0 hn]
    exact ⟨rfl, rfl⟩
  | succ n ih =>
    intro hn e l
    have hN := lt_of_lt_of_eq hn (show cfg0.N = 128 from N_0)
    rw [outsAt0_B m c ⟨n + 1, hn⟩ (by show ¬(n + 1) % 128 = 0; omega)]
    dsimp only
    rw [cnt_B, carry_B, cntBlock_read, first_read, Finset.sum_range_succ, tallyAt_eq m c (n + 1) hn]
    exact ⟨congrArg (· + _) (ih (Nat.lt_of_succ_lt hn) e 0).2, congrArg (· + _) (ih (Nat.lt_of_succ_lt hn) e 0).2⟩

/-- A block's choices of an expert are those the first result names for its tokens. -/
theorem tally_rows (t : Fin 128) (e : Fin 32) :
    tallyAt m c t.val e = ∑ r : Fin 512, ∑ s : Fin 2, one e (G3 m c (ix2 s (row t.val t.isLt r))) := by
  have hn : t.val < cfg0.N := lt_of_lt_of_eq t.isLt N_0.symm
  rw [tallyAt_eq m c t.val hn]
  exact Finset.sum_congr rfl fun r _ => Finset.sum_congr rfl fun s _ => congrArg (one e) (block_result m c s ⟨t.val, hn⟩ t.isLt r).symm

theorem sum_rows (f : Fin 65536 → EReal) : ∑ t : Fin 128, ∑ r : Fin 512, f (row t.val t.isLt r) = ∑ r : Fin 65536, f r := by
  rw [← Finset.sum_product']
  refine Finset.sum_bij' (fun p _ => row p.1.val p.1.isLt p.2) (fun r _ => (⟨r.val / 512, by omega⟩, ⟨r.val % 512, by omega⟩))
    (fun _ _ => Finset.mem_univ _) (fun _ _ => Finset.mem_univ _) (fun p _ => ?_) (fun r _ => place r) (fun _ _ => rfl)
  obtain ⟨t, r⟩ := p
  refine Prod.ext (Fin.ext ?_) (Fin.ext ?_)
  · show (512 * t.val + r.val) / 512 = t.val; omega
  · show (512 * t.val + r.val) % 512 = r.val; omega

/-- The fourth result: in every column the number of choices of the row's expert. -/
theorem result_cnt (e : Fin 32) (l : Fin 128) : G6 m c (ix2 e l) = ∑ r : Fin 65536, ∑ s : Fin 2, one e (G3 m c (ix2 s r)) := by
  have hn : 127 < cfg0.N := lt_of_lt_of_eq (by decide) N_0.symm
  rw [G6_last, ← outsAt0_sweep m c 127 hn]
  refine (point_cnt m c 127 hn e l).1.trans ?_
  refine (Finset.sum_range fun k => tallyAt m c k e).trans (Eq.trans ?_ (sum_rows fun r => ∑ s : Fin 2, one e (G3 m c (ix2 s r))))
  exact Finset.sum_congr rfl fun t _ => tally_rows m c t e

end

end Cert.Own.Route

end
-- ==== Proof.RouteRefCount.lean ====
/- The reference's counts: of the two rows of experts' numbers, how many entries are a given expert's. -/
module

public import proofs.«01_k».proof.Proof.RouteRefDefs
public import proofs.«01_k».proof.Proof.RouteCount

@[expose] public section

set_option maxRecDepth 8192

noncomputable section

namespace Cert.Own.RouteRef

open Cert.RouteRefIdeal Cert.RouteRefIdeal.Gen Cert.RouteRefIdeal.Value Idealize.ShloMosaic

theorem uitofp_bit (w : BitVec 1) : FloatOps.uitofp (F := Ideal) .f32 w = ((w.toNat : ℝ) : EReal) := rfl

theorem equal_one (e : Fin 32) (v : BitVec 32) :
    FloatOps.uitofp (F := Ideal) .f32 (IntOp.cmpi CmpIPredicate.eq v (BitVec.ofNat 32 e.val)) = Route.one e v := by
  unfold Route.one
  by_cases h : v = BitVec.ofNat 32 e.val
  · simp [IntOp.cmpi, h, uitofp_bit]
  · have hne : (v == BitVec.ofNat 32 e.val) = false := beq_eq_false_iff_ne.2 h
    simp [IntOp.cmpi, h, hne, uitofp_bit]

theorem tally_read (v : IVec S65536x2 32) (e : Fin 32) (l : Fin 128) :
    tally v (ix2 e l) = ∑ r : Fin 65536, ∑ s : Fin 2, Route.one e (v (ix2 r s)) := by
  pointwise [tally]
  exact Finset.sum_congr rfl fun r _ => Finset.sum_congr rfl fun s _ => equal_one e _

variable (H : FVec Ideal S65536x1024 .f32) (Wg : FVec Ideal S1024x4 .f32) (Bg : FVec Ideal S4 .f32) (We : FVec Ideal S1024x32 .f32)
  (Be : FVec Ideal S32 .f32)

theorem eids_choices (s : Fin 2) (r : Fin 65536) : eids H Wg Bg We Be (ix2 s r) = choices H Wg Bg We Be (ix2 r s) := by
  unfold eids
  generalize choices H Wg Bg We Be = v
  pointwise

theorem cnts_apply (e : Fin 32) (l : Fin 128) :
    cnts H Wg Bg We Be (ix2 e l) = ∑ r : Fin 65536, ∑ s : Fin 2, Route.one e (eids H Wg Bg We Be (ix2 s r)) := by
  unfold cnts
  rw [tally_read]
  exact Finset.sum_congr rfl fun r _ => Finset.sum_congr rfl fun s _ => congrArg (Route.one e) (eids_choices H Wg Bg We Be s r).symm

end Cert.Own.RouteRef

end
-- ==== Proof.RouteValue.lean ====
/- The router's value claim: from equal finite arguments, kernel and reference end with the same experts' numbers and
   gates and the same counts. -/
module

public import proofs.«01_k».proof.Proof.Decay
public import proofs.«01_k».proof.Proof.RouteRows
public import proofs.«01_k».proof.Proof.RouteRefRows
public import proofs.«01_k».proof.Proof.RouteRefCount
public import proofs.«01_k».proof.Proof.Gen.RouteIdeal.Frame
public import proofs.«01_k».proof.Proof.Gen.Route.Frame

@[expose] public section

set_option maxRecDepth 8192

noncomputable section

namespace Cert.Own.Finite

open Cert.Pre_finite_inputs Idealize.ShloMosaic

instance facts : Cert.Pre_finite_inputs.Facts where
  bcast_S_S65536x1024 := by decide
  reducesTo_S65536x1024_S_d0_1 := by decide
  h_S_ := by decide
  bcast_S_S1024x4 := by decide
  reducesTo_S1024x4_S_d0_1 := by decide
  bcast_S_S4 := by decide
  reducesTo_S4_S_d0 := by decide
  bcast_S_S1024x32 := by decide
  reducesTo_S1024x32_S_d0_1 := by decide
  bcast_S_S32 := by decide
  reducesTo_S32_S_d0 := by decide

/-- The precondition in words: every entry of the five arguments is a real number. -/
theorem reals (H : FVec Ideal S65536x1024 .f32) (Wg : FVec Ideal S1024x4 .f32) (Bg : FVec Ideal S4 .f32) (We : FVec Ideal S1024x32 .f32)
    (Be : FVec Ideal S32 .f32) (h : fn (F := Ideal) H Wg Bg We Be = fun _ => 1#1) :
    (∀ i, Hgrn.IsReal (H i)) ∧ (∀ i, Hgrn.IsReal (Wg i)) ∧ (∀ i, Hgrn.IsReal (Bg i)) ∧ (∀ i, Hgrn.IsReal (We i)) ∧ ∀ i, Hgrn.IsReal (Be i) := by
  obtain ⟨h, h5⟩ := Decay.both (congrFun h (Shape.Idx.first Facts.h_S_))
  obtain ⟨h, h4⟩ := Decay.both h
  obtain ⟨h, h3⟩ := Decay.both h
  obtain ⟨h1, h2⟩ := Decay.both h
  exact ⟨fun i => Decay.real_of_abs (Host.reduce_andi_all _ _ _ _ _ h1 i), fun i => Decay.real_of_abs (Host.reduce_andi_all _ _ _ _ _ h2 i),
    fun i => Decay.real_of_abs (Host.reduce_andi_all _ _ _ _ _ h3 i), fun i => Decay.real_of_abs (Host.reduce_andi_all _ _ _ _ _ h4 i),
    fun i => Decay.real_of_abs (Host.reduce_andi_all _ _ _ _ _ h5 i)⟩

end Cert.Own.Finite

namespace Cert.Own.Route

open Idealize.ShloMosaic Idealize.ShloMosaic.TcCoe Idealize.SL.Sem

theorem algebraic : Cert.algebraic_RouteIdeal_RouteRefIdeal_pre_finite_inputs := fun m ρ m' ρ' pre hag => by
  refine ⟨fun c => Cert.RouteIdeal.Value.G3 m c, fun c => Cert.RouteIdeal.Value.G4 m c, fun c => Cert.RouteIdeal.Value.G6 m c,
    (θ_run _ _ _).mono (fun r h c => ⟨(h c).1, (h c).2.1, (h c).2.2.2⟩) (Cert.RouteIdeal.Value.run m ρ),
    (θ_run _ _ _).mono (fun r h c => ⟨(h c).1.trans ?_, (h c).2.1.trans ?_, (h c).2.2.1.trans ?_, (h c).2.2.2⟩) (RouteRef.run_named m' ρ')⟩
  all_goals
    obtain ⟨hH, hWg, hBg, hWe, hBe⟩ := Finite.reals _ _ _ _ _ (pre c)
    rw [(hag c).1, (hag c).2.1, (hag c).2.2.1, (hag c).2.2.2.1, (hag c).2.2.2.2]
    have named : ∀ s r, RouteRef.eids (argH m c) (argWg m c) (argBg m c) (argWe m c) (argBe m c) (ix2 s r) = Cert.RouteIdeal.Value.G3 m c (ix2 s r) := fun s r => by
      obtain ⟨g, i₁, i₂, h⟩ := exists_chosen (groupAt m c r) (memberAt m c r)
      exact (RouteRef.eids_apply _ _ _ _ _ r h s).trans (result_eid m c s r h (IsReal.ne_bot (member_real hH hWe hBe r g i₂))).symm
    funext i
  · obtain ⟨s, r, rfl⟩ : ∃ (s : Fin 2) (r : Fin 65536), i = ix2 s r := ⟨i 0, i 1, eq_ix2 i⟩
    exact named s r
  · obtain ⟨s, r, rfl⟩ : ∃ (s : Fin 2) (r : Fin 65536), i = ix2 s r := ⟨i 0, i 1, eq_ix2 i⟩
    obtain ⟨g, i₁, i₂, h⟩ := exists_chosen (groupAt m c r) (memberAt m c r)
    have hm := fun q => member_real hH hWe hBe r g q
    exact (RouteRef.gates_apply _ _ _ _ _ r h (fun j => group_real hH hWg hBg r j) hm s).trans (result_gate m c s r h (IsReal.ne_bot (hm i₂))).symm
  · obtain ⟨e, l, rfl⟩ : ∃ (e : Fin 32) (l : Fin 128), i = ix2 e l := ⟨i 0, i 1, eq_ix2 i⟩
    refine (RouteRef.cnts_apply _ _ _ _ _ e l).trans (Eq.trans ?_ (result_cnt m c e l).symm)
    exact Finset.sum_congr rfl fun r _ => Finset.sum_congr rfl fun s _ => congrArg (one e) (named s r)

end Cert.Own.Route

end
-- ==== Proof.PrepRope.lean ====
/- Rotary embedding of one head, and how the kernel computes it on two heads at a time.

   A head has 64 entries. The first 32 are paired with the last 32: entry `d` and entry `d + 32` are turned by the
   angle of pair `d`. The kernel holds two heads side by side in 128 columns. It finds an entry's partner by rotating
   the columns by 32 one way or the other, and it changes the partner's sign in the first half of a head by taking it
   from zero. -/
module

public import proofs.«01_k».proof.Proof.Gen.PrepIdeal.Value
public import Idealize.ShloMosaic.Lib.Pointwise
public import Idealize.ShloMosaic.Lib.Pipeline.ValueKit

@[expose] public section

set_option maxRecDepth 16384

noncomputable section

namespace Cert.Own.Prep

open Cert.PrepIdeal Cert.PrepIdeal.Gen Cert.PrepIdeal.Value Idealize.ShloMosaic Idealize.ShloMosaic.TcCoe Idealize.SL.Sem

/-- Entry `d` of a head `x` after its pairs are turned by the angles with cosines `cs` and sines `sn`. -/
def turn (x : ℕ → EReal) (cs sn : Fin 32 → EReal) (d : ℕ) : EReal :=
  if d < 32 then x d * cs ⟨d % 32, Nat.mod_lt _ (by decide)⟩ - x (d + 32) * sn ⟨d % 32, Nat.mod_lt _ (by decide)⟩
  else x d * cs ⟨d % 32, Nat.mod_lt _ (by decide)⟩ + x (d - 32) * sn ⟨d % 32, Nat.mod_lt _ (by decide)⟩

/-- Column `n` of row `R` of batch `b` of the projection. -/
def row (z : FVec Ideal S16x4096x3200 .f32) (b : Fin 16) (R : Fin 4096) (n : ℕ) : EReal := z (ix3 b R ⟨n % 3200, Nat.mod_lt _ (by decide)⟩)

/-- The cosines (or sines) of row `R` of batch `b`. -/
def angle (x : FVec Ideal S16x4096x1x32 .f32) (b : Fin 16) (R : Fin 4096) (p : Fin 32) : EReal := x (ix4 b R 0 p)

/-- The queries over the square root of the head's width. -/
def queries (z : FVec Ideal S16x4096x3200 .f32) : FVec Ideal S16x8x64x4096 .f32 := fun i =>
  row z (i 0) (i 3) (1792 + (64 * (i 1).val + (i 2).val)) * Ideal.ofBits .f32 0x3E000000#32

/-- The turned queries, scaled for an exponential of base two. -/
def turnedQueries (z : FVec Ideal S16x4096x3200 .f32) (cos sin : FVec Ideal S16x4096x1x32 .f32) : FVec Ideal S16x8x64x4096 .bf16 := fun i =>
  turn (fun n => row z (i 0) (i 3) (1792 + (64 * (i 1).val + n))) (angle cos (i 0) (i 3)) (angle sin (i 0) (i 3)) (i 2).val * Ideal.ofBits .f32 0x3E38AA3B#32

/-- The turned keys whose columns begin at `a`. -/
def keys (a : ℕ) (z : FVec Ideal S16x4096x3200 .f32) (cos sin : FVec Ideal S16x4096x1x32 .f32) : FVec Ideal S16x2x4096x64 .bf16 := fun i =>
  turn (fun n => row z (i 0) (i 2) (a + (64 * (i 1).val + n))) (angle cos (i 0) (i 2)) (angle sin (i 0) (i 2)) (i 3).val

/-- The values whose columns begin at `a`. -/
def values (a : ℕ) (z : FVec Ideal S16x4096x3200 .f32) : FVec Ideal S16x2x64x4096 .bf16 := fun i =>
  row z (i 0) (i 3) (a + (64 * (i 1).val + (i 2).val))

/-- The gate logits. -/
def gates (z : FVec Ideal S16x4096x3200 .f32) : FVec Ideal S16x8x3x4096 .f32 := fun i =>
  row z (i 0) (i 3) (3072 + (3 * (i 1).val + (i 2).val))

/-- The kernel's turning of two heads side by side. -/
def turned (x c s : FVec Ideal S256x128 .f32) : FVec Ideal S256x128 .f32 :=
  addf (mulf x c) (mulf (select k0_pay3
    (subf (broadcast S256x128 (Scalar.ofBits .f32 0x00000000#32))
      (select k0_pay3 (dynamicRotate 1 96#32 none x rotates_S256x128_d1) (dynamicRotate 1 32#32 none x rotates_S256x128_d1)))
    (select k0_pay3 (dynamicRotate 1 96#32 none x rotates_S256x128_d1) (dynamicRotate 1 32#32 none x rotates_S256x128_d1))) s)

/-- The mask is set in the first half of each head. -/
theorem mask_apply (r : Fin 256) (l : Fin 128) : k0_pay3 (ix2 r l) = if l.val % 64 < 32 then 1#1 else 0#1 := by
  pointwise [k0_pay3]
  revert l
  decide

theorem turned_apply (x c s : FVec Ideal S256x128 .f32) (cs sn : Fin 32 → EReal) (r : Fin 256) (y : ℕ → EReal)
    (hx : ∀ l : Fin 128, x (ix2 r l) = y l.val)
    (hc : ∀ l : Fin 128, c (ix2 r l) = cs ⟨l.val % 32, Nat.mod_lt _ (by decide)⟩)
    (hs : ∀ l : Fin 128, s (ix2 r l) = sn ⟨l.val % 32, Nat.mod_lt _ (by decide)⟩) (l : Fin 128) :
    turned x c s (ix2 r l) = turn (fun d => y (64 * (l.val / 64) + d)) cs sn (l.val % 64) := by
  have ml : l.val % 32 = l.val % 64 % 32 := by omega
  have div : 64 * (l.val / 64) + l.val % 64 = l.val := Nat.div_add_mod _ _
  pointwise [turned]
  rw [mask_apply, hx, hx, hx, hc, hs]
  unfold turn
  simp only [div, ml]
  by_cases h : l.val % 64 < 32
  · rw [if_pos h, if_pos h]
    have e : (l.val + 128 - 96) % 128 = 64 * (l.val / 64) + (l.val % 64 + 32) := by omega
    simp only [e]
    show _ + (0 - y (64 * (l.val / 64) + (l.val % 64 + 32))) * _ = _
    rw [zero_sub, EReal.neg_mul, ← sub_eq_add_neg]
  · rw [if_neg h, if_neg h]
    have e : (l.val + 128 - 32) % 128 = 64 * (l.val / 64) + (l.val % 64 - 32) := by omega
    simp only [e]
    rfl

end Cert.Own.Prep

end
-- ==== Proof.PrepBlock.lean ====
/- What one grid point of the layout kernel leaves in its seven output blocks.

   A grid point holds 256 rows. Column `n` of row `r` of the queries is called `q r n`, that of the two key and value
   pieces `ks r n` and `kw r n`, that of the gate logits `g r n`. Each output block is written head by head; an entry of
   head `h` is read from columns `64 h`, `64 h + 1`, ... of its row. -/
module

public import proofs.«01_k».proof.Proof.PrepRope
public import Idealize.ShloMosaic.Lib.Pointwise
public import Idealize.ShloMosaic.Lib.Pipeline.ValueKit

@[expose] public section

set_option maxRecDepth 16384

noncomputable section

namespace Cert.Own.Prep

open Cert.PrepIdeal Cert.PrepIdeal.Gen Cert.PrepIdeal.Value Idealize.ShloMosaic Idealize.ShloMosaic.TcCoe Idealize.SL.Sem

/-- A 128-column half of a 256-column piece, from column `o`. -/
def half (x : Vec Ideal S1x256x256 .f32) (o : ℕ) (ho : S256x256.Slices ![0, o] S256x128) : FVec Ideal S256x128 .f32 :=
  extractStridedSlice S256x128 ![0, o] (shapeCast S256x256 x shapeCasts_S1x256x256_S256x256) ho

/-- One head of two, scaled and laid out by columns. -/
def headT (t : FVec Ideal S256x128 .f32) (k : Ideal .f32) (p : ℕ) (hp : S128x256.Slices ![p, 0] S64x256) : FVec Ideal S1x1x64x256 .bf16 :=
  shapeCast S1x1x64x256 (truncf .bf16 (extractStridedSlice S64x256 ![p, 0]
    (transpose S128x256 [1, 0] (mulf t (broadcast S256x128 k)) transposes_S256x128_p1_0_S128x256) hp) bitsLt_bf16_f32) shapeCasts_S64x256_S1x1x64x256

/-- One head of two, laid out by rows. -/
def headR (t : FVec Ideal S256x128 .f32) (p : ℕ) (hp : S256x128.Slices ![0, p] S256x64) : FVec Ideal S1x1x256x64 .bf16 :=
  shapeCast S1x1x256x64 (truncf .bf16 (extractStridedSlice S256x64 ![0, p] t hp) bitsLt_bf16_f32) shapeCasts_S256x64_S1x1x256x64

theorem half_apply (x : Vec Ideal S1x256x256 .f32) (o : ℕ) (ho : S256x256.Slices ![0, o] S256x128) (r : Fin 256) (l : Fin 128)
    (b : o + l.val < 256) : half x o ho (ix2 r l) = x (ix3 0 r ⟨o + l.val, b⟩) := by
  pointwise [half]

theorem headT_apply (t : FVec Ideal S256x128 .f32) (k : Ideal .f32) (p : ℕ) (hp : S128x256.Slices ![p, 0] S64x256)
    (w : S1x1x64x256.Idx) (b : p + (w 2).val < 128) : headT t k p hp w = t (ix2 (w 3) ⟨p + (w 2).val, b⟩) * k := by
  pointwise [headT]

theorem headR_apply (t : FVec Ideal S256x128 .f32) (p : ℕ) (hp : S256x128.Slices ![0, p] S256x64)
    (w : S1x1x256x64.Idx) (b : p + (w 3).val < 128) : headR t p hp w = t (ix2 (w 2) ⟨p + (w 3).val, b⟩) := by
  pointwise [headR]

section Turn
variable (x : Vec Ideal S1x256x256 .f32) (x5 x6 : Vec Ideal S1x256x128 .f32) (o a : ℕ) (ho : S256x256.Slices ![0, o] S256x128) (q : ℕ → EReal) (cs sn : Fin 32 → EReal)
  (r : Fin 256) (hx : ∀ l : Fin 256, x (ix3 0 r l) = q (a + l.val)) (oo : o ≤ 128)
  (h5 : ∀ l : Fin 128, x5 (ix3 0 r l) = cs ⟨l.val % 32, Nat.mod_lt _ (by decide)⟩)
  (h6 : ∀ l : Fin 128, x6 (ix3 0 r l) = sn ⟨l.val % 32, Nat.mod_lt _ (by decide)⟩)

include hx oo h5 h6 in
/-- The turned half at entry `d` of its first head (`p = 0`) or of its second (`p = 64`). -/
theorem turned_half (p : ℕ) (hp : p % 64 = 0) (d : ℕ) (hd : d < 64) (b : p + d < 128) :
    turned (half x o ho) (k0_pay1 x5) (k0_pay2 x6) (ix2 r ⟨p + d, b⟩) = turn (fun e => q (a + o + p + e)) cs sn d := by
  rw [turned_apply _ _ _ cs sn r (fun l => q (a + o + l))]
  · have e1 : 64 * ((p + d) / 64) = p := by omega
    have e2 : (p + d) % 64 = d := by omega
    simp only [e1, e2, Nat.add_assoc]
  · intro l
    rw [half_apply _ _ _ _ _ (by omega), hx, Nat.add_assoc]
  · intro l
    rw [← h5 l]
    pointwise [k0_pay1]
  · intro l
    rw [← h6 l]
    pointwise [k0_pay2]

include hx oo h5 h6 in
theorem turned_headT (k : Ideal .f32) (p b : ℕ) (hp : S128x256.Slices ![p, 0] S64x256) (p0 : p % 64 = 0) (p1 : p ≤ 64) (hb : a + o + p = b) (d : Fin 64) :
    headT (turned (half x o ho) (k0_pay1 x5) (k0_pay2 x6)) k p hp (ix4 0 0 d r) = turn (fun e => q (b + e)) cs sn d.val * k := by
  subst hb
  rw [headT_apply _ _ _ _ _ (show p + d.val < 128 by omega)]
  exact congrArg (· * k) (turned_half x x5 x6 o a ho q cs sn r hx oo h5 h6 p p0 d.val d.isLt _)

include hx oo h5 h6 in
theorem turned_headR (p b : ℕ) (hp : S256x128.Slices ![0, p] S256x64) (p0 : p % 64 = 0) (p1 : p ≤ 64) (hb : a + o + p = b) (d : Fin 64) :
    headR (turned (half x o ho) (k0_pay1 x5) (k0_pay2 x6)) p hp (ix4 0 0 r d) = turn (fun e => q (b + e)) cs sn d.val := by
  subst hb
  rw [headR_apply _ _ _ _ (show p + d.val < 128 by omega)]
  exact turned_half x x5 x6 o a ho q cs sn r hx oo h5 h6 p p0 d.val d.isLt _

end Turn

theorem zeros3 : (![0, 0, 0] : Fin 3 → ℕ) = fun _ => 0 := funext fun a => by fin_cases a <;> rfl

/-- A load of a whole block reads the block. -/
theorem load_rows (g : Memref sig .tc .vmem S1x256x256 .f32) (h : g.IsWhole) (x : Vec Ideal S1x256x256 .f32) :
    View.readAt (Elt Ideal) g.view (Rect.unit ![0, 0, 0] ![1, 256, 256] inb_S1x256x256_S1x256x256_0_0_0).toLoadRect (h.unread x) = x := by
  rw [View.readAt_eq_ld, h.read_unread, View.ld_unit_zero zeros3]

theorem load_table (g : Memref sig .tc .vmem S1x256x128 .f32) (h : g.IsWhole) (x : Vec Ideal S1x256x128 .f32) :
    View.readAt (Elt Ideal) g.view (Rect.unit ![0, 0, 0] ![1, 256, 128] inb_S1x256x128_S1x256x128_0_0_0).toLoadRect (h.unread x) = x := by
  rw [View.readAt_eq_ld, h.read_unread, View.ld_unit_zero zeros3]

/-- An entry of a one-head block from its last two coordinates. -/
theorem at4 {a b : ℕ} (x : (⟨4, ![1, 1, a, b]⟩ : Shape).Idx) (d : Fin a) (r : Fin b) (e2 : d.val = (x 2).val) (e3 : r.val = (x 3).val) : x = ix4 0 0 d r := by
  funext n
  refine Fin.ext ?_
  fin_cases n
  · exact Nat.lt_one_iff.1 (x 0).isLt
  · exact Nat.lt_one_iff.1 (x 1).isLt
  · exact e2.symm
  · exact e3.symm

section Block
variable {c : Dev nD} {i : grid0.Coords} {arg2 : Memref sig .tc .vmem S1x256x256 .f32} {harg2 : arg2.IsWhole} {arg3 : Memref sig .tc .vmem S1x256x256 .f32} {harg3 : arg3.IsWhole} {arg4 : Memref sig .tc .vmem S1x256x256 .f32} {harg4 : arg4.IsWhole} {arg5 : Memref sig .tc .vmem S1x256x256 .f32} {harg5 : arg5.IsWhole} {arg6 : Memref sig .tc .vmem S1x256x128 .f32} {harg6 : arg6.IsWhole} {arg7 : Memref sig .tc .vmem S1x256x128 .f32} {harg7 : arg7.IsWhole} {arg8 : Memref sig .tc .vmem S1x256x128 .f32} {harg8 : arg8.IsWhole} {arg9 : Memref sig .tc .vmem S1x8x64x256 .f32} {harg9 : arg9.IsWhole} {arg10 : Memref sig .tc .vmem S1x8x64x256 .bf16} {harg10 : arg10.IsWhole} {arg11 : Memref sig .tc .vmem S1x2x256x64 .bf16} {harg11 : arg11.IsWhole} {arg12 : Memref sig .tc .vmem S1x2x64x256 .bf16} {harg12 : arg12.IsWhole} {arg13 : Memref sig .tc .vmem S1x2x256x64 .bf16} {harg13 : arg13.IsWhole} {arg14 : Memref sig .tc .vmem S1x2x64x256 .bf16} {harg14 : arg14.IsWhole} {arg15 : Memref sig .tc .vmem S1x8x3x256 .f32} {harg15 : arg15.IsWhole}
  {x0 x1 x2 x3 : Vec Ideal S1x256x256 .f32} {x4 x5 x6 : Vec Ideal S1x256x128 .f32}
  (q ks kw g : Fin 256 → ℕ → EReal) (cs sn : Fin 256 → Fin 32 → EReal)
  (h0 : ∀ r (l : Fin 256), x0 (ix3 0 r l) = q r l.val) (h1 : ∀ r (l : Fin 256), x1 (ix3 0 r l) = q r (256 + l.val))
  (h2 : ∀ r (l : Fin 256), x2 (ix3 0 r l) = ks r l.val) (h3 : ∀ r (l : Fin 256), x3 (ix3 0 r l) = kw r l.val)
  (h4 : ∀ r (l : Fin 128), x4 (ix3 0 r l) = g r l.val)
  (h5 : ∀ r (l : Fin 128), x5 (ix3 0 r l) = cs r ⟨l.val % 32, Nat.mod_lt _ (by decide)⟩)
  (h6 : ∀ r (l : Fin 128), x6 (ix3 0 r l) = sn r ⟨l.val % 32, Nat.mod_lt _ (by decide)⟩)

include h0 h1 in
/-- The scaled queries. -/
theorem out7 (h : Fin 8) (d : Fin 64) (r : Fin 256) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h d r) = q r (64 * h.val + d.val) * Ideal.ofBits .f32 0x3E000000#32 := by
  unfold out0_A_7
  rw [View.read_writes_junk_eq_canon]
  unfold kernelRun0_A
  dsimp only
  canon_tiles x e
  all_goals
    obtain rfl := at4 x d r e2 e3
    change h.val = _ at e1
    rw [load_rows]
    pointwise [k0_pay4, k0_pay5, k0_pay6, k0_pay7, k0_pay12, k0_pay13, k0_pay14, k0_pay15, k0_pay22, k0_pay23, k0_pay24, k0_pay25, k0_pay30, k0_pay31, k0_pay32, k0_pay33]
    first | rw [h0] | rw [h1]
    congr 2
    simp only []
    omega

include h0 h1 h5 h6 in
/-- The turned and scaled queries. -/
theorem out8 (h : Fin 8) (d : Fin 64) (r : Fin 256) :
    out0_A_8 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h d r) = turn (fun n => q r (64 * h.val + n)) (cs r) (sn r) d.val * Ideal.ofBits .f32 0x3E38AA3B#32 := by
  have h0' : ∀ l : Fin 256, x0 (ix3 0 r l) = q r (0 + l.val) := fun l => (h0 r l).trans (congrArg (q r) (Nat.zero_add _).symm)
  unfold out0_A_8
  rw [View.read_writes_junk_eq_canon]
  unfold kernelRun0_A
  dsimp only
  canon_tiles x e
  all_goals
    obtain rfl := at4 x d r e2 e3
    change h.val = _ at e1
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, load_rows, load_table]
  case piece0 => exact turned_headT x1 x5 x6 128 256 _ (q r) (cs r) (sn r) r (h1 r) (by decide) (h5 r) (h6 r) _ 64 _ slices_S128x256_o64_0_S64x256 rfl (by decide) (by omega) d
  case piece1 => exact turned_headT x1 x5 x6 128 256 _ (q r) (cs r) (sn r) r (h1 r) (by decide) (h5 r) (h6 r) _ 0 _ slices_S128x256_o0_0_S64x256 rfl (by decide) (by omega) d
  case piece2 => exact turned_headT x1 x5 x6 0 256 _ (q r) (cs r) (sn r) r (h1 r) (by decide) (h5 r) (h6 r) _ 64 _ slices_S128x256_o64_0_S64x256 rfl (by decide) (by omega) d
  case piece3 => exact turned_headT x1 x5 x6 0 256 _ (q r) (cs r) (sn r) r (h1 r) (by decide) (h5 r) (h6 r) _ 0 _ slices_S128x256_o0_0_S64x256 rfl (by decide) (by omega) d
  case piece4 => exact turned_headT x0 x5 x6 128 0 _ (q r) (cs r) (sn r) r h0' (by decide) (h5 r) (h6 r) _ 64 _ slices_S128x256_o64_0_S64x256 rfl (by decide) (by omega) d
  case piece5 => exact turned_headT x0 x5 x6 128 0 _ (q r) (cs r) (sn r) r h0' (by decide) (h5 r) (h6 r) _ 0 _ slices_S128x256_o0_0_S64x256 rfl (by decide) (by omega) d
  case piece6 => exact turned_headT x0 x5 x6 0 0 _ (q r) (cs r) (sn r) r h0' (by decide) (h5 r) (h6 r) _ 64 _ slices_S128x256_o64_0_S64x256 rfl (by decide) (by omega) d
  case piece7 => exact turned_headT x0 x5 x6 0 0 _ (q r) (cs r) (sn r) r h0' (by decide) (h5 r) (h6 r) _ 0 _ slices_S128x256_o0_0_S64x256 rfl (by decide) (by omega) d

include h2 h5 h6 in
/-- The turned keys of the selected branch. -/
theorem out9 (h : Fin 2) (r : Fin 256) (d : Fin 64) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h r d) = turn (fun n => ks r (64 * h.val + n)) (cs r) (sn r) d.val := by
  have h2' : ∀ l : Fin 256, x2 (ix3 0 r l) = ks r (0 + l.val) := fun l => (h2 r l).trans (congrArg (ks r) (Nat.zero_add _).symm)
  unfold out0_A_9
  rw [View.read_writes_junk_eq_canon]
  unfold kernelRun0_A
  dsimp only
  canon_tiles x e
  all_goals
    obtain rfl := at4 x r d e2 e3
    change h.val = _ at e1
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, load_rows, load_table]
  case piece0 => exact turned_headR x2 x5 x6 0 0 _ (ks r) (cs r) (sn r) r h2' (by decide) (h5 r) (h6 r) 64 _ slices_S256x128_o0_64_S256x64 rfl (by decide) (by omega) d
  case piece1 => exact turned_headR x2 x5 x6 0 0 _ (ks r) (cs r) (sn r) r h2' (by decide) (h5 r) (h6 r) 0 _ slices_S256x128_o0_0_S256x64 rfl (by decide) (by omega) d

include h2 in
/-- The values of the selected branch. -/
theorem out10 (h : Fin 2) (d : Fin 64) (r : Fin 256) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h d r) = ks r (128 + (64 * h.val + d.val)) := by
  unfold out0_A_10
  rw [View.read_writes_junk_eq_canon]
  unfold kernelRun0_A
  dsimp only
  canon_tiles x e
  all_goals
    obtain rfl := at4 x d r e2 e3
    change h.val = _ at e1
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, load_rows, load_table]
    pointwise [k0_pay37, k0_pay42, k0_pay43, k0_pay44]
    rw [h2]
    congr 1
    simp only []
    omega

include h3 h5 h6 in
/-- The turned keys of the window branch. -/
theorem out11 (h : Fin 2) (r : Fin 256) (d : Fin 64) :
    out0_A_11 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h r d) = turn (fun n => kw r (64 * h.val + n)) (cs r) (sn r) d.val := by
  have h3' : ∀ l : Fin 256, x3 (ix3 0 r l) = kw r (0 + l.val) := fun l => (h3 r l).trans (congrArg (kw r) (Nat.zero_add _).symm)
  unfold out0_A_11
  rw [View.read_writes_junk_eq_canon]
  unfold kernelRun0_A
  dsimp only
  canon_tiles x e
  all_goals
    obtain rfl := at4 x r d e2 e3
    change h.val = _ at e1
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, load_rows, load_table]
  case piece0 => exact turned_headR x3 x5 x6 0 0 _ (kw r) (cs r) (sn r) r h3' (by decide) (h5 r) (h6 r) 64 _ slices_S256x128_o0_64_S256x64 rfl (by decide) (by omega) d
  case piece1 => exact turned_headR x3 x5 x6 0 0 _ (kw r) (cs r) (sn r) r h3' (by decide) (h5 r) (h6 r) 0 _ slices_S256x128_o0_0_S256x64 rfl (by decide) (by omega) d

include h3 in
/-- The values of the window branch. -/
theorem out12 (h : Fin 2) (d : Fin 64) (r : Fin 256) :
    out0_A_12 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h d r) = kw r (128 + (64 * h.val + d.val)) := by
  unfold out0_A_12
  rw [View.read_writes_junk_eq_canon]
  unfold kernelRun0_A
  dsimp only
  canon_tiles x e
  all_goals
    obtain rfl := at4 x d r e2 e3
    change h.val = _ at e1
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, load_rows, load_table]
    pointwise [k0_pay45, k0_pay50, k0_pay51, k0_pay52]
    rw [h3]
    congr 1
    simp only []
    omega

include h4 in
/-- The gate logits. -/
theorem out13 (h : Fin 8) (j : Fin 3) (r : Fin 256) :
    out0_A_13 (F := Ideal) c i arg2 harg2 arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 (ix4 0 h j r) = g r (3 * h.val + j.val) := by
  unfold out0_A_13
  rw [View.read_writes_junk_eq_canon]
  unfold kernelRun0_A
  dsimp only
  canon_tiles x e
  all_goals
    obtain rfl := at4 x j r e2 e3
    change h.val = _ at e1
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, load_rows, load_table]
    pointwise [k0_pay53, k0_pay54, k0_pay55, k0_pay56, k0_pay57, k0_pay58, k0_pay59, k0_pay60, k0_pay61, k0_pay62]
    rw [h4]
    congr 1
    simp only []
    omega

end Block

end Cert.Own.Prep

end
-- ==== Proof.PrepLaunch.lean ====
/- What each grid point of the layout kernel reads.

   Point `t` of the 16 by 16 grid works on batch `t / 16` and on the 256 rows from `256 (t % 16)`. Four of its windows
   take 256 columns of the projection each and a fifth takes 128. Two more take the tables of cosines and sines, whose
   32 columns are repeated four times so that they fill 128. -/
module

public import proofs.«01_k».proof.Proof.PrepBlock
public import Idealize.ShloMosaic.Lib.Pointwise
public import Idealize.ShloMosaic.Lib.Pipeline.ValueKit

@[expose] public section

set_option maxRecDepth 16384

noncomputable section

namespace Cert.Own.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (c : Dev nD)

/-- A table repeated four times along its columns. -/
abbrev tiled (x : FVec Ideal S16x4096x1x32 .f32) : FVec Ideal S16x4096x128 .f32 :=
  shapeCast S16x4096x128 (broadcastInDim S1x16x1x4096x4x32 ![0, 1, 2, 3, 4, 5] Facts₀.bcast_S1x16x1x4096x1x32_S1x16x1x4096x4x32_0_1_2_3_4_5
    (shapeCast S1x16x1x4096x1x32 (shapeCast S16x4096x32 x Facts₀.shapeCasts_S16x4096x1x32_S16x4096x32) Facts₀.shapeCasts_S16x4096x32_S1x16x1x4096x1x32))
    Facts₀.shapeCasts_S1x16x1x4096x4x32_S16x4096x128

theorem tiled_apply (x : FVec Ideal S16x4096x1x32 .f32) (b : Fin 16) (R : Fin 4096) (l : Fin 128) :
    tiled x (ix3 b R l) = x (ix4 b R 0 ⟨l.val % 32, Nat.mod_lt _ (by decide)⟩) := by
  pointwise [tiled]

theorem V_cos : V m c main_v3 = tiled (m ((c : Thread nD τ).loc main_arg1)) := by
  unfold V
  after_results
  rfl

theorem V_sin : V m c main_v7 = tiled (m ((c : Thread nD τ).loc main_arg2)) := by
  unfold V
  after_results
  rfl

/-- The batch and the row block of a point. -/
def batch (t : Fin cfg0.N) : Fin 16 := ⟨t.val / 16, by have : t.val < 256 := t.isLt; omega⟩
def rowOf (t : Fin cfg0.N) (r : Fin 256) : Fin 4096 := ⟨t.val % 16 * 256 + r.val, by omega⟩

/-- The column block that window `w` fetches is the same at every point. -/
theorem indices : ∀ t : Fin cfg0.N, win0_0.index t = ![t.val / 16, t.val % 16, 7] ∧ win0_1.index t = ![t.val / 16, t.val % 16, 8]
    ∧ win0_2.index t = ![t.val / 16, t.val % 16, 10] ∧ win0_3.index t = ![t.val / 16, t.val % 16, 11] ∧ win0_4.index t = ![t.val / 16, t.val % 16, 24]
    ∧ win0_5.index t = ![t.val / 16, t.val % 16, 0] ∧ win0_6.index t = ![t.val / 16, t.val % 16, 0] :=
  (by decide +kernel : ∀ t : Fin grid0.N, _)

/-- Where entry `(r, l)` of a block of `w` columns lies in its array of `L` columns, the block being the `a`-th. -/
theorem place {L : ℕ} (t : Fin cfg0.N) (r : Fin 256) (w a l : ℕ) (n : Fin L) (k : Fin 3 → ℕ) (hk : k = ![t.val / 16, t.val % 16, a])
    (x : (⟨3, ![16, 4096, L]⟩ : Shape).Idx) (h0 : (x 0).val = k 0 * 1 + 1 * 0) (h1 : (x 1).val = k 1 * 256 + 1 * r.val)
    (h2 : (x 2).val = k 2 * w + 1 * l) (hn : n.val = a * w + l) : x = ix3 (batch t) (rowOf t r) n := by
  subst hk
  refine funext fun b => Fin.ext ?_
  match b with
  | ⟨0, _⟩ => exact h0.trans (show t.val / 16 * 1 + 1 * 0 = t.val / 16 by omega)
  | ⟨1, _⟩ => exact h1.trans (show t.val % 16 * 256 + 1 * r.val = t.val % 16 * 256 + r.val by omega)
  | ⟨2, _⟩ => exact h2.trans (show a * w + 1 * l = n.val by omega)

theorem X0_apply (t : Fin cfg0.N) (r l : Fin 256) :
    X0_0 m c t (ix3 0 r l) = row (m ((c : Thread nD τ).loc main_arg0)) (batch t) (rowOf t r) (1792 + l.val) := by
  unfold X0_0 Pipeline.Window.fill
  rw [dif_pos (moved0_0 t (ix3 0 r l)), ← V_main_arg0 m c]
  exact congrArg (V m c main_arg0) (place t r 256 7 l.val _ _ (indices t).1 _ rfl rfl rfl (Nat.mod_eq_of_lt (by omega)))

theorem X1_apply (t : Fin cfg0.N) (r l : Fin 256) :
    X0_1 m c t (ix3 0 r l) = row (m ((c : Thread nD τ).loc main_arg0)) (batch t) (rowOf t r) (2048 + l.val) := by
  unfold X0_1 Pipeline.Window.fill
  rw [dif_pos (moved0_1 t (ix3 0 r l)), ← V_main_arg0 m c]
  exact congrArg (V m c main_arg0) (place t r 256 8 l.val _ _ (indices t).2.1 _ rfl rfl rfl (Nat.mod_eq_of_lt (by omega)))

theorem X2_apply (t : Fin cfg0.N) (r l : Fin 256) :
    X0_2 m c t (ix3 0 r l) = row (m ((c : Thread nD τ).loc main_arg0)) (batch t) (rowOf t r) (2560 + l.val) := by
  unfold X0_2 Pipeline.Window.fill
  rw [dif_pos (moved0_2 t (ix3 0 r l)), ← V_main_arg0 m c]
  exact congrArg (V m c main_arg0) (place t r 256 10 l.val _ _ (indices t).2.2.1 _ rfl rfl rfl (Nat.mod_eq_of_lt (by omega)))

theorem X3_apply (t : Fin cfg0.N) (r l : Fin 256) :
    X0_3 m c t (ix3 0 r l) = row (m ((c : Thread nD τ).loc main_arg0)) (batch t) (rowOf t r) (2816 + l.val) := by
  unfold X0_3 Pipeline.Window.fill
  rw [dif_pos (moved0_3 t (ix3 0 r l)), ← V_main_arg0 m c]
  exact congrArg (V m c main_arg0) (place t r 256 11 l.val _ _ (indices t).2.2.2.1 _ rfl rfl rfl (Nat.mod_eq_of_lt (by omega)))

theorem iblk4_apply (t : Fin cfg0.N) (r : Fin 256) (l : Fin 128) :
    iblk m c 4 t (ix3 0 r l) = row (m ((c : Thread nD τ).loc main_arg0)) (batch t) (rowOf t r) (3072 + l.val) := by
  rw [← V_main_arg0 m c]
  exact congrArg (V m c main_arg0) (place t r 128 24 l.val _ _ (indices t).2.2.2.2.1 _ rfl rfl rfl (Nat.mod_eq_of_lt (by omega)))

theorem iblk5_apply (t : Fin cfg0.N) (r : Fin 256) (l : Fin 128) :
    iblk m c 5 t (ix3 0 r l) = m ((c : Thread nD τ).loc main_arg1) (ix4 (batch t) (rowOf t r) 0 ⟨l.val % 32, Nat.mod_lt _ (by decide)⟩) := by
  refine Eq.trans ?_ (tiled_apply (m ((c : Thread nD τ).loc main_arg1)) (batch t) (rowOf t r) l)
  rw [← V_cos m c]
  exact congrArg (V m c main_v3) (place t r 128 0 l.val l _ (indices t).2.2.2.2.2.1 _ rfl rfl rfl (by omega))

theorem iblk6_apply (t : Fin cfg0.N) (r : Fin 256) (l : Fin 128) :
    iblk m c 6 t (ix3 0 r l) = m ((c : Thread nD τ).loc main_arg2) (ix4 (batch t) (rowOf t r) 0 ⟨l.val % 32, Nat.mod_lt _ (by decide)⟩) := by
  refine Eq.trans ?_ (tiled_apply (m ((c : Thread nD τ).loc main_arg2)) (batch t) (rowOf t r) l)
  rw [← V_sin m c]
  exact congrArg (V m c main_v7) (place t r 128 0 l.val l _ (indices t).2.2.2.2.2.2 _ rfl rfl rfl (by omega))

end Cert.Own.Prep

end
-- ==== Proof.PrepRef.lean ====
/- The reference's seven results, read at an index.

   The reference cuts the projection into queries, keys, values and gate logits, splits them into heads, turns queries
   and keys half against half, scales the queries, and transposes. -/
module

public import proofs.«01_k».proof.Proof.PrepLaunch
public import proofs.«01_k».proof.Proof.Gen.PrepRefIdeal.Run
public import Idealize.ShloMosaic.Lib.Pointwise
public import Idealize.ShloMosaic.Lib.Pipeline.ValueKit

@[expose] public section

set_option maxRecDepth 16384

noncomputable section

namespace Cert.Own.PrepRef

open Cert.PrepRefIdeal Cert.PrepRefIdeal.Gen Cert.PrepRefIdeal.Value Cert.Own.Prep Idealize.ShloMosaic Idealize.ShloMosaic.TcCoe Idealize.SL.Sem

/-- Turning written half against half is the turning written entry by entry. -/
theorem halves (q : ℕ → EReal) (cs sn : Fin 32 → EReal) (d : Fin 64) :
    (if h : d.val < 32 then q d.val * cs ⟨d.val, h⟩ - q (32 + d.val) * sn ⟨d.val, h⟩
      else q (32 + (d.val - 32)) * cs ⟨d.val - 32, by omega⟩ + q (d.val - 32) * sn ⟨d.val - 32, by omega⟩) = turn q cs sn d.val := by
  unfold turn
  by_cases h : d.val < 32
  · rw [dif_pos h, if_pos h]
    have e : d.val % 32 = d.val := Nat.mod_eq_of_lt h
    simp only [e, Nat.add_comm 32]
  · rw [dif_neg h, if_neg h]
    have e : d.val % 32 = d.val - 32 := by omega
    have e' : 32 + (d.val - 32) = d.val := by omega
    simp only [e, e']

/-- Turning 8 heads, half against half. -/
abbrev rope8 (x : FVec Ideal S16x4096x8x64 .f32) (cos sin : FVec Ideal S16x4096x1x32 .f32) : FVec Ideal S16x4096x8x64 .f32 :=
  concatenate S16x4096x8x64 3 [⟨S16x4096x8x32, (subf (mulf (extractStridedSlice S16x4096x8x32 ![0, 0, 0, 0] x slices_S16x4096x8x64_S16x4096x8x32_0_0_0_0) (broadcastInDim S16x4096x8x32 ![0, 1, 2, 3] bcast_S16x4096x1x32_S16x4096x8x32_0_1_2_3 cos)) (mulf (extractStridedSlice S16x4096x8x32 ![0, 0, 0, 32] x slices_S16x4096x8x64_S16x4096x8x32_0_0_0_32) (broadcastInDim S16x4096x8x32 ![0, 1, 2, 3] bcast_S16x4096x1x32_S16x4096x8x32_0_1_2_3 sin)))⟩,
    ⟨S16x4096x8x32, (addf (mulf (extractStridedSlice S16x4096x8x32 ![0, 0, 0, 32] x slices_S16x4096x8x64_S16x4096x8x32_0_0_0_32) (broadcastInDim S16x4096x8x32 ![0, 1, 2, 3] bcast_S16x4096x1x32_S16x4096x8x32_0_1_2_3 cos)) (mulf (extractStridedSlice S16x4096x8x32 ![0, 0, 0, 0] x slices_S16x4096x8x64_S16x4096x8x32_0_0_0_0) (broadcastInDim S16x4096x8x32 ![0, 1, 2, 3] bcast_S16x4096x1x32_S16x4096x8x32_0_1_2_3 sin)))⟩] concatenates_S16x4096x8x32_S16x4096x8x32_S16x4096x8x64_d3

theorem rope8_apply (x : FVec Ideal S16x4096x8x64 .f32) (cos sin : FVec Ideal S16x4096x1x32 .f32) (b : Fin 16) (R : Fin 4096) (h : Fin 8) (d : Fin 64)
    (q : ℕ → EReal) (hx : ∀ d : Fin 64, x (ix4 b R h d) = q d.val) :
    rope8 x cos sin (ix4 b R h d) = turn q (angle cos b R) (angle sin b R) d.val := by
  pointwise [rope8]
  simp only [hx]
  exact halves q (angle cos b R) (angle sin b R) d

/-- Turning 2 heads, half against half. -/
abbrev rope2 (x : FVec Ideal S16x4096x2x64 .f32) (cos sin : FVec Ideal S16x4096x1x32 .f32) : FVec Ideal S16x4096x2x64 .f32 :=
  concatenate S16x4096x2x64 3 [⟨S16x4096x2x32, (subf (mulf (extractStridedSlice S16x4096x2x32 ![0, 0, 0, 0] x slices_S16x4096x2x64_S16x4096x2x32_0_0_0_0) (broadcastInDim S16x4096x2x32 ![0, 1, 2, 3] bcast_S16x4096x1x32_S16x4096x2x32_0_1_2_3 cos)) (mulf (extractStridedSlice S16x4096x2x32 ![0, 0, 0, 32] x slices_S16x4096x2x64_S16x4096x2x32_0_0_0_32) (broadcastInDim S16x4096x2x32 ![0, 1, 2, 3] bcast_S16x4096x1x32_S16x4096x2x32_0_1_2_3 sin)))⟩,
    ⟨S16x4096x2x32, (addf (mulf (extractStridedSlice S16x4096x2x32 ![0, 0, 0, 32] x slices_S16x4096x2x64_S16x4096x2x32_0_0_0_32) (broadcastInDim S16x4096x2x32 ![0, 1, 2, 3] bcast_S16x4096x1x32_S16x4096x2x32_0_1_2_3 cos)) (mulf (extractStridedSlice S16x4096x2x32 ![0, 0, 0, 0] x slices_S16x4096x2x64_S16x4096x2x32_0_0_0_0) (broadcastInDim S16x4096x2x32 ![0, 1, 2, 3] bcast_S16x4096x1x32_S16x4096x2x32_0_1_2_3 sin)))⟩] concatenates_S16x4096x2x32_S16x4096x2x32_S16x4096x2x64_d3

theorem rope2_apply (x : FVec Ideal S16x4096x2x64 .f32) (cos sin : FVec Ideal S16x4096x1x32 .f32) (b : Fin 16) (R : Fin 4096) (h : Fin 2) (d : Fin 64)
    (q : ℕ → EReal) (hx : ∀ d : Fin 64, x (ix4 b R h d) = q d.val) :
    rope2 x cos sin (ix4 b R h d) = turn q (angle cos b R) (angle sin b R) d.val := by
  pointwise [rope2]
  simp only [hx]
  exact halves q (angle cos b R) (angle sin b R) d

variable (z : FVec Ideal S16x4096x3200 .f32) (cos sin : FVec Ideal S16x4096x1x32 .f32)

/-- An entry of the projection by its column's number. -/
theorem row_of (b : Fin 16) (R : Fin 4096) (l : Fin 3200) (n : ℕ) (h : l.val = n) : z (ix3 b R l) = row z b R n := by
  subst h
  exact congrArg (fun l => z (ix3 b R l)) (Fin.ext (Nat.mod_eq_of_lt l.isLt).symm)

theorem queries_apply (b : Fin 16) (R : Fin 4096) (h : Fin 8) (d : Fin 64) : (shapeCast S16x4096x8x64 (extractStridedSlice S16x4096x512 ![0, 0, 0] (extractStridedSlice S16x4096x1304 ![0, 0, 1792] z slices_S16x4096x3200_S16x4096x1304_0_0_1792) slices_S16x4096x1304_S16x4096x512_0_0_0) shapeCasts_S16x4096x512_S16x4096x8x64) (ix4 b R h d) = row z b R (1792 + (64 * h.val + d.val)) := by
  pointwise
  refine row_of z b R _ _ ?_
  dsimp only
  omega

/-- Keys and values: two heads from column `o` of the slice on. -/
theorem pair_apply (o : ℕ) (ho : S16x4096x1304.Slices ![0, 0, o] S16x4096x128) (b : Fin 16) (R : Fin 4096) (h : Fin 2) (d : Fin 64) : (shapeCast S16x4096x2x64 (extractStridedSlice S16x4096x128 ![0, 0, o] (extractStridedSlice S16x4096x1304 ![0, 0, 1792] z slices_S16x4096x3200_S16x4096x1304_0_0_1792) ho) shapeCasts_S16x4096x128_S16x4096x2x64) (ix4 b R h d) = row z b R (1792 + o + (64 * h.val + d.val)) := by
  pointwise
  refine row_of z b R _ _ ?_
  dsimp only
  omega

theorem gates_apply (b : Fin 16) (R : Fin 4096) (h : Fin 8) (d : Fin 3) : (shapeCast S16x4096x8x3 (extractStridedSlice S16x4096x24 ![0, 0, 1280] (extractStridedSlice S16x4096x1304 ![0, 0, 1792] z slices_S16x4096x3200_S16x4096x1304_0_0_1792) slices_S16x4096x1304_S16x4096x24_0_0_1280) shapeCasts_S16x4096x24_S16x4096x8x3) (ix4 b R h d) = row z b R (3072 + (3 * h.val + d.val)) := by
  pointwise
  refine row_of z b R _ _ ?_
  dsimp only
  omega

/-- The scaled queries. -/
theorem result_queries : transpose S16x8x64x4096 [0, 2, 3, 1] (mulf (shapeCast S16x4096x8x64 (extractStridedSlice S16x4096x512 ![0, 0, 0] (extractStridedSlice S16x4096x1304 ![0, 0, 1792] z slices_S16x4096x3200_S16x4096x1304_0_0_1792) slices_S16x4096x1304_S16x4096x512_0_0_0) shapeCasts_S16x4096x512_S16x4096x8x64) (broadcastInDim S16x4096x8x64 ![] bcast_S_S16x4096x8x64 (constant S_ .f32 0x3E000000#32))) transposes_S16x4096x8x64_S16x8x64x4096_0_2_3_1 = queries z := by
  funext i
  obtain ⟨b, h, d, R, rfl⟩ : ∃ (b : Fin 16) (h : Fin 8) (d : Fin 64) (R : Fin 4096), i = ix4 b h d R := ⟨i 0, i 1, i 2, i 3, eq_ix4 i⟩
  refine Eq.trans ?_ (congrArg (· * Ideal.ofBits .f32 0x3E000000#32) (queries_apply z b R h d))
  pointwise

/-- The turned and scaled queries. -/
theorem result_turned : truncf .bf16 (transpose S16x8x64x4096 [0, 2, 3, 1] (mulf (rope8 (shapeCast S16x4096x8x64 (extractStridedSlice S16x4096x512 ![0, 0, 0] (extractStridedSlice S16x4096x1304 ![0, 0, 1792] z slices_S16x4096x3200_S16x4096x1304_0_0_1792) slices_S16x4096x1304_S16x4096x512_0_0_0) shapeCasts_S16x4096x512_S16x4096x8x64) cos sin) (broadcastInDim S16x4096x8x64 ![] bcast_S_S16x4096x8x64 (constant S_ .f32 0x3E38AA3B#32))) transposes_S16x4096x8x64_S16x8x64x4096_0_2_3_1) bitsLt_bf16_f32 = turnedQueries z cos sin := by
  funext i
  obtain ⟨b, h, d, R, rfl⟩ : ∃ (b : Fin 16) (h : Fin 8) (d : Fin 64) (R : Fin 4096), i = ix4 b h d R := ⟨i 0, i 1, i 2, i 3, eq_ix4 i⟩
  refine Eq.trans ?_ (congrArg (· * Ideal.ofBits .f32 0x3E38AA3B#32) (rope8_apply _ cos sin b R h d _ (queries_apply z b R h)))
  generalize rope8 _ cos sin = y
  pointwise

/-- Turned keys. -/
theorem result_keys (o : ℕ) (ho : S16x4096x1304.Slices ![0, 0, o] S16x4096x128) : truncf .bf16 (transpose S16x2x4096x64 [0, 2, 1, 3] (rope2 (shapeCast S16x4096x2x64 (extractStridedSlice S16x4096x128 ![0, 0, o] (extractStridedSlice S16x4096x1304 ![0, 0, 1792] z slices_S16x4096x3200_S16x4096x1304_0_0_1792) ho) shapeCasts_S16x4096x128_S16x4096x2x64) cos sin) transposes_S16x4096x2x64_S16x2x4096x64_0_2_1_3) bitsLt_bf16_f32 = keys (1792 + o) z cos sin := by
  funext i
  obtain ⟨b, h, R, d, rfl⟩ : ∃ (b : Fin 16) (h : Fin 2) (R : Fin 4096) (d : Fin 64), i = ix4 b h R d := ⟨i 0, i 1, i 2, i 3, eq_ix4 i⟩
  refine Eq.trans ?_ (rope2_apply _ cos sin b R h d _ (pair_apply z o ho b R h))
  generalize rope2 _ cos sin = y
  pointwise

/-- Values. -/
theorem result_values (o : ℕ) (ho : S16x4096x1304.Slices ![0, 0, o] S16x4096x128) : truncf .bf16 (transpose S16x2x64x4096 [0, 2, 3, 1] (shapeCast S16x4096x2x64 (extractStridedSlice S16x4096x128 ![0, 0, o] (extractStridedSlice S16x4096x1304 ![0, 0, 1792] z slices_S16x4096x3200_S16x4096x1304_0_0_1792) ho) shapeCasts_S16x4096x128_S16x4096x2x64) transposes_S16x4096x2x64_S16x2x64x4096_0_2_3_1) bitsLt_bf16_f32 = values (1792 + o) z := by
  funext i
  obtain ⟨b, h, d, R, rfl⟩ : ∃ (b : Fin 16) (h : Fin 2) (d : Fin 64) (R : Fin 4096), i = ix4 b h d R := ⟨i 0, i 1, i 2, i 3, eq_ix4 i⟩
  refine Eq.trans ?_ (pair_apply z o ho b R h d)
  pointwise

/-- The gate logits. -/
theorem result_gates : transpose S16x8x3x4096 [0, 2, 3, 1] (shapeCast S16x4096x8x3 (extractStridedSlice S16x4096x24 ![0, 0, 1280] (extractStridedSlice S16x4096x1304 ![0, 0, 1792] z slices_S16x4096x3200_S16x4096x1304_0_0_1792) slices_S16x4096x1304_S16x4096x24_0_0_1280) shapeCasts_S16x4096x24_S16x4096x8x3) transposes_S16x4096x8x3_S16x8x3x4096_0_2_3_1 = gates z := by
  funext i
  obtain ⟨b, h, j, R, rfl⟩ : ∃ (b : Fin 16) (h : Fin 8) (j : Fin 3) (R : Fin 4096), i = ix4 b h j R := ⟨i 0, i 1, i 2, i 3, eq_ix4 i⟩
  refine Eq.trans ?_ (gates_apply z b R h j)
  pointwise

end Cert.Own.PrepRef

end
-- ==== Proof.PrepValue.lean ====
/- The layout kernel's value claim: from equal arguments, kernel and reference end with the same seven arrays.

   Each of the 256 grid points writes one block of every result. The blocks of one result lie side by side along its
   rows, so they fill it. -/
module

public import proofs.«01_k».proof.Proof.PrepRef
public import proofs.«01_k».proof.Proof.Gen.Prep.Frame
public import proofs.«01_k».proof.Proof.Gen.PrepIdeal.Frame
public import proofs.«01_k».proof.Defs
public import Idealize.ShloMosaic.Lib.Pointwise
public import Idealize.ShloMosaic.Lib.Pipeline.ValueKit

@[expose] public section

set_option maxRecDepth 16384

noncomputable section

namespace Cert.Own.Prep

open Cert.PrepIdeal Cert.PrepIdeal.Gen Cert.PrepIdeal.Value Idealize.ShloMosaic Idealize.ShloMosaic.TcCoe Idealize.SL.Sem

variable (m : (ℓ : Loc nD τ sig) → Buf (Elt Ideal) ℓ) (ρ : Dev nD → PrngReg)

abbrev Z (c : Dev nD) : FVec Ideal S16x4096x3200 .f32 := m ((c : Thread nD τ).loc main_arg0)
abbrev Cos (c : Dev nD) : FVec Ideal S16x4096x1x32 .f32 := m ((c : Thread nD τ).loc main_arg1)
abbrev Sin (c : Dev nD) : FVec Ideal S16x4096x1x32 .f32 := m ((c : Thread nD τ).loc main_arg2)

/-- The grid point that writes row `R` of batch `b`. -/
def point (b : Fin 16) (R : Fin 4096) : Fin cfg0.N := ⟨b.val * 16 + R.val / 256, show b.val * 16 + R.val / 256 < 256 by omega⟩

theorem batch_point (b : Fin 16) (R : Fin 4096) : batch (point b R) = b := Fin.ext (show (b.val * 16 + R.val / 256) / 16 = b.val by omega)
theorem row_point (b : Fin 16) (R : Fin 4096) : rowOf (point b R) ⟨R.val % 256, by omega⟩ = R :=
  Fin.ext (show (b.val * 16 + R.val / 256) % 16 * 256 + R.val % 256 = R.val by omega)

/-- Piece one of the queries begins 256 columns after piece zero. -/
theorem second (c : Dev nD) (t : Fin cfg0.N) (r l : Fin 256) :
    X0_1 m c t (ix3 0 r l) = row (Z m c) (batch t) (rowOf t r) (1792 + (256 + l.val)) :=
  (X1_apply m c t r l).trans (congrArg _ (by omega))

/-- Where a point's blocks lie: the batch, all heads, and the rows of the point, which are columns in five results. -/
theorem outIndices : ∀ t : Fin cfg0.N, (win0_7.index t = ![t.val / 16, 0, 0, t.val % 16] ∧ win0_8.index t = ![t.val / 16, 0, 0, t.val % 16]
    ∧ win0_10.index t = ![t.val / 16, 0, 0, t.val % 16] ∧ win0_12.index t = ![t.val / 16, 0, 0, t.val % 16] ∧ win0_13.index t = ![t.val / 16, 0, 0, t.val % 16])
    ∧ win0_9.index t = ![t.val / 16, 0, t.val % 16, 0] ∧ win0_11.index t = ![t.val / 16, 0, t.val % 16, 0] :=
  (by decide +kernel : ∀ t : Fin grid0.N, _)

section Blocks
variable {H D : ℕ}

/-- A block with the rows last. -/
abbrev BlockT (H D : ℕ) : Shape := ⟨4, ![1, H, D, 256]⟩
/-- A result with the rows last. -/
abbrev ArrT (H D : ℕ) : Shape := ⟨4, ![16, H, D, 4096]⟩
/-- A block with the rows before a head's entries. -/
abbrev BlockR (H D : ℕ) : Shape := ⟨4, ![1, H, 256, D]⟩
/-- A result with the rows before a head's entries. -/
abbrev ArrR (H D : ℕ) : Shape := ⟨4, ![16, H, 4096, D]⟩

theorem placeT (t : Fin cfg0.N) (k : Fin 4 → ℕ) (hk : k = ![t.val / 16, 0, 0, t.val % 16]) (h : Fin H) (d : Fin D) (r : Fin 256) (x : (ArrT H D).Idx)
    (h0 : (x 0).val = k 0 * 1 + 1 * 0) (h1 : (x 1).val = k 1 * H + 1 * h.val) (h2 : (x 2).val = k 2 * D + 1 * d.val)
    (h3 : (x 3).val = k 3 * 256 + 1 * r.val) : x = ix4 (batch t) h d (rowOf t r) := by
  subst hk
  refine funext fun b => Fin.ext ?_
  match b with
  | ⟨0, _⟩ => exact h0.trans (show t.val / 16 * 1 + 1 * 0 = t.val / 16 by omega)
  | ⟨1, _⟩ => exact h1.trans (show 0 * H + 1 * h.val = h.val by omega)
  | ⟨2, _⟩ => exact h2.trans (show 0 * D + 1 * d.val = d.val by omega)
  | ⟨3, _⟩ => exact h3.trans (show t.val % 16 * 256 + 1 * r.val = t.val % 16 * 256 + r.val by omega)

theorem placeR (t : Fin cfg0.N) (k : Fin 4 → ℕ) (hk : k = ![t.val / 16, 0, t.val % 16, 0]) (h : Fin H) (r : Fin 256) (d : Fin D) (x : (ArrR H D).Idx)
    (h0 : (x 0).val = k 0 * 1 + 1 * 0) (h1 : (x 1).val = k 1 * H + 1 * h.val) (h2 : (x 2).val = k 2 * 256 + 1 * r.val)
    (h3 : (x 3).val = k 3 * D + 1 * d.val) : x = ix4 (batch t) h (rowOf t r) d := by
  subst hk
  refine funext fun b => Fin.ext ?_
  match b with
  | ⟨0, _⟩ => exact h0.trans (show t.val / 16 * 1 + 1 * 0 = t.val / 16 by omega)
  | ⟨1, _⟩ => exact h1.trans (show 0 * H + 1 * h.val = h.val by omega)
  | ⟨2, _⟩ => exact h2.trans (show t.val % 16 * 256 + 1 * r.val = t.val % 16 * 256 + r.val by omega)
  | ⟨3, _⟩ => exact h3.trans (show 0 * D + 1 * d.val = d.val by omega)

/-- A block that agrees with an array at its own place is that part of the array. -/
theorem blockT {α : Type} (emb : (BlockT H D).Idx → (ArrT H D).Idx) (t : Fin cfg0.N) (B : (BlockT H D).Idx → α) (G : (ArrT H D).Idx → α)
    (he : ∀ h d r, emb (ix4 0 h d r) = ix4 (batch t) h d (rowOf t r)) (hB : ∀ h d r, B (ix4 0 h d r) = G (ix4 (batch t) h d (rowOf t r))) :
    B = fun j => G (emb j) := by
  funext j
  obtain ⟨a, h, d, r, rfl⟩ : ∃ (a : Fin 1) (h : Fin H) (d : Fin D) (r : Fin 256), j = ix4 a h d r := ⟨j 0, j 1, j 2, j 3, eq_ix4 j⟩
  obtain rfl : a = 0 := Subsingleton.elim _ _
  exact (hB h d r).trans (congrArg G (he h d r).symm)

theorem blockR {α : Type} (emb : (BlockR H D).Idx → (ArrR H D).Idx) (t : Fin cfg0.N) (B : (BlockR H D).Idx → α) (G : (ArrR H D).Idx → α)
    (he : ∀ h r d, emb (ix4 0 h r d) = ix4 (batch t) h (rowOf t r) d) (hB : ∀ h r d, B (ix4 0 h r d) = G (ix4 (batch t) h (rowOf t r) d)) :
    B = fun j => G (emb j) := by
  funext j
  obtain ⟨a, h, r, d, rfl⟩ : ∃ (a : Fin 1) (h : Fin H) (r : Fin 256) (d : Fin D), j = ix4 a h r d := ⟨j 0, j 1, j 2, j 3, eq_ix4 j⟩
  obtain rfl : a = 0 := Subsingleton.elim _ _
  exact (hB h r d).trans (congrArg G (he h r d).symm)

/-- Every index of a result lies in the block of some point. -/
theorem coverT (emb : Fin cfg0.N → (BlockT H D).Idx → (ArrT H D).Idx) (he : ∀ t h d r, emb t (ix4 0 h d r) = ix4 (batch t) h d (rowOf t r))
    (i : (ArrT H D).Idx) : ∃ t j, emb t j = i := by
  obtain ⟨b, h, d, R, rfl⟩ : ∃ (b : Fin 16) (h : Fin H) (d : Fin D) (R : Fin 4096), i = ix4 b h d R := ⟨i 0, i 1, i 2, i 3, eq_ix4 i⟩
  refine ⟨point b R, ix4 0 h d ⟨R.val % 256, by omega⟩, ?_⟩
  rw [he, batch_point, row_point]

theorem coverR (emb : Fin cfg0.N → (BlockR H D).Idx → (ArrR H D).Idx) (he : ∀ t h r d, emb t (ix4 0 h r d) = ix4 (batch t) h (rowOf t r) d)
    (i : (ArrR H D).Idx) : ∃ t j, emb t j = i := by
  obtain ⟨b, h, R, d, rfl⟩ : ∃ (b : Fin 16) (h : Fin H) (R : Fin 4096) (d : Fin D), i = ix4 b h R d := ⟨i 0, i 1, i 2, i 3, eq_ix4 i⟩
  refine ⟨point b R, ix4 0 h ⟨R.val % 256, by omega⟩ d, ?_⟩
  rw [he, batch_point, row_point]

end Blocks

/-- An output whose blocks lie over all of an array, each with that part of the array, ends as the array. -/
theorem ends (c : Dev nD) (w : Fin cfg0.W) (G : Buf (Elt Ideal) ((cfg0.win w).arr.view.loc (c.tc : Thread nD τ))) (hf : ∀ t, (cfg0.win w).flush t = true)
    (hb : ∀ t, (dats m 0 c).flushed w t = ((cfg0.win w).blk t).view.read (Elt Ideal) G)
    (hc : ∀ i : ((cfg0.win w).arr.view.loc (c.tc : Thread nD τ)).2.ty.Idx, ∃ t j, ((cfg0.win w).blk t).view.emb j = i) : (dats m 0 c).arrAt w cfg0.N = G := by
  refine (dats m 0 c).arrAt_eq_of_cover w _ (fun t _ => hb t) (fun i => ?_)
  obtain ⟨t, j, rfl⟩ := hc i
  exact ⟨t, hf t, ((cfg0.win w).blk t).view.emb_mem_set j⟩

/-- The columns from `a` on, in the rows of a point. -/
abbrev cols (c : Dev nD) (t : Fin cfg0.N) (a : ℕ) (r : Fin 256) (n : ℕ) : EReal := row (Z m c) (batch t) (rowOf t r) (a + n)

/-- The angles of a point's rows. -/
abbrev angles (x : FVec Ideal S16x4096x1x32 .f32) (t : Fin cfg0.N) (r : Fin 256) : Fin 32 → EReal := angle x (batch t) (rowOf t r)

theorem final7 (c : Dev nD) : (dats m 0 c).arrAt 7 cfg0.N = queries (Z m c) := by
  have e : ∀ t h d r, ((cfg0.win 7).blk t).view.emb (ix4 0 h d r) = ix4 (batch t) h d (rowOf t r) :=
    fun t h d r => placeT t _ (outIndices t).1.1 h d r _ rfl rfl rfl rfl
  exact ends m c 7 _ flush0_7 (fun t => (flushed7_A m c t).trans (blockT _ t _ (queries (Z m c)) (e t)
    (out7 (cols m c t 1792) (X0_apply m c t) (second m c t)))) (coverT _ e)

theorem final8 (c : Dev nD) : (dats m 0 c).arrAt 8 cfg0.N = turnedQueries (Z m c) (Cos m c) (Sin m c) := by
  have e : ∀ t h d r, ((cfg0.win 8).blk t).view.emb (ix4 0 h d r) = ix4 (batch t) h d (rowOf t r) :=
    fun t h d r => placeT t _ (outIndices t).1.2.1 h d r _ rfl rfl rfl rfl
  exact ends m c 8 _ flush0_8 (fun t => (flushed8_A m c t).trans (blockT _ t _ (turnedQueries (Z m c) (Cos m c) (Sin m c)) (e t)
    (out8 (cols m c t 1792) (angles (Cos m c) t) (angles (Sin m c) t) (X0_apply m c t) (second m c t) (iblk5_apply m c t) (iblk6_apply m c t)))) (coverT _ e)

theorem final9 (c : Dev nD) : (dats m 0 c).arrAt 9 cfg0.N = keys 2560 (Z m c) (Cos m c) (Sin m c) := by
  have e : ∀ t h r d, ((cfg0.win 9).blk t).view.emb (ix4 0 h r d) = ix4 (batch t) h (rowOf t r) d :=
    fun t h r d => placeR t _ (outIndices t).2.1 h r d _ rfl rfl rfl rfl
  exact ends m c 9 _ flush0_9 (fun t => (flushed9_A m c t).trans (blockR _ t _ (keys 2560 (Z m c) (Cos m c) (Sin m c)) (e t)
    (out9 (cols m c t 2560) (angles (Cos m c) t) (angles (Sin m c) t) (X2_apply m c t) (iblk5_apply m c t) (iblk6_apply m c t)))) (coverR _ e)

theorem final10 (c : Dev nD) : (dats m 0 c).arrAt 10 cfg0.N = values 2688 (Z m c) := by
  have e : ∀ t h d r, ((cfg0.win 10).blk t).view.emb (ix4 0 h d r) = ix4 (batch t) h d (rowOf t r) :=
    fun t h d r => placeT t _ (outIndices t).1.2.2.1 h d r _ rfl rfl rfl rfl
  exact ends m c 10 _ flush0_10 (fun t => (flushed10_A m c t).trans (blockT _ t _ (values 2688 (Z m c)) (e t)
    (fun h d r => (out10 (cols m c t 2560) (X2_apply m c t) h d r).trans
      (congrArg (row (Z m c) (batch t) (rowOf t r)) (Nat.add_assoc 2560 128 _).symm)))) (coverT _ e)

theorem final11 (c : Dev nD) : (dats m 0 c).arrAt 11 cfg0.N = keys 2816 (Z m c) (Cos m c) (Sin m c) := by
  have e : ∀ t h r d, ((cfg0.win 11).blk t).view.emb (ix4 0 h r d) = ix4 (batch t) h (rowOf t r) d :=
    fun t h r d => placeR t _ (outIndices t).2.2 h r d _ rfl rfl rfl rfl
  exact ends m c 11 _ flush0_11 (fun t => (flushed11_A m c t).trans (blockR _ t _ (keys 2816 (Z m c) (Cos m c) (Sin m c)) (e t)
    (out11 (cols m c t 2816) (angles (Cos m c) t) (angles (Sin m c) t) (X3_apply m c t) (iblk5_apply m c t) (iblk6_apply m c t)))) (coverR _ e)

theorem final12 (c : Dev nD) : (dats m 0 c).arrAt 12 cfg0.N = values 2944 (Z m c) := by
  have e : ∀ t h d r, ((cfg0.win 12).blk t).view.emb (ix4 0 h d r) = ix4 (batch t) h d (rowOf t r) :=
    fun t h d r => placeT t _ (outIndices t).1.2.2.2.1 h d r _ rfl rfl rfl rfl
  exact ends m c 12 _ flush0_12 (fun t => (flushed12_A m c t).trans (blockT _ t _ (values 2944 (Z m c)) (e t)
    (fun h d r => (out12 (cols m c t 2816) (X3_apply m c t) h d r).trans
      (congrArg (row (Z m c) (batch t) (rowOf t r)) (Nat.add_assoc 2816 128 _).symm)))) (coverT _ e)

theorem final13 (c : Dev nD) : (dats m 0 c).arrAt 13 cfg0.N = gates (Z m c) := by
  have e : ∀ t h d r, ((cfg0.win 13).blk t).view.emb (ix4 0 h d r) = ix4 (batch t) h d (rowOf t r) :=
    fun t h d r => placeT t _ (outIndices t).1.2.2.2.2 h d r _ rfl rfl rfl rfl
  exact ends m c 13 _ flush0_13 (fun t => (flushed13_A m c t).trans (blockT _ t _ (gates (Z m c)) (e t)
    (out13 (cols m c t 3072) (iblk4_apply m c t)))) (coverT _ e)

theorem algebraic : Cert.algebraic_PrepIdeal_PrepRefIdeal := fun m ρ m' ρ' _ hag => by
  have a0 := fun c => (hag c).1
  have a1 := fun c => (hag c).2.1
  have a2 := fun c => (hag c).2.2
  refine ⟨fun c => queries (Z m c), fun c => turnedQueries (Z m c) (Cos m c) (Sin m c), fun c => keys 2560 (Z m c) (Cos m c) (Sin m c), fun c => values 2688 (Z m c),
    fun c => keys 2816 (Z m c) (Cos m c) (Sin m c), fun c => values 2944 (Z m c), fun c => gates (Z m c),
    (θ_run _ _ _).mono (fun r h c => ?_) (run_blocks m ρ), (θ_run _ _ _).mono (fun r h c => ?_) (Cert.PrepRefIdeal.Value.run m' ρ')⟩
  · obtain ⟨h0, h1, h2, h3, h4, h5, h6, h⟩ := h c
    exact ⟨h0.trans (final7 m c), h1.trans (final8 m c), h2.trans (final9 m c), h3.trans (final10 m c), h4.trans (final11 m c), h5.trans (final12 m c),
      h6.trans (final13 m c), h⟩
  · obtain ⟨h0, h1, h2, h3, h4, h5, h6, h⟩ := h c
    rw [a0 c] at h0 h3 h5 h6
    rw [a0 c, a1 c, a2 c] at h1 h2 h4
    exact ⟨h0.trans (PrepRef.result_queries _), h1.trans (PrepRef.result_turned _ _ _), h2.trans (PrepRef.result_keys _ _ _ 768 _),
      h3.trans (PrepRef.result_values _ 896 _), h4.trans (PrepRef.result_keys _ _ _ 1024 _), h5.trans (PrepRef.result_values _ 1152 _),
      h6.trans (PrepRef.result_gates _), h⟩

end Cert.Own.Prep

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Moe
public import proofs.«01_k».proof.Proof.Gen.Moe.Skeleton
public import proofs.«01_k».proof.Proof.Gen.Moe.Launch
public import proofs.«01_k».proof.Proof.Gen.Moe.Points
public import proofs.«01_k».proof.Proof.Gen.Moe.Frame
public import proofs.«01_k».proof.Proof.Gen.MoeIdeal
public import proofs.«01_k».proof.Proof.Gen.MoeIdeal.Skeleton
public import proofs.«01_k».proof.Proof.Gen.MoeIdeal.Launch
public import proofs.«01_k».proof.Proof.Gen.MoeIdeal.Points
public import proofs.«01_k».proof.Proof.Gen.MoeIdeal.Frame
public import proofs.«01_k».proof.Proof.Gen.MoeRefIdeal
public import proofs.«01_k».proof.Proof.Gen.EvenIn
public import proofs.«01_k».proof.Proof.Gen.EvenIn.Skeleton
public import proofs.«01_k».proof.Proof.Gen.EvenIn.Launch
public import proofs.«01_k».proof.Proof.Gen.EvenIn.Points
public import proofs.«01_k».proof.Proof.Gen.EvenIn.Frame
public import proofs.«01_k».proof.Proof.Gen.EvenInIdeal
public import proofs.«01_k».proof.Proof.Gen.EvenInIdeal.Skeleton
public import proofs.«01_k».proof.Proof.Gen.EvenInIdeal.Launch
public import proofs.«01_k».proof.Proof.Gen.EvenInIdeal.Points
public import proofs.«01_k».proof.Proof.Gen.EvenInIdeal.Frame
public import proofs.«01_k».proof.Proof.Gen.EvenInRefIdeal
public import proofs.«01_k».proof.Proof.Gen.OddIn
public import proofs.«01_k».proof.Proof.Gen.OddIn.Skeleton
public import proofs.«01_k».proof.Proof.Gen.OddIn.Launch
public import proofs.«01_k».proof.Proof.Gen.OddIn.Points
public import proofs.«01_k».proof.Proof.Gen.OddIn.Frame
public import proofs.«01_k».proof.Proof.Gen.OddInIdeal
public import proofs.«01_k».proof.Proof.Gen.OddInIdeal.Skeleton
public import proofs.«01_k».proof.Proof.Gen.OddInIdeal.Launch
public import proofs.«01_k».proof.Proof.Gen.OddInIdeal.Points
public import proofs.«01_k».proof.Proof.Gen.OddInIdeal.Frame
public import proofs.«01_k».proof.Proof.Gen.OddInRefIdeal
public import proofs.«01_k».proof.Proof.Gen.Cmp
public import proofs.«01_k».proof.Proof.Gen.Cmp.Skeleton
public import proofs.«01_k».proof.Proof.Gen.Cmp.Launch
public import proofs.«01_k».proof.Proof.Gen.Cmp.Points
public import proofs.«01_k».proof.Proof.Gen.Cmp.Frame
public import proofs.«01_k».proof.Proof.Gen.CmpIdeal
public import proofs.«01_k».proof.Proof.Gen.CmpIdeal.Skeleton
public import proofs.«01_k».proof.Proof.Gen.CmpIdeal.Launch
public import proofs.«01_k».proof.Proof.Gen.CmpIdeal.Points
public import proofs.«01_k».proof.Proof.Gen.CmpIdeal.Frame
public import proofs.«01_k».proof.Proof.Gen.CmpRefIdeal
public import proofs.«01_k».proof.Proof.Gen.EvenOut
public import proofs.«01_k».proof.Proof.Gen.EvenOut.Skeleton
public import proofs.«01_k».proof.Proof.Gen.EvenOut.Launch
public import proofs.«01_k».proof.Proof.Gen.EvenOut.Points
public import proofs.«01_k».proof.Proof.Gen.EvenOut.Frame
public import proofs.«01_k».proof.Proof.Gen.EvenOutIdeal
public import proofs.«01_k».proof.Proof.Gen.EvenOutIdeal.Skeleton
public import proofs.«01_k».proof.Proof.Gen.EvenOutIdeal.Launch
public import proofs.«01_k».proof.Proof.Gen.EvenOutIdeal.Points
public import proofs.«01_k».proof.Proof.Gen.EvenOutIdeal.Frame
public import proofs.«01_k».proof.Proof.Gen.EvenOutRefIdeal
public import proofs.«01_k».proof.Proof.Gen.OddOut
public import proofs.«01_k».proof.Proof.Gen.OddOut.Skeleton
public import proofs.«01_k».proof.Proof.Gen.OddOut.Launch
public import proofs.«01_k».proof.Proof.Gen.OddOut.Points
public import proofs.«01_k».proof.Proof.Gen.OddOut.Frame
public import proofs.«01_k».proof.Proof.Gen.OddOutIdeal
public import proofs.«01_k».proof.Proof.Gen.OddOutIdeal.Skeleton
public import proofs.«01_k».proof.Proof.Gen.OddOutIdeal.Launch
public import proofs.«01_k».proof.Proof.Gen.OddOutIdeal.Points
public import proofs.«01_k».proof.Proof.Gen.OddOutIdeal.Frame
public import proofs.«01_k».proof.Proof.Gen.OddOutRefIdeal
public import proofs.«01_k».proof.Proof.Gen.Ple
public import proofs.«01_k».proof.Proof.Gen.Ple.Skeleton
public import proofs.«01_k».proof.Proof.Gen.Ple.Launch
public import proofs.«01_k».proof.Proof.Gen.Ple.Points
public import proofs.«01_k».proof.Proof.Gen.Ple.Frame
public import proofs.«01_k».proof.Proof.Gen.PleIdeal
public import proofs.«01_k».proof.Proof.Gen.PleIdeal.Skeleton
public import proofs.«01_k».proof.Proof.Gen.PleIdeal.Launch
public import proofs.«01_k».proof.Proof.Gen.PleIdeal.Points
public import proofs.«01_k».proof.Proof.Gen.PleIdeal.Frame
public import proofs.«01_k».proof.Proof.Gen.PleRefIdeal
public import proofs.«01_k».proof.Proof.Gen.KernelIdeal.Value
public import proofs.«01_k».proof.Proof.Gen.ReferenceIdeal.Run
public import proofs.«01_k».proof.Proof.Gen.MoeRefIdeal.Run
public import proofs.«01_k».proof.Proof.Gen.EvenInIdeal.Value
public import proofs.«01_k».proof.Proof.Gen.EvenInRefIdeal.Run
public import proofs.«01_k».proof.Proof.Gen.OddInIdeal.Value
public import proofs.«01_k».proof.Proof.Gen.OddInRefIdeal.Run
public import proofs.«01_k».proof.Proof.Gen.CmpIdeal.Value
public import proofs.«01_k».proof.Proof.Gen.CmpRefIdeal.Run
public import proofs.«01_k».proof.Proof.Gen.EvenOutIdeal.Value
public import proofs.«01_k».proof.Proof.Gen.EvenOutRefIdeal.Run
public import proofs.«01_k».proof.Proof.Gen.OddOutIdeal.Value
public import proofs.«01_k».proof.Proof.Gen.OddOutRefIdeal.Run
public import proofs.«01_k».proof.Proof.Gen.PleIdeal.Value
public import proofs.«01_k».proof.Proof.Gen.PleRefIdeal.Run
public import Idealize.ShloMosaic.Adequacy
public import Idealize.ShloMosaic.Init
public import proofs.«01_k».proof.Proof.MoeTable
public import proofs.«01_k».proof.Proof.HgrnRefFrame
public import proofs.«01_k».proof.Proof.Decay
public import proofs.«01_k».proof.Proof.OddInValue
public import proofs.«01_k».proof.Proof.CmpValue
public import proofs.«01_k».proof.Proof.EvenInValue
public import proofs.«01_k».proof.Proof.PleValue
public import proofs.«01_k».proof.Proof.OddOutValue
public import proofs.«01_k».proof.Proof.EvenOutValue
public import proofs.«01_k».proof.Proof.MoeValue
public import proofs.«01_k».proof.Proof.HgrnValue
public import proofs.«01_k».proof.Proof.RouteValue
public import proofs.«01_k».proof.Proof.PrepValue

@[expose] public section

noncomputable section

namespace Cert.Proof

open Idealize.ShloMosaic Idealize.SL.Sem

/-- The mixture of experts: the kernel and the reference end with equal results. -/
theorem moe_algebraic : Cert.algebraic_MoeIdeal_MoeRefIdeal := fun m ρ m' ρ' h hag =>
  ⟨fun c => Cert.Own.Moe.G (m ((c.tc : Thread _ Cert.MoeIdeal.τ).loc Cert.MoeIdeal.main_arg0)) (m ((c.tc : Thread _ Cert.MoeIdeal.τ).loc Cert.MoeIdeal.main_arg1)) (m ((c.tc : Thread _ Cert.MoeIdeal.τ).loc Cert.MoeIdeal.main_arg2)) (m ((c.tc : Thread _ Cert.MoeIdeal.τ).loc Cert.MoeIdeal.main_arg3)) (m ((c.tc : Thread _ Cert.MoeIdeal.τ).loc Cert.MoeIdeal.main_arg4)),
    Cert.Own.Moe.run m ρ h,
    (θ_run _ _ _).mono (fun _ h c => ⟨(h c).1.trans (by rw [(hag c).1, (hag c).2.1, (hag c).2.2.1, (hag c).2.2.2.1, (hag c).2.2.2.2]), (h c).2⟩) (Cert.MoeRefIdeal.Value.run m' ρ')⟩

/-- The even layer's input projection: the kernel and the reference end with equal results. -/
theorem evenIn_algebraic : Cert.algebraic_EvenInIdeal_EvenInRefIdeal := fun m ρ m' ρ' _ hag =>
  ⟨fun c => Cert.Own.EvenIn.G (m ((c.tc : Thread _ Cert.EvenInIdeal.τ).loc Cert.EvenInIdeal.main_arg0)) (m ((c.tc : Thread _ Cert.EvenInIdeal.τ).loc Cert.EvenInIdeal.main_arg1)),
    Cert.Own.EvenIn.run m ρ,
    (θ_run _ _ _).mono (fun _ h c => ⟨(h c).1.trans (by rw [(hag c).1, (hag c).2]), (h c).2⟩) (Cert.EvenInRefIdeal.Value.run m' ρ')⟩

/-- The odd layer's input projection: the kernel and the reference end with equal results. -/
theorem oddIn_algebraic : Cert.algebraic_OddInIdeal_OddInRefIdeal := fun m ρ m' ρ' _ hag =>
  ⟨fun c => Cert.Own.OddIn.G (m ((c.tc : Thread _ Cert.OddInIdeal.τ).loc Cert.OddInIdeal.main_arg0)) (m ((c.tc : Thread _ Cert.OddInIdeal.τ).loc Cert.OddInIdeal.main_arg1)),
    Cert.Own.OddIn.run m ρ,
    (θ_run _ _ _).mono (fun _ h c => ⟨(h c).1.trans (by rw [(hag c).1, (hag c).2]), (h c).2⟩) (Cert.OddInRefIdeal.Value.run m' ρ')⟩

/-- The compressed attention's token projection: the kernel and the reference end with equal results. -/
theorem cmp_algebraic : Cert.algebraic_CmpIdeal_CmpRefIdeal := fun m ρ m' ρ' _ hag =>
  ⟨fun c => Cert.Own.Cmp.G (m ((c.tc : Thread _ Cert.CmpIdeal.τ).loc Cert.CmpIdeal.main_arg0)) (m ((c.tc : Thread _ Cert.CmpIdeal.τ).loc Cert.CmpIdeal.main_arg1)),
    Cert.Own.Cmp.run m ρ,
    (θ_run _ _ _).mono (fun _ h c => ⟨(h c).1.trans (by rw [(hag c).1, (hag c).2]), (h c).2⟩) (Cert.CmpRefIdeal.Value.run m' ρ')⟩

/-- The even layer's output side: the kernel and the reference end with equal results. -/
theorem evenOut_algebraic : Cert.algebraic_EvenOutIdeal_EvenOutRefIdeal := fun m ρ m' ρ' _ hag =>
  ⟨fun c => Cert.Own.EvenOut.G (m ((c.tc : Thread _ Cert.EvenOutIdeal.τ).loc Cert.EvenOutIdeal.main_arg0)) (m ((c.tc : Thread _ Cert.EvenOutIdeal.τ).loc Cert.EvenOutIdeal.main_arg1)) (m ((c.tc : Thread _ Cert.EvenOutIdeal.τ).loc Cert.EvenOutIdeal.main_arg2)) (m ((c.tc : Thread _ Cert.EvenOutIdeal.τ).loc Cert.EvenOutIdeal.main_arg3)) (m ((c.tc : Thread _ Cert.EvenOutIdeal.τ).loc Cert.EvenOutIdeal.main_arg4)) (m ((c.tc : Thread _ Cert.EvenOutIdeal.τ).loc Cert.EvenOutIdeal.main_arg5)),
    Cert.Own.EvenOut.run m ρ,
    (θ_run _ _ _).mono (fun _ h c => ⟨(h c).1.trans (by unfold Cert.EvenOutRefIdeal.Value.res_main_v26; rw [(hag c).1, (hag c).2.1, (hag c).2.2.1, (hag c).2.2.2.1, (hag c).2.2.2.2.1, (hag c).2.2.2.2.2]), (h c).2⟩) (Cert.EvenOutRefIdeal.Value.run m' ρ')⟩

/-- The odd layer's output side: the kernel and the reference end with equal results. -/
theorem oddOut_algebraic : Cert.algebraic_OddOutIdeal_OddOutRefIdeal := fun m ρ m' ρ' _ hag =>
  ⟨fun c => Cert.Own.OddOut.G (m ((c.tc : Thread _ Cert.OddOutIdeal.τ).loc Cert.OddOutIdeal.main_arg0)) (m ((c.tc : Thread _ Cert.OddOutIdeal.τ).loc Cert.OddOutIdeal.main_arg1)) (m ((c.tc : Thread _ Cert.OddOutIdeal.τ).loc Cert.OddOutIdeal.main_arg2)) (m ((c.tc : Thread _ Cert.OddOutIdeal.τ).loc Cert.OddOutIdeal.main_arg3)) (m ((c.tc : Thread _ Cert.OddOutIdeal.τ).loc Cert.OddOutIdeal.main_arg4)),
    Cert.Own.OddOut.run m ρ,
    (θ_run _ _ _).mono (fun _ h c => ⟨(h c).1.trans (by rw [(hag c).1, (hag c).2.1, (hag c).2.2.1, (hag c).2.2.2.1, (hag c).2.2.2.2]), (h c).2⟩) (Cert.OddOutRefIdeal.Value.run m' ρ')⟩

/-- The per-layer embedding gate: the kernel and the reference end with equal results. -/
theorem ple_algebraic : Cert.algebraic_PleIdeal_PleRefIdeal := fun m ρ m' ρ' _ hag =>
  ⟨fun c => Cert.Own.Ple.G (m ((c.tc : Thread _ Cert.PleIdeal.τ).loc Cert.PleIdeal.main_arg0)) (m ((c.tc : Thread _ Cert.PleIdeal.τ).loc Cert.PleIdeal.main_arg1)) (m ((c.tc : Thread _ Cert.PleIdeal.τ).loc Cert.PleIdeal.main_arg2)) (m ((c.tc : Thread _ Cert.PleIdeal.τ).loc Cert.PleIdeal.main_arg3)),
    Cert.Own.Ple.run m ρ,
    (θ_run _ _ _).mono (fun _ h c => ⟨(h c).1.trans (by rw [(hag c).1, (hag c).2.1, (hag c).2.2.1, (hag c).2.2.2]), (h c).2⟩) (Cert.PleRefIdeal.Value.run m' ρ')⟩

/-- The reference of the same call runs, keeps its arguments and, declaring no semaphore, ends with zero counters. -/
theorem moe_ref_frame (m : (ℓ : Loc Cert.MoeRefIdeal.nD Cert.MoeRefIdeal.τ Cert.MoeRefIdeal.sig) → Buf (Elt Ideal) ℓ) (ρ : Dev Cert.MoeRefIdeal.nD → PrngReg) :
    θ_run (Cert.MoeRefIdeal.defs (F := Ideal)) (onTc (τ := Cert.MoeRefIdeal.τ) (Cert.MoeRefIdeal.main (F := Ideal))) ⟨m, fun _ => 0, ρ⟩ fun r =>
      (∀ c : Dev Cert.MoeRefIdeal.nD, r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
        ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
        ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
        ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
        ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4))
      ∧ r.2.sem = fun _ => 0 :=
  (θ_run _ _ _).mono (fun r h => ⟨fun c => (h c).2, sem_eq_zero_of_no_sems (by decide) r.2⟩) (Cert.MoeRefIdeal.Value.run m ρ)

/-- The reference of the same call runs, keeps its arguments and, declaring no semaphore, ends with zero counters. -/
theorem evenIn_ref_frame (m : (ℓ : Loc Cert.EvenInRefIdeal.nD Cert.EvenInRefIdeal.τ Cert.EvenInRefIdeal.sig) → Buf (Elt Ideal) ℓ) (ρ : Dev Cert.EvenInRefIdeal.nD → PrngReg) :
    θ_run (Cert.EvenInRefIdeal.defs (F := Ideal)) (onTc (τ := Cert.EvenInRefIdeal.τ) (Cert.EvenInRefIdeal.main (F := Ideal))) ⟨m, fun _ => 0, ρ⟩ fun r =>
      (∀ c : Dev Cert.EvenInRefIdeal.nD, r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
        ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1))
      ∧ r.2.sem = fun _ => 0 :=
  (θ_run _ _ _).mono (fun r h => ⟨fun c => (h c).2, sem_eq_zero_of_no_sems (by decide) r.2⟩) (Cert.EvenInRefIdeal.Value.run m ρ)

/-- The reference of the same call runs, keeps its arguments and, declaring no semaphore, ends with zero counters. -/
theorem oddIn_ref_frame (m : (ℓ : Loc Cert.OddInRefIdeal.nD Cert.OddInRefIdeal.τ Cert.OddInRefIdeal.sig) → Buf (Elt Ideal) ℓ) (ρ : Dev Cert.OddInRefIdeal.nD → PrngReg) :
    θ_run (Cert.OddInRefIdeal.defs (F := Ideal)) (onTc (τ := Cert.OddInRefIdeal.τ) (Cert.OddInRefIdeal.main (F := Ideal))) ⟨m, fun _ => 0, ρ⟩ fun r =>
      (∀ c : Dev Cert.OddInRefIdeal.nD, r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
        ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1))
      ∧ r.2.sem = fun _ => 0 :=
  (θ_run _ _ _).mono (fun r h => ⟨fun c => (h c).2, sem_eq_zero_of_no_sems (by decide) r.2⟩) (Cert.OddInRefIdeal.Value.run m ρ)

/-- The reference of the same call runs, keeps its arguments and, declaring no semaphore, ends with zero counters. -/
theorem cmp_ref_frame (m : (ℓ : Loc Cert.CmpRefIdeal.nD Cert.CmpRefIdeal.τ Cert.CmpRefIdeal.sig) → Buf (Elt Ideal) ℓ) (ρ : Dev Cert.CmpRefIdeal.nD → PrngReg) :
    θ_run (Cert.CmpRefIdeal.defs (F := Ideal)) (onTc (τ := Cert.CmpRefIdeal.τ) (Cert.CmpRefIdeal.main (F := Ideal))) ⟨m, fun _ => 0, ρ⟩ fun r =>
      (∀ c : Dev Cert.CmpRefIdeal.nD, r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
        ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1))
      ∧ r.2.sem = fun _ => 0 :=
  (θ_run _ _ _).mono (fun r h => ⟨fun c => (h c).2, sem_eq_zero_of_no_sems (by decide) r.2⟩) (Cert.CmpRefIdeal.Value.run m ρ)

/-- The reference of the same call runs, keeps its arguments and, declaring no semaphore, ends with zero counters. -/
theorem evenOut_ref_frame (m : (ℓ : Loc Cert.EvenOutRefIdeal.nD Cert.EvenOutRefIdeal.τ Cert.EvenOutRefIdeal.sig) → Buf (Elt Ideal) ℓ) (ρ : Dev Cert.EvenOutRefIdeal.nD → PrngReg) :
    θ_run (Cert.EvenOutRefIdeal.defs (F := Ideal)) (onTc (τ := Cert.EvenOutRefIdeal.τ) (Cert.EvenOutRefIdeal.main (F := Ideal))) ⟨m, fun _ => 0, ρ⟩ fun r =>
      (∀ c : Dev Cert.EvenOutRefIdeal.nD, r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
        ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
        ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
        ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
        ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4)
        ∧ r.2.mem ((c.tc : Thread Cert.EvenOutRefIdeal.nD Cert.EvenOutRefIdeal.τ).loc Cert.EvenOutRefIdeal.main_arg5) = m ((c.tc : Thread Cert.EvenOutRefIdeal.nD Cert.EvenOutRefIdeal.τ).loc Cert.EvenOutRefIdeal.main_arg5))
      ∧ r.2.sem = fun _ => 0 :=
  (θ_run _ _ _).mono (fun r h => ⟨fun c => (h c).2, sem_eq_zero_of_no_sems (by decide) r.2⟩) (Cert.EvenOutRefIdeal.Value.run m ρ)

/-- The reference of the same call runs, keeps its arguments and, declaring no semaphore, ends with zero counters. -/
theorem oddOut_ref_frame (m : (ℓ : Loc Cert.OddOutRefIdeal.nD Cert.OddOutRefIdeal.τ Cert.OddOutRefIdeal.sig) → Buf (Elt Ideal) ℓ) (ρ : Dev Cert.OddOutRefIdeal.nD → PrngReg) :
    θ_run (Cert.OddOutRefIdeal.defs (F := Ideal)) (onTc (τ := Cert.OddOutRefIdeal.τ) (Cert.OddOutRefIdeal.main (F := Ideal))) ⟨m, fun _ => 0, ρ⟩ fun r =>
      (∀ c : Dev Cert.OddOutRefIdeal.nD, r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
        ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
        ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
        ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3)
        ∧ r.2.mem ((c.tc : Thread Cert.OddOutRefIdeal.nD Cert.OddOutRefIdeal.τ).loc Cert.OddOutRefIdeal.main_arg4) = m ((c.tc : Thread Cert.OddOutRefIdeal.nD Cert.OddOutRefIdeal.τ).loc Cert.OddOutRefIdeal.main_arg4))
      ∧ r.2.sem = fun _ => 0 :=
  (θ_run _ _ _).mono (fun r h => ⟨fun c => (h c).2, sem_eq_zero_of_no_sems (by decide) r.2⟩) (Cert.OddOutRefIdeal.Value.run m ρ)

/-- The reference of the same call runs, keeps its arguments and, declaring no semaphore, ends with zero counters. -/
theorem ple_ref_frame (m : (ℓ : Loc Cert.PleRefIdeal.nD Cert.PleRefIdeal.τ Cert.PleRefIdeal.sig) → Buf (Elt Ideal) ℓ) (ρ : Dev Cert.PleRefIdeal.nD → PrngReg) :
    θ_run (Cert.PleRefIdeal.defs (F := Ideal)) (onTc (τ := Cert.PleRefIdeal.τ) (Cert.PleRefIdeal.main (F := Ideal))) ⟨m, fun _ => 0, ρ⟩ fun r =>
      (∀ c : Dev Cert.PleRefIdeal.nD, r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
        ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
        ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
        ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3))
      ∧ r.2.sem = fun _ => 0 :=
  (θ_run _ _ _).mono (fun r h => ⟨fun c => (h c).2, sem_eq_zero_of_no_sems (by decide) r.2⟩) (Cert.PleRefIdeal.Value.run m ρ)

/-- The reference of the same call runs, keeps its arguments and, declaring no semaphore, ends with zero counters. -/
theorem route_ref_frame (m : (ℓ : Loc Cert.RouteRefIdeal.nD Cert.RouteRefIdeal.τ Cert.RouteRefIdeal.sig) → Buf (Elt Ideal) ℓ) (ρ : Dev Cert.RouteRefIdeal.nD → PrngReg) :
    θ_run (Cert.RouteRefIdeal.defs (F := Ideal)) (onTc (τ := Cert.RouteRefIdeal.τ) (Cert.RouteRefIdeal.main (F := Ideal))) ⟨m, fun _ => 0, ρ⟩ fun r =>
      (∀ c : Dev Cert.RouteRefIdeal.nD, r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
        ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
        ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
        ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
        ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4))
      ∧ r.2.sem = fun _ => 0 :=
  (θ_run _ _ _).mono (fun r h => ⟨fun c => (h c).2.2.2, sem_eq_zero_of_no_sems (by decide) r.2⟩) (Cert.RouteRefIdeal.Value.run m ρ)

/-- The layout's reference runs, keeps its arguments and, declaring no semaphore, ends with zero counters. -/
theorem prep_ref_frame (m : (ℓ : Loc Cert.PrepRefIdeal.nD Cert.PrepRefIdeal.τ Cert.PrepRefIdeal.sig) → Buf (Elt Ideal) ℓ) (ρ : Dev Cert.PrepRefIdeal.nD → PrngReg) :
    θ_run (Cert.PrepRefIdeal.defs (F := Ideal)) (onTc (τ := Cert.PrepRefIdeal.τ) (Cert.PrepRefIdeal.main (F := Ideal))) ⟨m, fun _ => 0, ρ⟩ fun r =>
      (∀ c : Dev Cert.PrepRefIdeal.nD, r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
        ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
        ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0 :=
  (θ_run _ _ _).mono (fun r h => ⟨fun c => (h c).2.2.2.2.2.2.2, sem_eq_zero_of_no_sems (by decide) r.2⟩) (Cert.PrepRefIdeal.Value.run m ρ)

theorem claim : Cert.Claim :=
  ⟨Cert.Kernel.Gen.facts, Cert.KernelIdeal.Gen.facts, Cert.ReferenceIdeal.Gen.facts, Cert.Moe.Gen.facts, Cert.MoeIdeal.Gen.facts, Cert.MoeRefIdeal.Gen.facts, Cert.EvenIn.Gen.facts, Cert.EvenInIdeal.Gen.facts, Cert.EvenInRefIdeal.Gen.facts, Cert.OddIn.Gen.facts, Cert.OddInIdeal.Gen.facts, Cert.OddInRefIdeal.Gen.facts, Cert.Cmp.Gen.facts, Cert.CmpIdeal.Gen.facts, Cert.CmpRefIdeal.Gen.facts, Cert.EvenOut.Gen.facts, Cert.EvenOutIdeal.Gen.facts, Cert.EvenOutRefIdeal.Gen.facts, Cert.OddOut.Gen.facts, Cert.OddOutIdeal.Gen.facts, Cert.OddOutRefIdeal.Gen.facts, Cert.Ple.Gen.facts, Cert.PleIdeal.Gen.facts, Cert.PleRefIdeal.Gen.facts, Cert.Route.Gen.facts, Cert.RouteIdeal.Gen.facts, Cert.RouteRefIdeal.Gen.facts, Cert.Prep.Gen.facts, Cert.PrepIdeal.Gen.facts, Cert.PrepRefIdeal.Gen.facts, Cert.Own.Decay.facts, Cert.Pre_expert_in_range.Own.facts, Cert.Own.Finite.facts,
    fun m ρ _ => Cert.Kernel.Gen.frame m ρ,
    fun m ρ _ => Cert.KernelIdeal.Gen.frame m ρ,
    fun m ρ _ => Cert.KernelIdeal.Gen.frame m ρ,
    fun m ρ _ => Cert.Own.HgrnRef.frame m ρ,
    fun m ρ _ => Cert.Own.HgrnRef.frame m ρ,
    fun m ρ h => Cert.Moe.Gen.frame m ρ (Cert.Own.MoeTable.ok_of_pre m h),
    fun m ρ h => Cert.MoeIdeal.Gen.frame m ρ (Cert.Own.MoeTable.ok_of_pre_ideal m h),
    fun m ρ _ => moe_ref_frame m ρ,
    fun m ρ _ => moe_ref_frame m ρ,
    fun m ρ _ => Cert.EvenIn.Gen.frame m ρ,
    fun m ρ _ => Cert.EvenInIdeal.Gen.frame m ρ,
    fun m ρ _ => evenIn_ref_frame m ρ,
    fun m ρ _ => Cert.OddIn.Gen.frame m ρ,
    fun m ρ _ => Cert.OddInIdeal.Gen.frame m ρ,
    fun m ρ _ => oddIn_ref_frame m ρ,
    fun m ρ _ => Cert.Cmp.Gen.frame m ρ,
    fun m ρ _ => Cert.CmpIdeal.Gen.frame m ρ,
    fun m ρ _ => cmp_ref_frame m ρ,
    fun m ρ _ => Cert.EvenOut.Gen.frame m ρ,
    fun m ρ _ => Cert.EvenOutIdeal.Gen.frame m ρ,
    fun m ρ _ => evenOut_ref_frame m ρ,
    fun m ρ _ => Cert.OddOut.Gen.frame m ρ,
    fun m ρ _ => Cert.OddOutIdeal.Gen.frame m ρ,
    fun m ρ _ => oddOut_ref_frame m ρ,
    fun m ρ _ => Cert.Ple.Gen.frame m ρ,
    fun m ρ _ => Cert.PleIdeal.Gen.frame m ρ,
    fun m ρ _ => ple_ref_frame m ρ,
    fun m ρ _ => Cert.Route.Gen.frame m ρ,
    fun m ρ _ => Cert.RouteIdeal.Gen.frame m ρ,
    fun m ρ _ => Cert.RouteIdeal.Gen.frame m ρ,
    fun m ρ _ => route_ref_frame m ρ,
    fun m ρ _ => route_ref_frame m ρ,
    fun m ρ _ => Cert.Prep.Gen.frame m ρ,
    fun m ρ _ => Cert.PrepIdeal.Gen.frame m ρ,
    fun m ρ _ => prep_ref_frame m ρ,
    trivial,
    Cert.Own.Hgrn.algebraic,
    trivial,
    moe_algebraic,
    trivial,
    evenIn_algebraic,
    trivial,
    oddIn_algebraic,
    trivial,
    cmp_algebraic,
    trivial,
    evenOut_algebraic,
    trivial,
    oddOut_algebraic,
    trivial,
    ple_algebraic,
    trivial,
    Cert.Own.Route.algebraic,
    trivial,
    Cert.Own.Prep.algebraic⟩

end Cert.Proof

end
